-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ids_in_range_KernelIdeal [hPre_ids_in_range_KernelIdeal : Cert.Pre_ids_in_range_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_range_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_in_range_ReferenceIdeal [hPre_ids_in_range_ReferenceIdeal : Cert.Pre_ids_in_range_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_range_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_ids_in_range_KernelIdeal [hKernelIdeal : Cert.KernelIdeal.Facts] [hPre_ids_in_range_KernelIdeal : Cert.Pre_ids_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ids_in_range_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_ids_in_range_ReferenceIdeal [hReferenceIdeal : Cert.ReferenceIdeal.Facts] [hPre_ids_in_range_ReferenceIdeal : Cert.Pre_ids_in_range_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_in_range_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_ids_in_range_KernelIdeal [hKernelIdeal : Cert.KernelIdeal.Facts] [hReferenceIdeal : Cert.ReferenceIdeal.Facts] [hPre_ids_in_range_KernelIdeal : Cert.Pre_ids_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ids_in_range_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![8192, 2048]⟩ ⟨2, ![16384, 2048]⟩ (Layout.meshBlock [2, 2, 4] ![[0], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17_0) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_ids_in_range_KernelIdeal : Cert.Pre_ids_in_range_KernelIdeal.Facts) (hPre_ids_in_range_ReferenceIdeal : Cert.Pre_ids_in_range_ReferenceIdeal.Facts),
    quiescent_Kernel (hKernel := hKernel)
    ∧ quiescent_KernelIdeal (hKernelIdeal := hKernelIdeal)
    ∧ quiescent_KernelIdeal_pre_ids_in_range_KernelIdeal (hKernelIdeal := hKernelIdeal) (hPre_ids_in_range_KernelIdeal := hPre_ids_in_range_KernelIdeal)
    ∧ quiescent_ReferenceIdeal (hReferenceIdeal := hReferenceIdeal)
    ∧ quiescent_ReferenceIdeal_pre_ids_in_range_ReferenceIdeal (hReferenceIdeal := hReferenceIdeal) (hPre_ids_in_range_ReferenceIdeal := hPre_ids_in_range_ReferenceIdeal)
    ∧ preserves_Kernel_KernelIdeal
    ∧ algebraic_KernelIdeal_ReferenceIdeal_pre_ids_in_range_KernelIdeal (hKernelIdeal := hKernelIdeal) (hReferenceIdeal := hReferenceIdeal) (hPre_ids_in_range_KernelIdeal := hPre_ids_in_range_KernelIdeal)
-- ==== Pre_ids_in_range_KernelIdeal.lean ====
abbrev S4096 : Shape := ⟨1, ![4096]⟩
abbrev S8192x2048 : Shape := ⟨2, ![8192, 2048]⟩
abbrev S_ : Shape := ⟨0, ![]⟩

class Facts : Prop where
  bcast_S_S4096 : S_.BroadcastsInDim S4096 (![] : Fin 0 → Fin S4096.rank)
  reducesTo_S4096_S_d0 : S4096.ReducesTo [0] S_
  h_S_ : 0 < S_.numel

variable [Facts]

def fn {F : FTy → Type} [FloatOps F] (main_arg0 : IVec S4096 32) (main_arg1 : FVec F S8192x2048 .f32) : IVec S_ 1 :=
  let main_c : IVec S_ 32 := constantI S_ 32 0#32
  let main_v0 : IVec S4096 32 := broadcastInDim S4096 ![] bcast_S_S4096 main_c
  let main_v1 : IVec S4096 1 := cmpi .sge main_arg0 main_v0
  let main_c_0 : IVec S_ 32 := constantI S_ 32 16384#32
  let main_v2 : IVec S4096 32 := broadcastInDim S4096 ![] bcast_S_S4096 main_c_0
  let main_v3 : IVec S4096 1 := cmpi .slt main_arg0 main_v2
  let main_v4 : IVec S4096 1 := andi main_v1 main_v3
  let main_c_1 : IVec S_ 1 := constantI S_ 1 1#1
  let main_v5 : IVec S_ 1 := (fun x v => Host.reduce IntOp.andi x v reducesTo_S4096_S_d0 h_S_) main_v4 main_c_1
  main_v5
-- ==== Pre_ids_in_range_ReferenceIdeal.lean ====
abbrev S4096 : Shape := ⟨1, ![4096]⟩
abbrev S16384x2048 : Shape := ⟨2, ![16384, 2048]⟩
abbrev S_ : Shape := ⟨0, ![]⟩

class Facts : Prop where
  bcast_S_S4096 : S_.BroadcastsInDim S4096 (![] : Fin 0 → Fin S4096.rank)
  reducesTo_S4096_S_d0 : S4096.ReducesTo [0] S_
  h_S_ : 0 < S_.numel

variable [Facts]

def fn {F : FTy → Type} [FloatOps F] (main_arg0 : IVec S4096 32) (main_arg1 : FVec F S16384x2048 .f32) : IVec S_ 1 :=
  let main_c : IVec S_ 32 := constantI S_ 32 0#32
  let main_v0 : IVec S4096 32 := broadcastInDim S4096 ![] bcast_S_S4096 main_c
  let main_v1 : IVec S4096 1 := cmpi .sge main_arg0 main_v0
  let main_c_0 : IVec S_ 32 := constantI S_ 32 16384#32
  let main_v2 : IVec S4096 32 := broadcastInDim S4096 ![] bcast_S_S4096 main_c_0
  let main_v3 : IVec S4096 1 := cmpi .slt main_arg0 main_v2
  let main_v4 : IVec S4096 1 := andi main_v1 main_v3
  let main_c_1 : IVec S_ 1 := constantI S_ 1 1#1
  let main_v5 : IVec S_ 1 := (fun x v => Host.reduce IntOp.andi x v reducesTo_S4096_S_d0 h_S_) main_v4 main_c_1
  main_v5
-- ==== Kernel.lean ====
abbrev S4096 : Shape := ⟨1, ![4096]⟩
abbrev S8192x2048 : Shape := ⟨2, ![8192, 2048]⟩
abbrev S_ : Shape := ⟨0, ![]⟩
abbrev S4096x1 : Shape := ⟨2, ![4096, 1]⟩
abbrev S4096x2048 : Shape := ⟨2, ![4096, 2048]⟩
abbrev S1024x2048 : Shape := ⟨2, ![1024, 2048]⟩
abbrev S2x128x2048 : Shape := ⟨3, ![2, 128, 2048]⟩
abbrev S9x128x2048 : Shape := ⟨3, ![9, 128, 2048]⟩
abbrev S1024x1 : Shape := ⟨2, ![1024, 1]⟩
abbrev S9 : Shape := ⟨1, ![9]⟩
abbrev S2 : Shape := ⟨1, ![2]⟩
abbrev S1 : Shape := ⟨1, ![1]⟩
abbrev S1x128x2048 : Shape := ⟨3, ![1, 128, 2048]⟩
abbrev S128x2048 : Shape := ⟨2, ![128, 2048]⟩
abbrev S1x2048 : Shape := ⟨2, ![1, 2048]⟩
abbrev S128x1 : Shape := ⟨2, ![128, 1]⟩
abbrev S64x2048 : Shape := ⟨2, ![64, 2048]⟩
abbrev S1x64x2048 : Shape := ⟨3, ![1, 64, 2048]⟩
abbrev S32x2048 : Shape := ⟨2, ![32, 2048]⟩

abbrev nBuf : Space → Nat
  | .hbm => 28
  | .vmem => 5
  | .smem => 2
  | _ => 0

abbrev bufTy : (tb : Table) → Fin (tcTables nBuf tb) → BufTy
  | .hbm, ⟨0, _⟩ => ⟨S4096, .i32⟩
  | .hbm, ⟨1, _⟩ => ⟨S8192x2048, .f32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S4096, .i32⟩
  | .hbm, ⟨11, _⟩ => ⟨S4096, .i32⟩
  | .hbm, ⟨12, _⟩ => ⟨S_, .i32⟩
  | .hbm, ⟨13, _⟩ => ⟨S4096, .i32⟩
  | .hbm, ⟨14, _⟩ => ⟨S4096, .i1⟩
  | .hbm, ⟨15, _⟩ => ⟨S_, .i32⟩
  | .hbm, ⟨16, _⟩ => ⟨S4096, .i32⟩
  | .hbm, ⟨17, _⟩ => ⟨S4096, .i1⟩
  | .hbm, ⟨18, _⟩ => ⟨S4096, .i1⟩
  | .hbm, ⟨19, _⟩ => ⟨S_, .i32⟩
  | .hbm, ⟨20, _⟩ => ⟨S_, .i32⟩
  | .hbm, ⟨21, _⟩ => ⟨S4096, .i32⟩
  | .hbm, ⟨22, _⟩ => ⟨S4096, .i32⟩
  | .hbm, ⟨23, _⟩ => ⟨S4096, .i32⟩
  | .hbm, ⟨24, _⟩ => ⟨S4096, .f32⟩
  | .hbm, ⟨25, _⟩ => ⟨S4096x1, .f32⟩
  | .hbm, ⟨26, _⟩ => ⟨S4096x2048, .bf16⟩
  | .hbm, ⟨27, _⟩ => ⟨S1024x2048, .bf16⟩
  | .local _ .vmem, ⟨0, _⟩ => ⟨S2x128x2048, .f32⟩
  | .local _ .vmem, ⟨1, _⟩ => ⟨S9x128x2048, .bf16⟩
  | .local _ .vmem, ⟨2, _⟩ => ⟨S1024x1, .f32⟩
  | .local _ .vmem, ⟨3, _⟩ => ⟨S2x128x2048, .bf16⟩
  | .local _ .vmem, ⟨4, _⟩ => ⟨S9x128x2048, .bf16⟩
  | .local _ .smem, ⟨0, _⟩ => ⟨S4096, .i32⟩
  | .local _ .smem, ⟨1, _⟩ => ⟨S4096, .i32⟩
  | _, _ => ⟨S4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 1 → Bool
  | ⟨0, _⟩ => false
  | _ => false

abbrev dmaSemScoped : Fin 105 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | _ => false

abbrev sig : RefSig :=
  (ofTc nBuf bufTy 1 105 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c_1 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c_2 : Ref sig .tc := ⟨.hbm, 12, rfl⟩
abbrev main_v8 : Ref sig .tc := ⟨.hbm, 13, rfl⟩
abbrev main_v9 : Ref sig .tc := ⟨.hbm, 14, rfl⟩
abbrev main_c_3 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c_4 : Ref sig .tc := ⟨.hbm, 19, rfl⟩
abbrev main_call0_v0 : Ref sig .tc := ⟨.hbm, 20, rfl⟩
abbrev main_call0_v1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17_0 : Ref sig .tc := ⟨.hbm, 26, rfl⟩
abbrev main_v17_1 : Ref sig .tc := ⟨.hbm, 27, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

@[reducible] def k0_t1_loop : Scf.Loop 32 :=
  let c0_i32_16 : BitVec 32 := 0#32
  let c64_i32 : BitVec 32 := 64#32
  let v33 : BitVec 32 := Scalar.addi c0_i32_16 c64_i32
  let c1_i32_17 : BitVec 32 := 1#32
  ⟨c0_i32_16, v33, c1_i32_17⟩
def k0_off1 (d0 : Dev nD) (k0_t1 : Fin k0_t1_loop.trips) : Fin 1 → Nat :=
  let c2_i32_11 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v24 : BitVec 32 := Scalar.muli c2_i32_11 v5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v25 : BitVec 32 := Scalar.addi v24 v18
  let c1024_i32 : BitVec 32 := 1024#32
  let v32 : BitVec 32 := Scalar.muli v25 c1024_i32
  let c0_i32_1831 : BitVec 32 := 0#32
  let v1818 : BitVec 32 := Scalar.addi v32 c0_i32_1831
  let c0_i32_16 : BitVec 32 := 0#32
  let c1_i32_17 : BitVec 32 := 1#32
  let arg25 : BitVec 32 := Scf.iv c0_i32_16 c1_i32_17 k0_t1
  let v1819 : BitVec 32 := Scalar.addi v1818 arg25
  let v1820 : Index := Scalar.indexCast v1819
  ![v1820.toNat]
def k0_off2 (k0_t1 : Fin k0_t1_loop.trips) : Fin 2 → Nat :=
  let c0_i32_16 : BitVec 32 := 0#32
  let c1_i32_17 : BitVec 32 := 1#32
  let arg25 : BitVec 32 := Scf.iv c0_i32_16 c1_i32_17 k0_t1
  let c0_i32_1838 : BitVec 32 := 0#32
  ![arg25.toNat, 0]
def k0_off3 (v1821 : BitVec 32) : Fin 2 → Nat :=
  let c0_i32_1839 : BitVec 32 := 0#32
  ![v1821.toNat, 0]
def k0_cond1 (v1823 : BitVec 32) : BitVec 1 :=
  let c0_i32_1832 : BitVec 32 := 0#32
  let v1824 : BitVec 1 := Scalar.cmpi .ne v1823 c0_i32_1832
  let v1825 : BitVec 32 := Scalar.extui v1824
  let c0_i32_1835 : BitVec 32 := 0#32
  let v1826 : BitVec 1 := Scalar.cmpi .ne v1825 c0_i32_1835
  v1826

def k0_chk1 (v1821 : BitVec 32) (v1823 : BitVec 32) : Prop :=
  (∀ (k0_h1 : k0_cond1 v1823 = 1#1), ∀ a, (k0_off3 v1821) a + S1x2048.size a ≤ S8192x2048.size a)
theorem k0_off3_inb : ∀ (v1821 : BitVec 32) (v1823 : BitVec 32) (k0_hw1 : k0_chk1 v1821 v1823), ∀ (k0_h1 : k0_cond1 v1823 = 1#1), ∀ a, (k0_off3 v1821) a + S1x2048.size a ≤ S8192x2048.size a := fun v1821 v1823 k0_hw1 k0_h1 => k0_hw1 k0_h1

def k0_off4 (d0 : Dev nD) : Fin 2 → Nat :=
  let c2_i32_11 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v24 : BitVec 32 := Scalar.muli c2_i32_11 v5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v25 : BitVec 32 := Scalar.addi v24 v18
  let c1024_i32 : BitVec 32 := 1024#32
  let v32 : BitVec 32 := Scalar.muli v25 c1024_i32
  let c0_i32_19 : BitVec 32 := 0#32
  ![v32.toNat, 0]
def k0_dev1 (d0 : Dev nD) : Nat :=
  let c0_i32_22 : BitVec 32 := 0#32
  let c1_i32_9 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v22 : BitVec 32 := Scalar.subi c1_i32_9 v2
  let c8_i32_21 : BitVec 32 := 8#32
  let v36 : BitVec 32 := Scalar.muli v22 c8_i32_21
  let v37 : BitVec 32 := Scalar.addi c0_i32_22 v36
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_23 : BitVec 32 := 4#32
  let v38 : BitVec 32 := Scalar.muli v5 c4_i32_23
  let v39 : BitVec 32 := Scalar.addi v37 v38
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_24 : BitVec 32 := 1#32
  let v40 : BitVec 32 := Scalar.muli v8 c1_i32_24
  let v41 : BitVec 32 := Scalar.addi v39 v40
  v41.toNat
def k0_dev2 (d0 : Dev nD) : Nat :=
  let c0_i32_27 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_26 : BitVec 32 := 8#32
  let v42 : BitVec 32 := Scalar.muli v2 c8_i32_26
  let v43 : BitVec 32 := Scalar.addi c0_i32_27 v42
  let c1_i32_10 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v23 : BitVec 32 := Scalar.subi c1_i32_10 v5
  let c4_i32_28 : BitVec 32 := 4#32
  let v44 : BitVec 32 := Scalar.muli v23 c4_i32_28
  let v45 : BitVec 32 := Scalar.addi v43 v44
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_29 : BitVec 32 := 1#32
  let v46 : BitVec 32 := Scalar.muli v8 c1_i32_29
  let v47 : BitVec 32 := Scalar.addi v45 v46
  v47.toNat
def k0_dev3 (d0 : Dev nD) : Nat :=
  let c0_i32_32 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_31 : BitVec 32 := 8#32
  let v48 : BitVec 32 := Scalar.muli v2 c8_i32_31
  let v49 : BitVec 32 := Scalar.addi c0_i32_32 v48
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_33 : BitVec 32 := 4#32
  let v50 : BitVec 32 := Scalar.muli v5 c4_i32_33
  let v51 : BitVec 32 := Scalar.addi v49 v50
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v19 : BitVec 32 := Scalar.addi v8 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c1_i32_34 : BitVec 32 := 1#32
  let v52 : BitVec 32 := Scalar.muli v21 c1_i32_34
  let v53 : BitVec 32 := Scalar.addi v51 v52
  v53.toNat
@[reducible] def k0_t2_loop : Scf.Loop 32 :=
  let c0_i32_36 : BitVec 32 := 0#32
  let c64_i32_37 : BitVec 32 := 64#32
  let v55 : BitVec 32 := Scalar.addi c0_i32_36 c64_i32_37
  let c1_i32_38 : BitVec 32 := 1#32
  ⟨c0_i32_36, v55, c1_i32_38⟩
def k0_off5 (d0 : Dev nD) (k0_t2 : Fin k0_t2_loop.trips) : Fin 1 → Nat :=
  let c2_i32_11 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v24 : BitVec 32 := Scalar.muli c2_i32_11 v5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v25 : BitVec 32 := Scalar.addi v24 v18
  let c1024_i32 : BitVec 32 := 1024#32
  let v32 : BitVec 32 := Scalar.muli v25 c1024_i32
  let c64_i32_1831 : BitVec 32 := 64#32
  let v1818 : BitVec 32 := Scalar.addi v32 c64_i32_1831
  let c0_i32_36 : BitVec 32 := 0#32
  let c1_i32_38 : BitVec 32 := 1#32
  let arg25 : BitVec 32 := Scf.iv c0_i32_36 c1_i32_38 k0_t2
  let v1819 : BitVec 32 := Scalar.addi v1818 arg25
  let v1820 : Index := Scalar.indexCast v1819
  ![v1820.toNat]
def k0_off6 (k0_t2 : Fin k0_t2_loop.trips) : Fin 2 → Nat :=
  let c0_i32_36 : BitVec 32 := 0#32
  let c1_i32_38 : BitVec 32 := 1#32
  let arg25 : BitVec 32 := Scf.iv c0_i32_36 c1_i32_38 k0_t2
  let c0_i32_1838 : BitVec 32 := 0#32
  ![arg25.toNat, 0]
def k0_off7 (v1821 : BitVec 32) : Fin 2 → Nat :=
  let c0_i32_1839 : BitVec 32 := 0#32
  ![v1821.toNat, 0]
def k0_cond2 (v1823 : BitVec 32) : BitVec 1 :=
  let c0_i32_1832 : BitVec 32 := 0#32
  let v1824 : BitVec 1 := Scalar.cmpi .ne v1823 c0_i32_1832
  let v1825 : BitVec 32 := Scalar.extui v1824
  let c0_i32_1835 : BitVec 32 := 0#32
  let v1826 : BitVec 1 := Scalar.cmpi .ne v1825 c0_i32_1835
  v1826

def k0_chk2 (v1821 : BitVec 32) (v1823 : BitVec 32) : Prop :=
  (∀ (k0_h2 : k0_cond2 v1823 = 1#1), ∀ a, (k0_off7 v1821) a + S1x2048.size a ≤ S8192x2048.size a)
theorem k0_off7_inb : ∀ (v1821 : BitVec 32) (v1823 : BitVec 32) (k0_hw2 : k0_chk2 v1821 v1823), ∀ (k0_h2 : k0_cond2 v1823 = 1#1), ∀ a, (k0_off7 v1821) a + S1x2048.size a ≤ S8192x2048.size a := fun v1821 v1823 k0_hw2 k0_h2 => k0_hw2 k0_h2

@[reducible] def k0_t3_loop : Scf.Loop 32 :=
  let c0_i32_40 : BitVec 32 := 0#32
  let c64_i32_41 : BitVec 32 := 64#32
  let v56 : BitVec 32 := Scalar.addi c0_i32_40 c64_i32_41
  let c1_i32_42 : BitVec 32 := 1#32
  ⟨c0_i32_40, v56, c1_i32_42⟩
def k0_off8 (d0 : Dev nD) (k0_t3 : Fin k0_t3_loop.trips) : Fin 1 → Nat :=
  let c2_i32_11 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v24 : BitVec 32 := Scalar.muli c2_i32_11 v5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v25 : BitVec 32 := Scalar.addi v24 v18
  let c1024_i32 : BitVec 32 := 1024#32
  let v32 : BitVec 32 := Scalar.muli v25 c1024_i32
  let c0_i32_1831 : BitVec 32 := 0#32
  let v1818 : BitVec 32 := Scalar.addi v32 c0_i32_1831
  let c0_i32_40 : BitVec 32 := 0#32
  let c1_i32_42 : BitVec 32 := 1#32
  let arg25 : BitVec 32 := Scf.iv c0_i32_40 c1_i32_42 k0_t3
  let v1819 : BitVec 32 := Scalar.addi v1818 arg25
  let v1820 : Index := Scalar.indexCast v1819
  ![v1820.toNat]
def k0_off9 (k0_t3 : Fin k0_t3_loop.trips) : Fin 2 → Nat :=
  let c0_i32_40 : BitVec 32 := 0#32
  let c1_i32_42 : BitVec 32 := 1#32
  let arg25 : BitVec 32 := Scf.iv c0_i32_40 c1_i32_42 k0_t3
  let c0_i32_1838 : BitVec 32 := 0#32
  ![arg25.toNat, 0]
def k0_off10 (v1821 : BitVec 32) : Fin 2 → Nat :=
  let c0_i32_1839 : BitVec 32 := 0#32
  ![v1821.toNat, 0]
def k0_cond3 (v1823 : BitVec 32) : BitVec 1 :=
  let c0_i32_1832 : BitVec 32 := 0#32
  let v1824 : BitVec 1 := Scalar.cmpi .ne v1823 c0_i32_1832
  let v1825 : BitVec 32 := Scalar.extui v1824
  let c0_i32_1835 : BitVec 32 := 0#32
  let v1826 : BitVec 1 := Scalar.cmpi .ne v1825 c0_i32_1835
  v1826

def k0_chk3 (v1821 : BitVec 32) (v1823 : BitVec 32) : Prop :=
  (∀ (k0_h3 : k0_cond3 v1823 = 1#1), ∀ a, (k0_off10 v1821) a + S1x2048.size a ≤ S8192x2048.size a)
theorem k0_off10_inb : ∀ (v1821 : BitVec 32) (v1823 : BitVec 32) (k0_hw3 : k0_chk3 v1821 v1823), ∀ (k0_h3 : k0_cond3 v1823 = 1#1), ∀ a, (k0_off10 v1821) a + S1x2048.size a ≤ S8192x2048.size a := fun v1821 v1823 k0_hw3 k0_h3 => k0_hw3 k0_h3

def k0_dev4 (d0 : Dev nD) : Nat :=
  let c0_i32_55 : BitVec 32 := 0#32
  let c1_i32_9 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v22 : BitVec 32 := Scalar.subi c1_i32_9 v2
  let c8_i32_54 : BitVec 32 := 8#32
  let v66 : BitVec 32 := Scalar.muli v22 c8_i32_54
  let v67 : BitVec 32 := Scalar.addi c0_i32_55 v66
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_56 : BitVec 32 := 4#32
  let v68 : BitVec 32 := Scalar.muli v5 c4_i32_56
  let v69 : BitVec 32 := Scalar.addi v67 v68
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_57 : BitVec 32 := 1#32
  let v70 : BitVec 32 := Scalar.muli v8 c1_i32_57
  let v71 : BitVec 32 := Scalar.addi v69 v70
  v71.toNat
@[reducible] def k0_t4_loop : Scf.Loop 32 :=
  let c0_i32_64 : BitVec 32 := 0#32
  let c128_i32 : BitVec 32 := 128#32
  let v80 : BitVec 32 := Scalar.addi c0_i32_64 c128_i32
  let c1_i32_65 : BitVec 32 := 1#32
  ⟨c0_i32_64, v80, c1_i32_65⟩
def k0_off11 (d0 : Dev nD) (k0_t4 : Fin k0_t4_loop.trips) : Fin 1 → Nat :=
  let c2_i32_11 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v24 : BitVec 32 := Scalar.muli c2_i32_11 v5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v25 : BitVec 32 := Scalar.addi v24 v18
  let c1024_i32 : BitVec 32 := 1024#32
  let v32 : BitVec 32 := Scalar.muli v25 c1024_i32
  let c128_i32_1831 : BitVec 32 := 128#32
  let v1818 : BitVec 32 := Scalar.addi v32 c128_i32_1831
  let c0_i32_64 : BitVec 32 := 0#32
  let c1_i32_65 : BitVec 32 := 1#32
  let arg25 : BitVec 32 := Scf.iv c0_i32_64 c1_i32_65 k0_t4
  let v1819 : BitVec 32 := Scalar.addi v1818 arg25
  let v1820 : Index := Scalar.indexCast v1819
  ![v1820.toNat]
def k0_off12 (k0_t4 : Fin k0_t4_loop.trips) : Fin 2 → Nat :=
  let c0_i32_64 : BitVec 32 := 0#32
  let c1_i32_65 : BitVec 32 := 1#32
  let arg25 : BitVec 32 := Scf.iv c0_i32_64 c1_i32_65 k0_t4
  let c0_i32_1838 : BitVec 32 := 0#32
  ![arg25.toNat, 0]
def k0_off13 (v1821 : BitVec 32) : Fin 2 → Nat :=
  let c0_i32_1839 : BitVec 32 := 0#32
  ![v1821.toNat, 0]
def k0_cond4 (v1823 : BitVec 32) : BitVec 1 :=
  let c0_i32_1832 : BitVec 32 := 0#32
  let v1824 : BitVec 1 := Scalar.cmpi .ne v1823 c0_i32_1832
  let v1825 : BitVec 32 := Scalar.extui v1824
  let c0_i32_1835 : BitVec 32 := 0#32
  let v1826 : BitVec 1 := Scalar.cmpi .ne v1825 c0_i32_1835
  v1826

def k0_chk4 (v1821 : BitVec 32) (v1823 : BitVec 32) : Prop :=
  (∀ (k0_h4 : k0_cond4 v1823 = 1#1), ∀ a, (k0_off13 v1821) a + S1x2048.size a ≤ S8192x2048.size a)
theorem k0_off13_inb : ∀ (v1821 : BitVec 32) (v1823 : BitVec 32) (k0_hw4 : k0_chk4 v1821 v1823), ∀ (k0_h4 : k0_cond4 v1823 = 1#1), ∀ a, (k0_off13 v1821) a + S1x2048.size a ≤ S8192x2048.size a := fun v1821 v1823 k0_hw4 k0_h4 => k0_hw4 k0_h4

@[reducible] def k0_t5_loop : Scf.Loop 32 :=
  let c0_i32_67 : BitVec 32 := 0#32
  let c64_i32_68 : BitVec 32 := 64#32
  let v81 : BitVec 32 := Scalar.addi c0_i32_67 c64_i32_68
  let c1_i32_69 : BitVec 32 := 1#32
  ⟨c0_i32_67, v81, c1_i32_69⟩
def k0_off14 (d0 : Dev nD) (k0_t5 : Fin k0_t5_loop.trips) : Fin 1 → Nat :=
  let c2_i32_11 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v24 : BitVec 32 := Scalar.muli c2_i32_11 v5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v25 : BitVec 32 := Scalar.addi v24 v18
  let c1024_i32 : BitVec 32 := 1024#32
  let v32 : BitVec 32 := Scalar.muli v25 c1024_i32
  let c64_i32_1831 : BitVec 32 := 64#32
  let v1818 : BitVec 32 := Scalar.addi v32 c64_i32_1831
  let c0_i32_67 : BitVec 32 := 0#32
  let c1_i32_69 : BitVec 32 := 1#32
  let arg25 : BitVec 32 := Scf.iv c0_i32_67 c1_i32_69 k0_t5
  let v1819 : BitVec 32 := Scalar.addi v1818 arg25
  let v1820 : Index := Scalar.indexCast v1819
  ![v1820.toNat]
def k0_off15 (k0_t5 : Fin k0_t5_loop.trips) : Fin 2 → Nat :=
  let c0_i32_67 : BitVec 32 := 0#32
  let c1_i32_69 : BitVec 32 := 1#32
  let arg25 : BitVec 32 := Scf.iv c0_i32_67 c1_i32_69 k0_t5
  let c0_i32_1838 : BitVec 32 := 0#32
  ![arg25.toNat, 0]
def k0_off16 (v1821 : BitVec 32) : Fin 2 → Nat :=
  let c0_i32_1839 : BitVec 32 := 0#32
  ![v1821.toNat, 0]
def k0_cond5 (v1823 : BitVec 32) : BitVec 1 :=
  let c0_i32_1832 : BitVec 32 := 0#32
  let v1824 : BitVec 1 := Scalar.cmpi .ne v1823 c0_i32_1832
  let v1825 : BitVec 32 := Scalar.extui v1824
  let c0_i32_1835 : BitVec 32 := 0#32
  let v1826 : BitVec 1 := Scalar.cmpi .ne v1825 c0_i32_1835
  v1826

def k0_chk5 (v1821 : BitVec 32) (v1823 : BitVec 32) : Prop :=
  (∀ (k0_h5 : k0_cond5 v1823 = 1#1), ∀ a, (k0_off16 v1821) a + S1x2048.size a ≤ S8192x2048.size a)
theorem k0_off16_inb : ∀ (v1821 : BitVec 32) (v1823 : BitVec 32) (k0_hw5 : k0_chk5 v1821 v1823), ∀ (k0_h5 : k0_cond5 v1823 = 1#1), ∀ a, (k0_off16 v1821) a + S1x2048.size a ≤ S8192x2048.size a := fun v1821 v1823 k0_hw5 k0_h5 => k0_hw5 k0_h5

def k0_dev5 (d0 : Dev nD) : Nat :=
  let c0_i32_81 : BitVec 32 := 0#32
  let c1_i32_9 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v22 : BitVec 32 := Scalar.subi c1_i32_9 v2
  let c8_i32_80 : BitVec 32 := 8#32
  let v91 : BitVec 32 := Scalar.muli v22 c8_i32_80
  let v92 : BitVec 32 := Scalar.addi c0_i32_81 v91
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_82 : BitVec 32 := 4#32
  let v93 : BitVec 32 := Scalar.muli v5 c4_i32_82
  let v94 : BitVec 32 := Scalar.addi v92 v93
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_83 : BitVec 32 := 1#32
  let v95 : BitVec 32 := Scalar.muli v8 c1_i32_83
  let v96 : BitVec 32 := Scalar.addi v94 v95
  v96.toNat
@[reducible] def k0_t6_loop : Scf.Loop 32 :=
  let c0_i32_110 : BitVec 32 := 0#32
  let c128_i32_111 : BitVec 32 := 128#32
  let v121 : BitVec 32 := Scalar.addi c0_i32_110 c128_i32_111
  let c1_i32_112 : BitVec 32 := 1#32
  ⟨c0_i32_110, v121, c1_i32_112⟩
def k0_off17 (d0 : Dev nD) (k0_t6 : Fin k0_t6_loop.trips) : Fin 1 → Nat :=
  let c2_i32_11 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v24 : BitVec 32 := Scalar.muli c2_i32_11 v5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v25 : BitVec 32 := Scalar.addi v24 v18
  let c1024_i32 : BitVec 32 := 1024#32
  let v32 : BitVec 32 := Scalar.muli v25 c1024_i32
  let c256_i32_1831 : BitVec 32 := 256#32
  let v1818 : BitVec 32 := Scalar.addi v32 c256_i32_1831
  let c0_i32_110 : BitVec 32 := 0#32
  let c1_i32_112 : BitVec 32 := 1#32
  let arg25 : BitVec 32 := Scf.iv c0_i32_110 c1_i32_112 k0_t6
  let v1819 : BitVec 32 := Scalar.addi v1818 arg25
  let v1820 : Index := Scalar.indexCast v1819
  ![v1820.toNat]
def k0_off18 (k0_t6 : Fin k0_t6_loop.trips) : Fin 2 → Nat :=
  let c0_i32_110 : BitVec 32 := 0#32
  let c1_i32_112 : BitVec 32 := 1#32
  let arg25 : BitVec 32 := Scf.iv c0_i32_110 c1_i32_112 k0_t6
  let c0_i32_1838 : BitVec 32 := 0#32
  ![arg25.toNat, 0]
def k0_off19 (v1821 : BitVec 32) : Fin 2 → Nat :=
  let c0_i32_1839 : BitVec 32 := 0#32
  ![v1821.toNat, 0]
def k0_cond6 (v1823 : BitVec 32) : BitVec 1 :=
  let c0_i32_1832 : BitVec 32 := 0#32
  let v1824 : BitVec 1 := Scalar.cmpi .ne v1823 c0_i32_1832
  let v1825 : BitVec 32 := Scalar.extui v1824
  let c0_i32_1835 : BitVec 32 := 0#32
  let v1826 : BitVec 1 := Scalar.cmpi .ne v1825 c0_i32_1835
  v1826

def k0_chk6 (v1821 : BitVec 32) (v1823 : BitVec 32) : Prop :=
  (∀ (k0_h6 : k0_cond6 v1823 = 1#1), ∀ a, (k0_off19 v1821) a + S1x2048.size a ≤ S8192x2048.size a)
theorem k0_off19_inb : ∀ (v1821 : BitVec 32) (v1823 : BitVec 32) (k0_hw6 : k0_chk6 v1821 v1823), ∀ (k0_h6 : k0_cond6 v1823 = 1#1), ∀ a, (k0_off19 v1821) a + S1x2048.size a ≤ S8192x2048.size a := fun v1821 v1823 k0_hw6 k0_h6 => k0_hw6 k0_h6

@[reducible] def k0_t7_loop : Scf.Loop 32 :=
  let c0_i32_114 : BitVec 32 := 0#32
  let c128_i32_115 : BitVec 32 := 128#32
  let v122 : BitVec 32 := Scalar.addi c0_i32_114 c128_i32_115
  let c1_i32_116 : BitVec 32 := 1#32
  ⟨c0_i32_114, v122, c1_i32_116⟩
def k0_off20 (d0 : Dev nD) (k0_t7 : Fin k0_t7_loop.trips) : Fin 1 → Nat :=
  let c2_i32_11 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v24 : BitVec 32 := Scalar.muli c2_i32_11 v5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v25 : BitVec 32 := Scalar.addi v24 v18
  let c1024_i32 : BitVec 32 := 1024#32
  let v32 : BitVec 32 := Scalar.muli v25 c1024_i32
  let c128_i32_1831 : BitVec 32 := 128#32
  let v1818 : BitVec 32 := Scalar.addi v32 c128_i32_1831
  let c0_i32_114 : BitVec 32 := 0#32
  let c1_i32_116 : BitVec 32 := 1#32
  let arg25 : BitVec 32 := Scf.iv c0_i32_114 c1_i32_116 k0_t7
  let v1819 : BitVec 32 := Scalar.addi v1818 arg25
  let v1820 : Index := Scalar.indexCast v1819
  ![v1820.toNat]
def k0_off21 (k0_t7 : Fin k0_t7_loop.trips) : Fin 2 → Nat :=
  let c0_i32_114 : BitVec 32 := 0#32
  let c1_i32_116 : BitVec 32 := 1#32
  let arg25 : BitVec 32 := Scf.iv c0_i32_114 c1_i32_116 k0_t7
  let c0_i32_1838 : BitVec 32 := 0#32
  ![arg25.toNat, 0]
def k0_off22 (v1821 : BitVec 32) : Fin 2 → Nat :=
  let c0_i32_1839 : BitVec 32 := 0#32
  ![v1821.toNat, 0]
def k0_cond7 (v1823 : BitVec 32) : BitVec 1 :=
  let c0_i32_1832 : BitVec 32 := 0#32
  let v1824 : BitVec 1 := Scalar.cmpi .ne v1823 c0_i32_1832
  let v1825 : BitVec 32 := Scalar.extui v1824
  let c0_i32_1835 : BitVec 32 := 0#32
  let v1826 : BitVec 1 := Scalar.cmpi .ne v1825 c0_i32_1835
  v1826

def k0_chk7 (v1821 : BitVec 32) (v1823 : BitVec 32) : Prop :=
  (∀ (k0_h7 : k0_cond7 v1823 = 1#1), ∀ a, (k0_off22 v1821) a + S1x2048.size a ≤ S8192x2048.size a)
theorem k0_off22_inb : ∀ (v1821 : BitVec 32) (v1823 : BitVec 32) (k0_hw7 : k0_chk7 v1821 v1823), ∀ (k0_h7 : k0_cond7 v1823 = 1#1), ∀ a, (k0_off22 v1821) a + S1x2048.size a ≤ S8192x2048.size a := fun v1821 v1823 k0_hw7 k0_h7 => k0_hw7 k0_h7

def k0_dev6 (d0 : Dev nD) : Nat :=
  let c0_i32_128 : BitVec 32 := 0#32
  let c1_i32_9 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v22 : BitVec 32 := Scalar.subi c1_i32_9 v2
  let c8_i32_127 : BitVec 32 := 8#32
  let v132 : BitVec 32 := Scalar.muli v22 c8_i32_127
  let v133 : BitVec 32 := Scalar.addi c0_i32_128 v132
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_129 : BitVec 32 := 4#32
  let v134 : BitVec 32 := Scalar.muli v5 c4_i32_129
  let v135 : BitVec 32 := Scalar.addi v133 v134
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_130 : BitVec 32 := 1#32
  let v136 : BitVec 32 := Scalar.muli v8 c1_i32_130
  let v137 : BitVec 32 := Scalar.addi v135 v136
  v137.toNat
def k0_off23 (d0 : Dev nD) (c0_i32_144 : BitVec 32) : Fin 2 → Nat :=
  let c2_i32_11 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v24 : BitVec 32 := Scalar.muli c2_i32_11 v5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v25 : BitVec 32 := Scalar.addi v24 v18
  let c1024_i32 : BitVec 32 := 1024#32
  let v32 : BitVec 32 := Scalar.muli v25 c1024_i32
  let v150 : BitVec 32 := Scalar.addi v32 c0_i32_144
  let c0_i32_161 : BitVec 32 := 0#32
  ![v150.toNat, 0]
def k0_dev7 (d0 : Dev nD) : Nat :=
  let c0_i32_158 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_157 : BitVec 32 := 8#32
  let v162 : BitVec 32 := Scalar.muli v2 c8_i32_157
  let v163 : BitVec 32 := Scalar.addi c0_i32_158 v162
  let c1_i32_10 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v23 : BitVec 32 := Scalar.subi c1_i32_10 v5
  let c4_i32_159 : BitVec 32 := 4#32
  let v164 : BitVec 32 := Scalar.muli v23 c4_i32_159
  let v165 : BitVec 32 := Scalar.addi v163 v164
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_160 : BitVec 32 := 1#32
  let v166 : BitVec 32 := Scalar.muli v8 c1_i32_160
  let v167 : BitVec 32 := Scalar.addi v165 v166
  v167.toNat
def k0_dev8 (d0 : Dev nD) : Nat :=
  let c0_i32_170 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_169 : BitVec 32 := 8#32
  let v176 : BitVec 32 := Scalar.muli v2 c8_i32_169
  let v177 : BitVec 32 := Scalar.addi c0_i32_170 v176
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_171 : BitVec 32 := 4#32
  let v178 : BitVec 32 := Scalar.muli v5 c4_i32_171
  let v179 : BitVec 32 := Scalar.addi v177 v178
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v19 : BitVec 32 := Scalar.addi v8 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c1_i32_172 : BitVec 32 := 1#32
  let v180 : BitVec 32 := Scalar.muli v21 c1_i32_172
  let v181 : BitVec 32 := Scalar.addi v179 v180
  v181.toNat
@[reducible] def k0_t8_loop : Scf.Loop 32 :=
  let c0_i32_205 : BitVec 32 := 0#32
  let c128_i32_206 : BitVec 32 := 128#32
  let v212 : BitVec 32 := Scalar.addi c0_i32_205 c128_i32_206
  let c1_i32_207 : BitVec 32 := 1#32
  ⟨c0_i32_205, v212, c1_i32_207⟩
def k0_off24 (d0 : Dev nD) (k0_t8 : Fin k0_t8_loop.trips) : Fin 1 → Nat :=
  let c2_i32_11 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v24 : BitVec 32 := Scalar.muli c2_i32_11 v5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v25 : BitVec 32 := Scalar.addi v24 v18
  let c1024_i32 : BitVec 32 := 1024#32
  let v32 : BitVec 32 := Scalar.muli v25 c1024_i32
  let c384_i32_1831 : BitVec 32 := 384#32
  let v1818 : BitVec 32 := Scalar.addi v32 c384_i32_1831
  let c0_i32_205 : BitVec 32 := 0#32
  let c1_i32_207 : BitVec 32 := 1#32
  let arg25 : BitVec 32 := Scf.iv c0_i32_205 c1_i32_207 k0_t8
  let v1819 : BitVec 32 := Scalar.addi v1818 arg25
  let v1820 : Index := Scalar.indexCast v1819
  ![v1820.toNat]
def k0_off25 (k0_t8 : Fin k0_t8_loop.trips) : Fin 2 → Nat :=
  let c0_i32_205 : BitVec 32 := 0#32
  let c1_i32_207 : BitVec 32 := 1#32
  let arg25 : BitVec 32 := Scf.iv c0_i32_205 c1_i32_207 k0_t8
  let c0_i32_1838 : BitVec 32 := 0#32
  ![arg25.toNat, 0]
def k0_off26 (v1821 : BitVec 32) : Fin 2 → Nat :=
  let c0_i32_1839 : BitVec 32 := 0#32
  ![v1821.toNat, 0]
def k0_cond8 (v1823 : BitVec 32) : BitVec 1 :=
  let c0_i32_1832 : BitVec 32 := 0#32
  let v1824 : BitVec 1 := Scalar.cmpi .ne v1823 c0_i32_1832
  let v1825 : BitVec 32 := Scalar.extui v1824
  let c0_i32_1835 : BitVec 32 := 0#32
  let v1826 : BitVec 1 := Scalar.cmpi .ne v1825 c0_i32_1835
  v1826

def k0_chk8 (v1821 : BitVec 32) (v1823 : BitVec 32) : Prop :=
  (∀ (k0_h8 : k0_cond8 v1823 = 1#1), ∀ a, (k0_off26 v1821) a + S1x2048.size a ≤ S8192x2048.size a)
theorem k0_off26_inb : ∀ (v1821 : BitVec 32) (v1823 : BitVec 32) (k0_hw8 : k0_chk8 v1821 v1823), ∀ (k0_h8 : k0_cond8 v1823 = 1#1), ∀ a, (k0_off26 v1821) a + S1x2048.size a ≤ S8192x2048.size a := fun v1821 v1823 k0_hw8 k0_h8 => k0_hw8 k0_h8

@[reducible] def k0_t9_loop : Scf.Loop 32 :=
  let c0_i32_209 : BitVec 32 := 0#32
  let c128_i32_210 : BitVec 32 := 128#32
  let v213 : BitVec 32 := Scalar.addi c0_i32_209 c128_i32_210
  let c1_i32_211 : BitVec 32 := 1#32
  ⟨c0_i32_209, v213, c1_i32_211⟩
def k0_off27 (d0 : Dev nD) (k0_t9 : Fin k0_t9_loop.trips) : Fin 1 → Nat :=
  let c2_i32_11 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v24 : BitVec 32 := Scalar.muli c2_i32_11 v5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v25 : BitVec 32 := Scalar.addi v24 v18
  let c1024_i32 : BitVec 32 := 1024#32
  let v32 : BitVec 32 := Scalar.muli v25 c1024_i32
  let c256_i32_1831 : BitVec 32 := 256#32
  let v1818 : BitVec 32 := Scalar.addi v32 c256_i32_1831
  let c0_i32_209 : BitVec 32 := 0#32
  let c1_i32_211 : BitVec 32 := 1#32
  let arg25 : BitVec 32 := Scf.iv c0_i32_209 c1_i32_211 k0_t9
  let v1819 : BitVec 32 := Scalar.addi v1818 arg25
  let v1820 : Index := Scalar.indexCast v1819
  ![v1820.toNat]
def k0_off28 (k0_t9 : Fin k0_t9_loop.trips) : Fin 2 → Nat :=
  let c0_i32_209 : BitVec 32 := 0#32
  let c1_i32_211 : BitVec 32 := 1#32
  let arg25 : BitVec 32 := Scf.iv c0_i32_209 c1_i32_211 k0_t9
  let c0_i32_1838 : BitVec 32 := 0#32
  ![arg25.toNat, 0]
def k0_off29 (v1821 : BitVec 32) : Fin 2 → Nat :=
  let c0_i32_1839 : BitVec 32 := 0#32
  ![v1821.toNat, 0]
def k0_cond9 (v1823 : BitVec 32) : BitVec 1 :=
  let c0_i32_1832 : BitVec 32 := 0#32
  let v1824 : BitVec 1 := Scalar.cmpi .ne v1823 c0_i32_1832
  let v1825 : BitVec 32 := Scalar.extui v1824
  let c0_i32_1835 : BitVec 32 := 0#32
  let v1826 : BitVec 1 := Scalar.cmpi .ne v1825 c0_i32_1835
  v1826

def k0_chk9 (v1821 : BitVec 32) (v1823 : BitVec 32) : Prop :=
  (∀ (k0_h9 : k0_cond9 v1823 = 1#1), ∀ a, (k0_off29 v1821) a + S1x2048.size a ≤ S8192x2048.size a)
theorem k0_off29_inb : ∀ (v1821 : BitVec 32) (v1823 : BitVec 32) (k0_hw9 : k0_chk9 v1821 v1823), ∀ (k0_h9 : k0_cond9 v1823 = 1#1), ∀ a, (k0_off29 v1821) a + S1x2048.size a ≤ S8192x2048.size a := fun v1821 v1823 k0_hw9 k0_h9 => k0_hw9 k0_h9

def k0_dev9 (d0 : Dev nD) : Nat :=
  let c0_i32_223 : BitVec 32 := 0#32
  let c1_i32_9 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v22 : BitVec 32 := Scalar.subi c1_i32_9 v2
  let c8_i32_222 : BitVec 32 := 8#32
  let v223 : BitVec 32 := Scalar.muli v22 c8_i32_222
  let v224 : BitVec 32 := Scalar.addi c0_i32_223 v223
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_224 : BitVec 32 := 4#32
  let v225 : BitVec 32 := Scalar.muli v5 c4_i32_224
  let v226 : BitVec 32 := Scalar.addi v224 v225
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_225 : BitVec 32 := 1#32
  let v227 : BitVec 32 := Scalar.muli v8 c1_i32_225
  let v228 : BitVec 32 := Scalar.addi v226 v227
  v228.toNat
def k0_dev10 (d0 : Dev nD) : Nat :=
  let c0_i32_252 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_251 : BitVec 32 := 8#32
  let v253 : BitVec 32 := Scalar.muli v2 c8_i32_251
  let v254 : BitVec 32 := Scalar.addi c0_i32_252 v253
  let c1_i32_10 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v23 : BitVec 32 := Scalar.subi c1_i32_10 v5
  let c4_i32_253 : BitVec 32 := 4#32
  let v255 : BitVec 32 := Scalar.muli v23 c4_i32_253
  let v256 : BitVec 32 := Scalar.addi v254 v255
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_254 : BitVec 32 := 1#32
  let v257 : BitVec 32 := Scalar.muli v8 c1_i32_254
  let v258 : BitVec 32 := Scalar.addi v256 v257
  v258.toNat
def k0_dev11 (d0 : Dev nD) : Nat :=
  let c0_i32_264 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_263 : BitVec 32 := 8#32
  let v267 : BitVec 32 := Scalar.muli v2 c8_i32_263
  let v268 : BitVec 32 := Scalar.addi c0_i32_264 v267
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_265 : BitVec 32 := 4#32
  let v269 : BitVec 32 := Scalar.muli v5 c4_i32_265
  let v270 : BitVec 32 := Scalar.addi v268 v269
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v19 : BitVec 32 := Scalar.addi v8 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c1_i32_266 : BitVec 32 := 1#32
  let v271 : BitVec 32 := Scalar.muli v21 c1_i32_266
  let v272 : BitVec 32 := Scalar.addi v270 v271
  v272.toNat
def k0_off30 (d0 : Dev nD) (c0_i32_292 : BitVec 32) : Fin 2 → Nat :=
  let c2_i32_13 : BitVec 32 := 2#32
  let c1_i32_12 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v26 : BitVec 32 := Scalar.subi c1_i32_12 v5
  let v27 : BitVec 32 := Scalar.muli c2_i32_13 v26
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v28 : BitVec 32 := Scalar.addi v27 v18
  let c1024_i32_291 : BitVec 32 := 1024#32
  let v299 : BitVec 32 := Scalar.muli v28 c1024_i32_291
  let v300 : BitVec 32 := Scalar.addi v299 c0_i32_292
  let c32_i32 : BitVec 32 := 32#32
  let v301 : BitVec 32 := Scalar.addi v300 c32_i32
  let c0_i32_299 : BitVec 32 := 0#32
  ![v301.toNat, 0]
def k0_dev12 (d0 : Dev nD) : Nat :=
  let c0_i32_296 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_295 : BitVec 32 := 8#32
  let v302 : BitVec 32 := Scalar.muli v2 c8_i32_295
  let v303 : BitVec 32 := Scalar.addi c0_i32_296 v302
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_297 : BitVec 32 := 4#32
  let v304 : BitVec 32 := Scalar.muli v5 c4_i32_297
  let v305 : BitVec 32 := Scalar.addi v303 v304
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v19 : BitVec 32 := Scalar.addi v8 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c1_i32_298 : BitVec 32 := 1#32
  let v306 : BitVec 32 := Scalar.muli v21 c1_i32_298
  let v307 : BitVec 32 := Scalar.addi v305 v306
  v307.toNat
def k0_off31 (d0 : Dev nD) (c0_i32_314 : BitVec 32) : Fin 2 → Nat :=
  let c2_i32_14 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v29 : BitVec 32 := Scalar.muli c2_i32_14 v5
  let c1_i32_15 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v30 : BitVec 32 := Scalar.subi c1_i32_15 v18
  let v31 : BitVec 32 := Scalar.addi v29 v30
  let c1024_i32_313 : BitVec 32 := 1024#32
  let v326 : BitVec 32 := Scalar.muli v31 c1024_i32_313
  let v327 : BitVec 32 := Scalar.addi v326 c0_i32_314
  let c0_i32_321 : BitVec 32 := 0#32
  ![v327.toNat, 0]
def k0_dev13 (d0 : Dev nD) : Nat :=
  let c0_i32_318 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_317 : BitVec 32 := 8#32
  let v328 : BitVec 32 := Scalar.muli v2 c8_i32_317
  let v329 : BitVec 32 := Scalar.addi c0_i32_318 v328
  let c1_i32_10 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v23 : BitVec 32 := Scalar.subi c1_i32_10 v5
  let c4_i32_319 : BitVec 32 := 4#32
  let v330 : BitVec 32 := Scalar.muli v23 c4_i32_319
  let v331 : BitVec 32 := Scalar.addi v329 v330
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_320 : BitVec 32 := 1#32
  let v332 : BitVec 32 := Scalar.muli v8 c1_i32_320
  let v333 : BitVec 32 := Scalar.addi v331 v332
  v333.toNat
@[reducible] def k0_t10_loop : Scf.Loop 32 :=
  let c0_i32_343 : BitVec 32 := 0#32
  let c128_i32_344 : BitVec 32 := 128#32
  let v356 : BitVec 32 := Scalar.addi c0_i32_343 c128_i32_344
  let c1_i32_345 : BitVec 32 := 1#32
  ⟨c0_i32_343, v356, c1_i32_345⟩
def k0_off32 (d0 : Dev nD) (k0_t10 : Fin k0_t10_loop.trips) : Fin 1 → Nat :=
  let c2_i32_11 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v24 : BitVec 32 := Scalar.muli c2_i32_11 v5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v25 : BitVec 32 := Scalar.addi v24 v18
  let c1024_i32 : BitVec 32 := 1024#32
  let v32 : BitVec 32 := Scalar.muli v25 c1024_i32
  let c512_i32_1831 : BitVec 32 := 512#32
  let v1818 : BitVec 32 := Scalar.addi v32 c512_i32_1831
  let c0_i32_343 : BitVec 32 := 0#32
  let c1_i32_345 : BitVec 32 := 1#32
  let arg25 : BitVec 32 := Scf.iv c0_i32_343 c1_i32_345 k0_t10
  let v1819 : BitVec 32 := Scalar.addi v1818 arg25
  let v1820 : Index := Scalar.indexCast v1819
  ![v1820.toNat]
def k0_off33 (k0_t10 : Fin k0_t10_loop.trips) : Fin 2 → Nat :=
  let c0_i32_343 : BitVec 32 := 0#32
  let c1_i32_345 : BitVec 32 := 1#32
  let arg25 : BitVec 32 := Scf.iv c0_i32_343 c1_i32_345 k0_t10
  let c0_i32_1838 : BitVec 32 := 0#32
  ![arg25.toNat, 0]
def k0_off34 (v1821 : BitVec 32) : Fin 2 → Nat :=
  let c0_i32_1839 : BitVec 32 := 0#32
  ![v1821.toNat, 0]
def k0_cond10 (v1823 : BitVec 32) : BitVec 1 :=
  let c0_i32_1832 : BitVec 32 := 0#32
  let v1824 : BitVec 1 := Scalar.cmpi .ne v1823 c0_i32_1832
  let v1825 : BitVec 32 := Scalar.extui v1824
  let c0_i32_1835 : BitVec 32 := 0#32
  let v1826 : BitVec 1 := Scalar.cmpi .ne v1825 c0_i32_1835
  v1826

def k0_chk10 (v1821 : BitVec 32) (v1823 : BitVec 32) : Prop :=
  (∀ (k0_h10 : k0_cond10 v1823 = 1#1), ∀ a, (k0_off34 v1821) a + S1x2048.size a ≤ S8192x2048.size a)
theorem k0_off34_inb : ∀ (v1821 : BitVec 32) (v1823 : BitVec 32) (k0_hw10 : k0_chk10 v1821 v1823), ∀ (k0_h10 : k0_cond10 v1823 = 1#1), ∀ a, (k0_off34 v1821) a + S1x2048.size a ≤ S8192x2048.size a := fun v1821 v1823 k0_hw10 k0_h10 => k0_hw10 k0_h10

@[reducible] def k0_t11_loop : Scf.Loop 32 :=
  let c0_i32_347 : BitVec 32 := 0#32
  let c128_i32_348 : BitVec 32 := 128#32
  let v357 : BitVec 32 := Scalar.addi c0_i32_347 c128_i32_348
  let c1_i32_349 : BitVec 32 := 1#32
  ⟨c0_i32_347, v357, c1_i32_349⟩
def k0_off35 (d0 : Dev nD) (k0_t11 : Fin k0_t11_loop.trips) : Fin 1 → Nat :=
  let c2_i32_11 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v24 : BitVec 32 := Scalar.muli c2_i32_11 v5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v25 : BitVec 32 := Scalar.addi v24 v18
  let c1024_i32 : BitVec 32 := 1024#32
  let v32 : BitVec 32 := Scalar.muli v25 c1024_i32
  let c384_i32_1831 : BitVec 32 := 384#32
  let v1818 : BitVec 32 := Scalar.addi v32 c384_i32_1831
  let c0_i32_347 : BitVec 32 := 0#32
  let c1_i32_349 : BitVec 32 := 1#32
  let arg25 : BitVec 32 := Scf.iv c0_i32_347 c1_i32_349 k0_t11
  let v1819 : BitVec 32 := Scalar.addi v1818 arg25
  let v1820 : Index := Scalar.indexCast v1819
  ![v1820.toNat]
def k0_off36 (k0_t11 : Fin k0_t11_loop.trips) : Fin 2 → Nat :=
  let c0_i32_347 : BitVec 32 := 0#32
  let c1_i32_349 : BitVec 32 := 1#32
  let arg25 : BitVec 32 := Scf.iv c0_i32_347 c1_i32_349 k0_t11
  let c0_i32_1838 : BitVec 32 := 0#32
  ![arg25.toNat, 0]
def k0_off37 (v1821 : BitVec 32) : Fin 2 → Nat :=
  let c0_i32_1839 : BitVec 32 := 0#32
  ![v1821.toNat, 0]
def k0_cond11 (v1823 : BitVec 32) : BitVec 1 :=
  let c0_i32_1832 : BitVec 32 := 0#32
  let v1824 : BitVec 1 := Scalar.cmpi .ne v1823 c0_i32_1832
  let v1825 : BitVec 32 := Scalar.extui v1824
  let c0_i32_1835 : BitVec 32 := 0#32
  let v1826 : BitVec 1 := Scalar.cmpi .ne v1825 c0_i32_1835
  v1826

def k0_chk11 (v1821 : BitVec 32) (v1823 : BitVec 32) : Prop :=
  (∀ (k0_h11 : k0_cond11 v1823 = 1#1), ∀ a, (k0_off37 v1821) a + S1x2048.size a ≤ S8192x2048.size a)
theorem k0_off37_inb : ∀ (v1821 : BitVec 32) (v1823 : BitVec 32) (k0_hw11 : k0_chk11 v1821 v1823), ∀ (k0_h11 : k0_cond11 v1823 = 1#1), ∀ a, (k0_off37 v1821) a + S1x2048.size a ≤ S8192x2048.size a := fun v1821 v1823 k0_hw11 k0_h11 => k0_hw11 k0_h11

def k0_dev14 (d0 : Dev nD) : Nat :=
  let c0_i32_361 : BitVec 32 := 0#32
  let c1_i32_9 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v22 : BitVec 32 := Scalar.subi c1_i32_9 v2
  let c8_i32_360 : BitVec 32 := 8#32
  let v367 : BitVec 32 := Scalar.muli v22 c8_i32_360
  let v368 : BitVec 32 := Scalar.addi c0_i32_361 v367
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_362 : BitVec 32 := 4#32
  let v369 : BitVec 32 := Scalar.muli v5 c4_i32_362
  let v370 : BitVec 32 := Scalar.addi v368 v369
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_363 : BitVec 32 := 1#32
  let v371 : BitVec 32 := Scalar.muli v8 c1_i32_363
  let v372 : BitVec 32 := Scalar.addi v370 v371
  v372.toNat
def k0_off38 (d0 : Dev nD) (c128_i32_376 : BitVec 32) : Fin 2 → Nat :=
  let c2_i32_11 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v24 : BitVec 32 := Scalar.muli c2_i32_11 v5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v25 : BitVec 32 := Scalar.addi v24 v18
  let c1024_i32 : BitVec 32 := 1024#32
  let v32 : BitVec 32 := Scalar.muli v25 c1024_i32
  let v385 : BitVec 32 := Scalar.addi v32 c128_i32_376
  let c0_i32_393 : BitVec 32 := 0#32
  ![v385.toNat, 0]
def k0_dev15 (d0 : Dev nD) : Nat :=
  let c0_i32_390 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_389 : BitVec 32 := 8#32
  let v397 : BitVec 32 := Scalar.muli v2 c8_i32_389
  let v398 : BitVec 32 := Scalar.addi c0_i32_390 v397
  let c1_i32_10 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v23 : BitVec 32 := Scalar.subi c1_i32_10 v5
  let c4_i32_391 : BitVec 32 := 4#32
  let v399 : BitVec 32 := Scalar.muli v23 c4_i32_391
  let v400 : BitVec 32 := Scalar.addi v398 v399
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_392 : BitVec 32 := 1#32
  let v401 : BitVec 32 := Scalar.muli v8 c1_i32_392
  let v402 : BitVec 32 := Scalar.addi v400 v401
  v402.toNat
def k0_dev16 (d0 : Dev nD) : Nat :=
  let c0_i32_402 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_401 : BitVec 32 := 8#32
  let v411 : BitVec 32 := Scalar.muli v2 c8_i32_401
  let v412 : BitVec 32 := Scalar.addi c0_i32_402 v411
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_403 : BitVec 32 := 4#32
  let v413 : BitVec 32 := Scalar.muli v5 c4_i32_403
  let v414 : BitVec 32 := Scalar.addi v412 v413
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v19 : BitVec 32 := Scalar.addi v8 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c1_i32_404 : BitVec 32 := 1#32
  let v415 : BitVec 32 := Scalar.muli v21 c1_i32_404
  let v416 : BitVec 32 := Scalar.addi v414 v415
  v416.toNat
def k0_dev17 (d0 : Dev nD) : Nat :=
  let c0_i32_435 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_434 : BitVec 32 := 8#32
  let v446 : BitVec 32 := Scalar.muli v2 c8_i32_434
  let v447 : BitVec 32 := Scalar.addi c0_i32_435 v446
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_436 : BitVec 32 := 4#32
  let v448 : BitVec 32 := Scalar.muli v5 c4_i32_436
  let v449 : BitVec 32 := Scalar.addi v447 v448
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v19 : BitVec 32 := Scalar.addi v8 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c1_i32_437 : BitVec 32 := 1#32
  let v450 : BitVec 32 := Scalar.muli v21 c1_i32_437
  let v451 : BitVec 32 := Scalar.addi v449 v450
  v451.toNat
def k0_dev18 (d0 : Dev nD) : Nat :=
  let c0_i32_457 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_456 : BitVec 32 := 8#32
  let v472 : BitVec 32 := Scalar.muli v2 c8_i32_456
  let v473 : BitVec 32 := Scalar.addi c0_i32_457 v472
  let c1_i32_10 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v23 : BitVec 32 := Scalar.subi c1_i32_10 v5
  let c4_i32_458 : BitVec 32 := 4#32
  let v474 : BitVec 32 := Scalar.muli v23 c4_i32_458
  let v475 : BitVec 32 := Scalar.addi v473 v474
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_459 : BitVec 32 := 1#32
  let v476 : BitVec 32 := Scalar.muli v8 c1_i32_459
  let v477 : BitVec 32 := Scalar.addi v475 v476
  v477.toNat
@[reducible] def k0_t12_loop : Scf.Loop 32 :=
  let c0_i32_482 : BitVec 32 := 0#32
  let c128_i32_483 : BitVec 32 := 128#32
  let v500 : BitVec 32 := Scalar.addi c0_i32_482 c128_i32_483
  let c1_i32_484 : BitVec 32 := 1#32
  ⟨c0_i32_482, v500, c1_i32_484⟩
def k0_off39 (d0 : Dev nD) (k0_t12 : Fin k0_t12_loop.trips) : Fin 1 → Nat :=
  let c2_i32_11 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v24 : BitVec 32 := Scalar.muli c2_i32_11 v5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v25 : BitVec 32 := Scalar.addi v24 v18
  let c1024_i32 : BitVec 32 := 1024#32
  let v32 : BitVec 32 := Scalar.muli v25 c1024_i32
  let c640_i32_1831 : BitVec 32 := 640#32
  let v1818 : BitVec 32 := Scalar.addi v32 c640_i32_1831
  let c0_i32_482 : BitVec 32 := 0#32
  let c1_i32_484 : BitVec 32 := 1#32
  let arg25 : BitVec 32 := Scf.iv c0_i32_482 c1_i32_484 k0_t12
  let v1819 : BitVec 32 := Scalar.addi v1818 arg25
  let v1820 : Index := Scalar.indexCast v1819
  ![v1820.toNat]
def k0_off40 (k0_t12 : Fin k0_t12_loop.trips) : Fin 2 → Nat :=
  let c0_i32_482 : BitVec 32 := 0#32
  let c1_i32_484 : BitVec 32 := 1#32
  let arg25 : BitVec 32 := Scf.iv c0_i32_482 c1_i32_484 k0_t12
  let c0_i32_1838 : BitVec 32 := 0#32
  ![arg25.toNat, 0]
def k0_off41 (v1821 : BitVec 32) : Fin 2 → Nat :=
  let c0_i32_1839 : BitVec 32 := 0#32
  ![v1821.toNat, 0]
def k0_cond12 (v1823 : BitVec 32) : BitVec 1 :=
  let c0_i32_1832 : BitVec 32 := 0#32
  let v1824 : BitVec 1 := Scalar.cmpi .ne v1823 c0_i32_1832
  let v1825 : BitVec 32 := Scalar.extui v1824
  let c0_i32_1835 : BitVec 32 := 0#32
  let v1826 : BitVec 1 := Scalar.cmpi .ne v1825 c0_i32_1835
  v1826

def k0_chk12 (v1821 : BitVec 32) (v1823 : BitVec 32) : Prop :=
  (∀ (k0_h12 : k0_cond12 v1823 = 1#1), ∀ a, (k0_off41 v1821) a + S1x2048.size a ≤ S8192x2048.size a)
theorem k0_off41_inb : ∀ (v1821 : BitVec 32) (v1823 : BitVec 32) (k0_hw12 : k0_chk12 v1821 v1823), ∀ (k0_h12 : k0_cond12 v1823 = 1#1), ∀ a, (k0_off41 v1821) a + S1x2048.size a ≤ S8192x2048.size a := fun v1821 v1823 k0_hw12 k0_h12 => k0_hw12 k0_h12

@[reducible] def k0_t13_loop : Scf.Loop 32 :=
  let c0_i32_486 : BitVec 32 := 0#32
  let c128_i32_487 : BitVec 32 := 128#32
  let v501 : BitVec 32 := Scalar.addi c0_i32_486 c128_i32_487
  let c1_i32_488 : BitVec 32 := 1#32
  ⟨c0_i32_486, v501, c1_i32_488⟩
def k0_off42 (d0 : Dev nD) (k0_t13 : Fin k0_t13_loop.trips) : Fin 1 → Nat :=
  let c2_i32_11 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v24 : BitVec 32 := Scalar.muli c2_i32_11 v5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v25 : BitVec 32 := Scalar.addi v24 v18
  let c1024_i32 : BitVec 32 := 1024#32
  let v32 : BitVec 32 := Scalar.muli v25 c1024_i32
  let c512_i32_1831 : BitVec 32 := 512#32
  let v1818 : BitVec 32 := Scalar.addi v32 c512_i32_1831
  let c0_i32_486 : BitVec 32 := 0#32
  let c1_i32_488 : BitVec 32 := 1#32
  let arg25 : BitVec 32 := Scf.iv c0_i32_486 c1_i32_488 k0_t13
  let v1819 : BitVec 32 := Scalar.addi v1818 arg25
  let v1820 : Index := Scalar.indexCast v1819
  ![v1820.toNat]
def k0_off43 (k0_t13 : Fin k0_t13_loop.trips) : Fin 2 → Nat :=
  let c0_i32_486 : BitVec 32 := 0#32
  let c1_i32_488 : BitVec 32 := 1#32
  let arg25 : BitVec 32 := Scf.iv c0_i32_486 c1_i32_488 k0_t13
  let c0_i32_1838 : BitVec 32 := 0#32
  ![arg25.toNat, 0]
def k0_off44 (v1821 : BitVec 32) : Fin 2 → Nat :=
  let c0_i32_1839 : BitVec 32 := 0#32
  ![v1821.toNat, 0]
def k0_cond13 (v1823 : BitVec 32) : BitVec 1 :=
  let c0_i32_1832 : BitVec 32 := 0#32
  let v1824 : BitVec 1 := Scalar.cmpi .ne v1823 c0_i32_1832
  let v1825 : BitVec 32 := Scalar.extui v1824
  let c0_i32_1835 : BitVec 32 := 0#32
  let v1826 : BitVec 1 := Scalar.cmpi .ne v1825 c0_i32_1835
  v1826

def k0_chk13 (v1821 : BitVec 32) (v1823 : BitVec 32) : Prop :=
  (∀ (k0_h13 : k0_cond13 v1823 = 1#1), ∀ a, (k0_off44 v1821) a + S1x2048.size a ≤ S8192x2048.size a)
theorem k0_off44_inb : ∀ (v1821 : BitVec 32) (v1823 : BitVec 32) (k0_hw13 : k0_chk13 v1821 v1823), ∀ (k0_h13 : k0_cond13 v1823 = 1#1), ∀ a, (k0_off44 v1821) a + S1x2048.size a ≤ S8192x2048.size a := fun v1821 v1823 k0_hw13 k0_h13 => k0_hw13 k0_h13

def k0_dev19 (d0 : Dev nD) : Nat :=
  let c0_i32_499 : BitVec 32 := 0#32
  let c1_i32_9 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v22 : BitVec 32 := Scalar.subi c1_i32_9 v2
  let c8_i32_498 : BitVec 32 := 8#32
  let v511 : BitVec 32 := Scalar.muli v22 c8_i32_498
  let v512 : BitVec 32 := Scalar.addi c0_i32_499 v511
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_500 : BitVec 32 := 4#32
  let v513 : BitVec 32 := Scalar.muli v5 c4_i32_500
  let v514 : BitVec 32 := Scalar.addi v512 v513
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_501 : BitVec 32 := 1#32
  let v515 : BitVec 32 := Scalar.muli v8 c1_i32_501
  let v516 : BitVec 32 := Scalar.addi v514 v515
  v516.toNat
def k0_dev20 (d0 : Dev nD) : Nat :=
  let c0_i32_528 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_527 : BitVec 32 := 8#32
  let v541 : BitVec 32 := Scalar.muli v2 c8_i32_527
  let v542 : BitVec 32 := Scalar.addi c0_i32_528 v541
  let c1_i32_10 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v23 : BitVec 32 := Scalar.subi c1_i32_10 v5
  let c4_i32_529 : BitVec 32 := 4#32
  let v543 : BitVec 32 := Scalar.muli v23 c4_i32_529
  let v544 : BitVec 32 := Scalar.addi v542 v543
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_530 : BitVec 32 := 1#32
  let v545 : BitVec 32 := Scalar.muli v8 c1_i32_530
  let v546 : BitVec 32 := Scalar.addi v544 v545
  v546.toNat
def k0_dev21 (d0 : Dev nD) : Nat :=
  let c0_i32_540 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_539 : BitVec 32 := 8#32
  let v555 : BitVec 32 := Scalar.muli v2 c8_i32_539
  let v556 : BitVec 32 := Scalar.addi c0_i32_540 v555
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_541 : BitVec 32 := 4#32
  let v557 : BitVec 32 := Scalar.muli v5 c4_i32_541
  let v558 : BitVec 32 := Scalar.addi v556 v557
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v19 : BitVec 32 := Scalar.addi v8 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c1_i32_542 : BitVec 32 := 1#32
  let v559 : BitVec 32 := Scalar.muli v21 c1_i32_542
  let v560 : BitVec 32 := Scalar.addi v558 v559
  v560.toNat
def k0_off45 (d0 : Dev nD) (c128_i32_568 : BitVec 32) : Fin 2 → Nat :=
  let c2_i32_13 : BitVec 32 := 2#32
  let c1_i32_12 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v26 : BitVec 32 := Scalar.subi c1_i32_12 v5
  let v27 : BitVec 32 := Scalar.muli c2_i32_13 v26
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v28 : BitVec 32 := Scalar.addi v27 v18
  let c1024_i32_567 : BitVec 32 := 1024#32
  let v587 : BitVec 32 := Scalar.muli v28 c1024_i32_567
  let v588 : BitVec 32 := Scalar.addi v587 c128_i32_568
  let c64_i32_569 : BitVec 32 := 64#32
  let v589 : BitVec 32 := Scalar.addi v588 c64_i32_569
  let c0_i32_576 : BitVec 32 := 0#32
  ![v589.toNat, 0]
def k0_dev22 (d0 : Dev nD) : Nat :=
  let c0_i32_573 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_572 : BitVec 32 := 8#32
  let v590 : BitVec 32 := Scalar.muli v2 c8_i32_572
  let v591 : BitVec 32 := Scalar.addi c0_i32_573 v590
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_574 : BitVec 32 := 4#32
  let v592 : BitVec 32 := Scalar.muli v5 c4_i32_574
  let v593 : BitVec 32 := Scalar.addi v591 v592
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v19 : BitVec 32 := Scalar.addi v8 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c1_i32_575 : BitVec 32 := 1#32
  let v594 : BitVec 32 := Scalar.muli v21 c1_i32_575
  let v595 : BitVec 32 := Scalar.addi v593 v594
  v595.toNat
def k0_off46 (d0 : Dev nD) (c128_i32_591 : BitVec 32) : Fin 2 → Nat :=
  let c2_i32_14 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v29 : BitVec 32 := Scalar.muli c2_i32_14 v5
  let c1_i32_15 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v30 : BitVec 32 := Scalar.subi c1_i32_15 v18
  let v31 : BitVec 32 := Scalar.addi v29 v30
  let c1024_i32_590 : BitVec 32 := 1024#32
  let v614 : BitVec 32 := Scalar.muli v31 c1024_i32_590
  let v615 : BitVec 32 := Scalar.addi v614 c128_i32_591
  let c0_i32_598 : BitVec 32 := 0#32
  ![v615.toNat, 0]
def k0_dev23 (d0 : Dev nD) : Nat :=
  let c0_i32_595 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_594 : BitVec 32 := 8#32
  let v616 : BitVec 32 := Scalar.muli v2 c8_i32_594
  let v617 : BitVec 32 := Scalar.addi c0_i32_595 v616
  let c1_i32_10 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v23 : BitVec 32 := Scalar.subi c1_i32_10 v5
  let c4_i32_596 : BitVec 32 := 4#32
  let v618 : BitVec 32 := Scalar.muli v23 c4_i32_596
  let v619 : BitVec 32 := Scalar.addi v617 v618
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_597 : BitVec 32 := 1#32
  let v620 : BitVec 32 := Scalar.muli v8 c1_i32_597
  let v621 : BitVec 32 := Scalar.addi v619 v620
  v621.toNat
@[reducible] def k0_t14_loop : Scf.Loop 32 :=
  let c0_i32_620 : BitVec 32 := 0#32
  let c128_i32_621 : BitVec 32 := 128#32
  let v644 : BitVec 32 := Scalar.addi c0_i32_620 c128_i32_621
  let c1_i32_622 : BitVec 32 := 1#32
  ⟨c0_i32_620, v644, c1_i32_622⟩
def k0_off47 (d0 : Dev nD) (k0_t14 : Fin k0_t14_loop.trips) : Fin 1 → Nat :=
  let c2_i32_11 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v24 : BitVec 32 := Scalar.muli c2_i32_11 v5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v25 : BitVec 32 := Scalar.addi v24 v18
  let c1024_i32 : BitVec 32 := 1024#32
  let v32 : BitVec 32 := Scalar.muli v25 c1024_i32
  let c768_i32_1831 : BitVec 32 := 768#32
  let v1818 : BitVec 32 := Scalar.addi v32 c768_i32_1831
  let c0_i32_620 : BitVec 32 := 0#32
  let c1_i32_622 : BitVec 32 := 1#32
  let arg25 : BitVec 32 := Scf.iv c0_i32_620 c1_i32_622 k0_t14
  let v1819 : BitVec 32 := Scalar.addi v1818 arg25
  let v1820 : Index := Scalar.indexCast v1819
  ![v1820.toNat]
def k0_off48 (k0_t14 : Fin k0_t14_loop.trips) : Fin 2 → Nat :=
  let c0_i32_620 : BitVec 32 := 0#32
  let c1_i32_622 : BitVec 32 := 1#32
  let arg25 : BitVec 32 := Scf.iv c0_i32_620 c1_i32_622 k0_t14
  let c0_i32_1838 : BitVec 32 := 0#32
  ![arg25.toNat, 0]
def k0_off49 (v1821 : BitVec 32) : Fin 2 → Nat :=
  let c0_i32_1839 : BitVec 32 := 0#32
  ![v1821.toNat, 0]
def k0_cond14 (v1823 : BitVec 32) : BitVec 1 :=
  let c0_i32_1832 : BitVec 32 := 0#32
  let v1824 : BitVec 1 := Scalar.cmpi .ne v1823 c0_i32_1832
  let v1825 : BitVec 32 := Scalar.extui v1824
  let c0_i32_1835 : BitVec 32 := 0#32
  let v1826 : BitVec 1 := Scalar.cmpi .ne v1825 c0_i32_1835
  v1826

def k0_chk14 (v1821 : BitVec 32) (v1823 : BitVec 32) : Prop :=
  (∀ (k0_h14 : k0_cond14 v1823 = 1#1), ∀ a, (k0_off49 v1821) a + S1x2048.size a ≤ S8192x2048.size a)
theorem k0_off49_inb : ∀ (v1821 : BitVec 32) (v1823 : BitVec 32) (k0_hw14 : k0_chk14 v1821 v1823), ∀ (k0_h14 : k0_cond14 v1823 = 1#1), ∀ a, (k0_off49 v1821) a + S1x2048.size a ≤ S8192x2048.size a := fun v1821 v1823 k0_hw14 k0_h14 => k0_hw14 k0_h14

@[reducible] def k0_t15_loop : Scf.Loop 32 :=
  let c0_i32_624 : BitVec 32 := 0#32
  let c128_i32_625 : BitVec 32 := 128#32
  let v645 : BitVec 32 := Scalar.addi c0_i32_624 c128_i32_625
  let c1_i32_626 : BitVec 32 := 1#32
  ⟨c0_i32_624, v645, c1_i32_626⟩
def k0_off50 (d0 : Dev nD) (k0_t15 : Fin k0_t15_loop.trips) : Fin 1 → Nat :=
  let c2_i32_11 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v24 : BitVec 32 := Scalar.muli c2_i32_11 v5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v25 : BitVec 32 := Scalar.addi v24 v18
  let c1024_i32 : BitVec 32 := 1024#32
  let v32 : BitVec 32 := Scalar.muli v25 c1024_i32
  let c640_i32_1831 : BitVec 32 := 640#32
  let v1818 : BitVec 32 := Scalar.addi v32 c640_i32_1831
  let c0_i32_624 : BitVec 32 := 0#32
  let c1_i32_626 : BitVec 32 := 1#32
  let arg25 : BitVec 32 := Scf.iv c0_i32_624 c1_i32_626 k0_t15
  let v1819 : BitVec 32 := Scalar.addi v1818 arg25
  let v1820 : Index := Scalar.indexCast v1819
  ![v1820.toNat]
def k0_off51 (k0_t15 : Fin k0_t15_loop.trips) : Fin 2 → Nat :=
  let c0_i32_624 : BitVec 32 := 0#32
  let c1_i32_626 : BitVec 32 := 1#32
  let arg25 : BitVec 32 := Scf.iv c0_i32_624 c1_i32_626 k0_t15
  let c0_i32_1838 : BitVec 32 := 0#32
  ![arg25.toNat, 0]
def k0_off52 (v1821 : BitVec 32) : Fin 2 → Nat :=
  let c0_i32_1839 : BitVec 32 := 0#32
  ![v1821.toNat, 0]
def k0_cond15 (v1823 : BitVec 32) : BitVec 1 :=
  let c0_i32_1832 : BitVec 32 := 0#32
  let v1824 : BitVec 1 := Scalar.cmpi .ne v1823 c0_i32_1832
  let v1825 : BitVec 32 := Scalar.extui v1824
  let c0_i32_1835 : BitVec 32 := 0#32
  let v1826 : BitVec 1 := Scalar.cmpi .ne v1825 c0_i32_1835
  v1826

def k0_chk15 (v1821 : BitVec 32) (v1823 : BitVec 32) : Prop :=
  (∀ (k0_h15 : k0_cond15 v1823 = 1#1), ∀ a, (k0_off52 v1821) a + S1x2048.size a ≤ S8192x2048.size a)
theorem k0_off52_inb : ∀ (v1821 : BitVec 32) (v1823 : BitVec 32) (k0_hw15 : k0_chk15 v1821 v1823), ∀ (k0_h15 : k0_cond15 v1823 = 1#1), ∀ a, (k0_off52 v1821) a + S1x2048.size a ≤ S8192x2048.size a := fun v1821 v1823 k0_hw15 k0_h15 => k0_hw15 k0_h15

def k0_dev24 (d0 : Dev nD) : Nat :=
  let c0_i32_637 : BitVec 32 := 0#32
  let c1_i32_9 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v22 : BitVec 32 := Scalar.subi c1_i32_9 v2
  let c8_i32_636 : BitVec 32 := 8#32
  let v655 : BitVec 32 := Scalar.muli v22 c8_i32_636
  let v656 : BitVec 32 := Scalar.addi c0_i32_637 v655
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_638 : BitVec 32 := 4#32
  let v657 : BitVec 32 := Scalar.muli v5 c4_i32_638
  let v658 : BitVec 32 := Scalar.addi v656 v657
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_639 : BitVec 32 := 1#32
  let v659 : BitVec 32 := Scalar.muli v8 c1_i32_639
  let v660 : BitVec 32 := Scalar.addi v658 v659
  v660.toNat
def k0_dev25 (d0 : Dev nD) : Nat :=
  let c0_i32_666 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_665 : BitVec 32 := 8#32
  let v685 : BitVec 32 := Scalar.muli v2 c8_i32_665
  let v686 : BitVec 32 := Scalar.addi c0_i32_666 v685
  let c1_i32_10 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v23 : BitVec 32 := Scalar.subi c1_i32_10 v5
  let c4_i32_667 : BitVec 32 := 4#32
  let v687 : BitVec 32 := Scalar.muli v23 c4_i32_667
  let v688 : BitVec 32 := Scalar.addi v686 v687
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_668 : BitVec 32 := 1#32
  let v689 : BitVec 32 := Scalar.muli v8 c1_i32_668
  let v690 : BitVec 32 := Scalar.addi v688 v689
  v690.toNat
def k0_dev26 (d0 : Dev nD) : Nat :=
  let c0_i32_678 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_677 : BitVec 32 := 8#32
  let v699 : BitVec 32 := Scalar.muli v2 c8_i32_677
  let v700 : BitVec 32 := Scalar.addi c0_i32_678 v699
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_679 : BitVec 32 := 4#32
  let v701 : BitVec 32 := Scalar.muli v5 c4_i32_679
  let v702 : BitVec 32 := Scalar.addi v700 v701
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v19 : BitVec 32 := Scalar.addi v8 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c1_i32_680 : BitVec 32 := 1#32
  let v703 : BitVec 32 := Scalar.muli v21 c1_i32_680
  let v704 : BitVec 32 := Scalar.addi v702 v703
  v704.toNat
def k0_dev27 (d0 : Dev nD) : Nat :=
  let c0_i32_711 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_710 : BitVec 32 := 8#32
  let v734 : BitVec 32 := Scalar.muli v2 c8_i32_710
  let v735 : BitVec 32 := Scalar.addi c0_i32_711 v734
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_712 : BitVec 32 := 4#32
  let v736 : BitVec 32 := Scalar.muli v5 c4_i32_712
  let v737 : BitVec 32 := Scalar.addi v735 v736
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v19 : BitVec 32 := Scalar.addi v8 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c1_i32_713 : BitVec 32 := 1#32
  let v738 : BitVec 32 := Scalar.muli v21 c1_i32_713
  let v739 : BitVec 32 := Scalar.addi v737 v738
  v739.toNat
def k0_dev28 (d0 : Dev nD) : Nat :=
  let c0_i32_733 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_732 : BitVec 32 := 8#32
  let v760 : BitVec 32 := Scalar.muli v2 c8_i32_732
  let v761 : BitVec 32 := Scalar.addi c0_i32_733 v760
  let c1_i32_10 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v23 : BitVec 32 := Scalar.subi c1_i32_10 v5
  let c4_i32_734 : BitVec 32 := 4#32
  let v762 : BitVec 32 := Scalar.muli v23 c4_i32_734
  let v763 : BitVec 32 := Scalar.addi v761 v762
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_735 : BitVec 32 := 1#32
  let v764 : BitVec 32 := Scalar.muli v8 c1_i32_735
  let v765 : BitVec 32 := Scalar.addi v763 v764
  v765.toNat
@[reducible] def k0_t16_loop : Scf.Loop 32 :=
  let c0_i32_758 : BitVec 32 := 0#32
  let c128_i32_759 : BitVec 32 := 128#32
  let v788 : BitVec 32 := Scalar.addi c0_i32_758 c128_i32_759
  let c1_i32_760 : BitVec 32 := 1#32
  ⟨c0_i32_758, v788, c1_i32_760⟩
def k0_off53 (d0 : Dev nD) (k0_t16 : Fin k0_t16_loop.trips) : Fin 1 → Nat :=
  let c2_i32_11 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v24 : BitVec 32 := Scalar.muli c2_i32_11 v5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v25 : BitVec 32 := Scalar.addi v24 v18
  let c1024_i32 : BitVec 32 := 1024#32
  let v32 : BitVec 32 := Scalar.muli v25 c1024_i32
  let c896_i32_1831 : BitVec 32 := 896#32
  let v1818 : BitVec 32 := Scalar.addi v32 c896_i32_1831
  let c0_i32_758 : BitVec 32 := 0#32
  let c1_i32_760 : BitVec 32 := 1#32
  let arg25 : BitVec 32 := Scf.iv c0_i32_758 c1_i32_760 k0_t16
  let v1819 : BitVec 32 := Scalar.addi v1818 arg25
  let v1820 : Index := Scalar.indexCast v1819
  ![v1820.toNat]
def k0_off54 (k0_t16 : Fin k0_t16_loop.trips) : Fin 2 → Nat :=
  let c0_i32_758 : BitVec 32 := 0#32
  let c1_i32_760 : BitVec 32 := 1#32
  let arg25 : BitVec 32 := Scf.iv c0_i32_758 c1_i32_760 k0_t16
  let c0_i32_1838 : BitVec 32 := 0#32
  ![arg25.toNat, 0]
def k0_off55 (v1821 : BitVec 32) : Fin 2 → Nat :=
  let c0_i32_1839 : BitVec 32 := 0#32
  ![v1821.toNat, 0]
def k0_cond16 (v1823 : BitVec 32) : BitVec 1 :=
  let c0_i32_1832 : BitVec 32 := 0#32
  let v1824 : BitVec 1 := Scalar.cmpi .ne v1823 c0_i32_1832
  let v1825 : BitVec 32 := Scalar.extui v1824
  let c0_i32_1835 : BitVec 32 := 0#32
  let v1826 : BitVec 1 := Scalar.cmpi .ne v1825 c0_i32_1835
  v1826

def k0_chk16 (v1821 : BitVec 32) (v1823 : BitVec 32) : Prop :=
  (∀ (k0_h16 : k0_cond16 v1823 = 1#1), ∀ a, (k0_off55 v1821) a + S1x2048.size a ≤ S8192x2048.size a)
theorem k0_off55_inb : ∀ (v1821 : BitVec 32) (v1823 : BitVec 32) (k0_hw16 : k0_chk16 v1821 v1823), ∀ (k0_h16 : k0_cond16 v1823 = 1#1), ∀ a, (k0_off55 v1821) a + S1x2048.size a ≤ S8192x2048.size a := fun v1821 v1823 k0_hw16 k0_h16 => k0_hw16 k0_h16

@[reducible] def k0_t17_loop : Scf.Loop 32 :=
  let c0_i32_762 : BitVec 32 := 0#32
  let c128_i32_763 : BitVec 32 := 128#32
  let v789 : BitVec 32 := Scalar.addi c0_i32_762 c128_i32_763
  let c1_i32_764 : BitVec 32 := 1#32
  ⟨c0_i32_762, v789, c1_i32_764⟩
def k0_off56 (d0 : Dev nD) (k0_t17 : Fin k0_t17_loop.trips) : Fin 1 → Nat :=
  let c2_i32_11 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v24 : BitVec 32 := Scalar.muli c2_i32_11 v5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v25 : BitVec 32 := Scalar.addi v24 v18
  let c1024_i32 : BitVec 32 := 1024#32
  let v32 : BitVec 32 := Scalar.muli v25 c1024_i32
  let c768_i32_1831 : BitVec 32 := 768#32
  let v1818 : BitVec 32 := Scalar.addi v32 c768_i32_1831
  let c0_i32_762 : BitVec 32 := 0#32
  let c1_i32_764 : BitVec 32 := 1#32
  let arg25 : BitVec 32 := Scf.iv c0_i32_762 c1_i32_764 k0_t17
  let v1819 : BitVec 32 := Scalar.addi v1818 arg25
  let v1820 : Index := Scalar.indexCast v1819
  ![v1820.toNat]
def k0_off57 (k0_t17 : Fin k0_t17_loop.trips) : Fin 2 → Nat :=
  let c0_i32_762 : BitVec 32 := 0#32
  let c1_i32_764 : BitVec 32 := 1#32
  let arg25 : BitVec 32 := Scf.iv c0_i32_762 c1_i32_764 k0_t17
  let c0_i32_1838 : BitVec 32 := 0#32
  ![arg25.toNat, 0]
def k0_off58 (v1821 : BitVec 32) : Fin 2 → Nat :=
  let c0_i32_1839 : BitVec 32 := 0#32
  ![v1821.toNat, 0]
def k0_cond17 (v1823 : BitVec 32) : BitVec 1 :=
  let c0_i32_1832 : BitVec 32 := 0#32
  let v1824 : BitVec 1 := Scalar.cmpi .ne v1823 c0_i32_1832
  let v1825 : BitVec 32 := Scalar.extui v1824
  let c0_i32_1835 : BitVec 32 := 0#32
  let v1826 : BitVec 1 := Scalar.cmpi .ne v1825 c0_i32_1835
  v1826

def k0_chk17 (v1821 : BitVec 32) (v1823 : BitVec 32) : Prop :=
  (∀ (k0_h17 : k0_cond17 v1823 = 1#1), ∀ a, (k0_off58 v1821) a + S1x2048.size a ≤ S8192x2048.size a)
theorem k0_off58_inb : ∀ (v1821 : BitVec 32) (v1823 : BitVec 32) (k0_hw17 : k0_chk17 v1821 v1823), ∀ (k0_h17 : k0_cond17 v1823 = 1#1), ∀ a, (k0_off58 v1821) a + S1x2048.size a ≤ S8192x2048.size a := fun v1821 v1823 k0_hw17 k0_h17 => k0_hw17 k0_h17

def k0_dev29 (d0 : Dev nD) : Nat :=
  let c0_i32_775 : BitVec 32 := 0#32
  let c1_i32_9 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v22 : BitVec 32 := Scalar.subi c1_i32_9 v2
  let c8_i32_774 : BitVec 32 := 8#32
  let v799 : BitVec 32 := Scalar.muli v22 c8_i32_774
  let v800 : BitVec 32 := Scalar.addi c0_i32_775 v799
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_776 : BitVec 32 := 4#32
  let v801 : BitVec 32 := Scalar.muli v5 c4_i32_776
  let v802 : BitVec 32 := Scalar.addi v800 v801
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_777 : BitVec 32 := 1#32
  let v803 : BitVec 32 := Scalar.muli v8 c1_i32_777
  let v804 : BitVec 32 := Scalar.addi v802 v803
  v804.toNat
def k0_dev30 (d0 : Dev nD) : Nat :=
  let c0_i32_804 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_803 : BitVec 32 := 8#32
  let v829 : BitVec 32 := Scalar.muli v2 c8_i32_803
  let v830 : BitVec 32 := Scalar.addi c0_i32_804 v829
  let c1_i32_10 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v23 : BitVec 32 := Scalar.subi c1_i32_10 v5
  let c4_i32_805 : BitVec 32 := 4#32
  let v831 : BitVec 32 := Scalar.muli v23 c4_i32_805
  let v832 : BitVec 32 := Scalar.addi v830 v831
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_806 : BitVec 32 := 1#32
  let v833 : BitVec 32 := Scalar.muli v8 c1_i32_806
  let v834 : BitVec 32 := Scalar.addi v832 v833
  v834.toNat
def k0_dev31 (d0 : Dev nD) : Nat :=
  let c0_i32_816 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_815 : BitVec 32 := 8#32
  let v843 : BitVec 32 := Scalar.muli v2 c8_i32_815
  let v844 : BitVec 32 := Scalar.addi c0_i32_816 v843
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_817 : BitVec 32 := 4#32
  let v845 : BitVec 32 := Scalar.muli v5 c4_i32_817
  let v846 : BitVec 32 := Scalar.addi v844 v845
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v19 : BitVec 32 := Scalar.addi v8 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c1_i32_818 : BitVec 32 := 1#32
  let v847 : BitVec 32 := Scalar.muli v21 c1_i32_818
  let v848 : BitVec 32 := Scalar.addi v846 v847
  v848.toNat
def k0_dev32 (d0 : Dev nD) : Nat :=
  let c0_i32_849 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_848 : BitVec 32 := 8#32
  let v878 : BitVec 32 := Scalar.muli v2 c8_i32_848
  let v879 : BitVec 32 := Scalar.addi c0_i32_849 v878
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_850 : BitVec 32 := 4#32
  let v880 : BitVec 32 := Scalar.muli v5 c4_i32_850
  let v881 : BitVec 32 := Scalar.addi v879 v880
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v19 : BitVec 32 := Scalar.addi v8 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c1_i32_851 : BitVec 32 := 1#32
  let v882 : BitVec 32 := Scalar.muli v21 c1_i32_851
  let v883 : BitVec 32 := Scalar.addi v881 v882
  v883.toNat
def k0_dev33 (d0 : Dev nD) : Nat :=
  let c0_i32_871 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_870 : BitVec 32 := 8#32
  let v904 : BitVec 32 := Scalar.muli v2 c8_i32_870
  let v905 : BitVec 32 := Scalar.addi c0_i32_871 v904
  let c1_i32_10 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v23 : BitVec 32 := Scalar.subi c1_i32_10 v5
  let c4_i32_872 : BitVec 32 := 4#32
  let v906 : BitVec 32 := Scalar.muli v23 c4_i32_872
  let v907 : BitVec 32 := Scalar.addi v905 v906
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_873 : BitVec 32 := 1#32
  let v908 : BitVec 32 := Scalar.muli v8 c1_i32_873
  let v909 : BitVec 32 := Scalar.addi v907 v908
  v909.toNat
@[reducible] def k0_t18_loop : Scf.Loop 32 :=
  let c0_i32_896 : BitVec 32 := 0#32
  let c128_i32_897 : BitVec 32 := 128#32
  let v932 : BitVec 32 := Scalar.addi c0_i32_896 c128_i32_897
  let c1_i32_898 : BitVec 32 := 1#32
  ⟨c0_i32_896, v932, c1_i32_898⟩
def k0_off59 (d0 : Dev nD) (k0_t18 : Fin k0_t18_loop.trips) : Fin 1 → Nat :=
  let c2_i32_11 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v24 : BitVec 32 := Scalar.muli c2_i32_11 v5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v25 : BitVec 32 := Scalar.addi v24 v18
  let c1024_i32 : BitVec 32 := 1024#32
  let v32 : BitVec 32 := Scalar.muli v25 c1024_i32
  let c896_i32_1831 : BitVec 32 := 896#32
  let v1818 : BitVec 32 := Scalar.addi v32 c896_i32_1831
  let c0_i32_896 : BitVec 32 := 0#32
  let c1_i32_898 : BitVec 32 := 1#32
  let arg25 : BitVec 32 := Scf.iv c0_i32_896 c1_i32_898 k0_t18
  let v1819 : BitVec 32 := Scalar.addi v1818 arg25
  let v1820 : Index := Scalar.indexCast v1819
  ![v1820.toNat]
def k0_off60 (k0_t18 : Fin k0_t18_loop.trips) : Fin 2 → Nat :=
  let c0_i32_896 : BitVec 32 := 0#32
  let c1_i32_898 : BitVec 32 := 1#32
  let arg25 : BitVec 32 := Scf.iv c0_i32_896 c1_i32_898 k0_t18
  let c0_i32_1838 : BitVec 32 := 0#32
  ![arg25.toNat, 0]
def k0_off61 (v1821 : BitVec 32) : Fin 2 → Nat :=
  let c0_i32_1839 : BitVec 32 := 0#32
  ![v1821.toNat, 0]
def k0_cond18 (v1823 : BitVec 32) : BitVec 1 :=
  let c0_i32_1832 : BitVec 32 := 0#32
  let v1824 : BitVec 1 := Scalar.cmpi .ne v1823 c0_i32_1832
  let v1825 : BitVec 32 := Scalar.extui v1824
  let c0_i32_1835 : BitVec 32 := 0#32
  let v1826 : BitVec 1 := Scalar.cmpi .ne v1825 c0_i32_1835
  v1826

def k0_chk18 (v1821 : BitVec 32) (v1823 : BitVec 32) : Prop :=
  (∀ (k0_h18 : k0_cond18 v1823 = 1#1), ∀ a, (k0_off61 v1821) a + S1x2048.size a ≤ S8192x2048.size a)
theorem k0_off61_inb : ∀ (v1821 : BitVec 32) (v1823 : BitVec 32) (k0_hw18 : k0_chk18 v1821 v1823), ∀ (k0_h18 : k0_cond18 v1823 = 1#1), ∀ a, (k0_off61 v1821) a + S1x2048.size a ≤ S8192x2048.size a := fun v1821 v1823 k0_hw18 k0_h18 => k0_hw18 k0_h18

def k0_dev34 (d0 : Dev nD) : Nat :=
  let c0_i32_910 : BitVec 32 := 0#32
  let c1_i32_9 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v22 : BitVec 32 := Scalar.subi c1_i32_9 v2
  let c8_i32_909 : BitVec 32 := 8#32
  let v942 : BitVec 32 := Scalar.muli v22 c8_i32_909
  let v943 : BitVec 32 := Scalar.addi c0_i32_910 v942
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_911 : BitVec 32 := 4#32
  let v944 : BitVec 32 := Scalar.muli v5 c4_i32_911
  let v945 : BitVec 32 := Scalar.addi v943 v944
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_912 : BitVec 32 := 1#32
  let v946 : BitVec 32 := Scalar.muli v8 c1_i32_912
  let v947 : BitVec 32 := Scalar.addi v945 v946
  v947.toNat
def k0_dev35 (d0 : Dev nD) : Nat :=
  let c0_i32_939 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_938 : BitVec 32 := 8#32
  let v972 : BitVec 32 := Scalar.muli v2 c8_i32_938
  let v973 : BitVec 32 := Scalar.addi c0_i32_939 v972
  let c1_i32_10 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v23 : BitVec 32 := Scalar.subi c1_i32_10 v5
  let c4_i32_940 : BitVec 32 := 4#32
  let v974 : BitVec 32 := Scalar.muli v23 c4_i32_940
  let v975 : BitVec 32 := Scalar.addi v973 v974
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_941 : BitVec 32 := 1#32
  let v976 : BitVec 32 := Scalar.muli v8 c1_i32_941
  let v977 : BitVec 32 := Scalar.addi v975 v976
  v977.toNat
def k0_dev36 (d0 : Dev nD) : Nat :=
  let c0_i32_951 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_950 : BitVec 32 := 8#32
  let v986 : BitVec 32 := Scalar.muli v2 c8_i32_950
  let v987 : BitVec 32 := Scalar.addi c0_i32_951 v986
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_952 : BitVec 32 := 4#32
  let v988 : BitVec 32 := Scalar.muli v5 c4_i32_952
  let v989 : BitVec 32 := Scalar.addi v987 v988
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v19 : BitVec 32 := Scalar.addi v8 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c1_i32_953 : BitVec 32 := 1#32
  let v990 : BitVec 32 := Scalar.muli v21 c1_i32_953
  let v991 : BitVec 32 := Scalar.addi v989 v990
  v991.toNat
def k0_dev37 (d0 : Dev nD) : Nat :=
  let c0_i32_984 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_983 : BitVec 32 := 8#32
  let v1021 : BitVec 32 := Scalar.muli v2 c8_i32_983
  let v1022 : BitVec 32 := Scalar.addi c0_i32_984 v1021
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_985 : BitVec 32 := 4#32
  let v1023 : BitVec 32 := Scalar.muli v5 c4_i32_985
  let v1024 : BitVec 32 := Scalar.addi v1022 v1023
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v19 : BitVec 32 := Scalar.addi v8 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c1_i32_986 : BitVec 32 := 1#32
  let v1025 : BitVec 32 := Scalar.muli v21 c1_i32_986
  let v1026 : BitVec 32 := Scalar.addi v1024 v1025
  v1026.toNat
def k0_dev38 (d0 : Dev nD) : Nat :=
  let c0_i32_1006 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1005 : BitVec 32 := 8#32
  let v1047 : BitVec 32 := Scalar.muli v2 c8_i32_1005
  let v1048 : BitVec 32 := Scalar.addi c0_i32_1006 v1047
  let c1_i32_10 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v23 : BitVec 32 := Scalar.subi c1_i32_10 v5
  let c4_i32_1007 : BitVec 32 := 4#32
  let v1049 : BitVec 32 := Scalar.muli v23 c4_i32_1007
  let v1050 : BitVec 32 := Scalar.addi v1048 v1049
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1008 : BitVec 32 := 1#32
  let v1051 : BitVec 32 := Scalar.muli v8 c1_i32_1008
  let v1052 : BitVec 32 := Scalar.addi v1050 v1051
  v1052.toNat
def k0_dev39 (d0 : Dev nD) : Nat :=
  let c0_i32_1052 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1051 : BitVec 32 := 8#32
  let v1091 : BitVec 32 := Scalar.muli v2 c8_i32_1051
  let v1092 : BitVec 32 := Scalar.addi c0_i32_1052 v1091
  let c1_i32_10 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v23 : BitVec 32 := Scalar.subi c1_i32_10 v5
  let c4_i32_1053 : BitVec 32 := 4#32
  let v1093 : BitVec 32 := Scalar.muli v23 c4_i32_1053
  let v1094 : BitVec 32 := Scalar.addi v1092 v1093
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1054 : BitVec 32 := 1#32
  let v1095 : BitVec 32 := Scalar.muli v8 c1_i32_1054
  let v1096 : BitVec 32 := Scalar.addi v1094 v1095
  v1096.toNat
def k0_dev40 (d0 : Dev nD) : Nat :=
  let c0_i32_1064 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1063 : BitVec 32 := 8#32
  let v1105 : BitVec 32 := Scalar.muli v2 c8_i32_1063
  let v1106 : BitVec 32 := Scalar.addi c0_i32_1064 v1105
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1065 : BitVec 32 := 4#32
  let v1107 : BitVec 32 := Scalar.muli v5 c4_i32_1065
  let v1108 : BitVec 32 := Scalar.addi v1106 v1107
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v19 : BitVec 32 := Scalar.addi v8 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c1_i32_1066 : BitVec 32 := 1#32
  let v1109 : BitVec 32 := Scalar.muli v21 c1_i32_1066
  let v1110 : BitVec 32 := Scalar.addi v1108 v1109
  v1110.toNat
def k0_dev41 (d0 : Dev nD) : Nat :=
  let c0_i32_1097 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1096 : BitVec 32 := 8#32
  let v1140 : BitVec 32 := Scalar.muli v2 c8_i32_1096
  let v1141 : BitVec 32 := Scalar.addi c0_i32_1097 v1140
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1098 : BitVec 32 := 4#32
  let v1142 : BitVec 32 := Scalar.muli v5 c4_i32_1098
  let v1143 : BitVec 32 := Scalar.addi v1141 v1142
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v19 : BitVec 32 := Scalar.addi v8 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c1_i32_1099 : BitVec 32 := 1#32
  let v1144 : BitVec 32 := Scalar.muli v21 c1_i32_1099
  let v1145 : BitVec 32 := Scalar.addi v1143 v1144
  v1145.toNat
def k0_dev42 (d0 : Dev nD) : Nat :=
  let c0_i32_1119 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1118 : BitVec 32 := 8#32
  let v1166 : BitVec 32 := Scalar.muli v2 c8_i32_1118
  let v1167 : BitVec 32 := Scalar.addi c0_i32_1119 v1166
  let c1_i32_10 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v23 : BitVec 32 := Scalar.subi c1_i32_10 v5
  let c4_i32_1120 : BitVec 32 := 4#32
  let v1168 : BitVec 32 := Scalar.muli v23 c4_i32_1120
  let v1169 : BitVec 32 := Scalar.addi v1167 v1168
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1121 : BitVec 32 := 1#32
  let v1170 : BitVec 32 := Scalar.muli v8 c1_i32_1121
  let v1171 : BitVec 32 := Scalar.addi v1169 v1170
  v1171.toNat
def k0_dev43 (d0 : Dev nD) : Nat :=
  let c0_i32_1165 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1164 : BitVec 32 := 8#32
  let v1210 : BitVec 32 := Scalar.muli v2 c8_i32_1164
  let v1211 : BitVec 32 := Scalar.addi c0_i32_1165 v1210
  let c1_i32_10 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v23 : BitVec 32 := Scalar.subi c1_i32_10 v5
  let c4_i32_1166 : BitVec 32 := 4#32
  let v1212 : BitVec 32 := Scalar.muli v23 c4_i32_1166
  let v1213 : BitVec 32 := Scalar.addi v1211 v1212
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1167 : BitVec 32 := 1#32
  let v1214 : BitVec 32 := Scalar.muli v8 c1_i32_1167
  let v1215 : BitVec 32 := Scalar.addi v1213 v1214
  v1215.toNat
def k0_dev44 (d0 : Dev nD) : Nat :=
  let c0_i32_1177 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1176 : BitVec 32 := 8#32
  let v1224 : BitVec 32 := Scalar.muli v2 c8_i32_1176
  let v1225 : BitVec 32 := Scalar.addi c0_i32_1177 v1224
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1178 : BitVec 32 := 4#32
  let v1226 : BitVec 32 := Scalar.muli v5 c4_i32_1178
  let v1227 : BitVec 32 := Scalar.addi v1225 v1226
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v19 : BitVec 32 := Scalar.addi v8 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c1_i32_1179 : BitVec 32 := 1#32
  let v1228 : BitVec 32 := Scalar.muli v21 c1_i32_1179
  let v1229 : BitVec 32 := Scalar.addi v1227 v1228
  v1229.toNat
def k0_dev45 (d0 : Dev nD) : Nat :=
  let c0_i32_1210 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1209 : BitVec 32 := 8#32
  let v1259 : BitVec 32 := Scalar.muli v2 c8_i32_1209
  let v1260 : BitVec 32 := Scalar.addi c0_i32_1210 v1259
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1211 : BitVec 32 := 4#32
  let v1261 : BitVec 32 := Scalar.muli v5 c4_i32_1211
  let v1262 : BitVec 32 := Scalar.addi v1260 v1261
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v19 : BitVec 32 := Scalar.addi v8 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c1_i32_1212 : BitVec 32 := 1#32
  let v1263 : BitVec 32 := Scalar.muli v21 c1_i32_1212
  let v1264 : BitVec 32 := Scalar.addi v1262 v1263
  v1264.toNat
def k0_dev46 (d0 : Dev nD) : Nat :=
  let c0_i32_1232 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1231 : BitVec 32 := 8#32
  let v1285 : BitVec 32 := Scalar.muli v2 c8_i32_1231
  let v1286 : BitVec 32 := Scalar.addi c0_i32_1232 v1285
  let c1_i32_10 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v23 : BitVec 32 := Scalar.subi c1_i32_10 v5
  let c4_i32_1233 : BitVec 32 := 4#32
  let v1287 : BitVec 32 := Scalar.muli v23 c4_i32_1233
  let v1288 : BitVec 32 := Scalar.addi v1286 v1287
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1234 : BitVec 32 := 1#32
  let v1289 : BitVec 32 := Scalar.muli v8 c1_i32_1234
  let v1290 : BitVec 32 := Scalar.addi v1288 v1289
  v1290.toNat
def k0_dev47 (d0 : Dev nD) : Nat :=
  let c0_i32_1255 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1254 : BitVec 32 := 8#32
  let v1312 : BitVec 32 := Scalar.muli v2 c8_i32_1254
  let v1313 : BitVec 32 := Scalar.addi c0_i32_1255 v1312
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1256 : BitVec 32 := 4#32
  let v1314 : BitVec 32 := Scalar.muli v5 c4_i32_1256
  let v1315 : BitVec 32 := Scalar.addi v1313 v1314
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v19 : BitVec 32 := Scalar.addi v8 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c1_i32_1257 : BitVec 32 := 1#32
  let v1316 : BitVec 32 := Scalar.muli v21 c1_i32_1257
  let v1317 : BitVec 32 := Scalar.addi v1315 v1316
  v1317.toNat
def k0_dev48 (d0 : Dev nD) : Nat :=
  let c0_i32_1277 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1276 : BitVec 32 := 8#32
  let v1338 : BitVec 32 := Scalar.muli v2 c8_i32_1276
  let v1339 : BitVec 32 := Scalar.addi c0_i32_1277 v1338
  let c1_i32_10 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v23 : BitVec 32 := Scalar.subi c1_i32_10 v5
  let c4_i32_1278 : BitVec 32 := 4#32
  let v1340 : BitVec 32 := Scalar.muli v23 c4_i32_1278
  let v1341 : BitVec 32 := Scalar.addi v1339 v1340
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1279 : BitVec 32 := 1#32
  let v1342 : BitVec 32 := Scalar.muli v8 c1_i32_1279
  let v1343 : BitVec 32 := Scalar.addi v1341 v1342
  v1343.toNat
abbrev stage0_0 : Fin 1 → Memref sig .tc .smem S4096 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S4096 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096 : Shape := ⟨1, ![4096]⟩
abbrev S16384x2048 : Shape := ⟨2, ![16384, 2048]⟩
abbrev S_ : Shape := ⟨0, ![]⟩
abbrev S4096x1 : Shape := ⟨2, ![4096, 1]⟩
abbrev S4096x2048 : Shape := ⟨2, ![4096, 2048]⟩

abbrev nBuf : Space → Nat
  | .hbm => 12
  | .vmem => 0
  | .smem => 0
  | _ => 0

abbrev bufTy : (tb : Table) → Fin (tcTables nBuf tb) → BufTy
  | .hbm, ⟨0, _⟩ => ⟨S4096, .i32⟩
  | .hbm, ⟨1, _⟩ => ⟨S16384x2048, .f32⟩
  | .hbm, ⟨2, _⟩ => ⟨S_, .i32⟩
  | .hbm, ⟨3, _⟩ => ⟨S4096, .i32⟩
  | .hbm, ⟨4, _⟩ => ⟨S4096, .i1⟩
  | .hbm, ⟨5, _⟩ => ⟨S_, .i32⟩
  | .hbm, ⟨6, _⟩ => ⟨S4096, .i32⟩
  | .hbm, ⟨7, _⟩ => ⟨S4096, .i32⟩
  | .hbm, ⟨8, _⟩ => ⟨S4096, .i32⟩
  | .hbm, ⟨9, _⟩ => ⟨S4096x1, .i32⟩
  | .hbm, ⟨10, _⟩ => ⟨S4096x2048, .f32⟩
  | .hbm, ⟨11, _⟩ => ⟨S4096x2048, .bf16⟩
  | _, _ => ⟨S4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Proof.Base.lean ====
/-
  The exchange between the devices, its vocabulary: who a device's neighbours are, how the result's rows are cut into quarters,
  chunks and halves, and what it means to hold rows of a buffer at contents of which something is known (`PG`).
-/
module

public import proofs.«01_k».proof.Proof.Gen.KernelIdeal
public import proofs.«01_k».proof.Proof.Gen.KernelIdeal.Skeleton
public import proofs.«01_k».proof.Proof.Gen.KernelIdeal.Points
public import proofs.«01_k».proof.Proof.Gen.KernelIdeal.Launch
public import proofs.«01_k».proof.Proof.Gen.KernelIdeal.Regions
public import Idealize.ShloMosaic.Lib.Pipeline.Regions
public import Idealize.ShloMosaic.Lib.Pipeline.Kit
public import Idealize.ShloMosaic.Lib.Pipeline.RegionTalk
public import Idealize.ShloMosaic.Lib.Rounds
public import Idealize.ShloMosaic.Lib.Batch
public import Idealize.ShloMosaic.Lib.Scf
public import Idealize.ShloMosaic.Lib.StableHlo
public import Idealize.ShloMosaic.Lib.ValueLayout
public import Idealize.ShloMosaic.Lib.Exec.Geometry
public import Idealize.ShloMosaic.Lib.Tactic
public import Mathlib.Data.Nat.Count

@[expose] public section

set_option maxRecDepth 16384

noncomputable section

namespace Cert.K

open Cert.KernelIdeal
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open PCS URA

variable {F : FTy → Type} [FloatOps F]

/-! ## The resource algebra: the pipeline's copy, the exchange's rounds, the row copies' counters -/

abbrev UB : Type := URounds (GSem nD τ sig) (Fin 3)
abbrev UC : Type := UB × Counters
abbrev UU : Type := UR sig nD τ × UC

local notation "𝕄" => MT nD τ sig Unit (Elt F) ℕ UU ℕ

abbrev EP : Emb (UR sig nD τ) (MT nD τ sig Unit (Elt F) ℕ UU ℕ) := embL
/-- The exchange's rounds: the left half of the right factor. -/
def ER : Emb UB (MT nD τ sig Unit (Elt F) ℕ UU ℕ) :=
  ((Emb.inl : Emb UB UC).trans (Emb.inr : Emb UC UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance
/-- The row copies' counters: the right half of the right factor. -/
def EC : UEmb Counters (MT nD τ sig Unit (Elt F) ℕ UU ℕ) :=
  ((UEmb.inr : UEmb Counters UC).trans (UEmb.inr : UEmb UC UU)).trans
    (uEmb (nD := nD) (sig := sig) (Ix := Unit) (Val := Elt F) (Name := ℕ) (U := UU) (Lvl := ℕ))
instance EC_landsIn : (EC : UEmb Counters 𝕄).LandsIn (upEmb : UEmb _ 𝕄) := by unfold EC; infer_instance

/-! ## The neighbours -/

/-- The device with the other half of the table. -/
def xp (c : Dev nD) : Dev nD := ⟨if c.val < 8 then c.val + 8 else c.val - 8, by have := c.isLt; unfold nD at *; split <;> omega⟩
/-- The neighbour along y. -/
def yp (c : Dev nD) : Dev nD := ⟨if c.val / 4 % 2 = 0 then c.val + 4 else c.val - 4, by have := c.isLt; unfold nD at *; split <;> omega⟩
/-- The neighbour along z. -/
def zp (c : Dev nD) : Dev nD := ⟨if c.val % 2 = 0 then c.val + 1 else c.val - 1, by have := c.isLt; unfold nD at *; split <;> omega⟩
/-- Which quarter of the rows device `c` gathers. -/
def qu (c : Dev nD) : ℕ := 2 * (c.val / 4 % 2) + c.val % 2

/-- The neighbour across `x` has the device as its own. -/
theorem xp_xp : ∀ c, xp (xp c) = c := by decide
/-- The neighbour across `y` has the device as its own. -/
theorem yp_yp : ∀ c, yp (yp c) = c := by decide
/-- The neighbour across `z` has the device as its own. -/
theorem zp_zp : ∀ c, zp (zp c) = c := by decide
/-- Crossing `y` and crossing `z` commute. -/
theorem yp_zp : ∀ c, yp (zp c) = zp (yp c) := by decide
/-- The neighbour across `x` works on the same quarter of the rows. -/
theorem qu_xp : ∀ c, qu (xp c) = qu c := by decide
/-- There are four quarters. -/
theorem qu_lt : ∀ c, qu c < 4 := by decide
/-- The four quarters of a device's square are the four different ones. -/
theorem qu_ne : ∀ c, qu c ≠ qu (yp c) ∧ qu c ≠ qu (zp c) ∧ qu c ≠ qu (yp (zp c)) ∧ qu (yp c) ≠ qu (zp c)
    ∧ qu (yp c) ≠ qu (yp (zp c)) ∧ qu (zp c) ≠ qu (yp (zp c)) := by decide

/-- Whose quarter `p` is, seen from `c`: the device of `c`'s square that gathers it. -/
def org (c : Dev nD) (p : ℕ) : Dev nD := if p = qu c then c else if p = qu (yp c) then yp c else if p = qu (zp c) then zp c else yp (zp c)
/-- A device's own quarter comes from itself. -/
theorem org_own : ∀ c, org c (qu c) = c := by decide
/-- The quarter of the neighbour across `y` comes from that neighbour. -/
theorem org_y : ∀ c, org c (qu (yp c)) = yp c := by decide
/-- The quarter of the neighbour across `z` comes from that neighbour. -/
theorem org_z : ∀ c, org c (qu (zp c)) = zp c := by decide
/-- The quarter of the device diagonally across comes from that device. -/
theorem org_yz : ∀ c, org c (qu (yp (zp c))) = yp (zp c) := by decide
/-- The neighbour across `y` gets each quarter from the same device. -/
theorem org_at_yp : ∀ c (p : Fin 4), org (yp c) p.val = org c p.val := by decide
/-- The neighbour across `z` gets each quarter from the same device. -/
theorem org_at_zp : ∀ c (p : Fin 4), org (zp c) p.val = org c p.val := by decide

/-! ## The chunks -/

/-- Rows of chunk `d`. -/
def sz (d : ℕ) : ℕ := if d < 2 then 64 else 128
/-- First row of chunk `d` within the quarter. -/
def ofs (d : ℕ) : ℕ := if d = 0 then 0 else if d = 1 then 64 else (d - 1) * 128

/-! ## Rows of buffers -/

/-- Rows `[a, a + n)` of a two-dimensional buffer. -/
def rows (N a n : ℕ) : Finset (⟨2, ![N, 2048]⟩ : Shape).Idx := Finset.univ.filter fun i => a ≤ (i 0).val ∧ (i 0).val < a + n
/-- Rows `[a, a + n)` of slab `d` of a three-dimensional buffer. -/
def slab (K R d a n : ℕ) : Finset (⟨3, ![K, R, 2048]⟩ : Shape).Idx :=
  Finset.univ.filter fun i => (i 0).val = d ∧ a ≤ (i 1).val ∧ (i 1).val < a + n

/-- A place is among the rows from `a` on, `n` of them, when its row number is. -/
theorem mem_rows {N a n : ℕ} {i : (⟨2, ![N, 2048]⟩ : Shape).Idx} : i ∈ rows N a n ↔ a ≤ (i 0).val ∧ (i 0).val < a + n := by simp [rows]
/-- A place is in a slab when its first coordinate is the slab's and its row is among those named. -/
theorem mem_slab {K R d a n : ℕ} {i : (⟨3, ![K, R, 2048]⟩ : Shape).Idx} :
    i ∈ slab K R d a n ↔ (i 0).val = d ∧ a ≤ (i 1).val ∧ (i 1).val < a + n := by simp [slab]

/-! ## Holding elements at contents of which something is known -/

section PG

variable {ℓ : Loc nD τ sig} {S T : Finset (Idx ℓ)} {q q₁ q₂ : PosShare TreeShare}

/-- The elements `S` of `ℓ` at share `q`, each at a value of which `P` holds. -/
def PG (ℓ : Loc nD τ sig) (S : Finset (Idx ℓ)) (q : PosShare TreeShare) (P : Idx ℓ → Elt F ℓ.ty.elt → Prop) : sProp 𝕄 :=
  iprop(∃ f : Buf (Elt F) ℓ, (ℓ ↦[S]{q} f) ∗ ⌜∀ i ∈ S, P i (f i)⌝)

instance PG_storable (P : Idx ℓ → Elt F ℓ.ty.elt → Prop) : Storable (upEmb : UEmb _ 𝕄) (PG ℓ S q P) := by
  unfold PG; infer_instance

/-- Nothing known. -/
abbrev Any {ℓ : Loc nD τ sig} : Idx ℓ → Elt F ℓ.ty.elt → Prop := fun _ _ => True

variable {P P' : Idx ℓ → Elt F ℓ.ty.elt → Prop}

/-- Places held with known contents are places whose contents have any property these have. -/
theorem PG_intro (f : Buf (Elt F) ℓ) (h : ∀ i ∈ S, P i (f i)) : (ℓ ↦[S]{q} f : sProp 𝕄) ⊢ PG ℓ S q P := by
  unfold PG
  iintro H
  iexists f
  isplitl [H]; · iexact H
  ipureintro; exact h

/-- Places with a property are held with some contents that have it. -/
theorem PG_open : (PG ℓ S q P : sProp 𝕄) ⊢ iprop(∃ f : Buf (Elt F) ℓ, (ℓ ↦[S]{q} f) ∗ ⌜∀ i ∈ S, P i (f i)⌝) := Entails.of_eq rfl

/-- The property may be weakened. -/
theorem PG_mono (h : ∀ i ∈ S, ∀ v, P i v → P' i v) : (PG ℓ S q P : sProp 𝕄) ⊢ PG ℓ S q P' := by
  unfold PG
  iintro ⟨%f, H, %hf⟩
  iexists f
  isplitl [H]; · iexact H
  ipureintro; exact fun i hi => h i hi _ (hf i hi)

/-- The property may be forgotten. -/
theorem PG_any : (PG ℓ S q P : sProp 𝕄) ⊢ PG ℓ S q Any := PG_mono fun _ _ _ _ => trivial

/-- Places can be divided in two. -/
theorem PG_split (h : Disjoint S T) : (PG ℓ (S ∪ T) q P : sProp 𝕄) ⊢ iprop(PG ℓ S q P ∗ PG ℓ T q P) := by
  unfold PG
  iintro ⟨%f, H, %hf⟩
  ihave H := (pointsTo_union h).1 $$ H
  icases H with ⟨H1, H2⟩
  isplitl [H1]
  · iexists f
    isplitl [H1]; · iexact H1
    ipureintro; exact fun i hi => hf i (Finset.mem_union_left _ hi)
  · iexists f
    isplitl [H2]; · iexact H2
    ipureintro; exact fun i hi => hf i (Finset.mem_union_right _ hi)

/-- Two separate sets of places can be put together. -/
theorem PG_join (h : Disjoint S T) : iprop(PG ℓ S q P ∗ PG ℓ T q P) ⊢ (PG ℓ (S ∪ T) q P : sProp 𝕄) := by
  unfold PG
  iintro ⟨⟨%f, H1, %hf⟩, ⟨%g, H2, %hg⟩⟩
  iexists T.piecewise g f
  isplitl [H1 H2]
  · iapply (pointsTo_join h)
    isplitl [H1] <;> iassumption
  ipureintro
  intro i hi
  by_cases hT : i ∈ T
  · rw [Finset.piecewise_eq_of_mem _ _ _ hT]; exact hg i hT
  · rw [Finset.piecewise_eq_of_notMem _ _ _ hT]; exact hf i ((Finset.mem_union.mp hi).resolve_right hT)

/-- Places can be divided in two, given the parts they consist of. -/
theorem PG_split_eq {U : Finset (Idx ℓ)} (hU : U = S ∪ T) (h : Disjoint S T) : (PG ℓ U q P : sProp 𝕄) ⊢ iprop(PG ℓ S q P ∗ PG ℓ T q P) := by
  subst hU; exact PG_split h
/-- Two separate sets of places are together the set they make up. -/
theorem PG_join_eq {U : Finset (Idx ℓ)} (hU : U = S ∪ T) (h : Disjoint S T) : iprop(PG ℓ S q P ∗ PG ℓ T q P) ⊢ (PG ℓ U q P : sProp 𝕄) := by
  subst hU; exact PG_join h

/-- A family of disjoint pieces, split and joined. -/
theorem PG_pieces {I : Type} [DecidableEq I] (s : Finset I) (K : I → Finset (Idx ℓ)) (h : ∀ t ∈ s, ∀ t' ∈ s, t ≠ t' → Disjoint (K t) (K t'))
    (hK : S = s.biUnion K) : (PG ℓ S q P : sProp 𝕄) ⊢ bigSep s fun t => PG ℓ (K t) q P := by
  subst hK
  unfold PG
  iintro ⟨%f, H, %hf⟩
  ihave H := (Entails.of_eq (pointsTo_biUnion s K h)) $$ H
  iapply (show (bigSep s (fun t => (ℓ ↦[K t]{q} f)) : sProp 𝕄) ⊢ bigSep s (fun t => PG ℓ (K t) q P) from
    bigSep_mono fun t ht => PG_intro f fun i hi => hf i (Finset.mem_biUnion.mpr ⟨t, ht, hi⟩)) $$ H

/-- Many separate sets of places can be put together. -/
theorem PG_unpieces {I : Type} [DecidableEq I] (s : Finset I) (K : I → Finset (Idx ℓ)) (h : ∀ t ∈ s, ∀ t' ∈ s, t ≠ t' → Disjoint (K t) (K t'))
    (hK : S = s.biUnion K) (hs : s.Nonempty) : (bigSep s fun t => PG ℓ (K t) q P) ⊢ (PG ℓ S q P : sProp 𝕄) := by
  subst hK
  induction hs using Finset.Nonempty.cons_induction with
  | singleton a => rw [bigSep_singleton, Finset.singleton_biUnion]
  | cons a s ha hs ih =>
    rw [Finset.cons_eq_insert, bigSep_insert ha, Finset.biUnion_insert]
    refine (sep_mono_right (ih fun t₁ h₁ t₂ h₂ => h t₁ (Finset.mem_cons_of_mem h₁) t₂ (Finset.mem_cons_of_mem h₂))).trans (PG_join ?_)
    exact (Finset.disjoint_biUnion_right _ _ _).mpr fun t' ht' =>
      h a (Finset.mem_cons_self _ _) t' (Finset.mem_cons_of_mem ht') (fun e => ha (e ▸ ht'))

/-- Along the share, there and back. -/
theorem PG_share (h : q ∈ q₁ ·? q₂) : (PG ℓ S q P : sProp 𝕄) ⊢ iprop(PG ℓ S q₁ P ∗ PG ℓ S q₂ P) := by
  unfold PG
  iintro ⟨%f, H, %hf⟩
  ihave H := (pointsTo_share h).1 $$ H
  icases H with ⟨H1, H2⟩
  isplitl [H1]
  · iexists f
    isplitl [H1]; · iexact H1
    ipureintro; exact hf
  · iexists f
    isplitl [H2]; · iexact H2
    ipureintro; exact hf

/-- Two shares of the same places can be put together; the first's property is kept. -/
theorem PG_unshare (h : q ∈ q₁ ·? q₂) : iprop(PG ℓ S q₁ P ∗ PG ℓ S q₂ P') ⊢ (PG ℓ S q P : sProp 𝕄) := by
  unfold PG
  iintro ⟨⟨%f, H1, %hf⟩, ⟨%g, H2, %hg⟩⟩
  ihave %he : ⌜∀ i ∈ S ∩ S, f i = g i ∧ opDef q₁ q₂⌝ $$ [H1 H2]
  · iapply (pointsTo_agree (ℓ := ℓ) (I := S) (J := S) (q₁ := q₁) (q₂ := q₂) (f := f) (g := g))
    isplitl [H1] <;> iassumption
  have e : (ℓ ↦[S]{q₂} g : sProp 𝕄) = (ℓ ↦[S]{q₂} f) := pointsTo_congr fun i hi => (he i (Finset.mem_inter.mpr ⟨hi, hi⟩)).1.symm
  iexists f
  isplitl [H1 H2]
  · iapply (pointsTo_share h).2
    isplitl [H1]; · iexact H1
    iapply (Entails.of_eq e) $$ H2
  ipureintro; exact hf

end PG

end Cert.K
-- ==== Proof.Geom.lean ====
/-
  Where the kernel's slices lie: the elements under a slice of rows or of one slab, what a copy between two such slices does to what
  is known of the contents, and the offsets and target devices the kernel computes, decided over the sixteen devices.
-/
module

public import proofs.«01_k».proof.Proof.Base

@[expose] public section

set_option maxRecDepth 16384

noncomputable section

namespace Cert.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx
open PCS URA

variable {F : FTy → Type} [FloatOps F]

local notation "𝕄" => MT nD τ sig Unit (Elt F) ℕ UU ℕ

/-! ## Elements of slices -/

/-- The places a block of whole rows of a matrix covers. -/
theorem rset_rows {N a n : ℕ} {o : Fin 2 → ℕ} {inb} (ho : o = ![a, 0]) :
    (Rect.unit (s := ⟨2, ![N, 2048]⟩) o ![n, 2048] inb).toLoadRect.set = rows N a n := by
  subst ho
  ext i
  rw [Rect.mem_set_unit, mem_rows, Fin.forall_fin_two]
  have h : (i 1).val < 2048 := (i 1).isLt
  simp only [Matrix.cons_val_zero, Matrix.cons_val_one, Matrix.cons_val_fin_one]
  constructor
  · exact fun h => h.1
  · exact fun h' => ⟨h', Nat.zero_le _, by omega⟩

/-- The places a block of rows within one slab covers. -/
theorem rset_slab {K R d a n : ℕ} {o : Fin 3 → ℕ} {inb} (ho : o = ![d, a, 0]) :
    (Rect.unit (s := ⟨3, ![K, R, 2048]⟩) o ![1, n, 2048] inb).toLoadRect.set = slab K R d a n := by
  subst ho
  ext i
  rw [Rect.mem_set_unit, mem_slab, Fin.forall_fin_succ, Fin.forall_fin_two]
  have h : (i 2).val < 2048 := (i 2).isLt
  constructor
  · rintro ⟨h0, h1, -⟩
    have h0 : d ≤ (i 0).val ∧ (i 0).val < d + 1 := h0
    have h1 : a ≤ (i 1).val ∧ (i 1).val < a + n := h1
    omega
  · rintro ⟨h0, h1⟩
    refine ⟨?_, h1, ?_⟩
    · show d ≤ (i 0).val ∧ (i 0).val < d + 1
      omega
    · show 0 ≤ (i 2).val ∧ (i 2).val < 0 + 2048
      omega

/-- What is known of the source holds of what a copy writes, wherever the two views' indices correspond. -/
theorem copied {κ κ' : Kind} {sp sp' : Space} {s : Shape} {e : EltTy} (vs : View sig κ sp s e) (vd : View sig κ' sp' s e)
    (fs : vs.ty.Contents (Elt F)) (fd : vd.ty.Contents (Elt F)) {P : vs.ty.Idx → Elt F vs.ty.elt → Prop} {P' : vd.ty.Idx → Elt F vd.ty.elt → Prop}
    (hP : ∀ x v, P (vs.emb x) v → P' (vd.emb x) (cast (congrArg (Elt F) (vs.elt_eq.trans vd.elt_eq.symm)) v))
    (h : ∀ i ∈ vs.set, P i (fs i)) : ∀ j ∈ vd.set, P' j (vd.write (Elt F) fd (vs.read (Elt F) fs) Finset.univ j) := by
  intro j hj
  obtain ⟨x, -, rfl⟩ := Finset.mem_map.mp hj
  rw [View.write_emb_of_mem _ _ (Finset.mem_univ x), View.read_apply, cast_cast]
  exact hP x _ (h _ (vs.emb_mem_set x))

/-- Coordinates under a slice of rows. -/
theorem emb_rows {N a n : ℕ} {o : Fin 2 → ℕ} {inb} (ho : o = ![a, 0]) (x : (⟨2, ![n, 2048]⟩ : Shape).Idx) :
    (((Rect.unit (s := ⟨2, ![N, 2048]⟩) o ![n, 2048] inb).emb x) 0).val = a + (x 0).val
    ∧ (((Rect.unit (s := ⟨2, ![N, 2048]⟩) o ![n, 2048] inb).emb x) 1).val = (x 1).val := by
  subst ho
  constructor
  · show a + 1 * (x 0).val = _; omega
  · show 0 + 1 * (x 1).val = _; omega

/-- Coordinates under a squeezed slice of one slab. -/
theorem emb_slab {K R d a n : ℕ} {o : Fin 3 → ℕ} {inb} (ho : o = ![d, a, 0])
    (hn : (⟨2, ![n, 2048]⟩ : Shape).numel = (⟨3, ![1, n, 2048]⟩ : Shape).numel) (x : (⟨2, ![n, 2048]⟩ : Shape).Idx) :
    (((Rect.unit (s := ⟨3, ![K, R, 2048]⟩) o ![1, n, 2048] inb).emb (Shape.reshapeEquiv hn x)) 0).val = d
    ∧ (((Rect.unit (s := ⟨3, ![K, R, 2048]⟩) o ![1, n, 2048] inb).emb (Shape.reshapeEquiv hn x)) 1).val = a + (x 0).val
    ∧ (((Rect.unit (s := ⟨3, ![K, R, 2048]⟩) o ![1, n, 2048] inb).emb (Shape.reshapeEquiv hn x)) 2).val = (x 1).val := by
  subst ho
  have e : x = ix2 (n0 := n) (n1 := 2048) (x 0) (x 1) := by funext i; match i with | 0 => rfl | 1 => rfl
  have hx := (congrArg (Shape.reshapeEquiv hn) e).trans (reshapeEquiv_ix2_1ab (a := n) (b := 2048) hn (x 0) (x 1))
  rw [hx]
  refine ⟨?_, ?_, ?_⟩
  · show d + 1 * 0 = _; omega
  · show a + 1 * (x 0).val = _; omega
  · show 0 + 1 * (x 1).val = _; omega

/-! ## Facts of intervals -/

/-- Rows in a run can be divided in two runs. -/
theorem rows_split {N a n m k : ℕ} (h : n = m + k) : rows N a n = rows N a m ∪ rows N (a + m) k := by
  ext i; rw [Finset.mem_union, mem_rows, mem_rows, mem_rows]; omega
/-- Runs of rows apart from one another share no place. -/
theorem rows_disj {N a n b m : ℕ} (h : a + n ≤ b ∨ b + m ≤ a) : Disjoint (rows N a n) (rows N b m) :=
  Finset.disjoint_left.mpr fun i h1 h2 => by rw [mem_rows] at h1 h2; omega
/-- A slab's rows can be divided in two runs. -/
theorem slab_split {K R d a n m k : ℕ} (h : n = m + k) : slab K R d a n = slab K R d a m ∪ slab K R d (a + m) k := by
  ext i; rw [Finset.mem_union, mem_slab, mem_slab, mem_slab]; omega
/-- Runs of rows of one slab, apart from one another, share no place. -/
theorem slab_disj {K R d a n b m : ℕ} (h : a + n ≤ b ∨ b + m ≤ a) : Disjoint (slab K R d a n) (slab K R d b m) :=
  Finset.disjoint_left.mpr fun i h1 h2 => by rw [mem_slab] at h1 h2; omega
/-- Different slabs share no place. -/
theorem slab_disj' {K R d d' a n b m : ℕ} (h : d ≠ d') : Disjoint (slab K R d a n) (slab K R d' b m) :=
  Finset.disjoint_left.mpr fun i h1 h2 => by rw [mem_slab] at h1 h2; omega

/-! ## The offsets the kernel computes -/

/-- The mask is copied from the own quarter's rows on. -/
theorem off4_eq : ∀ c, k0_off4 c = ![1024 * qu c, 0] := by decide
/-- Where the first two chunks' results start in the own quarter. -/
theorem off23_eq (c : Dev nD) : k0_off23 c 0#32 = ![1024 * qu c + ofs 0, 0] ∧ k0_off23 c 64#32 = ![1024 * qu c + ofs 1, 0] := by
  revert c; decide
/-- Where the other chunks' results start in the own quarter. -/
theorem off38_eq : ∀ (d : Fin 9), 2 ≤ d.val → ∀ c, k0_off38 c (BitVec.ofNat 32 (ofs d.val)) = ![1024 * qu c + ofs d.val, 0] := by decide
/-- Where the first two chunks' second halves start in the quarter from across `y`. -/
theorem off30_eq (c : Dev nD) : k0_off30 c 0#32 = ![1024 * qu (yp c) + ofs 0 + 32, 0]
    ∧ k0_off30 c 64#32 = ![1024 * qu (yp c) + ofs 1 + 32, 0] := by
  revert c; decide
/-- Where the other chunks' second halves start in the quarter from across `y`. -/
theorem off45_eq : ∀ (d : Fin 9), 2 ≤ d.val → ∀ c, k0_off45 c (BitVec.ofNat 32 (ofs d.val)) = ![1024 * qu (yp c) + ofs d.val + 64, 0] := by decide
/-- Where the first two chunks' first halves start in the quarter from across `z`. -/
theorem off31_eq (c : Dev nD) : k0_off31 c 0#32 = ![1024 * qu (zp c) + ofs 0, 0] ∧ k0_off31 c 64#32 = ![1024 * qu (zp c) + ofs 1, 0] := by
  revert c; decide
/-- Where the other chunks' first halves start in the quarter from across `z`. -/
theorem off46_eq : ∀ (d : Fin 9), 2 ≤ d.val → ∀ c, k0_off46 c (BitVec.ofNat 32 (ofs d.val)) = ![1024 * qu (zp c) + ofs d.val, 0] := by decide

end Cert.K
-- ==== Proof.Sched.lean ====
/-
  The protocol of the exchange: what the rows hold (`GoodG` … `GoodS`), the semaphore cells and what each hands over (`Rd`), what a
  device owes at each stage of a chunk, and the levels its waits are ordered by.
-/
module

public import proofs.«01_k».proof.Proof.Geom

@[expose] public section

set_option maxRecDepth 16384

noncomputable section

namespace Cert.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open PCS URA

variable {F : FTy → Type} [FloatOps F]

local notation "𝕄" => MT nD τ sig Unit (Elt F) ℕ UU ℕ

/-! ## What the rows hold -/

/-- What the kernel is given on each device: the local row of every id, whether the row is this device's, that as a factor, and the
    device's half of the table. -/
structure Ins (F : FTy → Type) where
  sid : Dev nD → S4096.Idx → BitVec 32
  msk : Dev nD → S4096.Idx → BitVec 32
  mf : Dev nD → S4096x1.Idx → F .f32
  E : Dev nD → S8192x2048.Idx → F .f32
  sid_lt : ∀ c i, (sid c i).toNat < 8192

variable (I : Ins F)

/-- Row `r` was gathered on `c`: where the mask holds it is the table's row, elsewhere whatever was there. -/
def GoodG (c : Dev nD) (r col : ℕ) (v : F .f32) : Prop :=
  ∀ i : S4096.Idx, (i 0).val = r → I.msk c i ≠ 0#32 → ∀ j : S8192x2048.Idx, (j 0).val = (I.sid c i).toNat → (j 1).val = col → v = I.E c j
/-- The gathered row times the factor, rounded. -/
def GoodX (c : Dev nD) (r col : ℕ) (v : F .bf16) : Prop :=
  ∃ g, GoodG I c r col g ∧ ∃ i : S4096x1.Idx, (i 0).val = r ∧ v = FloatOps.truncf .bf16 bitsLt_bf16_f32 (FloatOps.mulf g (I.mf c i))
/-- Both devices' halves added, rounded. -/
def GoodS (c : Dev nD) (r col : ℕ) (v : F .bf16) : Prop :=
  ∃ a b, GoodX I c r col a ∧ GoodX I (xp c) r col b
    ∧ v = FloatOps.truncf .bf16 bitsLt_bf16_f32 (FloatOps.addf (FloatOps.extf .f32 bitsLt_bf16_f32 a) (FloatOps.extf .f32 bitsLt_bf16_f32 b))

/-- Chunk `d`'s rows in a slot of the landing buffer of the row copies. -/
def pG (c : Dev nD) (d : ℕ) : S2x128x2048.Idx → F .f32 → Prop := fun i v => GoodG I c (1024 * qu c + ofs d + (i 1).val) (i 2).val v
/-- Chunk `d`'s rows to be sent. -/
def pX (c : Dev nD) (d : ℕ) : S9x128x2048.Idx → F .bf16 → Prop := fun i v => GoodX I c (1024 * qu c + ofs d + (i 1).val) (i 2).val v
/-- What the other half's device sent. -/
def pC (c : Dev nD) : S1024x2048.Idx → F .bf16 → Prop := fun i v => GoodX I (xp c) (1024 * qu c + (i 0).val) (i 1).val v
/-- The same, copied to a slot. -/
def pB (c : Dev nD) (d : ℕ) : S2x128x2048.Idx → F .bf16 → Prop := fun i v => GoodX I (xp c) (1024 * qu c + ofs d + (i 1).val) (i 2).val v
/-- The sum. -/
def pS (c : Dev nD) (d : ℕ) : S9x128x2048.Idx → F .bf16 → Prop := fun i v => GoodS I c (1024 * qu c + ofs d + (i 1).val) (i 2).val v
/-- The result's rows on `c`. -/
def pO (c : Dev nD) : S4096x2048.Idx → F .bf16 → Prop := fun i v => GoodS I (org c ((i 0).val / 1024)) (i 0).val (i 1).val v
/-- The factors of the quarter. -/
def pM (c : Dev nD) : S1024x1.Idx → F .f32 → Prop := fun i v => ∃ j : S4096x1.Idx, (j 0).val = 1024 * qu c + (i 0).val ∧ v = I.mf c j

/-! ## Buffers and cells -/

abbrev lOut (c : Dev nD) : Loc nD τ sig := (c.tc : Thread nD τ).loc main_v17_0
abbrev lCx (c : Dev nD) : Loc nD τ sig := (c.tc : Thread nD τ).loc main_v17_1
abbrev lMf (c : Dev nD) : Loc nD τ sig := (c.tc : Thread nD τ).loc main_v16
abbrev lE (c : Dev nD) : Loc nD τ sig := (c.tc : Thread nD τ).loc main_arg1
abbrev lG (c : Dev nD) : Loc nD τ sig := (c.tc : Thread nD τ).loc cc0_scratch0
abbrev lX (c : Dev nD) : Loc nD τ sig := (c.tc : Thread nD τ).loc cc0_scratch1
abbrev lM (c : Dev nD) : Loc nD τ sig := (c.tc : Thread nD τ).loc cc0_scratch2
abbrev lB (c : Dev nD) : Loc nD τ sig := (c.tc : Thread nD τ).loc cc0_scratch3
abbrev lS (c : Dev nD) : Loc nD τ sig := (c.tc : Thread nD τ).loc cc0_scratch4
abbrev lId (c : Dev nD) : Loc nD τ sig := (c.tc : Thread nD τ).loc cc0_stg0_0
abbrev lMk (c : Dev nD) : Loc nD τ sig := (c.tc : Thread nD τ).loc cc0_stg1_0

/-- Rows of the result, of the landing buffer, slabs of the three-dimensional scratch. -/
abbrev PO (c : Dev nD) (a n : ℕ) (P : S4096x2048.Idx → F .bf16 → Prop) : sProp 𝕄 := PG (lOut c) (rows 4096 a n) fullShare P
abbrev PC (c : Dev nD) (a n : ℕ) (P : S1024x2048.Idx → F .bf16 → Prop) : sProp 𝕄 := PG (lCx c) (rows 1024 a n) fullShare P
abbrev PGv (c : Dev nD) (s a n : ℕ) (P : S2x128x2048.Idx → F .f32 → Prop) : sProp 𝕄 := PG (lG c) (slab 2 128 s a n) fullShare P
abbrev PX (c : Dev nD) (d a n : ℕ) (q : PosShare TreeShare) (P : S9x128x2048.Idx → F .bf16 → Prop) : sProp 𝕄 := PG (lX c) (slab 9 128 d a n) q P
abbrev PB (c : Dev nD) (s a n : ℕ) (P : S2x128x2048.Idx → F .bf16 → Prop) : sProp 𝕄 := PG (lB c) (slab 2 128 s a n) fullShare P
abbrev PS (c : Dev nD) (d a n : ℕ) (q : PosShare TreeShare) (P : S9x128x2048.Idx → F .bf16 → Prop) : sProp 𝕄 := PG (lS c) (slab 9 128 d a n) q P

/-- The shares of a chunk: half for the copy that sends it, half kept; of the sums, one per copy that reads them. -/
def shL : PosShare TreeShare := fullShare.left
def shR : PosShare TreeShare := fullShare.right
def shY : PosShare TreeShare := fullShare.right.left
def shZ : PosShare TreeShare := fullShare.right.right

/-- The kernel has 105 copy semaphores. -/
theorem nDma : sig.nDmaSem = 105 := rfl

/-- The DMA semaphore numbered `n`. -/
def dsem (n : ℕ) : DmaSem sig := ⟨n % 105, Nat.mod_lt _ (by decide)⟩
/-- Semaphore `d` of the `k`-th semaphore array of nine. -/
def ix (k d : ℕ) : ℕ := 2 + 9 * k + d

abbrev cell (c : Dev nD) (n : ℕ) : GSem nD τ sig := ((c.tc : Thread nD τ), .dma (dsem n))
abbrev barC (c : Dev nD) : GSem nD τ sig := ((c.tc : Thread nD τ), .reg barrier0)

/-- What a copy of `n` rows of 2048 credits. -/
def NB (n : ℕ) : ℕ := Ref.dmaCredit main_v17_0 ⟨2, ![n, 2048]⟩ .bf16
/-- What the copy of the factors credits. -/
def NM : ℕ := Ref.dmaCredit cc0_scratch2 S1024x1 .f32

/-- A copy of rows counts for something. -/
theorem NB_pos {n : ℕ} (h : 0 < n) : 0 < NB n :=
  sig.dmaCredit_pos _ _ _ _ _ (by
    show 0 < (⟨2, ![n, 2048]⟩ : Shape).numel
    rw [show (⟨2, ![n, 2048]⟩ : Shape).numel = n * 2048 by simp [Shape.numel, Fin.prod_univ_two]]; omega)
/-- The mask's copy counts for something. -/
theorem NM_pos : 0 < NM := sig.dmaCredit_pos _ _ _ _ _ (by decide)
/-- What rows of the result count for. -/
theorem cr_out (n : ℕ) : Ref.dmaCredit main_v17_0 ⟨2, ![n, 2048]⟩ .bf16 = NB n := rfl
/-- What rows of the landing buffer count for. -/
theorem cr_cx (n : ℕ) : Ref.dmaCredit main_v17_1 ⟨2, ![n, 2048]⟩ .bf16 = NB n := rfl
/-- What rows to be sent across `x` count for. -/
theorem cr_x (n : ℕ) : Ref.dmaCredit cc0_scratch1 ⟨2, ![n, 2048]⟩ .bf16 = NB n := rfl
/-- What received rows count for. -/
theorem cr_b (n : ℕ) : Ref.dmaCredit cc0_scratch3 ⟨2, ![n, 2048]⟩ .bf16 = NB n := rfl
/-- What rows of the sum count for. -/
theorem cr_s (n : ℕ) : Ref.dmaCredit cc0_scratch4 ⟨2, ![n, 2048]⟩ .bf16 = NB n := rfl
/-- What the mask counts for. -/
theorem cr_m : Ref.dmaCredit cc0_scratch2 S1024x1 .f32 = NM := rfl
attribute [irreducible] NB NM
/-- A chunk has rows. -/
theorem sz_pos (d : ℕ) : 0 < sz d := by unfold sz; split <;> decide
/-- Half a chunk has rows. -/
theorem hz_pos (d : ℕ) : 0 < sz d / 2 := by unfold sz; split <;> decide

/-! ## The schedule -/

/-- The DMA semaphores the schedule runs on. -/
def DC : Finset ℕ := (Finset.range 105).filter fun n => 2 ≤ n ∧ n ≠ 92 ∧ n ≠ 93
/-- Round 0 of every cell of `c` is open. -/
def rch (c : Dev nD) : sProp 𝕄 := bigSep DC fun n => reached ER (cell c n) 0

/-- Paid by the neighbour across x: its landing buffer, by chunks. By the neighbour across y: the quarter of its result this device
    computes, and the half chunks this device forwards to it. By the one across z, the same with the other halves. -/
def barPay (c : Dev nD) (u : Fin 3) : sProp 𝕄 :=
  if u = 0 then iprop(rch (xp c) ∗ bigSep (Finset.range 9) fun d => PC (xp c) (ofs d) (sz d) fun _ _ => True)
  else if u = 1 then iprop(rch (yp c) ∗ bigSep (Finset.range 9) fun d =>
    iprop(PO (yp c) (1024 * qu c + ofs d) (sz d) (fun _ _ => True) ∗ PO (yp c) (1024 * qu (zp c) + ofs d) (sz d / 2) (fun _ _ => True)))
  else iprop(rch (zp c) ∗ bigSep (Finset.range 9) fun d =>
    iprop(PO (zp c) (1024 * qu c + ofs d) (sz d) (fun _ _ => True) ∗ PO (zp c) (1024 * qu (yp c) + ofs d + sz d / 2) (sz d / 2) (fun _ _ => True)))

/-- What the cell of chunk `d` in the `k`-th semaphore array hands over. -/
def payK (c : Dev nD) (d : ℕ) : ℕ → sProp 𝕄
  | 0 => PX c d 0 (sz d) shL (pX I c d)
  | 1 => PC c (ofs d) (sz d) (pC I c)
  | 2 => PS c d 0 (sz d) shY (pS I c d)
  | 3 => PO c (1024 * qu (yp c) + ofs d) (sz d) (pO I c)
  | 4 => PS c d 0 (sz d) shZ (pS I c d)
  | 5 => PO c (1024 * qu (zp c) + ofs d) (sz d) (pO I c)
  | 6 => PO c (1024 * qu (yp c) + ofs d + sz d / 2) (sz d / 2) (pO I c)
  | 7 => PO c (1024 * qu (yp (zp c)) + ofs d + sz d / 2) (sz d / 2) (pO I c)
  | 8 => PO c (1024 * qu (zp c) + ofs d) (sz d / 2) (pO I c)
  | _ => PO c (1024 * qu (yp (zp c)) + ofs d) (sz d / 2) (pO I c)

/-- The factors, and their source back. -/
def payM (c : Dev nD) : sProp 𝕄 :=
  iprop(PG (lM c) Finset.univ fullShare (pM I c) ∗ PG (lMf c) (Finset.univ.filter fun i : S4096x1.Idx => 1024 * qu c ≤ (i 0).val ∧ (i 0).val < 1024 * qu c + 1024) fullShare fun i v => v = I.mf c i)
/-- Chunk `d` in its slot, and the landing rows back. -/
def payB (c : Dev nD) (d : ℕ) : sProp 𝕄 := iprop(PB c (d % 2) 0 (sz d) (pB I c d) ∗ PC c (ofs d) (sz d) (pC I c))
/-- The own rows of the result, and the share of the sums back. -/
def payS (c : Dev nD) (d : ℕ) : sProp 𝕄 := iprop(PO c (1024 * qu c + ofs d) (sz d) (pO I c) ∗ PS c d 0 (sz d) shL (pS I c d))

/-- What DMA semaphore `n` hands over in round `r`. -/
def payD (c : Dev nD) (n r : ℕ) : sProp 𝕄 :=
  if n < 92 then payK I c ((n - 2) % 9) ((n - 2) / 9) else if n = 94 then payM I c else if n = 95 then payB I c r else payS I c (n - 96)
/-- And how many units. -/
def amtD (n r : ℕ) : ℕ :=
  if n < 92 then (if (n - 2) / 9 < 6 then NB (sz ((n - 2) % 9)) else NB (sz ((n - 2) % 9) / 2))
  else if n = 94 then NM else if n = 95 then NB (sz r) else NB (sz (n - 96))

/-- Rounds of DMA semaphore `n`. -/
def rndD (n r : ℕ) : Prop := if n = 95 then r < 9 else 2 ≤ n ∧ n ≠ 92 ∧ n ≠ 93 ∧ r = 0
instance (n r : ℕ) : Decidable (rndD n r) := by unfold rndD; infer_instance

/-- Every semaphore's copy counts for something. -/
theorem amtD_pos (n r : ℕ) : 0 < amtD n r := by
  unfold amtD
  split
  · split
    · exact NB_pos (sz_pos _)
    · exact NB_pos (hz_pos _)
  · split
    · exact NM_pos
    · split
      · exact NB_pos (sz_pos _)
      · exact NB_pos (sz_pos _)

/-- The schedule of the exchange. -/
def Rd : Rounds.Schedule (GSem nD τ sig) (Fin 3) 𝕄 where
  duties g r := if g.1.2 = .tc then (match g.2 with | .reg _ => if r = 0 then Finset.univ else ∅ | .dma s => if rndD s.val r then {0} else ∅) else ∅
  unitless _ := False
  amount g r _ := match g.2 with | .reg _ => 1 | .dma s => amtD s.val r
  payload g r u := match g.2 with | .reg _ => barPay g.1.1 u | .dma s => payD I g.1.1 s.val r
  amount_pos g r _ _ := by
    rcases g with ⟨g, s | s⟩
    · exact Nat.one_pos
    · exact amtD_pos s.val r

instance barPay_storable (c : Dev nD) (u : Fin 3) : Storable (upEmb : UEmb _ 𝕄) (barPay c u) := by
  unfold barPay rch; (repeat' split) <;> infer_instance
instance payK_storable (c : Dev nD) (d k : ℕ) : Storable (upEmb : UEmb _ 𝕄) (payK I c d k) := by
  unfold payK; split <;> infer_instance
instance payD_storable (c : Dev nD) (n r : ℕ) : Storable (upEmb : UEmb _ 𝕄) (payD I c n r) := by
  unfold payD payM payB payS; (repeat' split) <;> infer_instance
instance Rd_payload_storable (g : GSem nD τ sig) (r : ℕ) (u : Fin 3) : Storable (upEmb : UEmb _ 𝕄) ((Rd I).payload g r u) := by
  show Storable upEmb (match g.2 with | .reg _ => barPay g.1.1 u | .dma s => payD I g.1.1 s.val r)
  split <;> infer_instance

section Cells

variable (c : Dev nD)

/-- A semaphore's number. -/
theorem dsem_val {n : ℕ} (h : n < 105) : (dsem n).val = n := Nat.mod_eq_of_lt h

/-- Three signals are due at a barrier. -/
theorem duties_bar : (Rd I).duties (barC c) 0 = Finset.univ := rfl
/-- One copy is due in a semaphore's rounds. -/
theorem duties_dma {n r : ℕ} (h : n < 105) (hr : rndD n r) : (Rd I).duties (cell c n) r = {0} := by
  show (if rndD (dsem n).val r then ({0} : Finset (Fin 3)) else ∅) = _
  rw [dsem_val h, if_pos hr]
/-- Nothing is due in other rounds. -/
theorem duties_none {n r : ℕ} (h : n < 105) (hr : ¬ rndD n r) : (Rd I).duties (cell c n) r = ∅ := by
  show (if rndD (dsem n).val r then ({0} : Finset (Fin 3)) else ∅) = _
  rw [dsem_val h, if_neg hr]
/-- What a semaphore's copy counts for. -/
theorem amount_dma {n r : ℕ} (h : n < 105) (u : Fin 3) : (Rd I).amount (cell c n) r u = amtD n r := by
  show amtD (dsem n).val r = _
  rw [dsem_val h]
/-- What a semaphore's copy hands over. -/
theorem payload_dma {n r : ℕ} (h : n < 105) (u : Fin 3) : (Rd I).payload (cell c n) r u = payD I c n r := by
  show payD I c (dsem n).val r = _
  rw [dsem_val h]
/-- What a semaphore expects in a round. -/
theorem expect_dma {n r : ℕ} (h : n < 105) (hr : rndD n r) : (Rd I).expect (cell c n) r = amtD n r := by
  unfold Schedule.expect Schedule.amountOf; rw [duties_dma I c h hr, Finset.sum_singleton, amount_dma I c h]
/-- A barrier expects three. -/
theorem expect_bar : (Rd I).expect (barC c) 0 = 3 := rfl
/-- All of a semaphore's payloads in a round is its one payload. -/
theorem rest_dma {n r : ℕ} (h : n < 105) (hr : rndD n r) :
    bigSep ((Rd I).duties (cell c n) r \ ∅) (fun u => (Rd I).payload (cell c n) r u) = payD I c n r := by
  rw [Finset.sdiff_empty, duties_dma I c h hr, bigSep_singleton, payload_dma I c h]

/-- The exchange's semaphores are the first 92. -/
theorem ix_lt {k d : ℕ} (hk : k < 10) (hd : d < 9) : ix k d < 92 := by unfold ix; omega
/-- Each of them has a first round. -/
theorem rnd_ix {k d : ℕ} (hk : k < 10) (hd : d < 9) : rndD (ix k d) 0 := by unfold rndD ix; rw [if_neg (by omega)]; omega
/-- What they hand over, by kind. -/
theorem pay_ix {k d r : ℕ} (hk : k < 10) (hd : d < 9) : payD I c (ix k d) r = payK I c d k := by
  unfold payD; rw [if_pos (ix_lt hk hd)]; unfold ix
  rw [show (2 + 9 * k + d - 2) % 9 = d by omega, show (2 + 9 * k + d - 2) / 9 = k by omega]
/-- What they count for: a chunk in the first six kinds, half a chunk in the others. -/
theorem amt_ix {k d r : ℕ} (hk : k < 10) (hd : d < 9) : amtD (ix k d) r = if k < 6 then NB (sz d) else NB (sz d / 2) := by
  unfold amtD; rw [if_pos (ix_lt hk hd)]; unfold ix
  rw [show (2 + 9 * k + d - 2) % 9 = d by omega, show (2 + 9 * k + d - 2) / 9 = k by omega]
/-- The own result's semaphores have a first round. -/
theorem rnd_ss {d : ℕ} : rndD (96 + d) 0 := by unfold rndD; rw [if_neg (by omega)]; omega
/-- What the own result's copy hands over. -/
theorem pay_ss {d r : ℕ} : payD I c (96 + d) r = payS I c d := by
  unfold payD; rw [if_neg (by omega), if_neg (by omega), if_neg (by omega), Nat.add_sub_cancel_left]
/-- What the own result's copy counts for. -/
theorem amt_ss {d r : ℕ} : amtD (96 + d) r = NB (sz d) := by
  unfold amtD; rw [if_neg (by omega), if_neg (by omega), if_neg (by omega), Nat.add_sub_cancel_left]

end Cells

/-! ## What is owed, and the levels -/

/-- A unit of credit owed to a peer's cell. -/
abbrev ow (c : Dev nD) (k d n : ℕ) : CellTallies nD τ sig Unit := tallyAt (cell c (ix k d)) () (NB n)

/-- What device `c` still owes for chunk `d` at stage `k`. -/
def owedC (c : Dev nD) (d k : ℕ) : CellTallies nD τ sig Unit :=
  (if k < 2 then ow (xp c) 1 d (sz d) else 0) + ((if k < 7 then ow (yp c) 3 d (sz d) else 0) + ((if k < 8 then ow (zp c) 5 d (sz d) else 0)
    + ((if k < 11 then ow (zp c) 7 d (sz d / 2) else 0) + (if k < 13 then ow (yp c) 9 d (sz d / 2) else 0))))

def owed (c : Dev nD) (ks : List ℕ) : CellTallies nD τ sig Unit := ∑ d ∈ Finset.range 9, owedC c d (ks.getD d 0)

/-- The level of chunk `d`'s cell of the `k`-th array. -/
def levK (k d : ℕ) : ℕ := if k = 1 then 10 * d + 2 else if k = 3 then 10 * (d + 2) + 3 else if k = 5 then 10 * (d + 2) + 4
  else if k = 7 then 10 * (d + 3) + 5 else if k = 9 then 10 * (d + 3) + 6 else 0
def lvD (n : ℕ) : ℕ := if 2 ≤ n ∧ n < 92 then levK ((n - 2) / 9) ((n - 2) % 9) else 0

def L (g : GSem nD τ sig) : Finset Unit := if g.1.2 = .tc then {()} else ∅
/-- Barriers at 1, receive cells above in the order their credits are paid, the rest at 0. -/
def lv (g : GSem nD τ sig) (_ : Unit) : ℕ := match g.2 with | .reg _ => 1 | .dma s => lvD s.val

/-- Levels are given on the tensor cores only. -/
theorem L_of_ne (g : GSem nD τ sig) (h : g.1.2 ≠ .tc) : L g = ∅ := if_neg h
/-- On these every semaphore has its level. -/
theorem L_tc (c : Dev nD) (sm : SemLoc sig) : L ((c : Thread nD τ), sm) = {()} := if_pos rfl
/-- The level of a semaphore of the exchange. -/
theorem lv_ix (c : Dev nD) {k d : ℕ} (hk : k < 10) (hd : d < 9) : lv (cell c (ix k d)) () = levK k d := by
  show lvD (dsem (ix k d)).val = _
  rw [dsem_val (by have := ix_lt hk hd; omega)]
  unfold lvD; rw [if_pos (by have := ix_lt hk hd; unfold ix at *; omega)]; unfold ix
  rw [show (2 + 9 * k + d - 2) % 9 = d by omega, show (2 + 9 * k + d - 2) / 9 = k by omega]

/-- Every level at which chunk `d` at stage `k` still owes lies above `b`. -/
def above (b d k : ℕ) : Prop := (k < 2 → b < levK 1 d) ∧ (k < 7 → b < levK 3 d) ∧ (k < 8 → b < levK 5 d) ∧ (k < 11 → b < levK 7 d) ∧ (k < 13 → b < levK 9 d)
instance (b d k : ℕ) : Decidable (above b d k) := by unfold above; infer_instance

/-- A copy's debt, if there is one, is at its own cell. -/
theorem ow_facts {c : Dev nD} {k d n : ℕ} {p : Prop} [Decidable p] (hk : k < 10) (hd : d < 9) {g : GSem nD τ sig}
    (h : 0 < (if p then ow c k d n else 0) g ()) : p ∧ g = cell c (ix k d) := by
  by_cases hp : p
  · rw [if_pos hp, tallyAt_apply] at h
    by_cases e : g = cell c (ix k d) ∧ (() : Unit) = ()
    · exact ⟨hp, e.1⟩
    · rw [if_neg e] at h; exact absurd h (Nat.lt_irrefl 0)
  · rw [if_neg hp] at h; exact absurd h (Nat.lt_irrefl 0)

/-- What a chunk owes at a stage is owed at levels above the stage's. -/
theorem owedC_facts {c : Dev nD} {d k b : ℕ} (hd : d < 9) (hb : above b d k) {g : GSem nD τ sig} (h : 0 < owedC c d k g ()) :
    L g = {()} ∧ b < lv g () := by
  unfold owedC at h
  obtain ⟨h1, h2, h3, h4, h5⟩ := hb
  have h : 0 < (if k < 2 then ow (xp c) 1 d (sz d) else 0) g () + ((if k < 7 then ow (yp c) 3 d (sz d) else 0) g () + ((if k < 8 then ow (zp c) 5 d (sz d) else 0) g ()
    + ((if k < 11 then ow (zp c) 7 d (sz d / 2) else 0) g () + (if k < 13 then ow (yp c) 9 d (sz d / 2) else 0) g ()))) := h
  rcases Nat.eq_zero_or_pos ((if k < 2 then ow (xp c) 1 d (sz d) else 0) g ()) with e1 | p
  · rcases Nat.eq_zero_or_pos ((if k < 7 then ow (yp c) 3 d (sz d) else 0) g ()) with e2 | p
    · rcases Nat.eq_zero_or_pos ((if k < 8 then ow (zp c) 5 d (sz d) else 0) g ()) with e3 | p
      · rcases Nat.eq_zero_or_pos ((if k < 11 then ow (zp c) 7 d (sz d / 2) else 0) g ()) with e4 | p
        · have p : 0 < (if k < 13 then ow (yp c) 9 d (sz d / 2) else 0) g () := by omega
          obtain ⟨hk, rfl⟩ := ow_facts (by decide) hd p
          exact ⟨L_tc _ _, by rw [lv_ix _ (by decide) hd]; exact h5 hk⟩
        · obtain ⟨hk, rfl⟩ := ow_facts (by decide) hd p
          exact ⟨L_tc _ _, by rw [lv_ix _ (by decide) hd]; exact h4 hk⟩
      · obtain ⟨hk, rfl⟩ := ow_facts (by decide) hd p
        exact ⟨L_tc _ _, by rw [lv_ix _ (by decide) hd]; exact h3 hk⟩
    · obtain ⟨hk, rfl⟩ := ow_facts (by decide) hd p
      exact ⟨L_tc _ _, by rw [lv_ix _ (by decide) hd]; exact h2 hk⟩
  · obtain ⟨hk, rfl⟩ := ow_facts (by decide) hd p
    exact ⟨L_tc _ _, by rw [lv_ix _ (by decide) hd]; exact h1 hk⟩

/-- A debt is some chunk's debt. -/
theorem owed_pos {c : Dev nD} {ks : List ℕ} {g : GSem nD τ sig} (h : 0 < owed c ks g ()) :
    ∃ d < 9, 0 < owedC c d (ks.getD d 0) g () := by
  unfold owed at h
  by_contra hn
  push Not at hn
  have h0 : (∑ d ∈ Finset.range 9, owedC c d (ks.getD d 0)) g () = 0 := by
    rw [Finset.sum_apply, Finsupp.finset_sum_apply]
    exact Finset.sum_eq_zero fun d hd => Nat.le_zero.mp (hn d (Finset.mem_range.mp hd))
  omega

/-- A wait on a cell of level at most `b`, everything owed lying above. -/
theorem mayWait (c : Dev nD) (sm : SemLoc sig) (ks : List ℕ) (b : ℕ) (hb : ∀ d < 9, above b d (ks.getD d 0)) (hs : lv ((c.tc : Thread nD τ), sm) () ≤ b) :
    (levAts L lv : sProp 𝕄) ⊢ MayWait (c : Thread nD τ) sm () (owed c ks) :=
  MayOwe.of_cut (L := L) (lev := lv) b (fun p hp => by rw [Finset.mem_singleton.mp hp, L_tc]; exact Finset.mem_singleton_self _)
    (fun g u hg => by
      obtain ⟨d, hd, h⟩ := owed_pos hg
      rw [(owedC_facts hd (hb d hd) h).1]; exact Finset.mem_singleton_self _)
    (fun p hp => by rw [Finset.mem_singleton.mp hp]; exact hs)
    (fun g u hg => by
      obtain ⟨d, hd, h⟩ := owed_pos hg
      exact (owedC_facts hd (hb d hd) h).2)

/-- Moving one chunk on takes out what it no longer owes. -/
theorem owed_step (c : Dev nD) (ks : List ℕ) (d j j' : ℕ) (hd : d < 9) (hl : ks.length = 9) (hk : ks.getD d 0 = j) {T : CellTallies nD τ sig Unit}
    (h : owedC c d j = owedC c d j' + T) : owed c ks = owed c (ks.set d j') + T := by
  unfold owed
  rw [← Finset.add_sum_erase _ _ (Finset.mem_range.mpr hd), ← Finset.add_sum_erase (Finset.range 9) (fun e => owedC c e ((ks.set d j').getD e 0)) (Finset.mem_range.mpr hd), hk, h]
  have e1 : (ks.set d j').getD d 0 = j' := by simp [List.getD, hl, hd]
  have e2 : ∑ x ∈ (Finset.range 9).erase d, owedC c x (ks.getD x 0) = ∑ x ∈ (Finset.range 9).erase d, owedC c x ((ks.set d j').getD x 0) :=
    Finset.sum_congr rfl fun x hx => by
      have : d ≠ x := fun e => (Finset.mem_erase.mp hx).1 e.symm
      simp [List.getD, List.getElem?_set_ne this]
  rw [e1, e2, add_right_comm]

end Cert.K
-- ==== Proof.State.lean ====
/-
  The state of a device between two effects of its kernel: for every chunk a stage, and at each stage what is held of the chunk.
-/
module

public import proofs.«01_k».proof.Proof.Sched

@[expose] public section

set_option maxRecDepth 16384

noncomputable section

namespace Cert.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open PCS URA

variable {F : FTy → Type} [FloatOps F]

local notation "𝕄" => MT nD τ sig Unit (Elt F) ℕ UU ℕ

variable (I : Ins F) (K : GSem nD τ sig → ℕ) (c : Dev nD)

abbrev 𝒱₀ : Variants := Variants.none

/-- Every core reaches every other. -/
theorem routes_tc (c c' : Dev nD) : τ.routes (c.tc : Thread nD τ) (c'.tc : Thread nD τ) = true := by routes

/-- The cells of the launch: barriers, live at once, and the DMA cells, opened by the region. -/
def SB : Finset (GSem nD τ sig) := Finset.univ.image fun c : Dev nD => barC c
def SC : Finset (GSem nD τ sig) := (Finset.univ ×ˢ DC).image fun p : Dev nD × ℕ => cell p.1 p.2

def Inv : sProp 𝕄 := bigSep (SB ∪ SC) fun g => cellInv ER (Rd I) (K g) g
instance Inv_persistent : BI.Persistent (Inv I K) := by unfold Inv; infer_instance
instance rch_persistent : BI.Persistent (rch c : sProp 𝕄) := by unfold rch; infer_instance

/-- Which semaphores have a cell in the protocol. -/
theorem mem_DC {n : ℕ} (h : 2 ≤ n ∧ n ≠ 92 ∧ n ≠ 93 ∧ n < 105) : n ∈ DC := by
  rw [DC, Finset.mem_filter, Finset.mem_range]; exact ⟨h.2.2.2, h.1, h.2.1, h.2.2.1⟩
/-- A semaphore with a cell is one the kernel has. -/
theorem DC_lt {n : ℕ} (h : n ∈ DC) : n < 105 := Finset.mem_range.mp (Finset.mem_filter.mp h).1
/-- The exchange's semaphores have cells. -/
theorem ix_DC {k d : ℕ} (hk : k < 10) (hd : d < 9) : ix k d ∈ DC := by
  have := ix_lt hk hd; exact mem_DC (by unfold ix at *; omega)
/-- A semaphore's cell is one of the cells recorded. -/
theorem cell_mem {n : ℕ} (h : n ∈ DC) : cell c n ∈ SB ∪ SC :=
  Finset.mem_union_right _ (Finset.mem_image.mpr ⟨(c, n), Finset.mem_product.mpr ⟨Finset.mem_univ _, h⟩, rfl⟩)
/-- A barrier's cell is one of the cells recorded. -/
theorem bar_mem : barC c ∈ SB ∪ SC := Finset.mem_union_left _ (Finset.mem_image.mpr ⟨c, Finset.mem_univ _, rfl⟩)

/-- The record holds each semaphore's invariant. -/
theorem Inv_cell {n : ℕ} (h : n ∈ DC) : Inv I K ⊢ cellInv ER (Rd I) (K (cell c n)) (cell c n) := bigSep_elim (cell_mem c h)
/-- The record holds each barrier's invariant. -/
theorem Inv_bar : Inv I K ⊢ cellInv ER (Rd I) (K (barC c)) (barC c) := bigSep_elim (bar_mem c)
/-- Each of a device's cells has reached its first round. -/
theorem rch_cell {n : ℕ} (h : n ∈ DC) : (rch c : sProp 𝕄) ⊢ reached ER (cell c n) 0 := bigSep_elim h

/-- What stays true: the levels, the cells, round 0 of the own and the neighbours' cells open. -/
def Ctx : sProp 𝕄 := iprop(levAts L lv ∗ Inv I K ∗ rch c ∗ rch (xp c) ∗ rch (yp c) ∗ rch (zp c))
instance Ctx_persistent : BI.Persistent (Ctx I K c) := by unfold Ctx; infer_instance

abbrev tk (c : Dev nD) (k d : ℕ) : sProp 𝕄 := dutyTok ER (cell c (ix k d)) 0 0
abbrev crd (c : Dev nD) (k d n : ℕ) : sProp 𝕄 := cred (tallyAt (cell c (ix k d)) () (NB n))
/-- The position on the chunk's cell of the `k`-th array: past its one round once waited for. -/
abbrev pos (c : Dev nD) (k d : ℕ) (b : Prop) [Decidable b] : sProp 𝕄 := atPos ER (cell c (ix k d)) (if b then 0 else 1) ∅ 0

abbrev at0 (c : Dev nD) (k d : ℕ) : sProp 𝕄 := atPos ER (cell c (ix k d)) 0 ∅ 0
abbrev at1 (c : Dev nD) (k d : ℕ) : sProp 𝕄 := atPos ER (cell c (ix k d)) 1 ∅ 0

/-! ## A chunk at stage `k` -/

section Chunk

variable (d k : ℕ)

/-- The rounded rows and the copy that sends them. -/
def cX : sProp 𝕄 := iprop(PX c d (sz d) (128 - sz d) fullShare (fun _ _ => True) ∗ pos c 0 d (k < 14)
  ∗ (if k < 1 then PX c d 0 (sz d) fullShare (fun _ _ => True) else
      iprop(PX c d 0 (sz d) shR (pX I c d) ∗ if k < 2 then PX c d 0 (sz d) shL (pX I c d) else if k < 14 then crd c 0 d (sz d) else PX c d 0 (sz d) shL (pX I c d))))
def cX' : sProp 𝕄 := if k < 2 then iprop(tk c 0 d ∗ tk (xp c) 1 d ∗ PC (xp c) (ofs d) (sz d) (fun _ _ => True)) else BI.emp
/-- The rows received across x and their copy to a slot. -/
def cR : sProp 𝕄 := iprop(pos c 1 d (k < 3)
  ∗ (if k < 3 then crd c 1 d (sz d) else if k < 4 then PC c (ofs d) (sz d) (pC I c)
     else if k < 5 then iprop(cred (tallyAt (cell c 95) () (NB (sz d))) ∗ PB c (d % 2) (sz d) (128 - sz d) (fun _ _ => True))
     else if k < 6 then iprop(PC c (ofs d) (sz d) (pC I c) ∗ PB c (d % 2) (sz d) (128 - sz d) (fun _ _ => True) ∗ PB c (d % 2) 0 (sz d) (pB I c d))
     else PC c (ofs d) (sz d) (pC I c))
  ∗ (if k < 4 then dutyTok ER (cell c 95) d 0 else BI.emp))
/-- The sums and the three copies that read them. -/
def cS : sProp 𝕄 := iprop(PS c d (sz d) (128 - sz d) fullShare (fun _ _ => True) ∗ if k < 6 then PS c d 0 (sz d) fullShare (fun _ _ => True) else BI.emp)
def cY : sProp 𝕄 := iprop(pos c 2 d (k < 15) ∗ if k < 6 then BI.emp else if k < 7 then PS c d 0 (sz d) shY (pS I c d)
  else if k < 15 then crd c 2 d (sz d) else PS c d 0 (sz d) shY (pS I c d))
def cY' : sProp 𝕄 := if k < 7 then iprop(tk c 2 d ∗ tk (yp c) 3 d ∗ PO (yp c) (1024 * qu c + ofs d) (sz d) (fun _ _ => True)) else BI.emp
def cZ : sProp 𝕄 := iprop(pos c 4 d (k < 16) ∗ if k < 6 then BI.emp else if k < 8 then PS c d 0 (sz d) shZ (pS I c d)
  else if k < 16 then crd c 4 d (sz d) else PS c d 0 (sz d) shZ (pS I c d))
def cZ' : sProp 𝕄 := if k < 8 then iprop(tk c 4 d ∗ tk (zp c) 5 d ∗ PO (zp c) (1024 * qu c + ofs d) (sz d) (fun _ _ => True)) else BI.emp
def cL : sProp 𝕄 := iprop(atPos ER (cell c (96 + d)) (if k < 19 then 0 else 1) ∅ 0
  ∗ (if k < 6 then BI.emp else if k < 9 then PS c d 0 (sz d) shL (pS I c d) else if k < 19 then cred (tallyAt (cell c (96 + d)) () (NB (sz d)))
     else iprop(PO c (1024 * qu c + ofs d) (sz d) (pO I c) ∗ PS c d 0 (sz d) shL (pS I c d)))
  ∗ (if k < 9 then iprop(dutyTok ER (cell c (96 + d)) 0 0 ∗ PO c (1024 * qu c + ofs d) (sz d) (fun _ _ => True)) else BI.emp))
/-- The rows received across y; their second half is forwarded across z. -/
def cU : sProp 𝕄 := iprop(pos c 3 d (k < 10) ∗ pos c 6 d (k < 17)
  ∗ (if k < 10 then crd c 3 d (sz d) else iprop(PO c (1024 * qu (yp c) + ofs d) (sz d / 2) (pO I c)
      ∗ if k < 11 then PO c (1024 * qu (yp c) + ofs d + sz d / 2) (sz d / 2) (pO I c) else if k < 17 then crd c 6 d (sz d / 2)
        else PO c (1024 * qu (yp c) + ofs d + sz d / 2) (sz d / 2) (pO I c))))
def cU' : sProp 𝕄 := if k < 11 then iprop(tk c 6 d ∗ tk (zp c) 7 d ∗ PO (zp c) (1024 * qu (yp c) + ofs d + sz d / 2) (sz d / 2) (fun _ _ => True)) else BI.emp
/-- The rows received across z; their first half is forwarded across y. -/
def cV : sProp 𝕄 := iprop(pos c 5 d (k < 12) ∗ pos c 8 d (k < 18)
  ∗ (if k < 12 then crd c 5 d (sz d) else iprop(PO c (1024 * qu (zp c) + ofs d + sz d / 2) (sz d / 2) (pO I c)
      ∗ if k < 13 then PO c (1024 * qu (zp c) + ofs d) (sz d / 2) (pO I c) else if k < 18 then crd c 8 d (sz d / 2)
        else PO c (1024 * qu (zp c) + ofs d) (sz d / 2) (pO I c))))
def cV' : sProp 𝕄 := if k < 13 then iprop(tk c 8 d ∗ tk (yp c) 9 d ∗ PO (yp c) (1024 * qu (zp c) + ofs d) (sz d / 2) (fun _ _ => True)) else BI.emp
/-- The diagonal quarter's halves. -/
def cF : sProp 𝕄 := iprop(pos c 7 d (k < 20) ∗ if k < 20 then crd c 7 d (sz d / 2) else PO c (1024 * qu (yp (zp c)) + ofs d + sz d / 2) (sz d / 2) (pO I c))
def cG : sProp 𝕄 := iprop(pos c 9 d (k < 21) ∗ if k < 21 then crd c 9 d (sz d / 2) else PO c (1024 * qu (yp (zp c)) + ofs d) (sz d / 2) (pO I c))

/-- All about the sums. -/
def cSS : sProp 𝕄 := iprop(cS c d k ∗ cY I c d k ∗ cY' c d k ∗ cZ I c d k ∗ cZ' c d k ∗ cL I c d k)

/-- A chunk's part: the rows sent, half the diagonal quarter's, the rows received across x and the sums, the rows received across y,
    across z, the other half of the diagonal quarter's. -/
def comp (t : Fin 6) : sProp 𝕄 := match t with
  | 0 => iprop(cX I c d k ∗ cX' c d k)
  | 1 => cF I c d k
  | 2 => iprop(cR I c d k ∗ cSS I c d k)
  | 3 => iprop(cU I c d k ∗ cU' c d k)
  | 4 => iprop(cV I c d k ∗ cV' c d k)
  | 5 => cG I c d k

/-- All of a chunk. -/
def Ch : sProp 𝕄 := bigSep Finset.univ fun t => comp I c d k t

/-- One part out, to be put back at another stage the others do not distinguish. -/
theorem ch_take (t : Fin 6) (k' : ℕ) (h : ∀ i, i ≠ t → comp I c d k i = comp I c d k' i) :
    Ch I c d k ⊢ iprop(comp I c d k t ∗ (comp I c d k' t -∗ Ch I c d k')) := by
  have e2 : bigSep (Finset.univ.erase t) (fun i => comp I c d k i) = bigSep (Finset.univ.erase t) (fun i => comp I c d k' i) :=
    bigSep_congr fun i hi => h i (Finset.mem_erase.mp hi).1
  have h1 : Ch I c d k = iprop(comp I c d k t ∗ bigSep (Finset.univ.erase t) (fun i => comp I c d k i)) := bigSep_erase (Finset.mem_univ t)
  have h2 : Ch I c d k' = iprop(comp I c d k' t ∗ bigSep (Finset.univ.erase t) (fun i => comp I c d k i)) := e2 ▸ bigSep_erase (Finset.mem_univ t)
  rw [h1, h2]
  iintro ⟨H, Hr⟩
  isplitl [H]; · iexact H
  iintro H
  isplitl [H] <;> iassumption

end Chunk

/-- Every chunk at its stage. -/
def Chs (ks : List ℕ) : sProp 𝕄 := bigSep (Finset.range 9) fun d => Ch I c d (ks.getD d 0)

/-- One chunk out, to be put back at another stage. -/
theorem chs_take (ks : List ℕ) {d j : ℕ} (j' : ℕ) (hd : d < 9) (hl : ks.length = 9) (hk : ks.getD d 0 = j) :
    Chs I c ks ⊢ iprop(Ch I c d j ∗ (Ch I c d j' -∗ Chs I c (ks.set d j'))) := by
  have hm := Finset.mem_range.mpr hd
  have e1 : (ks.set d j').getD d 0 = j' := by simp [List.getD, hl, hd]
  have e2 : bigSep ((Finset.range 9).erase d) (fun x => Ch I c x (ks.getD x 0)) = bigSep ((Finset.range 9).erase d) (fun x => Ch I c x ((ks.set d j').getD x 0)) :=
    bigSep_congr fun x hx => by
      have : d ≠ x := fun e => (Finset.mem_erase.mp hx).1 e.symm
      simp [List.getD, List.getElem?_set_ne this]
  have h1 : Chs I c ks = iprop(Ch I c d j ∗ bigSep ((Finset.range 9).erase d) (fun x => Ch I c x (ks.getD x 0))) := by
    have e := bigSep_erase hm (Φ := fun d => Ch I c d (ks.getD d 0)); rw [hk] at e; exact e
  have h2 : Chs I c (ks.set d j') = iprop(Ch I c d j' ∗ bigSep ((Finset.range 9).erase d) (fun x => Ch I c x (ks.getD x 0))) := by
    have e := bigSep_erase hm (Φ := fun x => Ch I c x ((ks.set d j').getD x 0)); rw [e1, ← e2] at e; exact e
  rw [h1, h2]
  iintro ⟨H, Hr⟩
  isplitl [H]; · iexact H
  iintro H
  isplitl [H] <;> iassumption

/-- The slots for received rows: 2 for both free, else which is in use; the copies' cell at round `r`. -/
def Bst (r b : ℕ) : sProp 𝕄 := iprop(atPos ER (cell c 95) r ∅ 0 ∗ reached ER (cell c 95) r
  ∗ (if b = 0 then BI.emp else PB c 0 0 128 fun _ _ => True) ∗ (if b = 1 then BI.emp else PB c 1 0 128 fun _ _ => True))

def Ow (ks : List ℕ) : sProp 𝕄 := iprop(∃ W, owes (c : Thread nD τ) (owed c ks) W)

/-- The factors in VMEM, with what is left of their cell. -/
def Mst : sProp 𝕄 := PG (lM c) Finset.univ fullShare (pM I c)

/-- The whole state, beside what a part does not touch. -/
def St (ks : List ℕ) (r b : ℕ) (R : sProp 𝕄) : sProp 𝕄 := iprop(Ctx I K c ∗ Chs I c ks ∗ Ow c ks ∗ Bst c r b ∗ Mst I c ∗ R)

/-- One chunk moves on: the rule for one effect. -/
theorem move {ks : List ℕ} {r b r' b' : ℕ} {R : sProp 𝕄} {d j : ℕ} (t : Fin 6) (j' : ℕ) (hd : d < 9) (hl : ks.length = 9) (hk : ks.getD d 0 = j)
    (ht : ∀ i, i ≠ t → comp I c d j i = comp I c d j' i) {T : CellTallies nD τ sig Unit} (hT : owedC c d j = owedC c d j' + T) {G G' : sProp 𝕄}
    (hcore : ∀ (O : CellTallies nD τ sig Unit) W, (owed c ks = O + T) →
      iprop(Ctx I K c ∗ comp I c d j t ∗ owes (c : Thread nD τ) (O + T) W ∗ Bst c r b)
        ⊢ iprop(((comp I c d j' t ∗ (∃ W, owes (c : Thread nD τ) O W) ∗ Bst c r' b') -∗ G) -∗ G'))
    (h : St I K c (ks.set d j') r' b' R ⊢ G) : St I K c ks r b R ⊢ G' := by
  have hO := owed_step c ks d j j' hd hl hk hT
  unfold St Ow
  iintro ⟨#HC, Hc, ⟨%W, HO⟩, HB, HM, HR⟩
  ihave Hc := (chs_take I c ks j' hd hl hk) $$ Hc
  icases Hc with ⟨Hc, Hb⟩
  ihave Hc := (ch_take I c d j t j' ht) $$ Hc
  icases Hc with ⟨Hc, Hb'⟩
  ihave HO := (Entails.of_eq (congrArg (fun O => (owes (c : Thread nD τ) O W : sProp 𝕄)) hO)) $$ HO
  iapply (hcore (owed c (ks.set d j')) W hO) $$ [Hc HO HB]
  · isplitr; · iexact HC
    isplitl [Hc]; · iexact Hc
    isplitl [HO]; · iexact HO
    iexact HB
  iintro ⟨Hc, HO, HB⟩
  ihave Hc := Hb' $$ Hc
  ihave Hc := Hb $$ Hc
  iapply h
  unfold St Ow
  isplitr; · iexact HC
  isplitl [Hc]; · iexact Hc
  isplitl [HO]; · iexact HO
  isplitl [HB]; · iexact HB
  isplitl [HM]; · iexact HM
  iexact HR

end Cert.K
-- ==== Proof.Core.lean ====
/-
  The rules for one effect of the exchange, whatever rows it moves: an addressed copy, a local copy, a wait, a load and a store.
-/
module

public import proofs.«01_k».proof.Proof.State

@[expose] public section

set_option maxRecDepth 16384

noncomputable section

namespace Cert.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open PCS URA

variable {F : FTy → Type} [FloatOps F]

local notation "𝕄" => MT nD τ sig Unit (Elt F) ℕ UU ℕ

variable (I : Ins F) (K : GSem nD τ sig → ℕ) (c : Dev nD)

section

variable {α : Type} {sp sp' : Space} {s : Shape} {e : EltTy}

/-- A program of this kernel, run on `c`. -/
abbrev wpK (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- Sending rows to another device: what it takes, and what it leaves behind. -/
theorem send_core {Q : α → sProp 𝕄} (c' : Dev nD) {src : Memref sig .tc sp s e} {dst : Memref sig .tc sp' s e} {hsc : dst.view.ref.isScScratch = false}
    {s1 s2 : DmaSem sig} {hsrc : src.view.WordExact} {hdst : dst.view.WordExact} {hsem : DmaTarget.Typed sp (.dma s2) (.remote (c'.tc : Thread nD τ) dst (.dma s1) hsc)}
    {k : PUnit → Prog (TpuEff nD τ sig (Elt F) Λ₀ .tc) α} (n1 n2 N : ℕ) (h1 : n1 ∈ DC) (h2 : n2 ∈ DC) (r1 : rndD n1 0) (r2 : rndD n2 0)
    (hs1 : s1 = dsem n1) (hs2 : s2 = dsem n2) (hN : dst.view.dmaCredit = N) (ha1 : amtD n1 0 = N) (ha2 : amtD n2 0 = N)
    {q : PosShare TreeShare} {P : Idx (src.view.loc (c.tc : Thread nD τ)) → Elt F (src.view.loc (c.tc : Thread nD τ)).ty.elt → Prop}
    (hp1 : PG (src.view.loc (c.tc : Thread nD τ)) src.view.set q P ⊢ payD I c n1 0)
    (hp2 : ∀ fs fd, (∀ i ∈ src.view.set, P i (fs i)) →
      (dst.view.loc (c'.tc : Thread nD τ) ↦[dst.view.set]{fullShare} dst.view.write (Elt F) fd (src.view.read (Elt F) fs) Finset.univ) ⊢ payD I c' n2 0)
    (O : CellTallies nD τ sig Unit) (W : Waits sig Unit) :
    iprop(Inv I K ∗ PG (src.view.loc (c.tc : Thread nD τ)) src.view.set q P ∗ PG (dst.view.loc (c'.tc : Thread nD τ)) dst.view.set fullShare (fun _ _ => True)
        ∗ owes (c : Thread nD τ) (O + tallyAt (cell c' n2) () N) W
        ∗ dutyTok ER (cell c n1) 0 0 ∗ reached ER (cell c n1) 0 ∗ dutyTok ER (cell c' n2) 0 0 ∗ reached ER (cell c' n2) 0)
      ⊢ iprop(((cred (tallyAt (cell c n1) () N) ∗ ∃ W, owes (c : Thread nD τ) O W) -∗ wpK c (k ⟨⟩) Q)
          -∗ wpK c (.op (.enqueueDma src (.remote (c'.tc : Thread nD τ) dst (.dma s1) hsc) (.dma s2) hsrc hdst hsem) k) Q) := by
  have l1 : n1 < 105 := DC_lt h1
  have l2 : n2 < 105 := DC_lt h2
  subst hs1 hs2
  iintro ⟨#HI, Hs, Hd, HO, Ht1, Hr1, Ht2, Hr2⟩ Hk
  ihave Hs := PG_open $$ Hs
  icases Hs with ⟨%fs, Hs, %hfs⟩
  ihave Hd := PG_open $$ Hd
  icases Hd with ⟨%fd, Hd, -⟩
  iapply (Rounds.wp_send_pointsTo 𝒱₀ ER (Rd I) (c : Thread nD τ) none (c' := (c'.tc : Thread nD τ)) (src := src) (dst := dst)
      (sS := .dma (dsem n1)) (sem := .dma (dsem n2)) (q := q) (fs := fs) (fd := fd) (κ₁ := K (cell c n1)) (κ₂ := K (cell c' n2))
      (r₁ := 0) (r₂ := 0) (d₁ := (0 : Fin 3)) (d₂ := (0 : Fin 3))
      (by rw [duties_dma I c l1 r1]; exact Finset.mem_singleton_self _) (by rw [duties_dma I c' l2 r2]; exact Finset.mem_singleton_self _)
      () () N hN ((amount_dma I c l1 0).trans ha1) ((amount_dma I c' l2 0).trans ha2) O rfl (W := W)
      (by rw [payload_dma I c l1]; exact (PG_intro fs hfs).trans hp1)
      (by rw [payload_dma I c' l2]; exact hp2 fs fd hfs) (hr := routes_tc c c')) $$ [Hs Hd HO Ht1 Hr1 Ht2 Hr2]
  · isplitr; · iapply (Inv_cell I K c h1); iexact HI
    isplitr; · iapply (Inv_cell I K c' h2); iexact HI
    isplitl [Hs]; · iexact Hs
    isplitl [Hd]; · iexact Hd
    isplitl [HO]; · iexact HO
    isplitl [Ht1]; · iexact Ht1
    isplitl [Hr1]; · iexact Hr1
    isplitl [Ht2]; · iexact Ht2
    iexact Hr2
  iintro ⟨HcS, HO⟩
  iapply Hk
  isplitl [HcS]; · iexact HcS
  iexists _; iexact HO

/-- Copying rows within a device: what it takes, and what it leaves behind. -/
theorem copy_core {Q : α → sProp 𝕄} {src : Memref sig .tc sp s e} {dst : Memref sig .tc sp' s e} {s1 : DmaSem sig} {hsrc : src.view.WordExact} {hdst : dst.view.WordExact}
    {hsem : DmaTarget.Typed (nD := nD) sp (.dma s1) (DmaTarget.here (τ := τ) (nD := nD) (p := (Proc.tc : Proc τ)) dst)} {k : PUnit → Prog (TpuEff nD τ sig (Elt F) Λ₀ .tc) α} (n r N : ℕ) (h : n ∈ DC) (hr : rndD n r)
    (hs : s1 = dsem n) (hN : dst.view.dmaCredit = N) (ha : amtD n r = N)
    {q : PosShare TreeShare} {P : Idx (src.view.loc (c.tc : Thread nD τ)) → Elt F (src.view.loc (c.tc : Thread nD τ)).ty.elt → Prop}
    (hp : ∀ fs fd, (∀ i ∈ src.view.set, P i (fs i)) →
      iprop((dst.view.loc (c.tc : Thread nD τ) ↦[dst.view.set]{fullShare} dst.view.write (Elt F) fd (src.view.read (Elt F) fs) Finset.univ)
        ∗ (src.view.loc (c.tc : Thread nD τ) ↦[src.view.set]{q} fs)) ⊢ payD I c n r) :
    iprop(Inv I K ∗ PG (src.view.loc (c.tc : Thread nD τ)) src.view.set q P ∗ PG (dst.view.loc (c.tc : Thread nD τ)) dst.view.set fullShare (fun _ _ => True)
        ∗ dutyTok ER (cell c n) r 0 ∗ reached ER (cell c n) r)
      ⊢ iprop((cred (tallyAt (cell c n) () N) -∗ wpK c (k ⟨⟩) Q) -∗ wpK c (.op (.enqueueDma src (.here dst) (.dma s1) hsrc hdst hsem) k) Q) := by
  have l : n < 105 := DC_lt h
  subst hs
  iintro ⟨#HI, Hs, Hd, Ht, Hr⟩ Hk
  ihave Hs := PG_open $$ Hs
  icases Hs with ⟨%fs, Hs, %hfs⟩
  ihave Hd := PG_open $$ Hd
  icases Hd with ⟨%fd, Hd, -⟩
  iapply (Rounds.wp_copy_pointsTo 𝒱₀ ER (Rd I) (c : Thread nD τ) none (src := src) (dst := dst) (sem := .dma (dsem n)) (q := q)
      (fs := fs) (fd := fd) (r := r) (d := (0 : Fin 3)) (κ := K (cell c n))
      (by rw [duties_dma I c l hr]; exact Finset.mem_singleton_self _) () N hN ((amount_dma I c l 0).trans ha)
      (by rw [payload_dma I c l]; exact hp fs fd hfs)) $$ [Hs Hd Ht Hr]
  · isplitr; · iapply (Inv_cell I K c h); iexact HI
    isplitl [Hs]; · iexact Hs
    isplitl [Hd]; · iexact Hd
    isplitl [Ht]; · iexact Ht
    iexact Hr
  iexact Hk

/-- Waiting for a copy: what it takes, and the rows it gives. -/
theorem wait_core {Q : α → sProp 𝕄} {s' : Shape} {e' : EltTy} {src : Memref sig .tc sp' s' e'} {κ' : Kind} {dst : Memref sig κ' sp s e} {s1 : DmaSem sig} {hsrc : src.view.WordExact} {hdst : dst.view.WordExact}
    {k : PUnit → Prog (TpuEff nD τ sig (Elt F) Λ₀ .tc) α} (n r N : ℕ) (h : n ∈ DC) (hr : rndD n r)
    (hs : s1 = dsem n) (hN : dst.view.dmaCredit = N) (ha : amtD n r = N) (O : CellTallies nD τ sig Unit) (W : Waits sig Unit) :
    iprop(Inv I K ∗ cred (tallyAt (cell c n) () N) ∗ owes (c : Thread nD τ) O W ∗ MayWait (c : Thread nD τ) (.dma (dsem n)) () O ∗ atPos ER (cell c n) r ∅ 0)
      ⊢ iprop((((∃ W, owes (c : Thread nD τ) O W) ∗ atPos ER (cell c n) (r + 1) ∅ 0 ∗ reached ER (cell c n) (r + 1) ∗ payD I c n r) -∗ wpK c (k ⟨⟩) Q)
          -∗ wpK c (.op (.waitDma2 s1 src dst hsrc hdst) k) Q) := by
  have l : n < 105 := DC_lt h
  subst hs hN
  iintro ⟨#HI, Hc, HO, HM, Hat⟩ Hk
  iapply (Rounds.wp_wait_rest_token 𝒱₀ ER (Rd I) (c : Thread nD τ) none (κ := K (cell c n))
      (wpE_waitDma2_eq (src := src) (dst := dst) 𝒱₀ (c : Thread nD τ) none Set.univ) (Set.mem_univ _) () (O := O) (W := W) (R := r) (m := 0) (T := ∅)
      ((Nat.zero_add _).trans ((expect_dma I c l hr).trans ha).symm)) $$ [Hc HO HM Hat]
  · isplitr; · iapply (Inv_cell I K c h); iexact HI
    isplitl [Hc]; · iexact Hc
    isplitl [HO]; · iexact HO
    isplitl [HM]; · iexact HM
    iexact Hat
  iintro ⟨HO, Hat, Hr, Hpay⟩
  ihave Hp := (Entails.of_eq (rest_dma I c l hr)) $$ Hpay
  iapply Hk
  isplitl [HO]; · iexists _; iexact HO
  isplitl [Hat]; · iexact Hat
  isplitl [Hr]; · iexact Hr
  iexact Hp

/-- A load of a rectangle: what is known of the elements is known of the value. -/
theorem load_core {Q : α → sProp 𝕄} {cs : CoreSpace} {m : Memref sig .tc cs s e} {r : Rect s} {hl : m.view.LoadsAt r} {k : (r.shape.Idx → Elt F e) → Prog (TpuEff nD τ sig (Elt F) Λ₀ .tc) α}
    {q : PosShare TreeShare} {S : Finset (Idx (m.view.loc (c.tc : Thread nD τ)))}
    {P : Idx (m.view.loc (c.tc : Thread nD τ)) → Elt F (m.view.loc (c.tc : Thread nD τ)).ty.elt → Prop} (hS : (m.access r).set ⊆ S) (V : (r.shape.Idx → Elt F e) → Prop)
    (hV : ∀ f, (∀ i ∈ S, P i (f i)) → V ((m.access r).read (Elt F) f)) :
    PG (m.view.loc (c.tc : Thread nD τ)) S q P ⊢ iprop((∀ v, ⌜V v⌝ -∗ PG (m.view.loc (c.tc : Thread nD τ)) S q P -∗ wpK c (k v) Q) -∗ wpK c (.op (.load m r hl) k) Q) := by
  iintro H Hk
  ihave H := PG_open $$ H
  icases H with ⟨%f, H, %hf⟩
  iapply (wp_load_rect 𝒱₀ (c : Thread nD τ) none Set.univ (m := m) (r := r) (S := S) (q := q) (f := f) hS) $$ H
  iintro H
  iapply Hk
  · ipureintro; exact hV f hf
  iapply (PG_intro f hf) $$ H

/-- A store of a whole rectangle. -/
theorem store_core {Q : α → sProp 𝕄} {cs : CoreSpace} {m : Memref sig .tc cs s e} {r : Rect s} {w : r.shape.Idx → Elt F e} {hx : (m.access r).Stores Finset.univ}
    {hm : (Finset.univ : Finset r.shape.Idx) = Finset.univ ∨ ∀ a, r.stride a = 1} {k : PUnit → Prog (TpuEff nD τ sig (Elt F) Λ₀ .tc) α}
    {S : Finset (Idx (m.view.loc (c.tc : Thread nD τ)))} {P : Idx (m.view.loc (c.tc : Thread nD τ)) → Elt F (m.view.loc (c.tc : Thread nD τ)).ty.elt → Prop}
    (hS : S = (m.access r).set) (hV : ∀ f, ∀ i ∈ S, P i ((m.access r).write (Elt F) f w Finset.univ i)) :
    PG (m.view.loc (c.tc : Thread nD τ)) S fullShare (fun _ _ => True) ⊢ iprop((PG (m.view.loc (c.tc : Thread nD τ)) S fullShare P -∗ wpK c (k ⟨⟩) Q) -∗ wpK c (.op (.store m r w Finset.univ hx hm) k) Q) := by
  iintro H Hk
  ihave H := PG_open $$ H
  icases H with ⟨%f, H, -⟩
  iapply (wp_store 𝒱₀ (c : Thread nD τ) none Set.univ (m := m) (r := r) (S := S) (f := f) (by subst hS; exact subset_rfl)) $$ H
  iintro H
  iapply Hk
  iapply (PG_intro _ (hV f)) $$ H

end

end Cert.K
-- ==== Proof.Steps.lean ====
/-
  The effects of the exchange one by one: each moves one chunk from its stage to the next.
-/
module

public import proofs.«01_k».proof.Proof.Core

@[expose] public section

set_option maxRecDepth 16384

noncomputable section

namespace Cert.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open PCS URA

variable {F : FTy → Type} [FloatOps F]

local notation "𝕄" => MT nD τ sig Unit (Elt F) ℕ UU ℕ

variable (I : Ins F) (K : GSem nD τ sig → ℕ) (c : Dev nD)

/-! ## The slices the copies name -/

abbrev vX (o : Fin 3 → ℕ) (n : ℕ) (inb : ∀ a, o a + ![1, n, 2048] a ≤ S9x128x2048.size a) (sq : (⟨3, ![1, n, 2048]⟩ : Shape).Squeezes ⟨2, ![n, 2048]⟩) : Memref sig .tc .vmem ⟨2, ![n, 2048]⟩ .bf16 :=
  ((Memref.whole cc0_scratch1).slice (Rect.unit (s := S9x128x2048) o ![1, n, 2048] inb) (fun _ => rfl)).squeeze ⟨2, ![n, 2048]⟩ sq
abbrev vS (o : Fin 3 → ℕ) (n : ℕ) (inb : ∀ a, o a + ![1, n, 2048] a ≤ S9x128x2048.size a) (sq : (⟨3, ![1, n, 2048]⟩ : Shape).Squeezes ⟨2, ![n, 2048]⟩) : Memref sig .tc .vmem ⟨2, ![n, 2048]⟩ .bf16 :=
  ((Memref.whole cc0_scratch4).slice (Rect.unit (s := S9x128x2048) o ![1, n, 2048] inb) (fun _ => rfl)).squeeze ⟨2, ![n, 2048]⟩ sq
abbrev vB (o : Fin 3 → ℕ) (n : ℕ) (inb : ∀ a, o a + ![1, n, 2048] a ≤ S2x128x2048.size a) (sq : (⟨3, ![1, n, 2048]⟩ : Shape).Squeezes ⟨2, ![n, 2048]⟩) : Memref sig .tc .vmem ⟨2, ![n, 2048]⟩ .bf16 :=
  ((Memref.whole cc0_scratch3).slice (Rect.unit (s := S2x128x2048) o ![1, n, 2048] inb) (fun _ => rfl)).squeeze ⟨2, ![n, 2048]⟩ sq
abbrev vC (o : Fin 2 → ℕ) (n : ℕ) (inb : ∀ a, o a + ![n, 2048] a ≤ S1024x2048.size a) : Memref sig .tc .hbm ⟨2, ![n, 2048]⟩ .bf16 :=
  (Memref.whole main_v17_1).slice (Rect.unit (s := S1024x2048) o ![n, 2048] inb) (fun _ => rfl)
abbrev vO (o : Fin 2 → ℕ) (n : ℕ) (inb : ∀ a, o a + ![n, 2048] a ≤ S4096x2048.size a) : Memref sig .tc .hbm ⟨2, ![n, 2048]⟩ .bf16 :=
  (Memref.whole main_v17_0).slice (Rect.unit (s := S4096x2048) o ![n, 2048] inb) (fun _ => rfl)

section Sets

variable {o : Fin 3 → ℕ} {o' : Fin 2 → ℕ} {n d a : ℕ}

/-- The places a view of the chunks to be sent covers. -/
theorem set_vX {inb sq} (ho : o = ![d, a, 0]) : (vX o n inb sq).view.set = slab 9 128 d a n :=
  (View.set_reshape _ _).trans ((View.set_slice_whole _ _).trans (rset_slab (inb := inb) ho))
/-- The places a view of the sums covers. -/
theorem set_vS {inb sq} (ho : o = ![d, a, 0]) : (vS o n inb sq).view.set = slab 9 128 d a n :=
  (View.set_reshape _ _).trans ((View.set_slice_whole _ _).trans (rset_slab (inb := inb) ho))
/-- The places a view of the received rows covers. -/
theorem set_vB {inb sq} (ho : o = ![d, a, 0]) : (vB o n inb sq).view.set = slab 2 128 d a n :=
  (View.set_reshape _ _).trans ((View.set_slice_whole _ _).trans (rset_slab (inb := inb) ho))
/-- The places a view of the landing buffer covers. -/
theorem set_vC {inb} (ho : o' = ![a, 0]) : (vC o' n inb).view.set = rows 1024 a n :=
  (View.set_slice_whole _ _).trans (rset_rows (inb := inb) ho)
/-- The places a view of the result covers. -/
theorem set_vO {inb} (ho : o' = ![a, 0]) : (vO o' n inb).view.set = rows 4096 a n :=
  (View.set_slice_whole _ _).trans (rset_rows (inb := inb) ho)

end Sets

/-! ## What a copy carries over -/

section Carry

variable {o : Fin 3 → ℕ} {o' : Fin 2 → ℕ} {n d a : ℕ}

/-- Where a view of the chunks to be sent has each of its places. -/
theorem at_vX {inb sq} (ho : o = ![d, a, 0]) (x) : (((vX o n inb sq).view.emb x) 0).val = d ∧ (((vX o n inb sq).view.emb x) 1).val = a + (x 0).val
    ∧ (((vX o n inb sq).view.emb x) 2).val = (x 1).val := emb_slab (K := 9) (R := 128) (inb := inb) ho sq.numel_eq x
/-- Where a view of the sums has each of its places. -/
theorem at_vS {inb sq} (ho : o = ![d, a, 0]) (x) : (((vS o n inb sq).view.emb x) 0).val = d ∧ (((vS o n inb sq).view.emb x) 1).val = a + (x 0).val
    ∧ (((vS o n inb sq).view.emb x) 2).val = (x 1).val := emb_slab (K := 9) (R := 128) (inb := inb) ho sq.numel_eq x
/-- Where a view of the received rows has each of its places. -/
theorem at_vB {inb sq} (ho : o = ![d, a, 0]) (x) : (((vB o n inb sq).view.emb x) 0).val = d ∧ (((vB o n inb sq).view.emb x) 1).val = a + (x 0).val
    ∧ (((vB o n inb sq).view.emb x) 2).val = (x 1).val := emb_slab (K := 2) (R := 128) (inb := inb) ho sq.numel_eq x
/-- Where a view of the landing buffer has each of its places. -/
theorem at_vC {inb} (ho : o' = ![a, 0]) (x) : (((vC o' n inb).view.emb x) 0).val = a + (x 0).val ∧ (((vC o' n inb).view.emb x) 1).val = (x 1).val :=
  emb_rows (N := 1024) (inb := inb) ho x
/-- Where a view of the result has each of its places. -/
theorem at_vO {inb} (ho : o' = ![a, 0]) (x) : (((vO o' n inb).view.emb x) 0).val = a + (x 0).val ∧ (((vO o' n inb).view.emb x) 1).val = (x 1).val :=
  emb_rows (N := 4096) (inb := inb) ho x

variable {c}

/-- A value good at one place is good at the same place written otherwise. -/
theorem GoodX_at {r r' l l' : ℕ} {v : F .bf16} (h : GoodX I c r l v) (e : r = r') (e' : l = l') : GoodX I c r' l' v := by subst e e'; exact h
/-- A sum good at one place is good at the same place written otherwise. -/
theorem GoodS_at {r r' l l' : ℕ} {v : F .bf16} (h : GoodS I c r l v) (e : r = r') (e' : l = l') : GoodS I c r' l' v := by subst e e'; exact h

/-- Across x. -/
theorem cp_XC {inb sq inb'} (ho : o = ![d, 0, 0]) (ho' : o' = ![ofs d, 0]) (fs : Buf (Elt F) (lX c)) (fd : Buf (Elt F) (lCx (xp c)))
    (h : ∀ i ∈ (vX o n inb sq).view.set, pX I c d i (fs i)) :
    ∀ j ∈ (vC o' n inb').view.set, pC I (xp c) j ((vC o' n inb').view.write (Elt F) fd ((vX o n inb sq).view.read (Elt F) fs) Finset.univ j) :=
  copied (vX o n inb sq).view (vC o' n inb').view fs fd (P := pX I c d) (P' := pC I (xp c)) (fun x v hv => by
    obtain ⟨-, h1, h2⟩ := at_vX (inb := inb) (sq := sq) ho x
    obtain ⟨h3, h4⟩ := at_vC (inb := inb') ho' x
    have hv : GoodX I c (1024 * qu c + ofs d + (((vX o n inb sq).view.emb x) 1).val) (((vX o n inb sq).view.emb x) 2).val v := hv
    show GoodX I (xp (xp c)) (1024 * qu (xp c) + (((vC o' n inb').view.emb x) 0).val) (((vC o' n inb').view.emb x) 1).val v
    rw [h1, h2] at hv
    rw [h3, h4, xp_xp, qu_xp]
    exact GoodX_at I hv (by rw [Nat.zero_add, Nat.add_assoc]) rfl) h

/-- To a slot. -/
theorem cp_CB {s : ℕ} {inb sq inb'} (ho : o = ![s, 0, 0]) (ho' : o' = ![ofs d, 0]) (fs : Buf (Elt F) (lCx c)) (fd : Buf (Elt F) (lB c))
    (h : ∀ i ∈ (vC o' n inb').view.set, pC I c i (fs i)) :
    ∀ j ∈ (vB o n inb sq).view.set, pB I c d j ((vB o n inb sq).view.write (Elt F) fd ((vC o' n inb').view.read (Elt F) fs) Finset.univ j) :=
  copied (vC o' n inb').view (vB o n inb sq).view fs fd (P := pC I c) (P' := pB I c d) (fun x v hv => by
    obtain ⟨-, h1, h2⟩ := at_vB (inb := inb) (sq := sq) ho x
    obtain ⟨h3, h4⟩ := at_vC (inb := inb') ho' x
    have hv : GoodX I (xp c) (1024 * qu c + (((vC o' n inb').view.emb x) 0).val) (((vC o' n inb').view.emb x) 1).val v := hv
    show GoodX I (xp c) (1024 * qu c + ofs d + (((vB o n inb sq).view.emb x) 1).val) (((vB o n inb sq).view.emb x) 2).val v
    rw [h3, h4] at hv
    rw [h1, h2]
    exact GoodX_at I hv (by rw [Nat.zero_add, Nat.add_assoc]) rfl) h

/-- To the result of a device of the square. -/
theorem cp_SO {c' : Dev nD} {inb sq inb'} (ho : o = ![d, 0, 0]) (ho' : o' = ![1024 * qu c + ofs d, 0]) (hn : ofs d + n ≤ 1024) (hc : org c' (qu c) = c)
    (fs : Buf (Elt F) (lS c)) (fd : Buf (Elt F) (lOut c')) (h : ∀ i ∈ (vS o n inb sq).view.set, pS I c d i (fs i)) :
    ∀ j ∈ (vO o' n inb').view.set, pO I c' j ((vO o' n inb').view.write (Elt F) fd ((vS o n inb sq).view.read (Elt F) fs) Finset.univ j) :=
  copied (vS o n inb sq).view (vO o' n inb').view fs fd (P := pS I c d) (P' := pO I c') (fun x v hv => by
    obtain ⟨-, h1, h2⟩ := at_vS (inb := inb) (sq := sq) ho x
    obtain ⟨h3, h4⟩ := at_vO (inb := inb') ho' x
    have hx : (x 0).val < n := (x 0).isLt
    have hv : GoodS I c (1024 * qu c + ofs d + (((vS o n inb sq).view.emb x) 1).val) (((vS o n inb sq).view.emb x) 2).val v := hv
    show GoodS I (org c' ((((vO o' n inb').view.emb x) 0).val / 1024)) (((vO o' n inb').view.emb x) 0).val (((vO o' n inb').view.emb x) 1).val v
    rw [h1, h2] at hv
    rw [h3, h4, show (1024 * qu c + ofs d + (x 0).val) / 1024 = qu c by omega, hc]
    exact GoodS_at I hv (by rw [Nat.zero_add]) rfl) h

/-- What is right in a device's result is right in that of its neighbour across `y`. -/
theorem pO_yp (c : Dev nD) (i : S4096x2048.Idx) (v : F .bf16) (h : pO I c i v) : pO I (yp c) i v := by
  have h1 : (i 0).val < 4096 := (i 0).isLt
  have e := org_at_yp c ⟨(i 0).val / 1024, by omega⟩
  unfold pO; rw [e]; exact h
/-- What is right in a device's result is right in that of its neighbour across `z`. -/
theorem pO_zp (c : Dev nD) (i : S4096x2048.Idx) (v : F .bf16) (h : pO I c i v) : pO I (zp c) i v := by
  have h1 : (i 0).val < 4096 := (i 0).isLt
  have e := org_at_zp c ⟨(i 0).val / 1024, by omega⟩
  unfold pO; rw [e]; exact h

/-- Forwarded. -/
theorem cp_OO {c' : Dev nD} {inb inb'} (hc : ∀ i v, pO I c i v → pO I c' i v)
    (fs : Buf (Elt F) (lOut c)) (fd : Buf (Elt F) (lOut c')) (h : ∀ i ∈ (vO o' n inb).view.set, pO I c i (fs i)) :
    ∀ j ∈ (vO o' n inb').view.set, pO I c' j ((vO o' n inb').view.write (Elt F) fd ((vO o' n inb).view.read (Elt F) fs) Finset.univ j) :=
  copied (vO o' n inb).view (vO o' n inb').view fs fd (P := pO I c) (P' := pO I c') (fun x v hv => hc _ v hv) h

/-- A chunk ends within the quarter. -/
theorem ofs_sz {d : ℕ} (hd : d < 9) : ofs d + sz d ≤ 1024 := by revert d; decide
/-- A chunk is two halves. -/
theorem sz_half (d : ℕ) : sz d = sz d / 2 + sz d / 2 := by unfold sz; split <;> rfl
/-- A chunk has at most 128 rows. -/
theorem sz_le (d : ℕ) : sz d ≤ 128 := by unfold sz; split <;> decide

end Carry

/-! ## The slices as rows -/

section Eqs

variable {o : Fin 3 → ℕ} {o' : Fin 2 → ℕ} {n d a : ℕ} {q : PosShare TreeShare} {c}

/-- A view of the chunks to be sent, held, is those rows of its slab. -/
theorem eX {inb sq} {P : S9x128x2048.Idx → F .bf16 → Prop} (ho : o = ![d, a, 0]) : (PG (lX c) (vX o n inb sq).view.set q P : sProp 𝕄) = PX c d a n q P :=
  congrArg (fun S => PG (lX c) S q P) (set_vX ho)
/-- A view of the sums, held, is those rows of its slab. -/
theorem eS {inb sq} {P : S9x128x2048.Idx → F .bf16 → Prop} (ho : o = ![d, a, 0]) : (PG (lS c) (vS o n inb sq).view.set q P : sProp 𝕄) = PS c d a n q P :=
  congrArg (fun S => PG (lS c) S q P) (set_vS ho)
/-- A view of the received rows, held, is those rows of its slot. -/
theorem eB {inb sq} {P : S2x128x2048.Idx → F .bf16 → Prop} (ho : o = ![d, a, 0]) : (PG (lB c) (vB o n inb sq).view.set fullShare P : sProp 𝕄) = PB c d a n P :=
  congrArg (fun S => PG (lB c) S fullShare P) (set_vB ho)
/-- A view of the landing buffer, held, is those rows. -/
theorem eC {inb} {P : S1024x2048.Idx → F .bf16 → Prop} (ho : o' = ![a, 0]) : (PG (lCx c) (vC o' n inb).view.set fullShare P : sProp 𝕄) = PC c a n P :=
  congrArg (fun S => PG (lCx c) S fullShare P) (set_vC ho)
/-- A view of the result, held, is those rows. -/
theorem eO {inb} {P : S4096x2048.Idx → F .bf16 → Prop} (ho : o' = ![a, 0]) : (PG (lOut c) (vO o' n inb).view.set fullShare P : sProp 𝕄) = PO c a n P :=
  congrArg (fun S => PG (lOut c) S fullShare P) (set_vO ho)

end Eqs

section Steps

variable {α : Type} {ks : List ℕ} {r b n : ℕ} {o : Fin 3 → ℕ} {o' : Fin 2 → ℕ} {s1 s2 : DmaSem sig} {k : PUnit → Prog (TpuEff nD τ sig (Elt F) Λ₀ .tc) α}

/-- The rest of a chunk does not see a stage. -/
abbrev Same (I : Ins F) (c : Dev nD) (d j j' : ℕ) (t : Fin 6) : Prop := ∀ i, i ≠ t → comp I c d j i = comp I c d j' i

/-- An addressed copy. -/
theorem st_send {Q : α → sProp 𝕄} {R Z : sProp 𝕄} {d j : ℕ} (t : Fin 6) (j' : ℕ) {c' : Dev nD} {sp sp' : Space} {s : Shape} {e : EltTy}
    {src : Memref sig .tc sp s e} {dst : Memref sig .tc sp' s e} {hsc : dst.view.ref.isScScratch = false}
    {hsrc : src.view.WordExact} {hdst : dst.view.WordExact} {hsem : DmaTarget.Typed sp (.dma s2) (.remote (c'.tc : Thread nD τ) dst (.dma s1) hsc)}
    (k1 k2 N : ℕ) (hk1 : k1 < 10) (hk2 : k2 < 10) (hd : d < 9) (hl : ks.length = 9) (hk : ks.getD d 0 = j) (ht : Same I c d j j' t)
    (hT : owedC c d j = owedC c d j' + tallyAt (cell c' (ix k2 d)) () N) (hc : iprop(rch (xp c) ∗ rch (yp c) ∗ rch (zp c)) ⊢ (rch c' : sProp 𝕄))
    (hs1 : s1 = dsem (ix k1 d)) (hs2 : s2 = dsem (ix k2 d)) (hN : dst.view.dmaCredit = N) (ha1 : amtD (ix k1 d) 0 = N) (ha2 : amtD (ix k2 d) 0 = N)
    {q : PosShare TreeShare} {P : Idx (src.view.loc (c.tc : Thread nD τ)) → Elt F (src.view.loc (c.tc : Thread nD τ)).ty.elt → Prop}
    (hp1 : PG (src.view.loc (c.tc : Thread nD τ)) src.view.set q P ⊢ payK I c d k1)
    (hp2 : ∀ fs fd, (∀ i ∈ src.view.set, P i (fs i)) →
      (dst.view.loc (c'.tc : Thread nD τ) ↦[dst.view.set]{fullShare} dst.view.write (Elt F) fd (src.view.read (Elt F) fs) Finset.univ) ⊢ payK I c' d k2)
    (hin : comp I c d j t ⊢ iprop(PG (src.view.loc (c.tc : Thread nD τ)) src.view.set q P ∗ PG (dst.view.loc (c'.tc : Thread nD τ)) dst.view.set fullShare (fun _ _ => True)
      ∗ tk c k1 d ∗ tk c' k2 d ∗ Z))
    (hout : iprop(cred (tallyAt (cell c (ix k1 d)) () N) ∗ Z) ⊢ comp I c d j' t)
    (h : St I K c (ks.set d j') r b R ⊢ wpK c (k ⟨⟩) Q) :
    St I K c ks r b R ⊢ wpK c (.op (.enqueueDma src (.remote (c'.tc : Thread nD τ) dst (.dma s1) hsc) (.dma s2) hsrc hdst hsem) k) Q := by
  refine move I K c t j' hd hl hk ht hT (fun O W _ => ?_) h
  unfold Ctx
  iintro ⟨⟨#Hl, #HI, #Hr, #Hrs⟩, HC, HO, HB⟩ Hk
  ihave HC := hin $$ HC
  icases HC with ⟨Hs, Hd, Ht1, Ht2, HZ⟩
  ihave Hr' := hc $$ Hrs
  iapply (send_core I K c c' (ix k1 d) (ix k2 d) N (ix_DC hk1 hd) (ix_DC hk2 hd) (rnd_ix hk1 hd) (rnd_ix hk2 hd) hs1 hs2 hN ha1 ha2 (q := q) (P := P)
    (by rw [pay_ix I c hk1 hd]; exact hp1) (by rw [pay_ix I c' hk2 hd]; exact hp2) O W) $$ [Hs Hd HO Ht1 Ht2 Hr']
  · isplitr; · iexact HI
    isplitl [Hs]; · iexact Hs
    isplitl [Hd]; · iexact Hd
    isplitl [HO]; · iexact HO
    isplitl [Ht1]; · iexact Ht1
    isplitr; · iapply (rch_cell c (ix_DC hk1 hd)); iexact Hr
    isplitl [Ht2]; · iexact Ht2
    iapply (rch_cell c' (ix_DC hk2 hd)) $$ Hr'
  iintro ⟨Hcr, HO⟩
  iapply Hk
  isplitl [Hcr HZ]
  · iapply hout
    isplitl [Hcr] <;> iassumption
  isplitl [HO]; · iexact HO
  iexact HB

/-- A wait for one of the chunk's cells. -/
theorem st_wait {Q : α → sProp 𝕄} {R Z : sProp 𝕄} {d j : ℕ} (t : Fin 6) (j' lev : ℕ) {sp sp' : Space} {s s' : Shape} {e e' : EltTy}
    {src : Memref sig .tc sp' s' e'} {κ' : Kind} {dst : Memref sig κ' sp s e} {hsrc : src.view.WordExact} {hdst : dst.view.WordExact}
    (n N : ℕ) (hn : n ∈ DC) (hr : rndD n 0) (hd : d < 9) (hl : ks.length = 9) (hk : ks.getD d 0 = j) (ht : Same I c d j j' t)
    (hT : owedC c d j = owedC c d j' + 0) (hlv : lv (cell c n) () ≤ lev) (hab : ∀ d < 9, above lev d (ks.getD d 0))
    (hs : s1 = dsem n) (hN : dst.view.dmaCredit = N) (ha : amtD n 0 = N)
    (hin : comp I c d j t ⊢ iprop(cred (tallyAt (cell c n) () N) ∗ atPos ER (cell c n) 0 ∅ 0 ∗ Z))
    (hout : iprop(atPos ER (cell c n) 1 ∅ 0 ∗ payD I c n 0 ∗ Z) ⊢ comp I c d j' t)
    (h : St I K c (ks.set d j') r b R ⊢ wpK c (k ⟨⟩) Q) :
    St I K c ks r b R ⊢ wpK c (.op (.waitDma2 s1 src dst hsrc hdst) k) Q := by
  refine move I K c t j' hd hl hk ht hT (fun O W hO => ?_) h
  rw [← hO]
  have hO' : owed c ks = O := hO.trans (add_zero O)
  unfold Ctx
  iintro ⟨⟨#Hl, #HI, #Hr, #Hrs⟩, HC, HO, HB⟩ Hk
  ihave HC := hin $$ HC
  icases HC with ⟨Hc, Hat, HZ⟩
  iapply (wait_core I K c n 0 N hn hr hs hN ha (owed c ks) W) $$ [Hc HO Hat]
  · isplitr; · iexact HI
    isplitl [Hc]; · iexact Hc
    isplitl [HO]; · iexact HO
    isplitr; · iapply (mayWait c (.dma (dsem n)) ks lev hab hlv); iexact Hl
    iexact Hat
  iintro ⟨HO, Hat, -, Hp⟩
  iapply Hk
  isplitl [Hat Hp HZ]
  · iapply hout
    isplitl [Hat]; · iexact Hat
    isplitl [Hp] <;> iassumption
  isplitl [HO]
  · ihave HO := (Entails.of_eq (congrArg (fun O => (iprop(∃ W, owes (c : Thread nD τ) O W) : sProp 𝕄)) hO')) $$ HO
    iexact HO
  iexact HB

/-- A wait for the chunk's cell of the `k`-th array. -/
theorem st_waitK {Q : α → sProp 𝕄} {R Z : sProp 𝕄} {d j : ℕ} (t : Fin 6) (j' a m : ℕ) {sp sp' : Space} {s s' : Shape} {e e' : EltTy}
    {src : Memref sig .tc sp' s' e'} {κ' : Kind} {dst : Memref sig κ' sp s e} {hsrc : src.view.WordExact} {hdst : dst.view.WordExact}
    (ha : a < 10) (hm : (if a < 6 then NB (sz d) else NB (sz d / 2)) = NB m) (hd : d < 9) (hl : ks.length = 9) (hk : ks.getD d 0 = j) (ht : Same I c d j j' t)
    (hT : owedC c d j = owedC c d j' + 0) (hab : ∀ e < 9, above (levK a d) e (ks.getD e 0)) (hs : s1 = dsem (ix a d)) (hN : dst.view.dmaCredit = NB m)
    (hin : comp I c d j t ⊢ iprop(crd c a d m ∗ at0 c a d ∗ Z)) (hout : iprop(at1 c a d ∗ payK I c d a ∗ Z) ⊢ comp I c d j' t)
    (h : St I K c (ks.set d j') r b R ⊢ wpK c (k ⟨⟩) Q) :
    St I K c ks r b R ⊢ wpK c (.op (.waitDma2 s1 src dst hsrc hdst) k) Q :=
  st_wait I K c t j' (levK a d) (ix a d) (NB m) (ix_DC ha hd) (rnd_ix ha hd) hd hl hk ht hT (le_of_eq (lv_ix c ha hd)) hab hs hN ((amt_ix ha hd).trans hm)
    hin (by rw [pay_ix I c ha hd]; exact hout) h

/-- Chunk `d` across x. -/
theorem st_sendX {Q : α → sProp 𝕄} {R : sProp 𝕄} (d : ℕ) {f : Dev nD → ℕ} {hf : f c < nD} {inb sq inb' hsc hsrc hdst hsem}
    (h : St I K c (ks.set d 2) r b R ⊢ wpK c (k ⟨⟩) Q)
    (hd : d < 9 := by decide) (hl : ks.length = 9 := by rfl) (hk : ks.getD d 0 = 1 := by rfl) (hn : n = sz d := by rfl)
    (ho : o = ![d, 0, 0] := by rfl) (ho' : o' = ![ofs d, 0] := by rfl) (he : ∀ c, f c = (xp c).val := by decide)
    (hs1 : s1 = dsem (ix 0 d) := by rfl) (hs2 : s2 = dsem (ix 1 d) := by rfl) :
    St I K c ks r b R ⊢ wpK c (.op (.enqueueDma (vX o n inb sq) (.remote (Dev.tc (⟨f c, hf⟩ : Dev nD)) (vC o' n inb') (.dma s1) hsc) (.dma s2) hsrc hdst hsem) k) Q := by
  generalize hdev : (⟨f c, hf⟩ : Dev nD) = c' at hsem
  obtain rfl : c' = xp c := hdev.symm.trans (Fin.ext (he c))
  subst hn
  refine st_send I K c 0 2 0 1 (NB (sz d)) (by decide) (by decide) hd hl hk (fun i hi => by fin_cases i <;> first | rfl | exact absurd rfl hi) ?_
    ?_ hs1 hs2 (cr_cx (sz d)) ((amt_ix (by decide) hd).trans (if_pos (by decide))) ((amt_ix (by decide) hd).trans (if_pos (by decide)))
    (q := shL) (P := pX I c d) (Entails.of_eq (eX ho)) (fun fs fd hfs => (PG_intro _ (cp_XC I ho ho' fs fd hfs)).trans (Entails.of_eq (eC ho')))
    (Z := iprop(PX c d (sz d) (128 - sz d) fullShare (fun _ _ => True) ∗ at0 c 0 d ∗ PX c d 0 (sz d) shR (pX I c d))) ?_ ?_ h
  · unfold owedC; simp only [Nat.reduceLT, if_true, if_false, zero_add]; exact add_comm _ _
  · iintro ⟨H, -⟩; iexact H
  · show iprop((_ ∗ at0 c 0 d ∗ _ ∗ PX c d 0 (sz d) shL (pX I c d)) ∗ (tk c 0 d ∗ tk (xp c) 1 d ∗ PC (xp c) (ofs d) (sz d) (fun _ _ => True))) ⊢ _
    iintro ⟨⟨H1, H2, H3, H4⟩, ⟨H5, H6, H7⟩⟩
    ihave H4 := (Entails.of_eq (eX ho).symm) $$ H4
    ihave H7 := (Entails.of_eq (eC ho').symm) $$ H7
    iframe
  · show _ ⊢ iprop((_ ∗ at0 c 0 d ∗ _ ∗ crd c 0 d (sz d)) ∗ BI.emp)
    iintro ⟨H0, H1, H2, H3⟩
    iframe
    iempintro

/-- The sums of chunk `d` across y. -/
theorem st_sendY {Q : α → sProp 𝕄} {R : sProp 𝕄} (d : ℕ) {f : Dev nD → ℕ} {hf : f c < nD} {inb sq inb' hsc hsrc hdst hsem}
    (h : St I K c (ks.set d 7) r b R ⊢ wpK c (k ⟨⟩) Q)
    (ho' : o' = ![1024 * qu c + ofs d, 0])
    (hd : d < 9 := by decide) (hl : ks.length = 9 := by rfl) (hk : ks.getD d 0 = 6 := by rfl) (hn : n = sz d := by rfl)
    (ho : o = ![d, 0, 0] := by rfl) (he : ∀ c, f c = (yp c).val := by decide)
    (hs1 : s1 = dsem (ix 2 d) := by rfl) (hs2 : s2 = dsem (ix 3 d) := by rfl) :
    St I K c ks r b R ⊢ wpK c (.op (.enqueueDma (vS o n inb sq) (.remote (Dev.tc (⟨f c, hf⟩ : Dev nD)) (vO o' n inb') (.dma s1) hsc) (.dma s2) hsrc hdst hsem) k) Q := by
  generalize hdev : (⟨f c, hf⟩ : Dev nD) = c' at hsem
  obtain rfl : c' = yp c := hdev.symm.trans (Fin.ext (he c))
  subst hn
  have hp : PO (yp c) (1024 * qu c + ofs d) (sz d) (pO I (yp c)) = payK I (yp c) d 3 := by
    show _ = PO (yp c) (1024 * qu (yp (yp c)) + ofs d) (sz d) (pO I (yp c)); rw [yp_yp]
  refine st_send I K c 2 7 2 3 (NB (sz d)) (by decide) (by decide) hd hl hk (fun i hi => by fin_cases i <;> first | rfl | exact absurd rfl hi) ?_
    ?_ hs1 hs2 (cr_out (sz d)) ((amt_ix (by decide) hd).trans (if_pos (by decide))) ((amt_ix (by decide) hd).trans (if_pos (by decide)))
    (q := shY) (P := pS I c d) (Entails.of_eq (eS ho))
    (fun fs fd hfs => (PG_intro _ (cp_SO I ho ho' (ofs_sz hd) ((org_at_yp c ⟨qu c, qu_lt c⟩).trans (org_own c)) fs fd hfs)).trans (Entails.of_eq ((eO ho').trans hp)))
    (Z := iprop(cR I c d 6 ∗ cS c d 6 ∗ at0 c 2 d ∗ cZ I c d 6 ∗ cZ' c d 6 ∗ cL I c d 6)) ?_ ?_ h
  · unfold owedC; simp only [Nat.reduceLT, if_true, if_false, zero_add]; exact add_comm _ _
  · iintro ⟨-, H, -⟩; iexact H
  · show iprop(_ ∗ (_ ∗ (at0 c 2 d ∗ PS c d 0 (sz d) shY (pS I c d)) ∗ (tk c 2 d ∗ tk (yp c) 3 d ∗ PO (yp c) (1024 * qu c + ofs d) (sz d) (fun _ _ => True)) ∗ _ ∗ _ ∗ _)) ⊢ _
    iintro ⟨H1, H2, ⟨H3, H4⟩, ⟨H5, H6, H7⟩, H8, H9, H10⟩
    ihave H4 := (Entails.of_eq (eS ho).symm) $$ H4
    ihave H7 := (Entails.of_eq (eO ho').symm) $$ H7
    iframe
  · show _ ⊢ iprop(cR I c d 6 ∗ (cS c d 6 ∗ (at0 c 2 d ∗ crd c 2 d (sz d)) ∗ BI.emp ∗ cZ I c d 6 ∗ cZ' c d 6 ∗ cL I c d 6))
    iintro ⟨H0, H1, H2, H3, H4, H5, H6⟩
    iframe
    iempintro

/-- And across z. -/
theorem st_sendZ {Q : α → sProp 𝕄} {R : sProp 𝕄} (d : ℕ) {f : Dev nD → ℕ} {hf : f c < nD} {inb sq inb' hsc hsrc hdst hsem}
    (h : St I K c (ks.set d 8) r b R ⊢ wpK c (k ⟨⟩) Q)
    (ho' : o' = ![1024 * qu c + ofs d, 0])
    (hd : d < 9 := by decide) (hl : ks.length = 9 := by rfl) (hk : ks.getD d 0 = 7 := by rfl) (hn : n = sz d := by rfl)
    (ho : o = ![d, 0, 0] := by rfl) (he : ∀ c, f c = (zp c).val := by decide)
    (hs1 : s1 = dsem (ix 4 d) := by rfl) (hs2 : s2 = dsem (ix 5 d) := by rfl) :
    St I K c ks r b R ⊢ wpK c (.op (.enqueueDma (vS o n inb sq) (.remote (Dev.tc (⟨f c, hf⟩ : Dev nD)) (vO o' n inb') (.dma s1) hsc) (.dma s2) hsrc hdst hsem) k) Q := by
  generalize hdev : (⟨f c, hf⟩ : Dev nD) = c' at hsem
  obtain rfl : c' = zp c := hdev.symm.trans (Fin.ext (he c))
  subst hn
  have hp : PO (zp c) (1024 * qu c + ofs d) (sz d) (pO I (zp c)) = payK I (zp c) d 5 := by
    show _ = PO (zp c) (1024 * qu (zp (zp c)) + ofs d) (sz d) (pO I (zp c)); rw [zp_zp]
  refine st_send I K c 2 8 4 5 (NB (sz d)) (by decide) (by decide) hd hl hk (fun i hi => by fin_cases i <;> first | rfl | exact absurd rfl hi) ?_
    ?_ hs1 hs2 (cr_out (sz d)) ((amt_ix (by decide) hd).trans (if_pos (by decide))) ((amt_ix (by decide) hd).trans (if_pos (by decide)))
    (q := shZ) (P := pS I c d) (Entails.of_eq (eS ho))
    (fun fs fd hfs => (PG_intro _ (cp_SO I ho ho' (ofs_sz hd) ((org_at_zp c ⟨qu c, qu_lt c⟩).trans (org_own c)) fs fd hfs)).trans (Entails.of_eq ((eO ho').trans hp)))
    (Z := iprop(cR I c d 7 ∗ cS c d 7 ∗ cY I c d 7 ∗ cY' c d 7 ∗ at0 c 4 d ∗ cL I c d 7)) ?_ ?_ h
  · unfold owedC; simp only [Nat.reduceLT, if_true, if_false, zero_add]; exact add_comm _ _
  · iintro ⟨-, -, H⟩; iexact H
  · show iprop(_ ∗ (_ ∗ _ ∗ _ ∗ (at0 c 4 d ∗ PS c d 0 (sz d) shZ (pS I c d)) ∗ (tk c 4 d ∗ tk (zp c) 5 d ∗ PO (zp c) (1024 * qu c + ofs d) (sz d) (fun _ _ => True)) ∗ _)) ⊢ _
    iintro ⟨H1, H2, H8, H9, ⟨H3, H4⟩, ⟨H5, H6, H7⟩, H10⟩
    ihave H4 := (Entails.of_eq (eS ho).symm) $$ H4
    ihave H7 := (Entails.of_eq (eO ho').symm) $$ H7
    iframe
  · show _ ⊢ iprop(cR I c d 7 ∗ (cS c d 7 ∗ cY I c d 7 ∗ cY' c d 7 ∗ (at0 c 4 d ∗ crd c 4 d (sz d)) ∗ BI.emp ∗ cL I c d 7))
    iintro ⟨H0, H1, H2, H3, H4, H5, H6⟩
    iframe
    iempintro

/-- The second half of what came across y, forwarded across z. -/
theorem st_fwdZ {Q : α → sProp 𝕄} {R : sProp 𝕄} (d : ℕ) {f : Dev nD → ℕ} {hf : f c < nD} {inb inb' hsc hsrc hdst hsem}
    (h : St I K c (ks.set d 11) r b R ⊢ wpK c (k ⟨⟩) Q)
    (ho' : o' = ![1024 * qu (yp c) + ofs d + sz d / 2, 0])
    (hd : d < 9 := by decide) (hl : ks.length = 9 := by rfl) (hk : ks.getD d 0 = 10 := by rfl) (hn : n = sz d / 2 := by rfl)
    (he : ∀ c, f c = (zp c).val := by decide)
    (hs1 : s1 = dsem (ix 6 d) := by rfl) (hs2 : s2 = dsem (ix 7 d) := by rfl) :
    St I K c ks r b R ⊢ wpK c (.op (.enqueueDma (vO o' n inb) (.remote (Dev.tc (⟨f c, hf⟩ : Dev nD)) (vO o' n inb') (.dma s1) hsc) (.dma s2) hsrc hdst hsem) k) Q := by
  generalize hdev : (⟨f c, hf⟩ : Dev nD) = c' at hsem
  obtain rfl : c' = zp c := hdev.symm.trans (Fin.ext (he c))
  subst hn
  have hp : PO (zp c) (1024 * qu (yp c) + ofs d + sz d / 2) (sz d / 2) (pO I (zp c)) = payK I (zp c) d 7 := by
    show _ = PO (zp c) (1024 * qu (yp (zp (zp c))) + ofs d + sz d / 2) (sz d / 2) (pO I (zp c)); rw [zp_zp]
  refine st_send I K c 3 11 6 7 (NB (sz d / 2)) (by decide) (by decide) hd hl hk (fun i hi => by fin_cases i <;> first | rfl | exact absurd rfl hi) ?_
    ?_ hs1 hs2 (cr_out (sz d / 2)) ((amt_ix (by decide) hd).trans (if_neg (by decide))) ((amt_ix (by decide) hd).trans (if_neg (by decide)))
    (q := fullShare) (P := pO I c) (Entails.of_eq (eO ho'))
    (fun fs fd hfs => (PG_intro _ (cp_OO I (pO_zp I c) fs fd hfs)).trans (Entails.of_eq ((eO ho').trans hp)))
    (Z := iprop(at1 c 3 d ∗ at0 c 6 d ∗ PO c (1024 * qu (yp c) + ofs d) (sz d / 2) (pO I c))) ?_ ?_ h
  · unfold owedC; simp only [Nat.reduceLT, if_true, if_false, zero_add]; exact add_comm _ _
  · iintro ⟨-, -, H⟩; iexact H
  · show iprop((at1 c 3 d ∗ at0 c 6 d ∗ (_ ∗ PO c (1024 * qu (yp c) + ofs d + sz d / 2) (sz d / 2) (pO I c))) ∗ (tk c 6 d ∗ tk (zp c) 7 d ∗ PO (zp c) (1024 * qu (yp c) + ofs d + sz d / 2) (sz d / 2) (fun _ _ => True))) ⊢ _
    iintro ⟨⟨H1, H2, H3, H4⟩, ⟨H5, H6, H7⟩⟩
    ihave H4 := (Entails.of_eq (eO ho').symm) $$ H4
    ihave H7 := (Entails.of_eq (eO ho').symm) $$ H7
    iframe
  · show _ ⊢ iprop((at1 c 3 d ∗ at0 c 6 d ∗ (_ ∗ crd c 6 d (sz d / 2))) ∗ BI.emp)
    iintro ⟨H0, H1, H2, H3⟩
    iframe
    iempintro

/-- The first half of what came across z, forwarded across y. -/
theorem st_fwdY {Q : α → sProp 𝕄} {R : sProp 𝕄} (d : ℕ) {f : Dev nD → ℕ} {hf : f c < nD} {inb inb' hsc hsrc hdst hsem}
    (h : St I K c (ks.set d 13) r b R ⊢ wpK c (k ⟨⟩) Q)
    (ho' : o' = ![1024 * qu (zp c) + ofs d, 0])
    (hd : d < 9 := by decide) (hl : ks.length = 9 := by rfl) (hk : ks.getD d 0 = 12 := by rfl) (hn : n = sz d / 2 := by rfl)
    (he : ∀ c, f c = (yp c).val := by decide)
    (hs1 : s1 = dsem (ix 8 d) := by rfl) (hs2 : s2 = dsem (ix 9 d) := by rfl) :
    St I K c ks r b R ⊢ wpK c (.op (.enqueueDma (vO o' n inb) (.remote (Dev.tc (⟨f c, hf⟩ : Dev nD)) (vO o' n inb') (.dma s1) hsc) (.dma s2) hsrc hdst hsem) k) Q := by
  generalize hdev : (⟨f c, hf⟩ : Dev nD) = c' at hsem
  obtain rfl : c' = yp c := hdev.symm.trans (Fin.ext (he c))
  subst hn
  have hp : PO (yp c) (1024 * qu (zp c) + ofs d) (sz d / 2) (pO I (yp c)) = payK I (yp c) d 9 := by
    show _ = PO (yp c) (1024 * qu (yp (zp (yp c))) + ofs d) (sz d / 2) (pO I (yp c)); rw [← yp_zp, yp_yp]
  refine st_send I K c 4 13 8 9 (NB (sz d / 2)) (by decide) (by decide) hd hl hk (fun i hi => by fin_cases i <;> first | rfl | exact absurd rfl hi) ?_
    ?_ hs1 hs2 (cr_out (sz d / 2)) ((amt_ix (by decide) hd).trans (if_neg (by decide))) ((amt_ix (by decide) hd).trans (if_neg (by decide)))
    (q := fullShare) (P := pO I c) (Entails.of_eq (eO ho'))
    (fun fs fd hfs => (PG_intro _ (cp_OO I (pO_yp I c) fs fd hfs)).trans (Entails.of_eq ((eO ho').trans hp)))
    (Z := iprop(at1 c 5 d ∗ at0 c 8 d ∗ PO c (1024 * qu (zp c) + ofs d + sz d / 2) (sz d / 2) (pO I c))) ?_ ?_ h
  · unfold owedC; simp only [Nat.reduceLT, if_true, if_false, zero_add]
  · iintro ⟨-, H, -⟩; iexact H
  · show iprop((at1 c 5 d ∗ at0 c 8 d ∗ (_ ∗ PO c (1024 * qu (zp c) + ofs d) (sz d / 2) (pO I c))) ∗ (tk c 8 d ∗ tk (yp c) 9 d ∗ PO (yp c) (1024 * qu (zp c) + ofs d) (sz d / 2) (fun _ _ => True))) ⊢ _
    iintro ⟨⟨H1, H2, H3, H4⟩, ⟨H5, H6, H7⟩⟩
    ihave H4 := (Entails.of_eq (eO ho').symm) $$ H4
    ihave H7 := (Entails.of_eq (eO ho').symm) $$ H7
    iframe
  · show _ ⊢ iprop((at1 c 5 d ∗ at0 c 8 d ∗ (_ ∗ crd c 8 d (sz d / 2))) ∗ BI.emp)
    iintro ⟨H0, H1, H2, H3⟩
    iframe
    iempintro

end Steps

end Cert.K
-- ==== Proof.Waits.lean ====
/-
  The waits: each takes what its cell's credit brings.
-/
module

public import proofs.«01_k».proof.Proof.Steps

@[expose] public section

set_option maxRecDepth 16384

noncomputable section

namespace Cert.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open PCS URA

variable {F : FTy → Type} [FloatOps F]

local notation "𝕄" => MT nD τ sig Unit (Elt F) ℕ UU ℕ

variable (I : Ins F) (K : GSem nD τ sig → ℕ) (c : Dev nD)

section Waits

variable {α : Type} {ks : List ℕ} {r b n : ℕ} {s1 : DmaSem sig} {k : PUnit → Prog (TpuEff nD τ sig (Elt F) Λ₀ .tc) α}
  {sp sp' : Space} {s s' : Shape} {e e' : EltTy} {src : Memref sig .tc sp' s' e'} {κ' : Kind} {dst : Memref sig κ' sp s e} {hsrc : src.view.WordExact} {hdst : dst.view.WordExact}

/-- The rows sent across x have arrived. -/
theorem st_wXr {Q : α → sProp 𝕄} {R : sProp 𝕄} (d : ℕ) (h : St I K c (ks.set d 3) r b R ⊢ wpK c (k ⟨⟩) Q)
    (hd : d < 9 := by decide) (hl : ks.length = 9 := by rfl) (hk : ks.getD d 0 = 2 := by rfl) (hab : ∀ e < 9, above (levK 1 d) e (ks.getD e 0) := by decide)
    (hs : s1 = dsem (ix 1 d) := by rfl) (hN : dst.view.dmaCredit = NB (sz d) := by first | exact cr_out _ | exact cr_cx _ | exact cr_x _ | exact cr_s _) :
    St I K c ks r b R ⊢ wpK c (.op (.waitDma2 s1 src dst hsrc hdst) k) Q := by
  refine st_waitK I K c 2 3 1 (sz d) (by decide) (if_pos (by decide)) hd hl hk (fun i hi => by fin_cases i <;> first | rfl | exact absurd rfl hi) (add_zero _).symm hab hs hN
    (Z := iprop(dutyTok ER (cell c 95) d 0 ∗ cSS I c d 2)) ?_ ?_ h
  · show iprop((at0 c 1 d ∗ crd c 1 d (sz d) ∗ dutyTok ER (cell c 95) d 0) ∗ cSS I c d 2) ⊢ _
    iintro ⟨⟨H1, H2, H3⟩, H4⟩
    iframe
  · show iprop(_ ∗ PC c (ofs d) (sz d) (pC I c) ∗ _) ⊢ iprop((at1 c 1 d ∗ PC c (ofs d) (sz d) (pC I c) ∗ dutyTok ER (cell c 95) d 0) ∗ cSS I c d 2)
    iintro ⟨H1, H2, H3, H4⟩
    iframe

/-- The rows sent across y have arrived, and are cut in halves. -/
theorem st_wYr {Q : α → sProp 𝕄} {R : sProp 𝕄} (d : ℕ) (h : St I K c (ks.set d 10) r b R ⊢ wpK c (k ⟨⟩) Q)
    (hd : d < 9 := by decide) (hl : ks.length = 9 := by rfl) (hk : ks.getD d 0 = 9 := by rfl) (hab : ∀ e < 9, above (levK 3 d) e (ks.getD e 0) := by decide)
    (hs : s1 = dsem (ix 3 d) := by rfl) (hN : dst.view.dmaCredit = NB (sz d) := by first | exact cr_out _ | exact cr_cx _ | exact cr_x _ | exact cr_s _) :
    St I K c ks r b R ⊢ wpK c (.op (.waitDma2 s1 src dst hsrc hdst) k) Q := by
  refine st_waitK I K c 3 10 3 (sz d) (by decide) (if_pos (by decide)) hd hl hk (fun i hi => by fin_cases i <;> first | rfl | exact absurd rfl hi) (add_zero _).symm hab hs hN
    (Z := iprop(at0 c 6 d ∗ cU' c d 9)) ?_ ?_ h
  · show iprop((at0 c 3 d ∗ at0 c 6 d ∗ crd c 3 d (sz d)) ∗ cU' c d 9) ⊢ _
    iintro ⟨⟨H1, H2, H3⟩, H4⟩
    iframe
  · show iprop(_ ∗ PO c (1024 * qu (yp c) + ofs d) (sz d) (pO I c) ∗ _) ⊢ iprop((at1 c 3 d ∗ at0 c 6 d ∗ (PO c (1024 * qu (yp c) + ofs d) (sz d / 2) (pO I c) ∗ PO c (1024 * qu (yp c) + ofs d + sz d / 2) (sz d / 2) (pO I c))) ∗ cU' c d 9)
    iintro ⟨H1, H2, H3, H4⟩
    ihave H2 := (PG_split_eq (rows_split (sz_half d)) (rows_disj (.inl le_rfl))) $$ H2
    icases H2 with ⟨H2, H5⟩
    iframe

/-- The rows sent across z have arrived, and are cut in halves. -/
theorem st_wZr {Q : α → sProp 𝕄} {R : sProp 𝕄} (d : ℕ) (h : St I K c (ks.set d 12) r b R ⊢ wpK c (k ⟨⟩) Q)
    (hd : d < 9 := by decide) (hl : ks.length = 9 := by rfl) (hk : ks.getD d 0 = 11 := by rfl) (hab : ∀ e < 9, above (levK 5 d) e (ks.getD e 0) := by decide)
    (hs : s1 = dsem (ix 5 d) := by rfl) (hN : dst.view.dmaCredit = NB (sz d) := by first | exact cr_out _ | exact cr_cx _ | exact cr_x _ | exact cr_s _) :
    St I K c ks r b R ⊢ wpK c (.op (.waitDma2 s1 src dst hsrc hdst) k) Q := by
  refine st_waitK I K c 4 12 5 (sz d) (by decide) (if_pos (by decide)) hd hl hk (fun i hi => by fin_cases i <;> first | rfl | exact absurd rfl hi) (add_zero _).symm hab hs hN
    (Z := iprop(at0 c 8 d ∗ cV' c d 11)) ?_ ?_ h
  · show iprop((at0 c 5 d ∗ at0 c 8 d ∗ crd c 5 d (sz d)) ∗ cV' c d 11) ⊢ _
    iintro ⟨⟨H1, H2, H3⟩, H4⟩
    iframe
  · show iprop(_ ∗ PO c (1024 * qu (zp c) + ofs d) (sz d) (pO I c) ∗ _) ⊢ iprop((at1 c 5 d ∗ at0 c 8 d ∗ (PO c (1024 * qu (zp c) + ofs d + sz d / 2) (sz d / 2) (pO I c) ∗ PO c (1024 * qu (zp c) + ofs d) (sz d / 2) (pO I c))) ∗ cV' c d 11)
    iintro ⟨H1, H2, H3, H4⟩
    ihave H2 := (PG_split_eq (rows_split (sz_half d)) (rows_disj (.inl le_rfl))) $$ H2
    icases H2 with ⟨H2, H5⟩
    iframe

/-- The rows sent across x are free again. -/
theorem st_wXs {Q : α → sProp 𝕄} {R : sProp 𝕄} (d : ℕ) (h : St I K c (ks.set d 14) r b R ⊢ wpK c (k ⟨⟩) Q)
    (hd : d < 9 := by decide) (hl : ks.length = 9 := by rfl) (hk : ks.getD d 0 = 13 := by rfl) (hab : ∀ e < 9, above (levK 0 d) e (ks.getD e 0) := by decide)
    (hs : s1 = dsem (ix 0 d) := by rfl) (hN : dst.view.dmaCredit = NB (sz d) := by first | exact cr_out _ | exact cr_cx _ | exact cr_x _ | exact cr_s _) :
    St I K c ks r b R ⊢ wpK c (.op (.waitDma2 s1 src dst hsrc hdst) k) Q := by
  refine st_waitK I K c 0 14 0 (sz d) (by decide) (if_pos (by decide)) hd hl hk (fun i hi => by fin_cases i <;> first | rfl | exact absurd rfl hi) (add_zero _).symm hab hs hN
    (Z := iprop(PX c d (sz d) (128 - sz d) fullShare (fun _ _ => True) ∗ PX c d 0 (sz d) shR (pX I c d) ∗ BI.emp)) ?_ ?_ h
  · show iprop((_ ∗ at0 c 0 d ∗ PX c d 0 (sz d) shR (pX I c d) ∗ crd c 0 d (sz d)) ∗ BI.emp) ⊢ _
    iintro ⟨⟨H1, H2, H3, H4⟩, H5⟩
    iframe
  · show iprop(_ ∗ PX c d 0 (sz d) shL (pX I c d) ∗ _) ⊢ iprop((_ ∗ at1 c 0 d ∗ PX c d 0 (sz d) shR (pX I c d) ∗ PX c d 0 (sz d) shL (pX I c d)) ∗ BI.emp)
    iintro ⟨H1, H2, H3, H4, H5⟩
    iframe

/-- The sums sent across y are free again. -/
theorem st_wYs {Q : α → sProp 𝕄} {R : sProp 𝕄} (d : ℕ) (h : St I K c (ks.set d 15) r b R ⊢ wpK c (k ⟨⟩) Q)
    (hd : d < 9 := by decide) (hl : ks.length = 9 := by rfl) (hk : ks.getD d 0 = 14 := by rfl) (hab : ∀ e < 9, above (levK 2 d) e (ks.getD e 0) := by decide)
    (hs : s1 = dsem (ix 2 d) := by rfl) (hN : dst.view.dmaCredit = NB (sz d) := by first | exact cr_out _ | exact cr_cx _ | exact cr_x _ | exact cr_s _) :
    St I K c ks r b R ⊢ wpK c (.op (.waitDma2 s1 src dst hsrc hdst) k) Q := by
  refine st_waitK I K c 2 15 2 (sz d) (by decide) (if_pos (by decide)) hd hl hk (fun i hi => by fin_cases i <;> first | rfl | exact absurd rfl hi) (add_zero _).symm hab hs hN
    (Z := iprop(cR I c d 14 ∗ cS c d 14 ∗ cY' c d 14 ∗ cZ I c d 14 ∗ cZ' c d 14 ∗ cL I c d 14)) ?_ ?_ h
  · show iprop(_ ∗ (_ ∗ (at0 c 2 d ∗ crd c 2 d (sz d)) ∗ cY' c d 14 ∗ _ ∗ _ ∗ _)) ⊢ _
    iintro ⟨H1, H2, ⟨H3, H4⟩, H5, H6, H7, H8⟩
    iframe
  · show iprop(_ ∗ PS c d 0 (sz d) shY (pS I c d) ∗ _) ⊢ iprop(cR I c d 14 ∗ (cS c d 14 ∗ (at1 c 2 d ∗ PS c d 0 (sz d) shY (pS I c d)) ∗ cY' c d 14 ∗ cZ I c d 14 ∗ cZ' c d 14 ∗ cL I c d 14))
    iintro ⟨H1, H2, H3, H4, H5, H6, H7, H8⟩
    iframe

/-- The sums sent across z are free again. -/
theorem st_wZs {Q : α → sProp 𝕄} {R : sProp 𝕄} (d : ℕ) (h : St I K c (ks.set d 16) r b R ⊢ wpK c (k ⟨⟩) Q)
    (hd : d < 9 := by decide) (hl : ks.length = 9 := by rfl) (hk : ks.getD d 0 = 15 := by rfl) (hab : ∀ e < 9, above (levK 4 d) e (ks.getD e 0) := by decide)
    (hs : s1 = dsem (ix 4 d) := by rfl) (hN : dst.view.dmaCredit = NB (sz d) := by first | exact cr_out _ | exact cr_cx _ | exact cr_x _ | exact cr_s _) :
    St I K c ks r b R ⊢ wpK c (.op (.waitDma2 s1 src dst hsrc hdst) k) Q := by
  refine st_waitK I K c 2 16 4 (sz d) (by decide) (if_pos (by decide)) hd hl hk (fun i hi => by fin_cases i <;> first | rfl | exact absurd rfl hi) (add_zero _).symm hab hs hN
    (Z := iprop(cR I c d 15 ∗ cS c d 15 ∗ cY I c d 15 ∗ cY' c d 15 ∗ cZ' c d 15 ∗ cL I c d 15)) ?_ ?_ h
  · show iprop(_ ∗ (_ ∗ _ ∗ _ ∗ (at0 c 4 d ∗ crd c 4 d (sz d)) ∗ cZ' c d 15 ∗ _)) ⊢ _
    iintro ⟨H1, H2, H5, H6, ⟨H3, H4⟩, H7, H8⟩
    iframe
  · show iprop(_ ∗ PS c d 0 (sz d) shZ (pS I c d) ∗ _) ⊢ iprop(cR I c d 15 ∗ (cS c d 15 ∗ cY I c d 15 ∗ cY' c d 15 ∗ (at1 c 4 d ∗ PS c d 0 (sz d) shZ (pS I c d)) ∗ cZ' c d 15 ∗ cL I c d 15))
    iintro ⟨H1, H2, H3, H4, H5, H6, H7, H8⟩
    iframe

/-- The half forwarded across z is free again. -/
theorem st_wFs {Q : α → sProp 𝕄} {R : sProp 𝕄} (d : ℕ) (h : St I K c (ks.set d 17) r b R ⊢ wpK c (k ⟨⟩) Q)
    (hd : d < 9 := by decide) (hl : ks.length = 9 := by rfl) (hk : ks.getD d 0 = 16 := by rfl) (hab : ∀ e < 9, above (levK 6 d) e (ks.getD e 0) := by decide)
    (hs : s1 = dsem (ix 6 d) := by rfl) (hN : dst.view.dmaCredit = NB (sz d / 2) := by first | exact cr_out _ | exact cr_cx _ | exact cr_x _ | exact cr_s _) :
    St I K c ks r b R ⊢ wpK c (.op (.waitDma2 s1 src dst hsrc hdst) k) Q := by
  refine st_waitK I K c 3 17 6 (sz d / 2) (by decide) (if_neg (by decide)) hd hl hk (fun i hi => by fin_cases i <;> first | rfl | exact absurd rfl hi) (add_zero _).symm hab hs hN
    (Z := iprop(at1 c 3 d ∗ PO c (1024 * qu (yp c) + ofs d) (sz d / 2) (pO I c) ∗ BI.emp)) ?_ ?_ h
  · show iprop((at1 c 3 d ∗ at0 c 6 d ∗ (PO c (1024 * qu (yp c) + ofs d) (sz d / 2) (pO I c) ∗ crd c 6 d (sz d / 2))) ∗ BI.emp) ⊢ _
    iintro ⟨⟨H1, H2, H3, H4⟩, H5⟩
    iframe
  · show iprop(_ ∗ PO c (1024 * qu (yp c) + ofs d + sz d / 2) (sz d / 2) (pO I c) ∗ _) ⊢ iprop((at1 c 3 d ∗ at1 c 6 d ∗ (PO c (1024 * qu (yp c) + ofs d) (sz d / 2) (pO I c) ∗ PO c (1024 * qu (yp c) + ofs d + sz d / 2) (sz d / 2) (pO I c))) ∗ BI.emp)
    iintro ⟨H1, H2, H3, H4, H5⟩
    iframe

/-- The half forwarded across y is free again. -/
theorem st_wGs {Q : α → sProp 𝕄} {R : sProp 𝕄} (d : ℕ) (h : St I K c (ks.set d 18) r b R ⊢ wpK c (k ⟨⟩) Q)
    (hd : d < 9 := by decide) (hl : ks.length = 9 := by rfl) (hk : ks.getD d 0 = 17 := by rfl) (hab : ∀ e < 9, above (levK 8 d) e (ks.getD e 0) := by decide)
    (hs : s1 = dsem (ix 8 d) := by rfl) (hN : dst.view.dmaCredit = NB (sz d / 2) := by first | exact cr_out _ | exact cr_cx _ | exact cr_x _ | exact cr_s _) :
    St I K c ks r b R ⊢ wpK c (.op (.waitDma2 s1 src dst hsrc hdst) k) Q := by
  refine st_waitK I K c 4 18 8 (sz d / 2) (by decide) (if_neg (by decide)) hd hl hk (fun i hi => by fin_cases i <;> first | rfl | exact absurd rfl hi) (add_zero _).symm hab hs hN
    (Z := iprop(at1 c 5 d ∗ PO c (1024 * qu (zp c) + ofs d + sz d / 2) (sz d / 2) (pO I c) ∗ BI.emp)) ?_ ?_ h
  · show iprop((at1 c 5 d ∗ at0 c 8 d ∗ (PO c (1024 * qu (zp c) + ofs d + sz d / 2) (sz d / 2) (pO I c) ∗ crd c 8 d (sz d / 2))) ∗ BI.emp) ⊢ _
    iintro ⟨⟨H1, H2, H3, H4⟩, H5⟩
    iframe
  · show iprop(_ ∗ PO c (1024 * qu (zp c) + ofs d) (sz d / 2) (pO I c) ∗ _) ⊢ iprop((at1 c 5 d ∗ at1 c 8 d ∗ (PO c (1024 * qu (zp c) + ofs d + sz d / 2) (sz d / 2) (pO I c) ∗ PO c (1024 * qu (zp c) + ofs d) (sz d / 2) (pO I c))) ∗ BI.emp)
    iintro ⟨H1, H2, H3, H4, H5⟩
    iframe

/-- The second half of the diagonal quarter's chunk has arrived. -/
theorem st_wFr {Q : α → sProp 𝕄} {R : sProp 𝕄} (d : ℕ) (h : St I K c (ks.set d 20) r b R ⊢ wpK c (k ⟨⟩) Q)
    (hd : d < 9 := by decide) (hl : ks.length = 9 := by rfl) (hk : ks.getD d 0 = 19 := by rfl) (hab : ∀ e < 9, above (levK 7 d) e (ks.getD e 0) := by decide)
    (hs : s1 = dsem (ix 7 d) := by rfl) (hN : dst.view.dmaCredit = NB (sz d / 2) := by first | exact cr_out _ | exact cr_cx _ | exact cr_x _ | exact cr_s _) :
    St I K c ks r b R ⊢ wpK c (.op (.waitDma2 s1 src dst hsrc hdst) k) Q := by
  refine st_waitK I K c 1 20 7 (sz d / 2) (by decide) (if_neg (by decide)) hd hl hk (fun i hi => by fin_cases i <;> first | rfl | exact absurd rfl hi) (add_zero _).symm hab hs hN
    (Z := BI.emp) ?_ ?_ h
  · show iprop(at0 c 7 d ∗ crd c 7 d (sz d / 2)) ⊢ _
    iintro ⟨H1, H2⟩
    iframe
    iempintro
  · show iprop(_ ∗ PO c (1024 * qu (yp (zp c)) + ofs d + sz d / 2) (sz d / 2) (pO I c) ∗ _) ⊢ iprop(at1 c 7 d ∗ PO c (1024 * qu (yp (zp c)) + ofs d + sz d / 2) (sz d / 2) (pO I c))
    iintro ⟨H1, H2, -⟩
    iframe

/-- The first half of the diagonal quarter's chunk has arrived. -/
theorem st_wGr {Q : α → sProp 𝕄} {R : sProp 𝕄} (d : ℕ) (h : St I K c (ks.set d 21) r b R ⊢ wpK c (k ⟨⟩) Q)
    (hd : d < 9 := by decide) (hl : ks.length = 9 := by rfl) (hk : ks.getD d 0 = 20 := by rfl) (hab : ∀ e < 9, above (levK 9 d) e (ks.getD e 0) := by decide)
    (hs : s1 = dsem (ix 9 d) := by rfl) (hN : dst.view.dmaCredit = NB (sz d / 2) := by first | exact cr_out _ | exact cr_cx _ | exact cr_x _ | exact cr_s _) :
    St I K c ks r b R ⊢ wpK c (.op (.waitDma2 s1 src dst hsrc hdst) k) Q := by
  refine st_waitK I K c 5 21 9 (sz d / 2) (by decide) (if_neg (by decide)) hd hl hk (fun i hi => by fin_cases i <;> first | rfl | exact absurd rfl hi) (add_zero _).symm hab hs hN
    (Z := BI.emp) ?_ ?_ h
  · show iprop(at0 c 9 d ∗ crd c 9 d (sz d / 2)) ⊢ _
    iintro ⟨H1, H2⟩
    iframe
    iempintro
  · show iprop(_ ∗ PO c (1024 * qu (yp (zp c)) + ofs d) (sz d / 2) (pO I c) ∗ _) ⊢ iprop(at1 c 9 d ∗ PO c (1024 * qu (yp (zp c)) + ofs d) (sz d / 2) (pO I c))
    iintro ⟨H1, H2, -⟩
    iframe

end Waits

end Cert.K
-- ==== Proof.Local.lean ====
/-
  The effects on this device's own buffers: the two kinds of local copies, the stores and the loads.
-/
module

public import proofs.«01_k».proof.Proof.Waits

@[expose] public section

set_option maxRecDepth 16384

noncomputable section

namespace Cert.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open PCS URA

variable {F : FTy → Type} [FloatOps F]

local notation "𝕄" => MT nD τ sig Unit (Elt F) ℕ UU ℕ

variable (I : Ins F) (K : GSem nD τ sig → ℕ) (c : Dev nD)

/-! ## Slots -/

/-- A slab is its first rows and the rest. -/
theorem slab_cut {N R d n : ℕ} (h : n ≤ R) : slab N R d 0 R = slab N R d 0 n ∪ slab N R d n (R - n) := by
  ext i; rw [Finset.mem_union, mem_slab, mem_slab, mem_slab]; omega

/-- The slots not in use. -/
def Fs (b : ℕ) : sProp 𝕄 := iprop((if b = 0 then BI.emp else PB c 0 0 128 fun _ _ => True) ∗ (if b = 1 then BI.emp else PB c 1 0 128 fun _ _ => True))

/-- One slot can be taken from the two of the buffer for received rows. -/
theorem slot_take {s : ℕ} (hs : s < 2) : (Fs c 2 : sProp 𝕄) ⊢ iprop(PB c s 0 128 (fun _ _ => True) ∗ Fs c s) := by
  rcases (show s = 0 ∨ s = 1 by omega) with rfl | rfl
  · show iprop(PB c 0 0 128 (fun _ _ => True) ∗ PB c 1 0 128 fun _ _ => True) ⊢ iprop(_ ∗ BI.emp ∗ PB c 1 0 128 fun _ _ => True)
    iintro ⟨H1, H2⟩
    iframe
    iempintro
  · show iprop(PB c 0 0 128 (fun _ _ => True) ∗ PB c 1 0 128 fun _ _ => True) ⊢ iprop(_ ∗ PB c 0 0 128 (fun _ _ => True) ∗ BI.emp)
    iintro ⟨H1, H2⟩
    iframe
    iempintro
/-- A slot taken can be put back. -/
theorem slot_give {s : ℕ} (hs : s < 2) : iprop(PB c s 0 128 (fun _ _ => True) ∗ Fs c s) ⊢ (Fs c 2 : sProp 𝕄) := by
  rcases (show s = 0 ∨ s = 1 by omega) with rfl | rfl
  · show iprop(_ ∗ BI.emp ∗ PB c 1 0 128 fun _ _ => True) ⊢ iprop(PB c 0 0 128 (fun _ _ => True) ∗ PB c 1 0 128 fun _ _ => True)
    iintro ⟨H1, -, H2⟩
    iframe
  · show iprop(_ ∗ PB c 0 0 128 (fun _ _ => True) ∗ BI.emp) ⊢ iprop(PB c 0 0 128 (fun _ _ => True) ∗ PB c 1 0 128 fun _ _ => True)
    iintro ⟨H1, H2, -⟩
    iframe

/-- What a chunk's copy from the landing buffer counts for. -/
theorem amt_b (d : ℕ) : amtD 95 d = NB (sz d) := by unfold amtD; rw [if_neg (by decide), if_neg (by decide), if_pos rfl]
/-- What a chunk's copy from the landing buffer hands over. -/
theorem pay_b (d : ℕ) : payD I c 95 d = payB I c d := by unfold payD; rw [if_neg (by decide), if_neg (by decide), if_pos rfl]
/-- The semaphore for copies from the landing buffer has a round for each chunk. -/
theorem rnd_b {d : ℕ} (h : d < 9) : rndD 95 d := by unfold rndD; rw [if_pos rfl]; exact h

section Local

variable {α : Type} {ks : List ℕ} {r b n : ℕ} {o : Fin 3 → ℕ} {o' : Fin 2 → ℕ} {s1 : DmaSem sig} {k : PUnit → Prog (TpuEff nD τ sig (Elt F) Λ₀ .tc) α}

/-- A chunk copied from the landing buffer to its slot has there what the neighbour across `x` sent. -/
theorem hp_b {d : ℕ} {inb sq inb'} (ho : o = ![d % 2, 0, 0]) (ho' : o' = ![ofs d, 0]) (fs : Buf (Elt F) (lCx c)) (fd : Buf (Elt F) (lB c))
    (hfs : ∀ i ∈ (vC o' (sz d) inb').view.set, pC I c i (fs i)) :
    iprop((lB c ↦[(vB o (sz d) inb sq).view.set]{fullShare} (vB o (sz d) inb sq).view.write (Elt F) fd ((vC o' (sz d) inb').view.read (Elt F) fs) Finset.univ)
      ∗ (lCx c ↦[(vC o' (sz d) inb').view.set]{fullShare} fs)) ⊢ payD I c 95 d := by
  have h1 : (lB c ↦[(vB o (sz d) inb sq).view.set]{fullShare} (vB o (sz d) inb sq).view.write (Elt F) fd ((vC o' (sz d) inb').view.read (Elt F) fs) Finset.univ : sProp 𝕄)
      ⊢ PG (lB c) (vB o (sz d) inb sq).view.set fullShare (pB I c d) := PG_intro _ (cp_CB I (inb := inb) (sq := sq) (inb' := inb') ho ho' fs fd hfs)
  have h2 : (lCx c ↦[(vC o' (sz d) inb').view.set]{fullShare} fs : sProp 𝕄) ⊢ PG (lCx c) (vC o' (sz d) inb').view.set fullShare (pC I c) := PG_intro fs hfs
  rw [eB ho] at h1
  rw [eC ho'] at h2
  rw [pay_b]
  exact BI.sep_mono h1 h2

/-- A chunk's sum, copied to the result, has there what the result should hold. -/
theorem hp_s {d : ℕ} {inb sq inb'} (hd : d < 9) (ho : o = ![d, 0, 0]) (ho' : o' = ![1024 * qu c + ofs d, 0]) (fs : Buf (Elt F) (lS c)) (fd : Buf (Elt F) (lOut c))
    (hfs : ∀ i ∈ (vS o (sz d) inb sq).view.set, pS I c d i (fs i)) :
    iprop((lOut c ↦[(vO o' (sz d) inb').view.set]{fullShare} (vO o' (sz d) inb').view.write (Elt F) fd ((vS o (sz d) inb sq).view.read (Elt F) fs) Finset.univ)
      ∗ (lS c ↦[(vS o (sz d) inb sq).view.set]{shL} fs)) ⊢ payD I c (96 + d) 0 := by
  have h1 : (lOut c ↦[(vO o' (sz d) inb').view.set]{fullShare} (vO o' (sz d) inb').view.write (Elt F) fd ((vS o (sz d) inb sq).view.read (Elt F) fs) Finset.univ : sProp 𝕄)
      ⊢ PG (lOut c) (vO o' (sz d) inb').view.set fullShare (pO I c) := PG_intro _ (cp_SO I (inb := inb) (sq := sq) (inb' := inb') ho ho' (ofs_sz hd) (org_own c) fs fd hfs)
  have h2 : (lS c ↦[(vS o (sz d) inb sq).view.set]{shL} fs : sProp 𝕄) ⊢ PG (lS c) (vS o (sz d) inb sq).view.set shL (pS I c d) := PG_intro fs hfs
  rw [eO ho'] at h1
  rw [eS ho] at h2
  rw [pay_ss]
  exact BI.sep_mono h1 h2

/-- The received rows into a slot. -/
theorem st_bcopy {Q : α → sProp 𝕄} {R : sProp 𝕄} (d : ℕ) {inb sq inb' hsrc hdst} {hsem : DmaTarget.Typed (nD := nD) .hbm (.dma s1) (DmaTarget.here (τ := τ) (nD := nD) (p := (Proc.tc : Proc τ)) (vB o n inb sq))}
    (h : St I K c (ks.set d 4) d (d % 2) R ⊢ wpK c (k ⟨⟩) Q)
    (hd : d < 9 := by decide) (hl : ks.length = 9 := by rfl) (hk : ks.getD d 0 = 3 := by rfl) (hn : n = sz d := by rfl)
    (ho : o = ![d % 2, 0, 0] := by rfl) (ho' : o' = ![ofs d, 0] := by rfl) (hs1 : s1 = dsem 95 := by rfl) :
    St I K c ks d 2 R ⊢ wpK c (.op (.enqueueDma (vC o' n inb') (.here (vB o n inb sq)) (.dma s1) hsrc hdst hsem) k) Q := by
  subst hn
  refine move I K c 2 4 hd hl hk (fun i hi => by fin_cases i <;> first | rfl | exact absurd rfl hi) (add_zero _).symm (fun O W _ => ?_) h
  have hm : d % 2 < 2 := Nat.mod_lt _ (by decide)
  show iprop(_ ∗ ((at1 c 1 d ∗ PC c (ofs d) (sz d) (pC I c) ∗ dutyTok ER (cell c 95) d 0) ∗ cSS I c d 3) ∗ owes (c : Thread nD τ) (O + 0) W
      ∗ (atPos ER (cell c 95) d ∅ 0 ∗ reached ER (cell c 95) d ∗ Fs c 2))
    ⊢ iprop(((((at1 c 1 d ∗ (cred (tallyAt (cell c 95) () (NB (sz d))) ∗ PB c (d % 2) (sz d) (128 - sz d) (fun _ _ => True)) ∗ BI.emp) ∗ cSS I c d 3)
      ∗ (∃ W, owes (c : Thread nD τ) O W) ∗ (atPos ER (cell c 95) d ∅ 0 ∗ reached ER (cell c 95) d ∗ Fs c (d % 2))) -∗ _) -∗ _)
  unfold Ctx
  iintro ⟨⟨#Hl, #HI, #Hr, #Hrs⟩, ⟨⟨H1, H2, H3⟩, H4⟩, HO, ⟨Hat, #Hre, HF⟩⟩ Hk
  ihave HF := (slot_take c hm) $$ HF
  icases HF with ⟨HB, HF⟩
  ihave HB := (PG_split_eq (slab_cut (sz_le d)) (slab_disj (.inl (by omega)))) $$ HB
  icases HB with ⟨HB, HB'⟩
  iapply (copy_core I K c (src := vC o' (sz d) inb') (dst := vB o (sz d) inb sq) 95 d (NB (sz d)) (mem_DC (by decide)) (rnd_b hd) hs1 (cr_b (sz d)) (amt_b d) (q := fullShare) (P := pC I c)
    (fun fs fd hfs => hp_b I c ho ho' fs fd hfs)) $$ [H2 HB H3]
  · isplitr; · iexact HI
    isplitl [H2]; · iapply (Entails.of_eq (eC ho').symm) $$ H2
    isplitl [HB]; · iapply (Entails.of_eq (eB ho).symm) $$ HB
    isplitl [H3]; · iexact H3
    iexact Hre
  iintro Hc
  ihave HO := (Entails.of_eq (congrArg (fun O => (owes (c : Thread nD τ) O W : sProp 𝕄)) (add_zero O))) $$ HO
  iapply Hk
  iframe
  isplitl []; · iempintro
  isplitl [HO]; · iexists W; iexact HO
  iexact Hre

/-- They are in the slot. -/
theorem st_bwait {Q : α → sProp 𝕄} {R : sProp 𝕄} (d : ℕ) {sp sp' : Space} {s s' : Shape} {e e' : EltTy} {src : Memref sig .tc sp' s' e'} {κ' : Kind} {dst : Memref sig κ' sp s e} {hsrc : src.view.WordExact} {hdst : dst.view.WordExact}
    (h : St I K c (ks.set d 5) (d + 1) (d % 2) R ⊢ wpK c (k ⟨⟩) Q)
    (hd : d < 9 := by decide) (hl : ks.length = 9 := by rfl) (hk : ks.getD d 0 = 4 := by rfl) (hab : ∀ e < 9, above 0 e (ks.getD e 0) := by decide)
    (hs1 : s1 = dsem 95 := by rfl) (hN : dst.view.dmaCredit = NB (sz d) := by exact cr_b _) :
    St I K c ks d (d % 2) R ⊢ wpK c (.op (.waitDma2 s1 src dst hsrc hdst) k) Q := by
  refine move I K c 2 5 hd hl hk (fun i hi => by fin_cases i <;> first | rfl | exact absurd rfl hi) (add_zero _).symm (fun O W hO => ?_) h
  rw [← hO]
  have hO' : owed c ks = O := hO.trans (add_zero O)
  show iprop(_ ∗ ((at1 c 1 d ∗ (cred (tallyAt (cell c 95) () (NB (sz d))) ∗ PB c (d % 2) (sz d) (128 - sz d) (fun _ _ => True)) ∗ BI.emp) ∗ cSS I c d 4) ∗ owes (c : Thread nD τ) (owed c ks) W
      ∗ (atPos ER (cell c 95) d ∅ 0 ∗ reached ER (cell c 95) d ∗ Fs c (d % 2)))
    ⊢ iprop(((((at1 c 1 d ∗ (PC c (ofs d) (sz d) (pC I c) ∗ PB c (d % 2) (sz d) (128 - sz d) (fun _ _ => True) ∗ PB c (d % 2) 0 (sz d) (pB I c d)) ∗ BI.emp) ∗ cSS I c d 4)
      ∗ (∃ W, owes (c : Thread nD τ) O W) ∗ (atPos ER (cell c 95) (d + 1) ∅ 0 ∗ reached ER (cell c 95) (d + 1) ∗ Fs c (d % 2))) -∗ _) -∗ _)
  unfold Ctx
  iintro ⟨⟨#Hl, #HI, #Hr, #Hrs⟩, ⟨⟨H1, ⟨H2, H3⟩, H4⟩, H5⟩, HO, ⟨Hat, Hre, HF⟩⟩ Hk
  iapply (wait_core I K c 95 d (NB (sz d)) (mem_DC (by decide)) (rnd_b hd) hs1 hN (amt_b d) (owed c ks) W) $$ [H2 HO Hat]
  · isplitr; · iexact HI
    isplitl [H2]; · iexact H2
    isplitl [HO]; · iexact HO
    isplitr; · iapply (mayWait c (.dma (dsem 95)) ks 0 hab (Nat.le_refl 0)); iexact Hl
    iexact Hat
  iintro ⟨HO, Hat, Hre', Hp⟩
  ihave Hp := (show payD I c 95 d ⊢ iprop(PB c (d % 2) 0 (sz d) (pB I c d) ∗ PC c (ofs d) (sz d) (pC I c)) from Entails.of_eq (pay_b I c d)) $$ Hp
  icases Hp with ⟨Hp, Hp'⟩
  ihave HO := (Entails.of_eq (congrArg (fun O => (iprop(∃ W, owes (c : Thread nD τ) O W) : sProp 𝕄)) hO')) $$ HO
  iapply Hk
  iframe

/-- The own rows of the result. -/
theorem st_own {Q : α → sProp 𝕄} {R : sProp 𝕄} (d : ℕ) {inb sq inb' hsrc hdst} {hsem : DmaTarget.Typed (nD := nD) .vmem (.dma s1) (DmaTarget.here (τ := τ) (nD := nD) (p := (Proc.tc : Proc τ)) (vO o' n inb'))}
    (h : St I K c (ks.set d 9) r b R ⊢ wpK c (k ⟨⟩) Q) (ho' : o' = ![1024 * qu c + ofs d, 0])
    (hd : d < 9 := by decide) (hl : ks.length = 9 := by rfl) (hk : ks.getD d 0 = 8 := by rfl) (hn : n = sz d := by rfl)
    (ho : o = ![d, 0, 0] := by rfl) (hs1 : s1 = dsem (96 + d) := by rfl) :
    St I K c ks r b R ⊢ wpK c (.op (.enqueueDma (vS o n inb sq) (.here (vO o' n inb')) (.dma s1) hsrc hdst hsem) k) Q := by
  subst hn
  refine move I K c 2 9 hd hl hk (fun i hi => by fin_cases i <;> first | rfl | exact absurd rfl hi) (add_zero _).symm (fun O W _ => ?_) h
  show iprop(_ ∗ (cR I c d 8 ∗ (cS c d 8 ∗ cY I c d 8 ∗ cY' c d 8 ∗ cZ I c d 8 ∗ cZ' c d 8 ∗ (atPos ER (cell c (96 + d)) 0 ∅ 0 ∗ PS c d 0 (sz d) shL (pS I c d)
      ∗ (dutyTok ER (cell c (96 + d)) 0 0 ∗ PO c (1024 * qu c + ofs d) (sz d) (fun _ _ => True))))) ∗ owes (c : Thread nD τ) (O + 0) W ∗ _)
    ⊢ iprop((((cR I c d 8 ∗ (cS c d 8 ∗ cY I c d 8 ∗ cY' c d 8 ∗ cZ I c d 8 ∗ cZ' c d 8 ∗ (atPos ER (cell c (96 + d)) 0 ∅ 0 ∗ cred (tallyAt (cell c (96 + d)) () (NB (sz d)))
      ∗ BI.emp))) ∗ (∃ W, owes (c : Thread nD τ) O W) ∗ _) -∗ _) -∗ _)
  unfold Ctx
  iintro ⟨⟨#Hl, #HI, #Hr, #Hrs⟩, ⟨H1, H2, H3, H4, H5, H6, ⟨H7, H8, ⟨H9, H10⟩⟩⟩, HO, HB⟩ Hk
  iapply (copy_core I K c (src := vS o (sz d) inb sq) (dst := vO o' (sz d) inb') (96 + d) 0 (NB (sz d)) (mem_DC (by omega)) rnd_ss hs1 (cr_out (sz d)) amt_ss (q := shL) (P := pS I c d)
    (fun fs fd hfs => hp_s I c hd ho ho' fs fd hfs)) $$ [H8 H9 H10]
  · isplitr; · iexact HI
    isplitl [H8]; · iapply (Entails.of_eq (eS ho).symm) $$ H8
    isplitl [H10]; · iapply (Entails.of_eq (eO ho').symm) $$ H10
    isplitl [H9]; · iexact H9
    iapply (rch_cell c (mem_DC (by omega))); iexact Hr
  iintro Hc
  ihave HO := (Entails.of_eq (congrArg (fun O => (owes (c : Thread nD τ) O W : sProp 𝕄)) (add_zero O))) $$ HO
  iapply Hk
  iframe
  isplitl []; · iempintro
  iexists W; iexact HO

/-- They are written. -/
theorem st_wOwn {Q : α → sProp 𝕄} {R : sProp 𝕄} (d : ℕ) {sp sp' : Space} {s s' : Shape} {e e' : EltTy} {src : Memref sig .tc sp' s' e'} {κ' : Kind} {dst : Memref sig κ' sp s e} {hsrc : src.view.WordExact} {hdst : dst.view.WordExact}
    (h : St I K c (ks.set d 19) r b R ⊢ wpK c (k ⟨⟩) Q)
    (hd : d < 9 := by decide) (hl : ks.length = 9 := by rfl) (hk : ks.getD d 0 = 18 := by rfl) (hab : ∀ e < 9, above 0 e (ks.getD e 0) := by decide)
    (hs : s1 = dsem (96 + d) := by rfl) (hN : dst.view.dmaCredit = NB (sz d) := by exact cr_out _) :
    St I K c ks r b R ⊢ wpK c (.op (.waitDma2 s1 src dst hsrc hdst) k) Q := by
  have l : lv (cell c (96 + d)) () ≤ 0 := by
    show lvD (dsem (96 + d)).val ≤ 0
    rw [dsem_val (by omega)]; unfold lvD; rw [if_neg (by omega)]
  refine st_wait I K c 2 19 0 (96 + d) (NB (sz d)) (mem_DC (by omega)) rnd_ss hd hl hk (fun i hi => by fin_cases i <;> first | rfl | exact absurd rfl hi) (add_zero _).symm l hab hs hN amt_ss
    (Z := iprop(cR I c d 18 ∗ cS c d 18 ∗ cY I c d 18 ∗ cY' c d 18 ∗ cZ I c d 18 ∗ cZ' c d 18 ∗ BI.emp)) ?_ ?_ h
  · show iprop(_ ∗ (_ ∗ _ ∗ _ ∗ _ ∗ _ ∗ (atPos ER (cell c (96 + d)) 0 ∅ 0 ∗ cred (tallyAt (cell c (96 + d)) () (NB (sz d))) ∗ BI.emp))) ⊢ _
    iintro ⟨H1, H2, H3, H4, H5, H6, ⟨H7, H8, H9⟩⟩
    iframe
  · rw [pay_ss]
    show iprop(_ ∗ (PO c (1024 * qu c + ofs d) (sz d) (pO I c) ∗ PS c d 0 (sz d) shL (pS I c d)) ∗ _)
      ⊢ iprop(cR I c d 18 ∗ (cS c d 18 ∗ cY I c d 18 ∗ cY' c d 18 ∗ cZ I c d 18 ∗ cZ' c d 18 ∗ (atPos ER (cell c (96 + d)) 1 ∅ 0 ∗ (PO c (1024 * qu c + ofs d) (sz d) (pO I c) ∗ PS c d 0 (sz d) shL (pS I c d)) ∗ BI.emp)))
    iintro ⟨H1, H2, H3, H4, H5, H6, H7, H8, H9⟩
    iframe

end Local

end Cert.K
-- ==== Proof.Mem.lean ====
/-
  Loads and stores: what is known of a buffer's rows becomes known of the vectors computed from them, and back.
-/
module

public import proofs.«01_k».proof.Proof.Local
public import Idealize.ShloMosaic.Lib.ValueLayout

@[expose] public section

set_option maxRecDepth 16384

noncomputable section

namespace Cert.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open PCS URA

open Idealize.ShloMosaic.ValueIdx (ix2 ix3 reshapeEquiv_ix2_1ab)

variable {F : FTy → Type} [FloatOps F]

local notation "𝕄" => MT nD τ sig Unit (Elt F) ℕ UU ℕ

variable (I : Ins F) (K : GSem nD τ sig → ℕ) (c : Dev nD)

/-! ## Vectors of rows -/

/-- Of the first `n` rows of a vector, row by row. -/
def V3 (n : ℕ) {A : Type} (P : ℕ → ℕ → A → Prop) (v : S1x128x2048.Idx → A) : Prop := ∀ x : S1x128x2048.Idx, (x 1).val < n → P (x 1).val (x 2).val (v x)
def V2 (n : ℕ) {A : Type} (P : ℕ → ℕ → A → Prop) (v : S128x2048.Idx → A) : Prop := ∀ x : S128x2048.Idx, (x 0).val < n → P (x 0).val (x 1).val (v x)

/-- Dropping the leading axis of a block keeps what is known of its rows. -/
theorem V3.cast {n : ℕ} {A : Type} {P : ℕ → ℕ → A → Prop} {v : S1x128x2048.Idx → A} (hv : V3 n P v) (h) : V2 n P (shapeCast S128x2048 v h) := fun y hy => by
  have e : y = ix2 (n0 := 128) (n1 := 2048) (y 0) (y 1) := by funext i; match i with | 0 => rfl | 1 => rfl
  have hx : Shape.reshapeEquiv h y = ix3 (⟨0, Nat.one_pos⟩ : Fin 1) (y 0) (y 1) := (congrArg _ e).trans (reshapeEquiv_ix2_1ab (a := 128) (b := 2048) h (y 0) (y 1))
  have := hv (Shape.reshapeEquiv h y)
  rw [hx] at this
  show P (y 0).val (y 1).val (v (Shape.reshapeEquiv h y))
  rw [hx]
  exact this hy

/-- Adding a leading axis to a block keeps what is known of its rows. -/
theorem V2.cast {n : ℕ} {A : Type} {P : ℕ → ℕ → A → Prop} {v : S128x2048.Idx → A} (hv : V2 n P v) (h) : V3 n P (shapeCast S1x128x2048 v h) := fun x hx => by
  have h0 : (x 0).val = 0 := by have : (x 0).val < 1 := (x 0).isLt; omega
  have hn : S1x128x2048.numel = S128x2048.numel := h.symm
  have e : x = Shape.reshapeEquiv hn.symm (ix2 (n0 := 128) (n1 := 2048) (x 1) (x 2)) := by
    refine Eq.trans ?_ (reshapeEquiv_ix2_1ab (a := 128) (b := 2048) hn.symm (x 1) (x 2)).symm
    funext i
    match i with
    | 0 => exact Fin.ext h0
    | 1 => rfl
    | 2 => rfl
  have e' : Shape.reshapeEquiv h x = ix2 (n0 := 128) (n1 := 2048) (x 1) (x 2) := by
    conv_lhs => rw [e]
    rw [Shape.reshapeEquiv_reshapeEquiv, Shape.reshapeEquiv_self]
  show P (x 1).val (x 2).val (v (Shape.reshapeEquiv h x))
  rw [e']
  exact hv (ix2 (n0 := 128) (n1 := 2048) (x 1) (x 2)) hx

/-- The predicates, chunk by chunk. -/
abbrev gG (d : ℕ) : ℕ → ℕ → F .f32 → Prop := fun r l v => GoodG I c (1024 * qu c + ofs d + r) l v
abbrev gX (d : ℕ) : ℕ → ℕ → F .bf16 → Prop := fun r l v => GoodX I c (1024 * qu c + ofs d + r) l v
abbrev gB (d : ℕ) : ℕ → ℕ → F .bf16 → Prop := fun r l v => GoodX I (xp c) (1024 * qu c + ofs d + r) l v
abbrev gS (d : ℕ) : ℕ → ℕ → F .bf16 → Prop := fun r l v => GoodS I c (1024 * qu c + ofs d + r) l v
/-- The same widened. -/
abbrev gXe (d : ℕ) : ℕ → ℕ → F .f32 → Prop := fun r l v => ∃ a, GoodX I c (1024 * qu c + ofs d + r) l a ∧ v = FloatOps.extf .f32 bitsLt_bf16_f32 a
/-- The factors of the chunk. -/
def VM (d : ℕ) (m : S128x1.Idx → F .f32) : Prop := ∀ y : S128x1.Idx, ∃ j : S4096x1.Idx, (j 0).val = 1024 * qu c + ofs d + (y 0).val ∧ m y = I.mf c j

variable {I c}

/-- Gathered rows times the mask are the chunk to be sent across `x`. -/
theorem comb_X {d : ℕ} {v : FVec F S128x2048 .f32} {m : Vec F S128x1 .f32} (hv : V2 (sz d) (gG I c d) v) (hm : VM I c d m) (h h' h'') :
    V3 (sz d) (gX I c d) (shapeCast S1x128x2048 (truncf .bf16 (mulf v (broadcastTo S128x2048 m h)) h' : FVec F S128x2048 .bf16) h'') :=
  V2.cast (v := (truncf .bf16 (mulf v (broadcastTo S128x2048 m h)) h' : FVec F S128x2048 .bf16)) (fun y hy => by
    obtain ⟨j, hj, e⟩ := hm (ix2 (n0 := 128) (n1 := 1) (y 0) 0)
    refine ⟨v y, hv y hy, j, hj, ?_⟩
    show FloatOps.truncf .bf16 h' (FloatOps.mulf (v y) (broadcastTo S128x2048 m h y)) = _
    rw [← e]
    refine congrArg (fun z => FloatOps.truncf .bf16 h' (FloatOps.mulf (v y) z)) ?_
    exact congrArg m (by funext i; match i with | 0 => rfl | 1 => rfl)) h''

/-- The chunk sent, widened again, is what the sum takes. -/
theorem ext_X {d : ℕ} {v : FVec F S128x2048 .bf16} (hv : V2 (sz d) (gX I c d) v) (h) : V2 (sz d) (gXe I c d) (extf .f32 v h) :=
  fun y hy => ⟨v y, hv y hy, rfl⟩

/-- The own chunk plus the one from across `x` is the chunk's sum. -/
theorem comb_S {d : ℕ} {a : FVec F S128x2048 .f32} {b : Vec F S1x128x2048 .bf16} (ha : V2 (sz d) (gXe I c d) a) (hb : V3 (sz d) (gB I c d) b) (h h' h'' h4) :
    V3 (sz d) (gS I c d) (shapeCast S1x128x2048 (truncf .bf16 (addf a (extf .f32 (shapeCast S128x2048 b h : FVec F S128x2048 .bf16) h')) h'' : FVec F S128x2048 .bf16) h4) :=
  V2.cast (v := (truncf .bf16 (addf a (extf .f32 (shapeCast S128x2048 b h : FVec F S128x2048 .bf16) h')) h'' : FVec F S128x2048 .bf16)) (fun y hy => by
    obtain ⟨x, hx, e⟩ := ha y hy
    refine ⟨x, shapeCast S128x2048 b h y, hx, (hb.cast h) y hy, ?_⟩
    rw [← e]
    rfl) h4

variable (I c)

/-! ## Accesses -/

section Acc

variable {o : Fin 3 → ℕ} {d : ℕ}

abbrev rX (o : Fin 3 → ℕ) (inb : ∀ a, o a + S1x128x2048.size a ≤ S9x128x2048.size a) : Rect S9x128x2048 := Rect.unit (s := S9x128x2048) o S1x128x2048.size inb
abbrev rB (o : Fin 3 → ℕ) (inb : ∀ a, o a + S1x128x2048.size a ≤ S2x128x2048.size a) : Rect S2x128x2048 := Rect.unit (s := S2x128x2048) o S1x128x2048.size inb

/-- Where a whole slab's block has each of its places. -/
theorem emb_acc {N : ℕ} {inb} (ho : o = ![d, 0, 0]) (x : S1x128x2048.Idx) :
    (((Rect.unit (s := ⟨3, ![N, 128, 2048]⟩) o S1x128x2048.size inb).emb x) 0).val = d ∧ (((Rect.unit (s := ⟨3, ![N, 128, 2048]⟩) o S1x128x2048.size inb).emb x) 1).val = (x 1).val
    ∧ (((Rect.unit (s := ⟨3, ![N, 128, 2048]⟩) o S1x128x2048.size inb).emb x) 2).val = (x 2).val := by
  subst ho
  have h0 : (x 0).val = 0 := by have : (x 0).val < 1 := (x 0).isLt; omega
  refine ⟨?_, ?_, ?_⟩
  · show d + 1 * (x 0).val = _; omega
  · show 0 + 1 * (x 1).val = _; omega
  · show 0 + 1 * (x 2).val = _; omega

/-- What a store of a whole rectangle leaves. -/
theorem stored {κ : Kind} {sp : Space} {s : Shape} {e : EltTy} (v : View sig κ sp s e) (f : v.ty.Contents (Elt F)) (w : s.Idx → Elt F e) {P : v.ty.Idx → Elt F v.ty.elt → Prop}
    (hP : ∀ x, P (v.emb x) (cast (congrArg (Elt F) v.elt_eq.symm) (w x))) : ∀ j ∈ v.set, P j (v.write (Elt F) f w Finset.univ j) := by
  intro j hj
  obtain ⟨x, -, rfl⟩ := Finset.mem_map.mp hj
  rw [View.write_emb_of_mem _ _ (Finset.mem_univ x)]
  exact hP x

/-- A piece of which something is known joined with one of which nothing is known, and taken apart. -/
theorem joinP {ℓ : Loc nD τ sig} {S T U : Finset (Idx ℓ)} {q : PosShare TreeShare} {P : Idx ℓ → Elt F ℓ.ty.elt → Prop} (D : Idx ℓ → Prop) (hU : U = S ∪ T) (hd : Disjoint S T) (hT : ∀ i ∈ T, ¬ D i) :
    iprop(PG ℓ S q P ∗ PG ℓ T q (fun _ _ => True)) ⊢ (PG ℓ U q (fun i v => D i → P i v) : sProp 𝕄) := by
  iintro ⟨H1, H2⟩
  iapply (PG_join_eq hU hd)
  isplitl [H1]
  · iapply (PG_mono (P' := fun i v => D i → P i v) (fun _ _ _ h _ => h)) $$ H1
  · iapply (PG_mono (P' := fun i v => D i → P i v) (fun i hi _ _ h => absurd h (hT i hi))) $$ H2
/-- Places divided in two parts, the property known of one of them and the other left free. -/
theorem cutP {ℓ : Loc nD τ sig} {S T U : Finset (Idx ℓ)} {q : PosShare TreeShare} {P : Idx ℓ → Elt F ℓ.ty.elt → Prop} (D : Idx ℓ → Prop) (hU : U = S ∪ T) (hd : Disjoint S T) (hS : ∀ i ∈ S, D i) :
    (PG ℓ U q (fun i v => D i → P i v) : sProp 𝕄) ⊢ iprop(PG ℓ S q P ∗ PG ℓ T q (fun _ _ => True)) := by
  iintro H
  ihave H := (PG_split_eq hU hd) $$ H
  icases H with ⟨H1, H2⟩
  isplitl [H1]
  · iapply (PG_mono (P' := P) (fun i hi _ h => h (hS i hi))) $$ H1
  · iapply PG_any $$ H2

/-- A slab's first `n` rows are numbered below `n`. -/
theorem slab_lt {N R d n : ℕ} : ∀ i ∈ slab N R d 0 n, (i 1).val < n := fun i hi => by have := (mem_slab.mp hi).2.2; omega
/-- The rows after them are not. -/
theorem slab_ge {N R d n m : ℕ} : ∀ i ∈ slab N R d n m, ¬ (i 1).val < n := fun i hi => by have := (mem_slab.mp hi).2.1; omega

/-- The places a whole slab of a nine-slab buffer covers. -/
theorem acc9 {o : Fin 3 → ℕ} {d : ℕ} {inb} (ho : o = ![d, 0, 0]) : (rX o inb).set = slab 9 128 d 0 128 := rset_slab (inb := inb) ho
/-- The places a whole slab of a two-slab buffer covers. -/
theorem acc2 {o : Fin 3 → ℕ} {d : ℕ} {inb} (ho : o = ![d, 0, 0]) : (rB o inb).set = slab 2 128 d 0 128 := rset_slab (inb := inb) ho

end Acc

section Mem

variable {α : Type} {ks : List ℕ} {r b n : ℕ} {o : Fin 3 → ℕ} {o' : Fin 2 → ℕ}

/-- A load from rows the state holds. -/
theorem st_load {Q : α → sProp 𝕄} {R : sProp 𝕄} {cs : CoreSpace} {s : Shape} {e : EltTy} {m : Memref sig .tc cs s e} {rc : Rect s} {hl : m.view.LoadsAt rc} {k : (rc.shape.Idx → Elt F e) → Prog (TpuEff nD τ sig (Elt F) Λ₀ .tc) α}
    {q : PosShare TreeShare} {S : Finset (Idx (m.view.loc (c.tc : Thread nD τ)))}
    {P : Idx (m.view.loc (c.tc : Thread nD τ)) → Elt F (m.view.loc (c.tc : Thread nD τ)).ty.elt → Prop}
    (hA : St I K c ks r b R ⊢ iprop(PG (m.view.loc (c.tc : Thread nD τ)) S q P ∗ (PG (m.view.loc (c.tc : Thread nD τ)) S q P -∗ St I K c ks r b R)))
    (hS : (m.access rc).set ⊆ S) (V : (rc.shape.Idx → Elt F e) → Prop)
    (hV : ∀ f, (∀ i ∈ S, P i (f i)) → V ((m.access rc).read (Elt F) f))
    (h : ∀ v, V v → St I K c ks r b R ⊢ wpK c (k v) Q) :
    St I K c ks r b R ⊢ wpK c (.op (.load m rc hl) k) Q := by
  refine hA.trans ?_
  iintro ⟨H, Hb⟩
  iapply (load_core c hS V hV) $$ H
  iintro %v %hv H
  iapply (h v hv)
  iapply Hb $$ H

/-- One chunk's part out, to be put back as it was. -/
theorem st_peek {R : sProp 𝕄} {d j : ℕ} (t : Fin 6) (hd : d < 9) (hl : ks.length = 9) (hk : ks.getD d 0 = j) :
    St I K c ks r b R ⊢ iprop(comp I c d j t ∗ (comp I c d j t -∗ St I K c ks r b R)) := by
  have e : ks.set d j = ks := by
    subst hk
    have h : d < ks.length := by omega
    have : ks.getD d 0 = ks[d] := by simp [List.getD, h]
    rw [this]
    exact List.set_getElem_self _
  unfold St
  iintro ⟨#HC, Hc, HO, HB, HM, HR⟩
  ihave Hc := (chs_take I c ks j hd hl hk) $$ Hc
  icases Hc with ⟨Hc, Hb⟩
  ihave Hc := (ch_take I c d j t j (fun _ _ => rfl)) $$ Hc
  icases Hc with ⟨Hc, Hb'⟩
  isplitl [Hc]; · iexact Hc
  iintro Hc
  ihave Hc := Hb' $$ Hc
  ihave Hc := Hb $$ Hc
  ihave Hc := (Entails.of_eq (congrArg (Chs I c) e)) $$ Hc
  isplitr; · iexact HC
  iframe

/-- One component of a chunk's state may be used for a step and put back unchanged. -/
theorem st_peek' {R A B : sProp 𝕄} {d j : ℕ} (t : Fin 6) (hd : d < 9) (hl : ks.length = 9) (hk : ks.getD d 0 = j)
    (h1 : comp I c d j t ⊢ iprop(A ∗ B)) (h2 : iprop(A ∗ B) ⊢ comp I c d j t) :
    St I K c ks r b R ⊢ iprop(A ∗ (A -∗ St I K c ks r b R)) := by
  refine (st_peek I K c t hd hl hk).trans ?_
  iintro ⟨H, Hb⟩
  ihave H := h1 $$ H
  icases H with ⟨H, H'⟩
  isplitl [H]; · iexact H
  iintro H
  iapply Hb
  iapply h2
  isplitl [H] <;> iassumption

/-- The factors. -/
theorem st_loadM {Q : α → sProp 𝕄} {R : sProp 𝕄} (d : ℕ) {inb hl} {k : (S128x1.Idx → Elt F .f32) → Prog (TpuEff nD τ sig (Elt F) Λ₀ .tc) α}
    (h : ∀ v, VM I c d v → St I K c ks r b R ⊢ wpK c (k v) Q) (ho : o' = ![ofs d, 0] := by rfl) :
    St I K c ks r b R ⊢ wpK c (.op (.load (Memref.whole cc0_scratch2) (Rect.unit (s := S1024x1) o' S128x1.size inb) hl) k) Q := by
  subst ho
  refine st_load I K c (q := fullShare) (S := Finset.univ) (P := pM I c) ?_ (Finset.subset_univ _) (VM I c d) (fun f hf y => ?_) h
  · unfold St Mst
    iintro ⟨H1, H2, H3, H4, H5, H6⟩
    isplitl [H5]; · iexact H5
    iintro H5
    iframe
  · obtain ⟨j, hj, e⟩ := hf ((Rect.unit (s := S1024x1) ![ofs d, 0] S128x1.size inb).emb y) (Finset.mem_univ _)
    refine ⟨j, ?_, e⟩
    rw [hj]
    show 1024 * qu c + (ofs d + 1 * (y 0).val) = _
    omega

/-- The rounded rows, before they are written: nothing is known. -/
theorem st_loadX0 {Q : α → sProp 𝕄} {R : sProp 𝕄} (d : ℕ) {inb hl} {k : (S1x128x2048.Idx → Elt F .bf16) → Prog (TpuEff nD τ sig (Elt F) Λ₀ .tc) α}
    (h : ∀ v, St I K c ks r b R ⊢ wpK c (k v) Q) (hd : d < 9 := by decide) (hl' : ks.length = 9 := by rfl) (hk : ks.getD d 0 = 0 := by rfl) (ho : o = ![d, 0, 0] := by rfl) :
    St I K c ks r b R ⊢ wpK c (.op (.load (Memref.whole cc0_scratch1) (rX o inb) hl) k) Q := by
  refine st_load I K c (q := fullShare) (S := slab 9 128 d 0 128) (P := fun i v => (i 1).val < sz d → True)
    (st_peek' I K c (j := 0) 0 hd hl' hk (B := iprop(at0 c 0 d ∗ cX' c d 0)) ?_ ?_) (subset_of_eq ((View.set_slice_whole _ _).trans (acc9 ho)))
    (fun _ => True) (fun _ _ => trivial) (fun v _ => h v)
  · show iprop((PX c d (sz d) (128 - sz d) fullShare (fun _ _ => True) ∗ at0 c 0 d ∗ PX c d 0 (sz d) fullShare (fun _ _ => True)) ∗ _) ⊢ _
    iintro ⟨⟨H1, H2, H3⟩, H4⟩
    isplitl [H1 H3]
    · iapply (joinP (ℓ := lX c) (P := fun _ _ => True) (fun i => (i 1).val < sz d) (slab_cut (sz_le d)) (slab_disj (.inl (Nat.zero_add _).le)) slab_ge)
      isplitl [H3] <;> iassumption
    iframe
  · show _ ⊢ iprop((PX c d (sz d) (128 - sz d) fullShare (fun _ _ => True) ∗ at0 c 0 d ∗ PX c d 0 (sz d) fullShare (fun _ _ => True)) ∗ cX' c d 0)
    iintro ⟨H, H2, H4⟩
    ihave H := (cutP (ℓ := lX c) (P := fun _ _ => True) (fun i => (i 1).val < sz d) (slab_cut (sz_le d)) (slab_disj (.inl (Nat.zero_add _).le)) slab_lt) $$ H
    icases H with ⟨H3, H1⟩
    iframe

/-- The rounded rows written. -/
theorem st_storeX {Q : α → sProp 𝕄} {R : sProp 𝕄} (d : ℕ) {inb w hx hm} {k : PUnit → Prog (TpuEff nD τ sig (Elt F) Λ₀ .tc) α}
    (h : St I K c (ks.set d 1) r b R ⊢ wpK c (k ⟨⟩) Q) (hw : V3 (sz d) (gX I c d) w)
    (hd : d < 9 := by decide) (hl' : ks.length = 9 := by rfl) (hk : ks.getD d 0 = 0 := by rfl) (ho : o = ![d, 0, 0] := by rfl) :
    St I K c ks r b R ⊢ wpK c (.op (.store (Memref.whole cc0_scratch1) (rX o inb) w Finset.univ hx hm) k) Q := by
  have hset : ((Memref.whole cc0_scratch1).access (rX o inb)).set = slab 9 128 d 0 128 := (View.set_slice_whole _ _).trans (acc9 ho)
  refine move I K c 0 1 hd hl' hk (fun i hi => by fin_cases i <;> first | rfl | exact absurd rfl hi) (add_zero _).symm (fun O W _ => ?_) h
  show iprop(_ ∗ ((PX c d (sz d) (128 - sz d) fullShare (fun _ _ => True) ∗ at0 c 0 d ∗ PX c d 0 (sz d) fullShare (fun _ _ => True)) ∗ cX' c d 0) ∗ owes (c : Thread nD τ) (O + 0) W ∗ _)
    ⊢ iprop(((((PX c d (sz d) (128 - sz d) fullShare (fun _ _ => True) ∗ at0 c 0 d ∗ PX c d 0 (sz d) shR (pX I c d) ∗ PX c d 0 (sz d) shL (pX I c d)) ∗ cX' c d 0)
      ∗ (∃ W, owes (c : Thread nD τ) O W) ∗ _) -∗ _) -∗ _)
  iintro ⟨-, ⟨⟨H1, H2, H3⟩, H4⟩, HO, HB⟩ Hk
  iapply (store_core c (m := Memref.whole cc0_scratch1) (r := rX o inb) (S := slab 9 128 d 0 128) (P := fun i v => (i 1).val < sz d → pX I c d i v) hset.symm (fun f i hi => by
    rw [← hset] at hi
    refine stored ((Memref.whole cc0_scratch1).access (rX o inb)) f w (P := fun i v => (i 1).val < sz d → pX I c d i v) (fun x hx => ?_) i hi
    obtain ⟨-, h1, h2⟩ := emb_acc (N := 9) (inb := inb) ho x
    have h1 : ((((Memref.whole cc0_scratch1).access (rX o inb)).emb x) 1).val = (x 1).val := h1
    have h2 : ((((Memref.whole cc0_scratch1).access (rX o inb)).emb x) 2).val = (x 2).val := h2
    unfold pX
    rw [h1, h2]
    exact hw x (h1 ▸ hx))) $$ [H1 H3]
  · iapply (PG_join_eq (slab_cut (sz_le d)) (slab_disj (.inl (Nat.zero_add _).le)))
    isplitl [H3] <;> iassumption
  iintro H
  ihave H := (cutP (ℓ := lX c) (P := pX I c d) (fun i => (i 1).val < sz d) (slab_cut (sz_le d)) (slab_disj (.inl (Nat.zero_add _).le)) slab_lt) $$ H
  icases H with ⟨H3, H1⟩
  ihave H3 := (PG_share (PosShare.mem_left_op_right _)) $$ H3
  icases H3 with ⟨H3, H5⟩
  ihave HO := (Entails.of_eq (congrArg (fun O => (owes (c : Thread nD τ) O W : sProp 𝕄)) (add_zero O))) $$ HO
  iapply Hk
  isplitr [HO HB]
  · isplitr [H4]
    · isplitl [H1]; · iexact H1
      isplitl [H2]; · iexact H2
      isplitl [H5]; · iexact H5
      iexact H3
    · iexact H4
  isplitl [HO]; · iexists W; iexact HO
  iexact HB

/-- The rounded rows, once in flight: half of their share is left to read with. -/
theorem st_loadX {Q : α → sProp 𝕄} {R : sProp 𝕄} (d : ℕ) {inb hl} {k : (S1x128x2048.Idx → Elt F .bf16) → Prog (TpuEff nD τ sig (Elt F) Λ₀ .tc) α}
    (h : ∀ v, V3 (sz d) (gX I c d) v → St I K c ks r b R ⊢ wpK c (k v) Q) (hd : d < 9 := by decide) (hl' : ks.length = 9 := by rfl) (hk : ks.getD d 0 = 5 := by rfl) (ho : o = ![d, 0, 0] := by rfl) :
    St I K c ks r b R ⊢ wpK c (.op (.load (Memref.whole cc0_scratch1) (rX o inb) hl) k) Q := by
  have hset : ((Memref.whole cc0_scratch1).access (rX o inb)).set = slab 9 128 d 0 128 := (View.set_slice_whole _ _).trans (acc9 ho)
  refine st_load I K c (q := shR) (S := slab 9 128 d 0 128) (P := fun i v => (i 1).val < sz d → pX I c d i v)
    (st_peek' I K c (j := 5) 0 hd hl' hk (B := iprop(PX c d (sz d) (128 - sz d) shL (fun _ _ => True) ∗ at0 c 0 d ∗ crd c 0 d (sz d) ∗ cX' c d 5)) ?_ ?_)
    (subset_of_eq hset) (V3 (sz d) (gX I c d)) (fun f hf x hx => ?_) h
  · show iprop((PX c d (sz d) (128 - sz d) fullShare (fun _ _ => True) ∗ at0 c 0 d ∗ PX c d 0 (sz d) shR (pX I c d) ∗ crd c 0 d (sz d)) ∗ _) ⊢ _
    iintro ⟨⟨H1, H2, H3, H5⟩, H4⟩
    ihave H1 := (PG_share (PosShare.mem_left_op_right _)) $$ H1
    icases H1 with ⟨H1, H6⟩
    isplitl [H6 H3]
    · iapply (joinP (ℓ := lX c) (P := pX I c d) (fun i => (i 1).val < sz d) (slab_cut (sz_le d)) (slab_disj (.inl (Nat.zero_add _).le)) slab_ge)
      isplitl [H3]; · iexact H3
      iexact H6
    isplitl [H1]; · iexact H1
    iframe
  · show _ ⊢ iprop((PX c d (sz d) (128 - sz d) fullShare (fun _ _ => True) ∗ at0 c 0 d ∗ PX c d 0 (sz d) shR (pX I c d) ∗ crd c 0 d (sz d)) ∗ cX' c d 5)
    iintro ⟨H, H1, H2, H5, H4⟩
    ihave H := (cutP (ℓ := lX c) (P := pX I c d) (fun i => (i 1).val < sz d) (slab_cut (sz_le d)) (slab_disj (.inl (Nat.zero_add _).le)) slab_lt) $$ H
    icases H with ⟨H3, H6⟩
    isplitr [H4]
    · isplitl [H1 H6]
      · iapply (PG_unshare (PosShare.mem_left_op_right _))
        isplitl [H1]; · iexact H1
        iexact H6
      isplitl [H2]; · iexact H2
      isplitl [H3]; · iexact H3
      iexact H5
    iexact H4
  · obtain ⟨-, h1, h2⟩ := emb_acc (N := 9) (inb := inb) ho x
    have h1 : ((((Memref.whole cc0_scratch1).access (rX o inb)).emb x) 1).val = (x 1).val := h1
    have h2 : ((((Memref.whole cc0_scratch1).access (rX o inb)).emb x) 2).val = (x 2).val := h2
    have := hf (((Memref.whole cc0_scratch1).access (rX o inb)).emb x) (hset.subset (View.emb_mem_set _ x)) (by rw [h1]; exact hx)
    unfold pX at this
    rw [h1, h2] at this
    exact this

/-- The landed rows in their slot. -/
theorem st_loadB {Q : α → sProp 𝕄} {R : sProp 𝕄} (d : ℕ) {inb hl} {k : (S1x128x2048.Idx → Elt F .bf16) → Prog (TpuEff nD τ sig (Elt F) Λ₀ .tc) α}
    (h : ∀ v, V3 (sz d) (gB I c d) v → St I K c ks r b R ⊢ wpK c (k v) Q) (hd : d < 9 := by decide) (hl' : ks.length = 9 := by rfl) (hk : ks.getD d 0 = 5 := by rfl) (ho : o = ![d % 2, 0, 0] := by rfl) :
    St I K c ks r b R ⊢ wpK c (.op (.load (Memref.whole cc0_scratch3) (rB o inb) hl) k) Q := by
  have hset : ((Memref.whole cc0_scratch3).access (rB o inb)).set = slab 2 128 (d % 2) 0 128 := (View.set_slice_whole _ _).trans (acc2 ho)
  refine st_load I K c (q := fullShare) (S := slab 2 128 (d % 2) 0 128) (P := fun i v => (i 1).val < sz d → pB I c d i v)
    (st_peek' I K c (j := 5) 2 hd hl' hk (B := iprop(at1 c 1 d ∗ PC c (ofs d) (sz d) (pC I c) ∗ cSS I c d 5)) ?_ ?_)
    (subset_of_eq hset) (V3 (sz d) (gB I c d)) (fun f hf x hx => ?_) h
  · show iprop((at1 c 1 d ∗ (PC c (ofs d) (sz d) (pC I c) ∗ PB c (d % 2) (sz d) (128 - sz d) (fun _ _ => True) ∗ PB c (d % 2) 0 (sz d) (pB I c d)) ∗ BI.emp) ∗ _) ⊢ _
    iintro ⟨⟨H1, ⟨H2, H3, H5⟩, -⟩, H4⟩
    isplitl [H5 H3]
    · iapply (joinP (ℓ := lB c) (P := pB I c d) (fun i => (i 1).val < sz d) (slab_cut (sz_le d)) (slab_disj (.inl (Nat.zero_add _).le)) slab_ge)
      isplitl [H5]; · iexact H5
      iexact H3
    isplitl [H1]; · iexact H1
    isplitl [H2]; · iexact H2
    iexact H4
  · show _ ⊢ iprop((at1 c 1 d ∗ (PC c (ofs d) (sz d) (pC I c) ∗ PB c (d % 2) (sz d) (128 - sz d) (fun _ _ => True) ∗ PB c (d % 2) 0 (sz d) (pB I c d)) ∗ BI.emp) ∗ cSS I c d 5)
    iintro ⟨H, H1, H2, H4⟩
    ihave H := (cutP (ℓ := lB c) (P := pB I c d) (fun i => (i 1).val < sz d) (slab_cut (sz_le d)) (slab_disj (.inl (Nat.zero_add _).le)) slab_lt) $$ H
    icases H with ⟨H3, H6⟩
    isplitr [H4]
    · isplitl [H1]; · iexact H1
      isplitl
      · isplitl [H2]; · iexact H2
        isplitl [H6]; · iexact H6
        iexact H3
      · iempintro
    iexact H4
  · obtain ⟨-, h1, h2⟩ := emb_acc (N := 2) (inb := inb) ho x
    have h1 : ((((Memref.whole cc0_scratch3).access (rB o inb)).emb x) 1).val = (x 1).val := h1
    have h2 : ((((Memref.whole cc0_scratch3).access (rB o inb)).emb x) 2).val = (x 2).val := h2
    have := hf (((Memref.whole cc0_scratch3).access (rB o inb)).emb x) (hset.subset (View.emb_mem_set _ x)) (by rw [h1]; exact hx)
    unfold pB at this
    rw [h1, h2] at this
    exact this

/-- The sums, before they are written. -/
theorem st_loadS0 {Q : α → sProp 𝕄} {R : sProp 𝕄} (d : ℕ) {inb hl} {k : (S1x128x2048.Idx → Elt F .bf16) → Prog (TpuEff nD τ sig (Elt F) Λ₀ .tc) α}
    (h : ∀ v, St I K c ks r b R ⊢ wpK c (k v) Q) (hd : d < 9 := by decide) (hl' : ks.length = 9 := by rfl) (hk : ks.getD d 0 = 5 := by rfl) (ho : o = ![d, 0, 0] := by rfl) :
    St I K c ks r b R ⊢ wpK c (.op (.load (Memref.whole cc0_scratch4) (rX o inb) hl) k) Q := by
  refine st_load I K c (q := fullShare) (S := slab 9 128 d 0 128) (P := fun i v => (i 1).val < sz d → True)
    (st_peek' I K c (j := 5) 2 hd hl' hk (B := iprop(cR I c d 5 ∗ cY I c d 5 ∗ cY' c d 5 ∗ cZ I c d 5 ∗ cZ' c d 5 ∗ cL I c d 5)) ?_ ?_) (subset_of_eq ((View.set_slice_whole _ _).trans (acc9 ho)))
    (fun _ => True) (fun _ _ => trivial) (fun v _ => h v)
  · show iprop(cR I c d 5 ∗ (PS c d (sz d) (128 - sz d) fullShare (fun _ _ => True) ∗ PS c d 0 (sz d) fullShare (fun _ _ => True)) ∗ cY I c d 5 ∗ cY' c d 5 ∗ cZ I c d 5 ∗ cZ' c d 5 ∗ cL I c d 5) ⊢ _
    iintro ⟨H4, ⟨H1, H3⟩, H5⟩
    isplitl [H1 H3]
    · iapply (joinP (ℓ := lS c) (P := fun _ _ => True) (fun i => (i 1).val < sz d) (slab_cut (sz_le d)) (slab_disj (.inl (Nat.zero_add _).le)) slab_ge)
      isplitl [H3] <;> iassumption
    isplitl [H4]; · iexact H4
    iexact H5
  · show _ ⊢ iprop(cR I c d 5 ∗ (PS c d (sz d) (128 - sz d) fullShare (fun _ _ => True) ∗ PS c d 0 (sz d) fullShare (fun _ _ => True)) ∗ cY I c d 5 ∗ cY' c d 5 ∗ cZ I c d 5 ∗ cZ' c d 5 ∗ cL I c d 5)
    iintro ⟨H, H4, H5⟩
    ihave H := (cutP (ℓ := lS c) (P := fun _ _ => True) (fun i => (i 1).val < sz d) (slab_cut (sz_le d)) (slab_disj (.inl (Nat.zero_add _).le)) slab_lt) $$ H
    icases H with ⟨H3, H1⟩
    isplitl [H4]; · iexact H4
    isplitl [H1 H3]
    · isplitl [H1] <;> iassumption
    iexact H5

/-- The sums written: the slot is free. -/
theorem st_storeS {Q : α → sProp 𝕄} {R : sProp 𝕄} (d : ℕ) {inb w hx hm} {k : PUnit → Prog (TpuEff nD τ sig (Elt F) Λ₀ .tc) α}
    (h : St I K c (ks.set d 6) r 2 R ⊢ wpK c (k ⟨⟩) Q) (hw : V3 (sz d) (gS I c d) w)
    (hd : d < 9 := by decide) (hl' : ks.length = 9 := by rfl) (hk : ks.getD d 0 = 5 := by rfl) (ho : o = ![d, 0, 0] := by rfl) :
    St I K c ks r (d % 2) R ⊢ wpK c (.op (.store (Memref.whole cc0_scratch4) (rX o inb) w Finset.univ hx hm) k) Q := by
  have hset : ((Memref.whole cc0_scratch4).access (rX o inb)).set = slab 9 128 d 0 128 := (View.set_slice_whole _ _).trans (acc9 ho)
  refine move I K c 2 6 hd hl' hk (fun i hi => by fin_cases i <;> first | rfl | exact absurd rfl hi) (add_zero _).symm (fun O W _ => ?_) h
  show iprop(_ ∗ ((at1 c 1 d ∗ (PC c (ofs d) (sz d) (pC I c) ∗ PB c (d % 2) (sz d) (128 - sz d) (fun _ _ => True) ∗ PB c (d % 2) 0 (sz d) (pB I c d)) ∗ BI.emp)
      ∗ (PS c d (sz d) (128 - sz d) fullShare (fun _ _ => True) ∗ PS c d 0 (sz d) fullShare (fun _ _ => True)) ∗ (at0 c 2 d ∗ BI.emp) ∗ cY' c d 5 ∗ (at0 c 4 d ∗ BI.emp) ∗ cZ' c d 5
        ∗ (atPos ER (cell c (96 + d)) 0 ∅ 0 ∗ BI.emp ∗ dutyTok ER (cell c (96 + d)) 0 0 ∗ PO c (1024 * qu c + ofs d) (sz d) (fun _ _ => True))) ∗ owes (c : Thread nD τ) (O + 0) W
      ∗ atPos ER (cell c 95) r ∅ 0 ∗ reached ER (cell c 95) r ∗ Fs c (d % 2))
    ⊢ iprop((((((at1 c 1 d ∗ PC c (ofs d) (sz d) (pC I c) ∗ BI.emp)
      ∗ (PS c d (sz d) (128 - sz d) fullShare (fun _ _ => True) ∗ BI.emp) ∗ (at0 c 2 d ∗ PS c d 0 (sz d) shY (pS I c d)) ∗ cY' c d 5 ∗ (at0 c 4 d ∗ PS c d 0 (sz d) shZ (pS I c d)) ∗ cZ' c d 5
        ∗ (atPos ER (cell c (96 + d)) 0 ∅ 0 ∗ PS c d 0 (sz d) shL (pS I c d) ∗ dutyTok ER (cell c (96 + d)) 0 0 ∗ PO c (1024 * qu c + ofs d) (sz d) (fun _ _ => True))))
      ∗ (∃ W, owes (c : Thread nD τ) O W) ∗ atPos ER (cell c 95) r ∅ 0 ∗ reached ER (cell c 95) r ∗ Fs c 2) -∗ _) -∗ _)
  iintro ⟨-, ⟨⟨Hr, ⟨Hc, Hb1, Hb0⟩, -⟩, ⟨H1, H3⟩, ⟨Hy, -⟩, Hy', ⟨Hz, -⟩, Hz', ⟨Hl, -, Hl'⟩⟩, HO, HB1, HB2, HB3⟩ Hk
  iapply (store_core c (m := Memref.whole cc0_scratch4) (r := rX o inb) (S := slab 9 128 d 0 128) (P := fun i v => (i 1).val < sz d → pS I c d i v) hset.symm (fun f i hi => by
    rw [← hset] at hi
    refine stored ((Memref.whole cc0_scratch4).access (rX o inb)) f w (P := fun i v => (i 1).val < sz d → pS I c d i v) (fun x hx => ?_) i hi
    obtain ⟨-, h1, h2⟩ := emb_acc (N := 9) (inb := inb) ho x
    have h1 : ((((Memref.whole cc0_scratch4).access (rX o inb)).emb x) 1).val = (x 1).val := h1
    have h2 : ((((Memref.whole cc0_scratch4).access (rX o inb)).emb x) 2).val = (x 2).val := h2
    unfold pS
    rw [h1, h2]
    exact hw x (h1 ▸ hx))) $$ [H1 H3]
  · iapply (PG_join_eq (slab_cut (sz_le d)) (slab_disj (.inl (Nat.zero_add _).le)))
    isplitl [H3] <;> iassumption
  iintro H
  ihave H := (cutP (ℓ := lS c) (P := pS I c d) (fun i => (i 1).val < sz d) (slab_cut (sz_le d)) (slab_disj (.inl (Nat.zero_add _).le)) slab_lt) $$ H
  icases H with ⟨H3, H1⟩
  ihave H3 := (PG_share (PosShare.mem_left_op_right _)) $$ H3
  icases H3 with ⟨H3, H5⟩
  ihave H5 := (PG_share (PosShare.mem_left_op_right _)) $$ H5
  icases H5 with ⟨H5, H6⟩
  ihave Hb0 := PG_any $$ Hb0
  ihave Hb := (show iprop(PB c (d % 2) 0 (sz d) (fun _ _ => True) ∗ PB c (d % 2) (sz d) (128 - sz d) (fun _ _ => True)) ⊢ PB c (d % 2) 0 128 (fun _ _ => True) from
    PG_join_eq (slab_cut (sz_le d)) (slab_disj (.inl (Nat.zero_add _).le))) $$ [Hb0 Hb1]
  · isplitl [Hb0] <;> iassumption
  ihave HF := (slot_give c (Nat.mod_lt d two_pos)) $$ [Hb HB3]
  · isplitl [Hb] <;> iassumption
  ihave HO := (Entails.of_eq (congrArg (fun O => (owes (c : Thread nD τ) O W : sProp 𝕄)) (add_zero O))) $$ HO
  ihave H3 := (show PG (lS c) (slab 9 128 d 0 (sz d)) fullShare.left (pS I c d) ⊢ PS c d 0 (sz d) shL (pS I c d) from Entails.rfl) $$ H3
  ihave H5 := (show PG (lS c) (slab 9 128 d 0 (sz d)) fullShare.right.left (pS I c d) ⊢ PS c d 0 (sz d) shY (pS I c d) from Entails.rfl) $$ H5
  ihave H6 := (show PG (lS c) (slab 9 128 d 0 (sz d)) fullShare.right.right (pS I c d) ⊢ PS c d 0 (sz d) shZ (pS I c d) from Entails.rfl) $$ H6
  iapply Hk
  isplitr [HO HB1 HB2 HF]
  · isplitl [Hr Hc]
    · isplitl [Hr]; · iexact Hr
      isplitl [Hc]; · iexact Hc
      iempintro
    isplitl [H1]
    · isplitl [H1]; · iexact H1
      iempintro
    isplitl [Hy H5]
    · isplitl [Hy] <;> iassumption
    isplitl [Hy']; · iexact Hy'
    isplitl [Hz H6]
    · isplitl [Hz] <;> iassumption
    isplitl [Hz']; · iexact Hz'
    isplitl [Hl]; · iexact Hl
    isplitl [H3] <;> iassumption
  isplitl [HO]; · iexists W; iexact HO
  isplitl [HB1]; · iexact HB1
  isplitl [HB2] <;> iassumption

end Mem

end Cert.K
-- ==== Proof.Gather.lean ====
/-
  The rows gathered: guarded row copies started on one semaphore and awaited, a chunk to a slot.
-/
module

public import proofs.«01_k».proof.Proof.Mem
public import Idealize.ShloMosaic.Lib.Batch

@[expose] public section

set_option maxRecDepth 16384

noncomputable section

namespace Cert.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open PCS URA
open Idealize.ShloMosaic.ValueIdx (ix2 ix3)
open Idealize.ShloMosaic.Transfers

variable {F : FTy → Type} [FloatOps F]

local notation "𝕄" => MT nD τ sig Unit (Elt F) ℕ UU ℕ

variable (I : Ins F) (K : GSem nD τ sig → ℕ) (c : Dev nD)

/-! ## The `t`-th index at which a condition holds -/

open Classical in
/-- The index with `t` earlier ones. -/
def nth (p : ℕ → Prop) [DecidablePred p] (t : ℕ) : ℕ := if h : ∃ i, p i ∧ Nat.count p i = t then Nat.find h else 0

section Nth

variable {p : ℕ → Prop} [DecidablePred p]

/-- The row that as many kept rows come before as come before a kept row is that row. -/
theorem nth_count {i : ℕ} (hi : p i) : nth p (Nat.count p i) = i := by
  have h : ∃ k, p k ∧ Nat.count p k = Nat.count p i := ⟨i, hi, rfl⟩
  unfold nth
  rw [dif_pos h]
  exact Nat.count_injective (Nat.find_spec h).1 hi (Nat.find_spec h).2

/-- Each count below the total is reached at some kept row. -/
theorem exists_count {m t : ℕ} (h : t < Nat.count p m) : ∃ i, i < m ∧ p i ∧ Nat.count p i = t := by
  induction m with
  | zero => simp at h
  | succ m ih =>
    rw [Nat.count_succ] at h
    by_cases hm : p m
    · rw [if_pos hm] at h
      rcases Nat.lt_succ_iff_lt_or_eq.mp h with h | h
      · obtain ⟨i, hi, r⟩ := ih h; exact ⟨i, by omega, r⟩
      · exact ⟨m, by omega, hm, h.symm⟩
    · rw [if_neg hm] at h
      obtain ⟨i, hi, r⟩ := ih h; exact ⟨i, by omega, r⟩

/-- The `t`-th kept row is below the bound, is kept and has `t` kept rows before it. -/
theorem nth_spec {m t : ℕ} (h : t < Nat.count p m) : nth p t < m ∧ p (nth p t) ∧ Nat.count p (nth p t) = t := by
  obtain ⟨i, hi, hp, rfl⟩ := exists_count h
  rw [nth_count hp]
  exact ⟨hi, hp, rfl⟩

/-- One product over the indices at which the condition holds, counted. -/
theorem bigSep_nth {M : Type} [URA M] (m : ℕ) (Φ : ℕ → sProp M) :
    bigSep (Finset.univ : Finset (Fin (Nat.count p m))) (fun t => Φ (nth p t.val)) = bigSep ((Finset.range m).filter p) Φ := by
  let e : Fin (Nat.count p m) ↪ ℕ := ⟨fun t => nth p t.val, fun a b h => Fin.ext (by
    have h : nth p a.val = nth p b.val := h
    rw [← (nth_spec a.isLt).2.2, ← (nth_spec b.isLt).2.2, h])⟩
  have hs : (Finset.range m).filter p = Finset.univ.map e := by
    ext i
    rw [Finset.mem_filter, Finset.mem_range, Finset.mem_map]
    constructor
    · rintro ⟨hi, hp⟩
      refine ⟨⟨Nat.count p i, Nat.count_strict_mono hp hi⟩, Finset.mem_univ _, nth_count hp⟩
    · rintro ⟨t, -, rfl⟩
      exact ⟨(nth_spec t.isLt).1, (nth_spec t.isLt).2.1⟩
  rw [hs, bigSep_map]
  rfl

end Nth

/-! ## Rows, words, slots -/

abbrev vE (o : Fin 2 → ℕ) (inb : ∀ a, o a + S1x2048.size a ≤ S8192x2048.size a) : Memref sig .tc .hbm S1x2048 .f32 :=
  (Memref.whole main_arg1).slice (Rect.unit (s := S8192x2048) o S1x2048.size inb) (fun _ => rfl)
abbrev vG (o : Fin 3 → ℕ) (inb : ∀ a, o a + S1x128x2048.size a ≤ S2x128x2048.size a) (sq : S1x128x2048.Squeezes S128x2048) (o' : Fin 2 → ℕ) (inb' : ∀ a, o' a + S1x2048.size a ≤ S128x2048.size a) :
    Memref sig .tc .vmem S1x2048 .f32 :=
  (((Memref.whole cc0_scratch0).slice (Rect.unit (s := S2x128x2048) o S1x128x2048.size inb) (fun _ => rfl)).squeeze S128x2048 sq).slice (Rect.unit (s := S128x2048) o' S1x2048.size inb') (fun _ => rfl)

/-- The places one row of the table covers. -/
theorem set_vE {o : Fin 2 → ℕ} {a : ℕ} {inb} (ho : o = ![a, 0]) : (vE o inb).view.set = rows 8192 a 1 :=
  (View.set_slice_whole _ _).trans (rset_rows (inb := inb) ho)
/-- Where a row of the table has each of its places. -/
theorem at_vE {o : Fin 2 → ℕ} {a : ℕ} {inb} (ho : o = ![a, 0]) (x) : (((vE o inb).view.emb x) 0).val = a + (x 0).val ∧ (((vE o inb).view.emb x) 1).val = (x 1).val :=
  emb_rows (N := 8192) (n := 1) (inb := inb) ho x
/-- Where a row of a gathering slot has each of its places. -/
theorem at_vG {o : Fin 3 → ℕ} {s a : ℕ} {inb sq} {o' : Fin 2 → ℕ} {inb'} (ho : o = ![s, 0, 0]) (ho' : o' = ![a, 0]) (x) :
    (((vG o inb sq o' inb').view.emb x) 0).val = s ∧ (((vG o inb sq o' inb').view.emb x) 1).val = a + (x 0).val ∧ (((vG o inb sq o' inb').view.emb x) 2).val = (x 1).val := by
  obtain ⟨h1, h2⟩ := emb_rows (N := 128) (n := 1) (inb := inb') ho' x
  obtain ⟨h3, h4, h5⟩ := emb_slab (K := 2) (R := 128) (n := 128) (inb := inb) ho sq.numel_eq ((Rect.unit (s := S128x2048) o' S1x2048.size inb').emb x)
  refine ⟨h3, h4.trans ?_, h5.trans h2⟩
  rw [Nat.zero_add]; exact h1
/-- The places one row of a gathering slot covers. -/
theorem set_vG {o : Fin 3 → ℕ} {s a : ℕ} {inb sq} {o' : Fin 2 → ℕ} {inb'} (ho : o = ![s, 0, 0]) (ho' : o' = ![a, 0]) : (vG o inb sq o' inb').view.set = slab 2 128 s a 1 := by
  ext i
  rw [mem_slab]
  constructor
  · intro h
    obtain ⟨x, -, rfl⟩ := Finset.mem_map.mp h
    obtain ⟨h1, h2, -⟩ := at_vG (inb := inb) (sq := sq) (inb' := inb') ho ho' x
    have : (x 0).val < 1 := (x 0).isLt
    refine ⟨h1, ?_⟩
    have h2 : (((vG o inb sq o' inb').view.emb x) 1).val = a + (x 0).val := h2
    exact ⟨h2 ▸ Nat.le_add_right _ _, h2 ▸ (by omega)⟩
  · rintro ⟨h1, h2, h3⟩
    obtain ⟨e1, e2, e3⟩ := at_vG (inb := inb) (sq := sq) (inb' := inb') ho ho' (ix2 (n0 := 1) (n1 := 2048) 0 (i 2))
    have e : (vG o inb sq o' inb').view.emb (ix2 (n0 := 1) (n1 := 2048) 0 (i 2)) = i := by
      funext k
      match k with
      | 0 => exact Fin.ext (e1.trans h1.symm)
      | 1 => exact Fin.ext (e2.trans (by show a + 0 = _; omega))
      | 2 => exact Fin.ext e3
    exact e ▸ View.emb_mem_set _ _

/-- What the copy of a row credits. -/
def NR : ℕ := Ref.dmaCredit cc0_scratch0 S1x2048 .f32
/-- A row's copy counts for something. -/
theorem NR_pos : 0 < NR := sig.dmaCredit_pos _ _ _ _ _ (by decide)
/-- What a row's copy counts for. -/
theorem cr_r : Ref.dmaCredit cc0_scratch0 S1x2048 .f32 = NR := rfl
attribute [irreducible] NR

/-- The word of row `r`. -/
def wix (r : ℕ) : S4096.Idx := fun a => match a with | 0 => ⟨r % 4096, Nat.mod_lt _ (by decide)⟩
def wrd (d j : ℕ) : S4096.Idx := wix (1024 * qu c + ofs d + j)
/-- Row `j` of chunk `d` is copied. -/
def gd (d j : ℕ) : Prop := I.msk c (wrd c d j) ≠ 0#32
instance (d : ℕ) : DecidablePred (gd I c d) := fun j => by unfold gd; infer_instance
/-- From which row. -/
def er (d j : ℕ) : ℕ := (I.sid c (wrd c d j)).toNat
/-- The share of the table a slot reads with. -/
def esh (s : ℕ) : PosShare TreeShare := if s = 0 then shL else shR

/-- The two tables of words. -/
def SM : sProp 𝕄 := iprop((lId c ↦[Finset.univ]{fullShare} I.sid c) ∗ (lMk c ↦[Finset.univ]{fullShare} I.msk c))
def Fre (s j : ℕ) : sProp 𝕄 := iprop(PGv c s j 1 (fun _ _ => True) ∗ (lE c ↦[Finset.univ]{shareTokN (esh s) j} I.E c))
def Rwd (s d j : ℕ) : sProp 𝕄 := iprop(PGv c s j 1 (pG I c d) ∗ (lE c ↦[rows 8192 (er I c d j) 1]{shareTokN (esh s) j} I.E c))
def Mid (s d j : ℕ) : sProp 𝕄 := if gd I c d j then (lE c ↦[Finset.univ \ rows 8192 (er I c d j) 1]{shareTokN (esh s) j} I.E c) else Fre I c s j
def Don (s d j : ℕ) : sProp 𝕄 := iprop(PGv c s j 1 (pG I c d) ∗ (lE c ↦[Finset.univ]{shareTokN (esh s) j} I.E c))
/-- How many rows are copied, and what each copy brings. -/
abbrev nn (d i : ℕ) : ℕ := Nat.count (gd I c d) i
def Dl (s d : ℕ) (t : Fin (nn I c d (sz d))) : sProp 𝕄 := Rwd I c s d (nth (gd I c d) t.val)
instance (s d : ℕ) (t) : Storable (upEmb : UEmb _ 𝕄) (Dl I c s d t) := by unfold Dl Rwd; infer_instance
abbrev Bt (s d k u : ℕ) : sProp 𝕄 := Batch EC (c : Thread nD τ) (.dma (dsem (92 + s))) () NR (Dl I c s d) k u
def Iss (s d i : ℕ) : sProp 𝕄 := iprop((bigSep (Finset.range (sz d)) fun j => if j < i then Mid I c s d j else Fre I c s j) ∗ Bt I c s d (nn I c d i) 0)
/-- What is not used of the slot. -/
def Rst (s d : ℕ) : sProp 𝕄 := iprop(PGv c s (sz d) (128 - sz d) (fun _ _ => True) ∗ (lE c ↦[Finset.univ]{shareDrop (esh s) (sz d)} I.E c))

/-- The kernel's test for the mask is whether the mask is not zero. -/
theorem cond_iff (w : BitVec 32) : Scalar.cmpi .ne (Scalar.extui (Scalar.cmpi .ne w 0#32 : BitVec 1) : BitVec 32) 0#32 = 1#1 ↔ w ≠ 0#32 := by
  by_cases h : w = 0#32
  · subst h; simp [show (Scalar.cmpi .ne (Scalar.extui (Scalar.cmpi .ne (0#32 : BitVec 32) 0#32 : BitVec 1) : BitVec 32) 0#32 : BitVec 1) = 0#1 from by decide]
  · have e : (Scalar.cmpi .ne w 0#32 : BitVec 1) = 1#1 := by
      exact congrArg BitVec.ofBool (bne_iff_ne.mpr h)
    rw [e]
    simp [h, show (Scalar.cmpi .ne (Scalar.extui (1#1 : BitVec 1) : BitVec 32) 0#32 : BitVec 1) = 1#1 from by decide]

/-- A row number below the table's length is a row of the table. -/
theorem row_inb {v : BitVec 32} (h : v.toNat < 8192) {P : Prop} : ∀ _ : P, ∀ a, (![v.toNat, 0] : Fin 2 → ℕ) a + S1x2048.size a ≤ S8192x2048.size a :=
  fun _ a => by
    match a with
    | 0 => show v.toNat + 1 ≤ 8192; omega
    | 1 => show 0 + 2048 ≤ 2048; omega

/-! ## One trip -/

/-- A word loaded. -/
theorem word_load {α : Type} {s : Shape} {e : EltTy} (m : Memref sig .tc .smem s e) (r : Rect s) {h1 : r.shape.numel = 1} {hp : e.packing = 1} (f : Buf (Elt F) (m.view.loc (c.tc : Thread nD τ)))
    {A : sProp 𝕄} {k : Elt F e → Prog (TpuEff nD τ sig (Elt F) Λ₀ .tc) α} {Q : α → sProp 𝕄}
    (h : ∀ v, v = (m.access r).read (Elt F) f (Shape.Idx.first (h1.symm ▸ Nat.one_pos)) → iprop((m.view.loc (c.tc : Thread nD τ) ↦[Finset.univ]{fullShare} f) ∗ A) ⊢ wpK c (k v) Q) :
    iprop((m.view.loc (c.tc : Thread nD τ) ↦[Finset.univ]{fullShare} f) ∗ A) ⊢ wpK c (smemLoad m r h1 hp >>= k) Q := by
  iintro ⟨H, HA⟩
  iapply (wp_smemLoadElt 𝒱₀ (c.tc : Thread nD τ) none Set.univ (m := m) (r := r) (S := Finset.univ) (q := fullShare) (f := f) (hw := View.loads_smem_one hp h1) (x := Shape.Idx.first (h1.symm ▸ Nat.one_pos)) (k := fun v => k v) (Finset.subset_univ _)) $$ H
  iintro H
  iapply (h _ rfl)
  isplitl [H] <;> iassumption

section Trip

variable (o1 : Fin 1 → ℕ) (i1 : ∀ a, o1 a + S1.size a ≤ S4096.size a) (chk : BitVec 32 → BitVec 32 → Prop) (dec : ∀ v w, Decidable (chk v w)) (cond : BitVec 32 → BitVec 1)
  (oE : BitVec 32 → Fin 2 → ℕ) (iE : ∀ v w, chk v w → cond w = 1#1 → ∀ a, oE v a + S1x2048.size a ≤ S8192x2048.size a)
  (oS : Fin 3 → ℕ) (iS : ∀ a, oS a + S1x128x2048.size a ≤ S2x128x2048.size a) (sq : S1x128x2048.Squeezes S128x2048) (o2 : Fin 2 → ℕ) (i2 : ∀ a, o2 a + S1x2048.size a ≤ S128x2048.size a) (sm : DmaSem sig)

/-- The side condition, and what is done with a row if it is copied. -/
abbrev restT (act : (v : BitVec 32) → (∀ a, oE v a + S1x2048.size a ≤ S8192x2048.size a) → Prog (TpuEff nD τ sig (Elt F) Λ₀ .tc) PUnit) (v w : BitVec 32) : Prog (TpuEff nD τ sig (Elt F) Λ₀ .tc) Unit := do
  have hw : chk v w := (← Prog.lift (TpuEff.assume (chk v w) (dec v w))).down
  if h : cond w = 1#1 then do
    act v (iE v w hw h)
    pure ⟨⟩
  else do
    pure ⟨⟩
  pure ⟨⟩

/-- The two words of a row and the rest. -/
abbrev tripT (act : (v : BitVec 32) → (∀ a, oE v a + S1x2048.size a ≤ S8192x2048.size a) → Prog (TpuEff nD τ sig (Elt F) Λ₀ .tc) PUnit) : Prog (TpuEff nD τ sig (Elt F) Λ₀ .tc) Unit := do
  let v : Elt F .i32 ← smemLoad (Memref.whole cc0_stg0_0) (Rect.unit (s := S4096) o1 S1.size i1) numel1_S1 rfl
  let w : Elt F .i32 ← smemLoad (Memref.whole cc0_stg1_0) (Rect.unit (s := S4096) o1 S1.size i1) numel1_S1 rfl
  restT (F := F) chk dec cond oE iE act v w

variable {o1 i1 chk dec cond oE iE oS iS sq o2 i2 sm}

/-- One turn of a row loop: the step for a row kept and the step for a row left out give the whole turn. -/
theorem trip_core {act} {d j : ℕ} {A B : sProp 𝕄} (hd : d < 9) (hj : j < sz d) (h1 : o1 = ![1024 * qu c + ofs d + j]) (hc : ∀ w, cond w = 1#1 ↔ w ≠ 0#32)
    (hk : ∀ v w, v.toNat < 8192 → chk v w)
    (hact : gd I c d j → ∀ inb, A ⊢ wpK c (act (I.sid c (wrd c d j)) inb) fun _ => B) (hno : ¬ gd I c d j → A ⊢ B) :
    iprop(SM I c ∗ A) ⊢ wpK c (tripT (F := F) o1 i1 chk dec cond oE iE act) fun _ => iprop(SM I c ∗ B) := by
  have hr : ∀ (f : S4096.Idx → BitVec 32) (x : S1.Idx), f ((Rect.unit (s := S4096) o1 S1.size i1).emb x) = f (wrd c d j) := fun f x => congrArg f (by
    funext a
    match a with
    | 0 =>
      apply Fin.ext
      subst h1
      have h2 := ofs_sz hd
      have h3 := qu_lt c
      have h0 : (x 0).val < 1 := (x 0).isLt
      show 1024 * qu c + ofs d + j + 1 * (x 0).val = (1024 * qu c + ofs d + j) % 4096
      rw [Nat.mod_eq_of_lt (by omega)]
      omega)
  have key : ∀ v w, v = I.sid c (wrd c d j) → w = I.msk c (wrd c d j) → iprop(SM I c ∗ A) ⊢ wpK c (restT (F := F) chk dec cond oE iE act v w) fun _ => iprop(SM I c ∗ B) := by
    rintro v w rfl rfl
    refine BIBase.Entails.trans ?_ (wp_assume 𝒱₀ (c : Thread nD τ) none Set.univ (hk _ _ (I.sid_lt c _)))
    by_cases h : gd I c d j
    · have hcw : cond (I.msk c (wrd c d j)) = 1#1 := (hc _).mpr h
      simp only [dif_pos hcw]
      show _ ⊢ wpK c (act (I.sid c (wrd c d j)) (iE _ _ (hk _ _ (I.sid_lt c _)) hcw) >>= fun _ => Prog.ret ()) _
      unfold wpK
      rw [wp_bind]
      refine (sep_mono_right (hact h (iE _ _ (hk _ _ (I.sid_lt c _)) hcw))).trans ((wp_frame_l _ _ _).trans (wp_mono _ _ _ fun _ => ?_))
      rw [wp_ret]
      exact fupd_intro
    · have hcw : ¬ cond (I.msk c (wrd c d j)) = 1#1 := fun e => h ((hc _).mp e)
      simp only [dif_neg hcw]
      show _ ⊢ wpK c (Prog.ret ()) _
      refine (sep_mono_right (hno h)).trans ?_
      unfold wpK
      rw [wp_ret]
      exact fupd_intro
  have e1 : ∀ x, ((Memref.whole cc0_stg0_0).access (Rect.unit (s := S4096) o1 S1.size i1)).read (Elt F) (I.sid c) x = I.sid c (wrd c d j) := fun x => hr (I.sid c) x
  have e2 : ∀ x, ((Memref.whole cc0_stg1_0).access (Rect.unit (s := S4096) o1 S1.size i1)).read (Elt F) (I.msk c) x = I.msk c (wrd c d j) := fun x => hr (I.msk c) x
  refine BIBase.Entails.trans ?_ (word_load c (Memref.whole cc0_stg0_0) (Rect.unit (s := S4096) o1 S1.size i1) (I.sid c) (A := iprop((lMk c ↦[Finset.univ]{fullShare} I.msk c) ∗ A)) fun v hv => ?_)
  · unfold SM
    iintro ⟨⟨H1, H2⟩, H3⟩
    iframe
  refine BIBase.Entails.trans ?_ (word_load c (Memref.whole cc0_stg1_0) (Rect.unit (s := S4096) o1 S1.size i1) (I.msk c) (A := iprop((lId c ↦[Finset.univ]{fullShare} I.sid c) ∗ A)) fun w hw => ?_)
  · iintro ⟨H1, H2, H3⟩
    iframe
  refine BIBase.Entails.trans ?_ (key v w (hv.trans (e1 _)) (hw.trans (e2 _)))
  unfold SM
  iintro ⟨H1, H2, H3⟩
  iframe

end Trip

end Cert.K
-- ==== Proof.Slots.lean ====
/-
  The slots of the gathered rows: row copies started, awaited, the rows read.
-/
module

public import proofs.«01_k».proof.Proof.Gather

@[expose] public section

set_option maxRecDepth 16384

noncomputable section

namespace Cert.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open PCS URA
open Idealize.ShloMosaic.ValueIdx (ix2 ix3)
open Idealize.ShloMosaic.Transfers

variable {F : FTy → Type} [FloatOps F]

local notation "𝕄" => MT nD τ sig Unit (Elt F) ℕ UU ℕ

variable (I : Ins F) (K : GSem nD τ sig → ℕ) (c : Dev nD)

/-! ## A row's copy -/

section Row

variable {s d j : ℕ}

/-- The place in the list of ids of a chunk's row. -/
theorem wrd_val (hd : d < 9) (hj : j < sz d) : ((wrd c d j) 0).val = 1024 * qu c + ofs d + j := by
  have h2 := ofs_sz hd
  have h3 := qu_lt c
  show (1024 * qu c + ofs d + j) % 4096 = _
  exact Nat.mod_eq_of_lt (by omega)
/-- A place of the list with that number is that row's. -/
theorem wrd_eq (hd : d < 9) (hj : j < sz d) {i : S4096.Idx} (h : (i 0).val = 1024 * qu c + ofs d + j) : i = wrd c d j := by
  funext a
  match a with
  | 0 => exact Fin.ext (h.trans (wrd_val c hd hj).symm)

/-- A kept row adds one to the count of kept rows. -/
theorem nn_yes (hg : gd I c d j) : nn I c d (j + 1) = nn I c d j + 1 := by
  show Nat.count (gd I c d) (j + 1) = Nat.count (gd I c d) j + 1
  rw [Nat.count_succ, if_pos hg]
/-- A row left out adds nothing to the count. -/
theorem nn_no (hg : ¬ gd I c d j) : nn I c d (j + 1) = nn I c d j := by
  show Nat.count (gd I c d) (j + 1) = Nat.count (gd I c d) j
  rw [Nat.count_succ, if_neg hg]; rfl

/-- Copying a table row into a slot's row leaves the gathered row there. -/
theorem cp_EG (hd : d < 9) (hj : j < sz d) {oE : Fin 2 → ℕ} {iE} {oS : Fin 3 → ℕ} {iS sq} {o2 : Fin 2 → ℕ} {i2} (hE : oE = ![er I c d j, 0]) (hS : oS = ![s, 0, 0]) (h2 : o2 = ![j, 0])
    (fd : Buf (Elt F) (lG c)) : ∀ i ∈ (vG oS iS sq o2 i2).view.set, pG I c d i ((vG oS iS sq o2 i2).view.write (Elt F) fd ((vE oE iE).view.read (Elt F) (I.E c)) Finset.univ i) :=
  copied (vE oE iE).view (vG oS iS sq o2 i2).view (I.E c) fd (P := fun i v => v = I.E c i) (P' := pG I c d) (fun x v hv => by
    obtain ⟨e1, e2⟩ := at_vE (inb := iE) hE x
    obtain ⟨-, e4, e5⟩ := at_vG (inb := iS) (sq := sq) (inb' := i2) hS h2 x
    have hx : (x 0).val < 1 := (x 0).isLt
    have hv : v = I.E c ((vE oE iE).view.emb x) := hv
    show GoodG I c (1024 * qu c + ofs d + (((vG oS iS sq o2 i2).view.emb x) 1).val) (((vG oS iS sq o2 i2).view.emb x) 2).val v
    rw [e4, e5, hv]
    intro i hi _ k hk0 hk1
    have hi : i = wrd c d j := wrd_eq c hd hj (by omega)
    subst hi
    refine congrArg (I.E c) ?_
    funext a
    match a with
    | 0 => exact Fin.ext (e1.trans (by rw [hk0]; show er I c d j + _ = er I c d j; omega))
    | 1 => exact Fin.ext (e2.trans hk1.symm)) fun _ _ => rfl

/-- What a row holds while copies are being started. -/
def isF (s d i j : ℕ) : sProp 𝕄 := if j < i then Mid I c s d j else Fre I c s j

/-- One row can be taken from those whose copies are yet to be started. -/
theorem iss_take {i : ℕ} (hi : i < sz d) :
    (bigSep (Finset.range (sz d)) fun j => isF I c s d i j) ⊢ iprop(Fre I c s i ∗ (Mid I c s d i -∗ bigSep (Finset.range (sz d)) fun j => isF I c s d (i + 1) j)) := by
  have hm := Finset.mem_range.mpr hi
  have e : bigSep ((Finset.range (sz d)).erase i) (fun j => isF I c s d i j) = bigSep ((Finset.range (sz d)).erase i) (fun j => isF I c s d (i + 1) j) :=
    bigSep_congr fun j hj => by
      have := (Finset.mem_erase.mp hj).1
      unfold isF
      by_cases h : j < i
      · rw [if_pos h, if_pos (by omega)]
      · rw [if_neg h, if_neg (by omega)]
  have h1 : (bigSep (Finset.range (sz d)) fun j => isF I c s d i j) = iprop(Fre I c s i ∗ bigSep ((Finset.range (sz d)).erase i) (fun j => isF I c s d i j)) := by
    have h := bigSep_erase hm (Φ := fun j => isF I c s d i j)
    rw [show isF I c s d i i = Fre I c s i by unfold isF; exact if_neg (Nat.lt_irrefl i)] at h
    exact h
  have h2 : (bigSep (Finset.range (sz d)) fun j => isF I c s d (i + 1) j) = iprop(Mid I c s d i ∗ bigSep ((Finset.range (sz d)).erase i) (fun j => isF I c s d i j)) := by
    have h := bigSep_erase hm (Φ := fun j => isF I c s d (i + 1) j)
    rw [show isF I c s d (i + 1) i = Mid I c s d i by unfold isF; exact if_pos (Nat.lt_succ_self i), ← e] at h
    exact h
  rw [h1, h2]
  iintro ⟨H, Hr⟩
  isplitl [H]; · iexact H
  iintro H
  isplitl [H] <;> iassumption

end Row

/-- The rows of a chunk, the copies of the first `i` started. -/
def Isu (s d i : ℕ) : sProp 𝕄 := iprop((bigSep (Finset.range (sz d)) fun j => isF I c s d i j) ∗ Bt I c s d (nn I c d i) 0)

section Row2

variable {s d j : ℕ} {o1 : Fin 1 → ℕ} {i1 : ∀ a, o1 a + S1.size a ≤ S4096.size a} {chk : BitVec 32 → BitVec 32 → Prop} {dec : ∀ v w, Decidable (chk v w)} {cond : BitVec 32 → BitVec 1}
  {oE : BitVec 32 → Fin 2 → ℕ} {iE : ∀ v w, chk v w → cond w = 1#1 → ∀ a, oE v a + S1x2048.size a ≤ S8192x2048.size a}
  {oS : Fin 3 → ℕ} {iS : ∀ a, oS a + S1x128x2048.size a ≤ S2x128x2048.size a} {sq : S1x128x2048.Squeezes S128x2048} {o2 : Fin 2 → ℕ} {i2 : ∀ a, o2 a + S1x2048.size a ≤ S128x2048.size a} {sm : DmaSem sig}

/-- The next copy of a batch started. -/
theorem batch_core {sp sp' : Space} {sh : Shape} {e : EltTy} {src : Memref sig .tc sp sh e} {dst : Memref sig .tc sp' sh e} {hsrc : src.view.WordExact} {hdst : dst.view.WordExact}
    {hsem : DmaTarget.Typed (nD := nD) sp (.dma sm) (DmaTarget.here (τ := τ) (nD := nD) (p := (Proc.tc : Proc τ)) dst)} {n : ℕ} {D : Fin n → sProp 𝕄} {q : PosShare TreeShare} {N t : ℕ} {G : sProp 𝕄}
    {fs : Buf (Elt F) (src.view.loc (c.tc : Thread nD τ))} {fd : Buf (Elt F) (dst.view.loc (c.tc : Thread nD τ))} (hN : dst.view.dmaCredit = N) (ht : t < n)
    (hD : iprop((dst.view.loc (c.tc : Thread nD τ) ↦[dst.view.set]{fullShare} dst.view.write (Elt F) fd (src.view.read (Elt F) fs) Finset.univ)
        ∗ (src.view.loc (c.tc : Thread nD τ) ↦[src.view.set]{q} fs)) ⊢ D ⟨t, ht⟩) :
    iprop((src.view.loc (c.tc : Thread nD τ) ↦[src.view.set]{q} fs) ∗ (dst.view.loc (c.tc : Thread nD τ) ↦[dst.view.set]{fullShare} fd) ∗ Batch EC (c : Thread nD τ) (.dma sm) () N D t 0 ∗ G)
      ⊢ wpK c (Prog.lift (.enqueueDma src (.here dst) (.dma sm) hsrc hdst hsem) : Prog (TpuEff nD τ sig (Elt F) Λ₀ .tc) PUnit) fun _ => iprop(Batch EC (c : Thread nD τ) (.dma sm) () N D (t + 1) 0 ∗ G) := by
  iintro ⟨Hs, Hd, HB, HG⟩
  iapply (wp_dmaBatch EC 𝒱₀ (c : Thread nD τ) none (src := src) (dst := dst) (via := ReadAs.same) (sm := .dma sm) (q := q) (fs := fs)
    (Sd := dst.view.set) (fd := fd) (D := D) (j := t) (u := 0) () N hN (Finset.Subset.refl _) ht (Nat.zero_le _) hD) $$ [Hs Hd HB]
  · isplitl [Hs]; · iexact Hs
    isplitl [Hd]; · iexact Hd
    iexact HB
  iintro HB
  rw [wp_ret]
  imodintro
  isplitl [HB] <;> iassumption

/-- What a row's copy hands over when it lands: the row gathered and the table's share. -/
theorem hD_row (hd : d < 9) (hj : j < sz d) (hg : gd I c d j) {oE : Fin 2 → ℕ} {iE} (hE : oE = ![er I c d j, 0]) (hS : oS = ![s, 0, 0]) (h2 : o2 = ![j, 0]) (fd : Buf (Elt F) (lG c)) :
    iprop((lG c ↦[(vG oS iS sq o2 i2).view.set]{fullShare} (vG oS iS sq o2 i2).view.write (Elt F) fd ((vE oE iE).view.read (Elt F) (I.E c)) Finset.univ)
      ∗ (lE c ↦[(vE oE iE).view.set]{shareTokN (esh s) j} I.E c)) ⊢ Dl I c s d ⟨nn I c d j, Nat.count_strict_mono hg hj⟩ := by
  have h1 : (lG c ↦[(vG oS iS sq o2 i2).view.set]{fullShare} (vG oS iS sq o2 i2).view.write (Elt F) fd ((vE oE iE).view.read (Elt F) (I.E c)) Finset.univ : sProp 𝕄)
      ⊢ PG (lG c) (vG oS iS sq o2 i2).view.set fullShare (pG I c d) := PG_intro _ (cp_EG I c (iE := iE) (iS := iS) (sq := sq) (i2 := i2) hd hj hE hS h2 fd)
  rw [set_vG hS h2] at h1
  unfold Dl
  rw [nth_count hg]
  unfold Rwd
  rw [set_vG hS h2, set_vE hE]
  exact sep_mono_left h1

/-- Starting a kept row's copy moves the slot on by one row. -/
theorem issue_row (hd : d < 9) (hj : j < sz d) (hg : gd I c d j) {oE : Fin 2 → ℕ} {iE hsrc hdst} {hsem : DmaTarget.Typed (nD := nD) .hbm (.dma sm) (DmaTarget.here (τ := τ) (nD := nD) (p := (Proc.tc : Proc τ)) (vG oS iS sq o2 i2))}
    (hE : oE = ![er I c d j, 0]) (hS : oS = ![s, 0, 0]) (h2 : o2 = ![j, 0]) (hsm : sm = dsem (92 + s)) :
    Isu I c s d j ⊢ wpK c (Prog.lift (.enqueueDma (vE oE iE) (.here (vG oS iS sq o2 i2)) (.dma sm) hsrc hdst hsem) : Prog (TpuEff nD τ sig (Elt F) Λ₀ .tc) PUnit) fun _ => Isu I c s d (j + 1) := by
  subst hsm
  have hn : nn I c d (j + 1) = nn I c d j + 1 := nn_yes I c hg
  unfold Isu
  rw [hn]
  iintro ⟨H, HB⟩
  ihave H := (iss_take I c hj) $$ H
  icases H with ⟨H, Hb⟩
  ihave H := (show Fre I c s j ⊢ iprop(PGv c s j 1 (fun _ _ => True) ∗ (lE c ↦[Finset.univ]{shareTokN (esh s) j} I.E c)) from Entails.of_eq rfl) $$ H
  icases H with ⟨Hd, Hs⟩
  ihave Hd := PG_open $$ Hd
  icases Hd with ⟨%fd, Hd, -⟩
  have hset : (Finset.univ : Finset S8192x2048.Idx) = rows 8192 (er I c d j) 1 ∪ (Finset.univ \ rows 8192 (er I c d j) 1) := (Finset.union_sdiff_of_subset (Finset.subset_univ _)).symm
  ihave Hs := (show (lE c ↦[Finset.univ]{shareTokN (esh s) j} I.E c : sProp 𝕄) ⊢ iprop((lE c ↦[rows 8192 (er I c d j) 1]{shareTokN (esh s) j} I.E c) ∗ (lE c ↦[Finset.univ \ rows 8192 (er I c d j) 1]{shareTokN (esh s) j} I.E c)) from
    (Entails.of_eq (congrArg (fun S => (lE c ↦[S]{shareTokN (esh s) j} I.E c : sProp 𝕄)) hset)).trans (pointsTo_union Finset.disjoint_sdiff).1) $$ Hs
  icases Hs with ⟨Hs, Hs'⟩
  ihave Hm := (show (lE c ↦[Finset.univ \ rows 8192 (er I c d j) 1]{shareTokN (esh s) j} I.E c : sProp 𝕄) ⊢ Mid I c s d j from Entails.of_eq (if_pos hg).symm) $$ Hs'
  ihave Hb := Hb $$ Hm
  have hb := batch_core c (sm := dsem (92 + s)) (src := vE oE iE) (dst := vG oS iS sq o2 i2) (hsrc := hsrc) (hdst := hdst) (hsem := hsem) (D := Dl I c s d) (q := shareTokN (esh s) j) (N := NR) (t := nn I c d j)
    (G := bigSep (Finset.range (sz d)) fun k => isF I c s d (j + 1) k) (fs := I.E c) (fd := fd) cr_r (Nat.count_strict_mono hg hj) (hD_row I c hd hj hg hE hS h2 fd)
  rw [set_vE hE, set_vG hS h2] at hb
  iapply (wp_mono _ _ _ fun _ => (show iprop(Bt I c s d (nn I c d j + 1) 0 ∗ bigSep (Finset.range (sz d)) fun k => isF I c s d (j + 1) k) ⊢ iprop((bigSep (Finset.range (sz d)) fun k => isF I c s d (j + 1) k) ∗ Bt I c s d (nn I c d j + 1) 0) from sep_comm))
  iapply hb
  isplitl [Hs]; · iexact Hs
  isplitl [Hd]; · iexact Hd
  isplitl [HB]; · iexact HB
  iexact Hb

/-- A row left out starts no copy, and the slot moves on by one row. -/
theorem issue_no (hj : j < sz d) (hg : ¬ gd I c d j) : Isu I c s d j ⊢ Isu I c s d (j + 1) := by
  have hn : nn I c d (j + 1) = nn I c d j := nn_no I c hg
  unfold Isu
  rw [hn]
  iintro ⟨H, HB⟩
  ihave H := (iss_take I c hj) $$ H
  icases H with ⟨H, Hb⟩
  ihave Hm := (show Fre I c s j ⊢ Mid I c s d j from Entails.of_eq (if_neg hg).symm) $$ H
  ihave Hb := Hb $$ Hm
  isplitl [Hb]; · iexact Hb
  iexact HB

/-- A row awaited. -/
theorem wait_row {ks : List ℕ} (hs : s < 2) (hj : j < sz d) (hg : gd I c d j) {oE : Fin 2 → ℕ} {iE hsrc hdst} (hsm : sm = dsem (92 + s)) (hab : ∀ e < 9, above 0 e (ks.getD e 0)) :
    iprop(Ctx I K c ∗ Ow c ks ∗ Bt I c s d (nn I c d (sz d)) (NR * nn I c d j))
      ⊢ wpK c (Prog.lift (.waitDma2 sm (vE oE iE) (vG oS iS sq o2 i2) hsrc hdst) : Prog (TpuEff nD τ sig (Elt F) Λ₀ .tc) PUnit) fun _ =>
        iprop(Ctx I K c ∗ Ow c ks ∗ Bt I c s d (nn I c d (sz d)) (NR * nn I c d (j + 1))) := by
  subst hsm
  have hn : NR * nn I c d (j + 1) = NR * nn I c d j + 1 * NR := by rw [nn_yes I c hg, Nat.mul_succ, Nat.one_mul]
  have hlt : nn I c d j < nn I c d (sz d) := Nat.count_strict_mono hg hj
  have l : lv (cell c (92 + s)) () ≤ 0 := by
    show lvD (dsem (92 + s)).val ≤ 0
    rw [dsem_val (by omega)]; unfold lvD; rw [if_neg (by omega)]
  rw [hn]
  unfold Ow
  iintro ⟨#HC, ⟨%W, HO⟩, HB⟩
  iapply (wp_waitBatchMulO EC 𝒱₀ (c : Thread nD τ) none (sem := dsem (92 + s)) (srcw := vE oE iE) (dstw := vG oS iS sq o2 i2) () (N := NR) 1 (by rw [one_mul]; exact cr_r)
    (D := Dl I c s d) (j := nn I c d (sz d)) (u := NR * nn I c d j) (by rw [one_mul, ← Nat.mul_succ]; exact Nat.mul_le_mul_left _ hlt) (O := owed c ks) (W := W)) $$ [HB HO]
  · isplitl [HB]; · iexact HB
    isplitl [HO]; · iexact HO
    iapply (mayWait c (.dma (dsem (92 + s))) ks 0 hab l)
    unfold Ctx
    icases HC with ⟨#Hl, -⟩
    iexact Hl
  iintro ⟨HB, HO⟩
  rw [wp_ret]
  imodintro
  isplitr; · iexact HC
  isplitl [HO]; · iexists _; iexact HO
  iexact HB

/-- Waiting for a row left out is waiting for nothing. -/
theorem wait_no {ks : List ℕ} (hg : ¬ gd I c d j) : iprop(Ctx I K c ∗ Ow c ks ∗ Bt I c s d (nn I c d (sz d)) (NR * nn I c d j)) ⊢ iprop(Ctx I K c ∗ Ow c ks ∗ Bt I c s d (nn I c d (sz d)) (NR * nn I c d (j + 1))) := by
  have hn : nn I c d (j + 1) = nn I c d j := nn_no I c hg
  rw [hn]

end Row2

end Cert.K
-- ==== Proof.Loops.lean ====
/-
  The loops over a chunk's rows, and the rows read.
-/
module

public import proofs.«01_k».proof.Proof.Slots

@[expose] public section

set_option maxRecDepth 16384

noncomputable section

namespace Cert.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open PCS URA
open Idealize.ShloMosaic.ValueIdx (ix2 ix3)
open Idealize.ShloMosaic.Transfers

variable {F : FTy → Type} [FloatOps F]

local notation "𝕄" => MT nD τ sig Unit (Elt F) ℕ UU ℕ

variable (I : Ins F) (K : GSem nD τ sig → ℕ) (c : Dev nD)

/-! ## Slots -/

/-- A slot's use: none, copies of a chunk's rows in flight, a chunk's rows there. -/
inductive GS where
  | free
  | busy (d : ℕ)
  | ready (d : ℕ)

/-- The semaphore of slot `s` at zero. -/
abbrev sv (s : ℕ) : sProp 𝕄 := semVal ((c : Thread nD τ), SemLoc.dma (dsem (92 + s))) 0

def Gsl (s : ℕ) : GS → sProp 𝕄
  | .free => iprop(PGv c s 0 128 (fun _ _ => True) ∗ sv c s ∗ (lE c ↦[Finset.univ]{esh s} I.E c))
  | .busy d => iprop((bigSep (Finset.range (sz d)) fun j => Mid I c s d j) ∗ Bt I c s d (nn I c d (sz d)) 0 ∗ Rst I c s d)
  | .ready d => iprop(PGv c s 0 (sz d) (pG I c d) ∗ PGv c s (sz d) (128 - sz d) (fun _ _ => True) ∗ sv c s ∗ (lE c ↦[Finset.univ]{esh s} I.E c))

/-- Both slots, and the tables of words. -/
def Gs (gs : List GS) : sProp 𝕄 := iprop(SM I c ∗ bigSep (Finset.range 2) fun s => Gsl I c s (gs.getD s .free))

/-- One slot can be taken from the gathering slots and put back in another use. -/
theorem gs_take (gs : List GS) {s : ℕ} {g : GS} (g' : GS) (hs : s < 2) (hl : gs.length = 2) (hg : gs.getD s .free = g) :
    Gs I c gs ⊢ iprop(SM I c ∗ Gsl I c s g ∗ (SM I c -∗ Gsl I c s g' -∗ Gs I c (gs.set s g'))) := by
  have hm := Finset.mem_range.mpr hs
  have e1 : (gs.set s g').getD s .free = g' := by simp [List.getD, hl, hs]
  have e2 : bigSep ((Finset.range 2).erase s) (fun x => Gsl I c x (gs.getD x .free)) = bigSep ((Finset.range 2).erase s) (fun x => Gsl I c x ((gs.set s g').getD x .free)) :=
    bigSep_congr fun x hx => by
      have : s ≠ x := fun e => (Finset.mem_erase.mp hx).1 e.symm
      simp [List.getD, List.getElem?_set_ne this]
  have h1 : Gs I c gs = iprop(SM I c ∗ Gsl I c s g ∗ bigSep ((Finset.range 2).erase s) (fun x => Gsl I c x (gs.getD x .free))) := by
    have e := bigSep_erase hm (Φ := fun x => Gsl I c x (gs.getD x .free)); rw [hg] at e
    exact congrArg (fun X => iprop(SM I c ∗ X)) e
  have h2 : Gs I c (gs.set s g') = iprop(SM I c ∗ Gsl I c s g' ∗ bigSep ((Finset.range 2).erase s) (fun x => Gsl I c x (gs.getD x .free))) := by
    have e := bigSep_erase hm (Φ := fun x => Gsl I c x ((gs.set s g').getD x .free)); rw [e1, ← e2] at e
    exact congrArg (fun X => iprop(SM I c ∗ X)) e
  rw [h1, h2]
  iintro ⟨H, H', Hr⟩
  isplitl [H]; · iexact H
  isplitl [H']; · iexact H'
  iintro H H'
  isplitl [H]; · iexact H
  isplitl [H'] <;> iassumption

/-- A slot's first rows are the rows one by one. -/
theorem slab_rows (s n : ℕ) : slab 2 128 s 0 n = (Finset.range n).biUnion fun j => slab 2 128 s j 1 := by
  ext i
  rw [Finset.mem_biUnion, mem_slab]
  constructor
  · rintro ⟨h, -, h2⟩
    exact ⟨(i 1).val, Finset.mem_range.mpr (by omega), mem_slab.mpr ⟨h, Nat.le_refl _, Nat.lt_succ_self _⟩⟩
  · rintro ⟨j, hj, h⟩
    have := Finset.mem_range.mp hj
    obtain ⟨h, h1, h2⟩ := mem_slab.mp h
    exact ⟨h, Nat.zero_le _, by omega⟩
/-- Different rows of a slot share no place. -/
theorem slab_rows_disj (s n : ℕ) : ∀ j ∈ Finset.range n, ∀ k ∈ Finset.range n, j ≠ k → Disjoint (slab 2 128 s j 1) (slab 2 128 s k 1) :=
  fun _ _ _ _ h => slab_disj (by omega)

section Slot

variable {s d : ℕ}

/-- A free slot taken apart, a batch for the copies to come. -/
theorem slot_start : Gsl I c s .free ⊢ |={Set.univ}=> iprop(Isu I c s d 0 ∗ Rst I c s d) := by
  show iprop(PGv c s 0 128 (fun _ _ => True) ∗ sv c s ∗ (lE c ↦[Finset.univ]{esh s} I.E c)) ⊢ _
  iintro ⟨H, Hv, HE⟩
  imod (batch_alloc' EC (c : Thread nD τ) (sm := .dma (dsem (92 + s))) () NR (Dl I c s d) (E := Set.univ)) $$ Hv with HB
  imodintro
  ihave H := (PG_split_eq (slab_cut (sz_le d)) (slab_disj (.inl (Nat.zero_add _).le))) $$ H
  icases H with ⟨H, H'⟩
  ihave H := (show PGv c s 0 (sz d) (fun _ _ => True) ⊢ bigSep (Finset.range (sz d)) fun j => PGv c s j 1 (fun _ _ => True) from
    PG_pieces (ℓ := lG c) (Finset.range (sz d)) (fun j => slab 2 128 s j 1) (slab_rows_disj s (sz d)) (slab_rows s (sz d))) $$ H
  ihave HE := (pointsTo_toks_range (esh s) (sz d)).1 $$ HE
  icases HE with ⟨HE', HE⟩
  have e : (bigSep (Finset.range (sz d)) fun j => isF I c s d 0 j) = iprop((bigSep (Finset.range (sz d)) fun j => PGv c s j 1 (fun _ _ => True)) ∗ bigSep (Finset.range (sz d)) fun j => (lE c ↦[Finset.univ]{shareTokN (esh s) j} I.E c)) := by
    refine Eq.trans (bigSep_congr fun j _ => ?_) (bigSep_sep _ _ _)
    unfold isF Fre
    rw [if_neg (Nat.not_lt_zero j)]
    rfl
  unfold Isu Rst
  rw [e]
  isplitr [H' HE']
  · isplitr [HB]
    · isplitl [H]; · iexact H
      iexact HE
    · iapply (Entails.of_eq (congrArg (fun t => Bt I c s d t 0) (show 0 = nn I c d 0 from (Nat.count_zero _).symm))) $$ HB
  · isplitl [H']; · iexact H'
    iexact HE'

/-- A slot whose rows' copies have all been started is busy. -/
theorem slot_started : iprop(Isu I c s d (sz d) ∗ Rst I c s d) ⊢ Gsl I c s (.busy d) := by
  show iprop(((bigSep (Finset.range (sz d)) fun j => isF I c s d (sz d) j) ∗ Bt I c s d (nn I c d (sz d)) 0) ∗ Rst I c s d) ⊢ iprop((bigSep (Finset.range (sz d)) fun j => Mid I c s d j) ∗ Bt I c s d (nn I c d (sz d)) 0 ∗ Rst I c s d)
  rw [show (bigSep (Finset.range (sz d)) fun j => isF I c s d (sz d) j) = bigSep (Finset.range (sz d)) fun j => Mid I c s d j from
    bigSep_congr fun j hj => by unfold isF; exact if_pos (Finset.mem_range.mp hj)]
  exact sep_assoc.1

/-- Row by row: what the copies brought and what was kept. -/
theorem rows_done : iprop((bigSep ((Finset.range (sz d)).filter (gd I c d)) fun j => Rwd I c s d j) ∗ bigSep (Finset.range (sz d)) fun j => Mid I c s d j)
    ⊢ bigSep (Finset.range (sz d)) fun j => Don I c s d j := by
  rw [bigSep_filter_split (Finset.range (sz d)) (gd I c d) (Φ := fun j => Mid I c s d j), bigSep_filter_split (Finset.range (sz d)) (gd I c d) (Φ := fun j => Don I c s d j)]
  have h1 : iprop((bigSep ((Finset.range (sz d)).filter (gd I c d)) fun j => Rwd I c s d j) ∗ bigSep ((Finset.range (sz d)).filter (gd I c d)) fun j => Mid I c s d j)
      ⊢ bigSep ((Finset.range (sz d)).filter (gd I c d)) fun j => Don I c s d j := by
    refine (Entails.of_eq (bigSep_sep _ _ _).symm).trans (bigSep_mono fun j hj => ?_)
    have hg := (Finset.mem_filter.mp hj).2
    have hset : (Finset.univ : Finset S8192x2048.Idx) = rows 8192 (er I c d j) 1 ∪ (Finset.univ \ rows 8192 (er I c d j) 1) := (Finset.union_sdiff_of_subset (Finset.subset_univ _)).symm
    have hE : iprop((lE c ↦[rows 8192 (er I c d j) 1]{shareTokN (esh s) j} I.E c) ∗ (lE c ↦[Finset.univ \ rows 8192 (er I c d j) 1]{shareTokN (esh s) j} I.E c)) ⊢ (lE c ↦[Finset.univ]{shareTokN (esh s) j} I.E c : sProp 𝕄) :=
      (pointsTo_union Finset.disjoint_sdiff).2.trans (Entails.of_eq (congrArg (fun S => (lE c ↦[S]{shareTokN (esh s) j} I.E c : sProp 𝕄)) hset.symm))
    unfold Mid Rwd Don
    rw [if_pos hg]
    show iprop((PGv c s j 1 (pG I c d) ∗ (lE c ↦[rows 8192 (er I c d j) 1]{shareTokN (esh s) j} I.E c)) ∗ (lE c ↦[Finset.univ \ rows 8192 (er I c d j) 1]{shareTokN (esh s) j} I.E c)) ⊢ iprop(PGv c s j 1 (pG I c d) ∗ (lE c ↦[Finset.univ]{shareTokN (esh s) j} I.E c))
    iintro ⟨⟨H1, H2⟩, H3⟩
    isplitl [H1]; · iexact H1
    iapply hE
    isplitl [H2] <;> iassumption
  have h2 : (bigSep ((Finset.range (sz d)).filter fun j => ¬ gd I c d j) fun j => Mid I c s d j) ⊢ bigSep ((Finset.range (sz d)).filter fun j => ¬ gd I c d j) fun j => Don I c s d j :=
    bigSep_mono fun j hj => by
      have hg := (Finset.mem_filter.mp hj).2
      unfold Mid Fre Don
      rw [if_neg hg]
      refine sep_mono_left (PG_mono fun i hi v _ => ?_)
      obtain ⟨-, h1, h2⟩ := mem_slab.mp hi
      intro i' hi' hm
      refine absurd (?_ : I.msk c (wrd c d j) ≠ 0#32) hg
      have e : i' = wrd c d j := by
        funext a
        match a with
        | 0 =>
          apply Fin.ext
          have h4 : (i' 0).val < 4096 := (i' 0).isLt
          show (i' 0).val = (1024 * qu c + ofs d + j) % 4096
          rw [Nat.mod_eq_of_lt (by omega)]; omega
      exact e ▸ hm
  show iprop((bigSep ((Finset.range (sz d)).filter (gd I c d)) fun j => Rwd I c s d j) ∗ (bigSep ((Finset.range (sz d)).filter (gd I c d)) fun j => Mid I c s d j) ∗ bigSep ((Finset.range (sz d)).filter fun j => ¬ gd I c d j) fun j => Mid I c s d j)
    ⊢ iprop((bigSep ((Finset.range (sz d)).filter (gd I c d)) fun j => Don I c s d j) ∗ bigSep ((Finset.range (sz d)).filter fun j => ¬ gd I c d j) fun j => Don I c s d j)
  iintro ⟨H, H1, H2⟩
  isplitl [H H1]
  · iapply h1
    isplitl [H] <;> iassumption
  · iapply h2 $$ H2

/-- Every copy awaited: the rows are there. -/
theorem slot_done : iprop((bigSep (Finset.range (sz d)) fun j => Mid I c s d j) ∗ Bt I c s d (nn I c d (sz d)) (NR * nn I c d (sz d)) ∗ Rst I c s d) ⊢ |={Set.univ}=> Gsl I c s (.ready d) := by
  iintro ⟨HM, HB, HR⟩
  imod (batch_collect' EC (c : Thread nD τ) (sm := .dma (dsem (92 + s))) (ι := ()) NR_pos (D := Dl I c s d)) $$ HB with ⟨HD, Hv⟩
  imodintro
  ihave HD := (show bigSep Finset.univ (Dl I c s d) ⊢ bigSep ((Finset.range (sz d)).filter (gd I c d)) fun j => Rwd I c s d j from
    Entails.of_eq (bigSep_nth (p := gd I c d) (sz d) fun j => Rwd I c s d j)) $$ HD
  ihave HD := (rows_done I c (s := s) (d := d)) $$ [HD HM]
  · isplitl [HD] <;> iassumption
  ihave HD := (show (bigSep (Finset.range (sz d)) fun j => Don I c s d j) ⊢ iprop((bigSep (Finset.range (sz d)) fun j => PGv c s j 1 (pG I c d)) ∗ bigSep (Finset.range (sz d)) fun j => (lE c ↦[Finset.univ]{shareTokN (esh s) j} I.E c))
    from Entails.of_eq (bigSep_sep _ _ _)) $$ HD
  icases HD with ⟨HG, HE⟩
  ihave HG := (show (bigSep (Finset.range (sz d)) fun j => PGv c s j 1 (pG I c d)) ⊢ PGv c s 0 (sz d) (pG I c d) from
    PG_unpieces (ℓ := lG c) (Finset.range (sz d)) (fun j => slab 2 128 s j 1) (slab_rows_disj s (sz d)) (slab_rows s (sz d)) ⟨0, Finset.mem_range.mpr (sz_pos d)⟩) $$ HG
  unfold Rst
  icases HR with ⟨HR, HE'⟩
  ihave HE := (pointsTo_toks_range (esh s) (sz d)).2 $$ [HE HE']
  · isplitl [HE'] <;> iassumption
  iapply (show iprop(PGv c s 0 (sz d) (pG I c d) ∗ PGv c s (sz d) (128 - sz d) (fun _ _ => True) ∗ sv c s ∗ (lE c ↦[Finset.univ]{esh s} I.E c)) ⊢ Gsl I c s (.ready d) from .rfl)
  isplitl [HG]; · iexact HG
  isplitl [HR]; · iexact HR
  isplitl [Hv]; · iexact Hv
  iexact HE

end Slot

/-! ## The loops -/

/-- A counted loop, from the state before its first trip to the one after its last. -/
theorem loop_core {α : Type} {l : Scf.Loop 32} {hok : l.OK} {body : Fin l.trips → Unit → Prog (TpuEff nD τ sig (Elt F) Λ₀ .tc) Unit} {k : Unit → Prog (TpuEff nD τ sig (Elt F) Λ₀ .tc) α} {Q : α → sProp 𝕄}
    (A : ℕ → sProp 𝕄) {n : ℕ} (hn : l.trips = n) (hA : ∀ t : Fin l.trips, A t.val ⊢ wpK c (body t ⟨⟩) fun _ => A (t.val + 1)) (h : A n ⊢ wpK c (k ⟨⟩) Q) :
    A 0 ⊢ wpK c (Scf.Loop.for l hok ⟨⟩ body >>= k) Q := by
  subst hn
  iintro H
  iapply (Scf.wp_for_bind frame (wpE (defs₀ (F := F)) 𝒱₀ (c : Thread nD τ) none) Set.univ l.lb l.ub l.st hok ⟨⟩ body (fun t _ => A t) (fun t _ => hA t)) $$ H
  iintro %_ H
  iapply h $$ H

section Loops

variable {α : Type} {l : Scf.Loop 32} {hok : l.OK} {body : Fin l.trips → Unit → Prog (TpuEff nD τ sig (Elt F) Λ₀ .tc) Unit} {k : Unit → Prog (TpuEff nD τ sig (Elt F) Λ₀ .tc) α}
  {o1 : Dev nD → Fin l.trips → Fin 1 → ℕ} {i1 : ∀ t a, o1 c t a + S1.size a ≤ S4096.size a} {chk : BitVec 32 → BitVec 32 → Prop} {dec : ∀ v w, Decidable (chk v w)} {cond : BitVec 32 → BitVec 1}
  {oE : BitVec 32 → Fin 2 → ℕ} {iE : ∀ v w, chk v w → cond w = 1#1 → ∀ a, oE v a + S1x2048.size a ≤ S8192x2048.size a}
  {oS : Fin 3 → ℕ} {iS : ∀ a, oS a + S1x128x2048.size a ≤ S2x128x2048.size a} {sq : S1x128x2048.Squeezes S128x2048} {o2 : Fin l.trips → Fin 2 → ℕ} {i2 : ∀ t a, o2 t a + S1x2048.size a ≤ S128x2048.size a} {sm : DmaSem sig}

/-- A trip as the program has it. -/
theorem trip_eq {o1 : Fin 1 → ℕ} {i1 : ∀ a, o1 a + S1.size a ≤ S4096.size a} {chk : BitVec 32 → BitVec 32 → Prop} {dec : ∀ v w, Decidable (chk v w)} {cond : BitVec 32 → BitVec 1}
    {oE : BitVec 32 → Fin 2 → ℕ} {iE : ∀ v w, chk v w → cond w = 1#1 → ∀ a, oE v a + S1x2048.size a ≤ S8192x2048.size a}
    {X : ∀ v w, PLift (chk v w) → Prog (TpuEff nD τ sig (Elt F) Λ₀ .tc) Unit}
    {act : (v : BitVec 32) → (∀ a, oE v a + S1x2048.size a ≤ S8192x2048.size a) → Prog (TpuEff nD τ sig (Elt F) Λ₀ .tc) PUnit}
    (hX : ∀ v w hw, X v w hw = if h : cond w = 1#1 then (act v (iE v w hw.down h) >>= fun _ => pure ⟨⟩) else pure ⟨⟩) :
    ((do
      let v : Elt F .i32 ← smemLoad (win0_0.stage 0) (Rect.unit (s := S4096) o1 S1.size i1) numel1_S1 rfl
      let w : Elt F .i32 ← smemLoad (win0_1.stage 0) (Rect.unit (s := S4096) o1 S1.size i1) numel1_S1 rfl
      let hw ← Prog.lift (TpuEff.assume (chk v w) (dec v w))
      X v w hw) : Prog (TpuEff nD τ sig (Elt F) Λ₀ .tc) Unit)
      = tripT (F := F) o1 i1 chk dec cond oE iE act := by
  unfold tripT
  refine congrArg (Bind.bind _) (funext fun v => ?_)
  refine congrArg (Bind.bind _) (funext fun w => ?_)
  refine congrArg (Bind.bind _) (funext fun h => ?_)
  exact hX _ _ _

/-- The copies of a chunk's rows started. -/
theorem gs_issue {Q : α → sProp 𝕄} {gs : List GS} {A : sProp 𝕄} (s d : ℕ)
    (hb : ∀ t, body t ⟨⟩ = tripT (F := F) (o1 c t) (i1 t) chk dec cond oE iE fun v inb => Prog.lift (.enqueueDma (vE (oE v) inb) (.here (vG oS iS sq (o2 t) (i2 t))) (.dma sm) (View.wordExact_bits rfl) (View.wordExact_bits rfl) ⟨Or.inl rfl, trivial⟩))
    (h : iprop(Gs I c (gs.set s (.busy d)) ∗ A) ⊢ wpK c (k ⟨⟩) Q)
    (hs : s < 2 := by decide) (hd : d < 9 := by decide) (hl : gs.length = 2 := by rfl) (hg : gs.getD s .free = .free := by rfl) (hn : l.trips = sz d := by decide +kernel)
    (h1 : ∀ c t, o1 c t = ![1024 * qu c + ofs d + t.val] := by decide +kernel) (h2 : ∀ t, o2 t = ![t.val, 0] := by decide +kernel)
    (hc : ∀ w, cond w = 1#1 ↔ w ≠ 0#32 := by exact cond_iff) (hk : ∀ v w, v.toNat < 8192 → chk v w := by exact fun _ _ h => row_inb h) (hE : ∀ v, oE v = ![v.toNat, 0] := by exact fun _ => rfl)
    (hS : oS = ![s, 0, 0] := by rfl) (hsm : sm = dsem (92 + s) := by rfl) :
    iprop(Gs I c gs ∗ A) ⊢ wpK c (Scf.Loop.for l hok ⟨⟩ body >>= k) Q := by
  have hloop := loop_core c (hok := hok) (body := body) (k := k) (Q := Q)
    (fun i => iprop(SM I c ∗ Isu I c s d i ∗ Rst I c s d ∗ (SM I c -∗ Gsl I c s (.busy d) -∗ Gs I c (gs.set s (.busy d))) ∗ A)) hn (fun t => by
      rw [hb t]
      have ht : t.val < sz d := hn ▸ t.isLt
      have e := trip_core I c (dec := dec) (iE := iE) (i1 := i1 t) (A := Isu I c s d t.val) (B := Isu I c s d (t.val + 1)) (act := fun v inb => Prog.lift (.enqueueDma (vE (oE v) inb) (.here (vG oS iS sq (o2 t) (i2 t))) (.dma sm) (View.wordExact_bits rfl) (View.wordExact_bits rfl) ⟨Or.inl rfl, trivial⟩))
        hd ht (h1 c t) hc hk (fun hg inb => issue_row I c hd ht hg (hE _) hS (h2 t) hsm) (fun hg => issue_no I c ht hg)
      refine BIBase.Entails.trans ?_ (((sep_mono_right (P := iprop(Rst I c s d ∗ (SM I c -∗ Gsl I c s (.busy d) -∗ Gs I c (gs.set s (.busy d))) ∗ A)) e).trans (wp_frame_l _ _ _)).trans (wp_mono _ _ _ fun _ => ?_))
      · iintro ⟨H1, H2, H3, H4, H5⟩
        isplitl [H3 H4 H5]
        · isplitl [H3]; · iexact H3
          isplitl [H4] <;> iassumption
        isplitl [H1] <;> iassumption
      · iintro ⟨⟨H3, H4, H5⟩, H1, H2⟩
        isplitl [H1]; · iexact H1
        isplitl [H2]; · iexact H2
        isplitl [H3]; · iexact H3
        isplitl [H4] <;> iassumption) (by
      iintro ⟨H1, H2, H3, H4, H5⟩
      ihave H2 := (slot_started I c) $$ [H2 H3]
      · isplitl [H2] <;> iassumption
      ihave H := H4 $$ H1 H2
      iapply h
      isplitl [H] <;> iassumption)
  iintro ⟨H, HA⟩
  ihave H := (gs_take I c gs (.busy d) hs hl hg) $$ H
  icases H with ⟨H1, H2, H3⟩
  imod (slot_start I c (d := d)) $$ H2 with ⟨H2, H4⟩
  iapply hloop
  isplitl [H1]; · iexact H1
  isplitl [H2]; · iexact H2
  isplitl [H4]; · iexact H4
  isplitl [H3] <;> iassumption

/-- The loop that starts a chunk's copies takes a free slot to a busy one. -/
theorem st_issue {Q : α → sProp 𝕄} {gs : List GS} {ks : List ℕ} {r b : ℕ} {R : sProp 𝕄} (s d : ℕ)
    (hb : ∀ t, body t ⟨⟩ = tripT (F := F) (o1 c t) (i1 t) chk dec cond oE iE fun v inb => Prog.lift (.enqueueDma (vE (oE v) inb) (.here (vG oS iS sq (o2 t) (i2 t))) (.dma sm) (View.wordExact_bits rfl) (View.wordExact_bits rfl) ⟨Or.inl rfl, trivial⟩))
    (h : St I K c ks r b iprop(Gs I c (gs.set s (.busy d)) ∗ R) ⊢ wpK c (k ⟨⟩) Q)
    (hs : s < 2 := by decide) (hd : d < 9 := by decide) (hl : gs.length = 2 := by rfl) (hg : gs.getD s .free = .free := by rfl) (hn : l.trips = sz d := by decide +kernel)
    (h1 : ∀ c t, o1 c t = ![1024 * qu c + ofs d + t.val] := by decide +kernel) (h2 : ∀ t, o2 t = ![t.val, 0] := by decide +kernel)
    (hc : ∀ w, cond w = 1#1 ↔ w ≠ 0#32 := by exact cond_iff) (hk : ∀ v w, v.toNat < 8192 → chk v w := by exact fun _ _ h => row_inb h) (hE : ∀ v, oE v = ![v.toNat, 0] := by exact fun _ => rfl)
    (hS : oS = ![s, 0, 0] := by rfl) (hsm : sm = dsem (92 + s) := by rfl) :
    St I K c ks r b iprop(Gs I c gs ∗ R) ⊢ wpK c (Scf.Loop.for l hok ⟨⟩ body >>= k) Q := by
  have hh := gs_issue I c (hok := hok) (k := k) (A := iprop(Ctx I K c ∗ Chs I c ks ∗ Ow c ks ∗ Bst c r b ∗ Mst I c ∗ R)) s d hb (by
    refine BIBase.Entails.trans ?_ h
    unfold St
    iintro ⟨HG, #HC, H1, H2, H3, H4, HR⟩
    isplitr; · iexact HC
    isplitl [H1]; · iexact H1
    isplitl [H2]; · iexact H2
    isplitl [H3]; · iexact H3
    isplitl [H4]; · iexact H4
    isplitl [HG] <;> iassumption) hs hd hl hg hn h1 h2 hc hk hE hS hsm
  refine BIBase.Entails.trans ?_ hh
  unfold St
  iintro ⟨#HC, H1, H2, H3, H4, HG, HR⟩
  isplitl [HG]; · iexact HG
  isplitr; · iexact HC
  isplitl [H1]; · iexact H1
  isplitl [H2]; · iexact H2
  isplitl [H3]; · iexact H3
  isplitl [H4] <;> iassumption

/-- The copies of a chunk's rows awaited. -/
theorem gs_wait {Q : α → sProp 𝕄} {gs : List GS} {ks : List ℕ} {A : sProp 𝕄} (s d : ℕ)
    (hb : ∀ t, body t ⟨⟩ = tripT (F := F) (o1 c t) (i1 t) chk dec cond oE iE fun v inb => Prog.lift (.waitDma2 sm (vE (oE v) inb) (vG oS iS sq (o2 t) (i2 t)) (View.wordExact_bits rfl) (View.wordExact_bits rfl)))
    (h : iprop(Gs I c (gs.set s (.ready d)) ∗ Ctx I K c ∗ Ow c ks ∗ A) ⊢ wpK c (k ⟨⟩) Q)
    (hab : ∀ e < 9, above 0 e (ks.getD e 0) := by decide)
    (hs : s < 2 := by decide) (hd : d < 9 := by decide) (hl : gs.length = 2 := by rfl) (hg : gs.getD s .free = .busy d := by rfl) (hn : l.trips = sz d := by decide +kernel)
    (h1 : ∀ c t, o1 c t = ![1024 * qu c + ofs d + t.val] := by decide +kernel)
    (hc : ∀ w, cond w = 1#1 ↔ w ≠ 0#32 := by exact cond_iff) (hk : ∀ v w, v.toNat < 8192 → chk v w := by exact fun _ _ h => row_inb h)
    (hsm : sm = dsem (92 + s) := by rfl) :
    iprop(Gs I c gs ∗ Ctx I K c ∗ Ow c ks ∗ A) ⊢ wpK c (Scf.Loop.for l hok ⟨⟩ body >>= k) Q := by
  have hloop := loop_core c (hok := hok) (body := body) (k := k) (Q := Q)
    (fun i => iprop(((bigSep (Finset.range (sz d)) fun j => Mid I c s d j) ∗ Rst I c s d ∗ (SM I c -∗ Gsl I c s (.ready d) -∗ Gs I c (gs.set s (.ready d))) ∗ A)
      ∗ SM I c ∗ Ctx I K c ∗ Ow c ks ∗ Bt I c s d (nn I c d (sz d)) (NR * nn I c d i))) hn (fun t => by
      rw [hb t]
      have ht : t.val < sz d := hn ▸ t.isLt
      have e := trip_core I c (dec := dec) (iE := iE) (i1 := i1 t) (A := iprop(Ctx I K c ∗ Ow c ks ∗ Bt I c s d (nn I c d (sz d)) (NR * nn I c d t.val))) (B := iprop(Ctx I K c ∗ Ow c ks ∗ Bt I c s d (nn I c d (sz d)) (NR * nn I c d (t.val + 1))))
        (act := fun v inb => Prog.lift (.waitDma2 sm (vE (oE v) inb) (vG oS iS sq (o2 t) (i2 t)) (View.wordExact_bits rfl) (View.wordExact_bits rfl)))
        hd ht (h1 c t) hc hk (fun hg inb => wait_row I K c hs ht hg hsm hab) (fun hg => wait_no I K c hg)
      exact (sep_mono_right e).trans (wp_frame_l _ _ _)) (by
      iintro ⟨⟨H1, H2, H3, H4⟩, H5, H6, H7, H8⟩
      imod (slot_done I c) $$ [H1 H8 H2] with H
      · isplitl [H1]; · iexact H1
        isplitl [H8] <;> iassumption
      ihave H := H3 $$ H5 H
      iapply h
      isplitl [H]; · iexact H
      isplitl [H6]; · iexact H6
      isplitl [H7] <;> iassumption)
  refine BIBase.Entails.trans ?_ hloop
  iintro ⟨H, HC, HO, HA⟩
  ihave H := (gs_take I c gs (.ready d) hs hl hg) $$ H
  icases H with ⟨H1, H2, H3⟩
  ihave H2 := (show Gsl I c s (.busy d) ⊢ iprop((bigSep (Finset.range (sz d)) fun j => Mid I c s d j) ∗ Bt I c s d (nn I c d (sz d)) (NR * nn I c d 0) ∗ Rst I c s d) from
    Entails.of_eq (show _ = iprop((bigSep (Finset.range (sz d)) fun j => Mid I c s d j) ∗ Bt I c s d (nn I c d (sz d)) (NR * nn I c d 0) ∗ Rst I c s d) from
      congrArg (fun t => iprop((bigSep (Finset.range (sz d)) fun j => Mid I c s d j) ∗ Bt I c s d (nn I c d (sz d)) t ∗ Rst I c s d)) (by rw [show nn I c d 0 = 0 from Nat.count_zero _, Nat.mul_zero]))) $$ H2
  icases H2 with ⟨H2, H4, H5⟩
  isplitl [H2 H5 H3 HA]
  · isplitl [H2]; · iexact H2
    isplitl [H5]; · iexact H5
    isplitl [H3] <;> iassumption
  isplitl [H1]; · iexact H1
  isplitl [HC]; · iexact HC
  isplitl [HO] <;> iassumption

/-- The loop that waits for a chunk's copies takes a busy slot to a ready one. -/
theorem st_gwait {Q : α → sProp 𝕄} {gs : List GS} {ks : List ℕ} {r b : ℕ} {R : sProp 𝕄} (s d : ℕ)
    (hb : ∀ t, body t ⟨⟩ = tripT (F := F) (o1 c t) (i1 t) chk dec cond oE iE fun v inb => Prog.lift (.waitDma2 sm (vE (oE v) inb) (vG oS iS sq (o2 t) (i2 t)) (View.wordExact_bits rfl) (View.wordExact_bits rfl)))
    (h : St I K c ks r b iprop(Gs I c (gs.set s (.ready d)) ∗ R) ⊢ wpK c (k ⟨⟩) Q)
    (hab : ∀ e < 9, above 0 e (ks.getD e 0) := by decide)
    (hs : s < 2 := by decide) (hd : d < 9 := by decide) (hl : gs.length = 2 := by rfl) (hg : gs.getD s .free = .busy d := by rfl) (hn : l.trips = sz d := by decide +kernel)
    (h1 : ∀ c t, o1 c t = ![1024 * qu c + ofs d + t.val] := by decide +kernel)
    (hc : ∀ w, cond w = 1#1 ↔ w ≠ 0#32 := by exact cond_iff) (hk : ∀ v w, v.toNat < 8192 → chk v w := by exact fun _ _ h => row_inb h)
    (hsm : sm = dsem (92 + s) := by rfl) :
    St I K c ks r b iprop(Gs I c gs ∗ R) ⊢ wpK c (Scf.Loop.for l hok ⟨⟩ body >>= k) Q := by
  have hh := gs_wait I K c (hok := hok) (k := k) (A := iprop(Chs I c ks ∗ Bst c r b ∗ Mst I c ∗ R)) s d hb (by
    refine BIBase.Entails.trans ?_ h
    unfold St
    iintro ⟨HG, #HC, H2, H1, H3, H4, HR⟩
    isplitr; · iexact HC
    isplitl [H1]; · iexact H1
    isplitl [H2]; · iexact H2
    isplitl [H3]; · iexact H3
    isplitl [H4]; · iexact H4
    isplitl [HG] <;> iassumption) hab hs hd hl hg hn h1 hc hk hsm
  refine BIBase.Entails.trans ?_ hh
  unfold St
  iintro ⟨#HC, H1, H2, H3, H4, HG, HR⟩
  isplitl [HG]; · iexact HG
  isplitr; · iexact HC
  isplitl [H2]; · iexact H2
  isplitl [H1]; · iexact H1
  isplitl [H3]; · iexact H3
  isplitl [H4] <;> iassumption

end Loops

/-- The gathered rows, read; the slot is free again. -/
theorem st_loadG {α : Type} {Q : α → sProp 𝕄} {gs : List GS} {ks : List ℕ} {r b : ℕ} {R : sProp 𝕄} (s d : ℕ) {o : Fin 3 → ℕ} {inb hl} {k : (S1x128x2048.Idx → Elt F .f32) → Prog (TpuEff nD τ sig (Elt F) Λ₀ .tc) α}
    (h : ∀ v, V3 (sz d) (gG I c d) v → St I K c ks r b iprop(Gs I c (gs.set s .free) ∗ R) ⊢ wpK c (k v) Q)
    (hs : s < 2 := by decide) (hl' : gs.length = 2 := by rfl) (hg : gs.getD s .free = .ready d := by rfl) (ho : o = ![s, 0, 0] := by rfl) :
    St I K c ks r b iprop(Gs I c gs ∗ R) ⊢ wpK c (.op (.load (Memref.whole cc0_scratch0) (rB o inb) hl) k) Q := by
  have hset : ((Memref.whole cc0_scratch0).access (rB o inb)).set = slab 2 128 s 0 128 := (View.set_slice_whole _ _).trans (acc2 ho)
  have hV : ∀ f : Idx (lG c) → Elt F (lG c).ty.elt, (∀ i ∈ slab 2 128 s 0 128, (i 1).val < sz d → pG I c d i (f i)) → V3 (sz d) (gG I c d) (((Memref.whole cc0_scratch0).access (rB o inb)).read (Elt F) f) := fun f hf x hx => by
    obtain ⟨-, h1, h2⟩ := emb_acc (N := 2) (inb := inb) ho x
    have h1 : ((((Memref.whole cc0_scratch0).access (rB o inb)).emb x) 1).val = (x 1).val := h1
    have h2 : ((((Memref.whole cc0_scratch0).access (rB o inb)).emb x) 2).val = (x 2).val := h2
    have := hf (((Memref.whole cc0_scratch0).access (rB o inb)).emb x) (hset.subset (View.emb_mem_set _ x)) (by rw [h1]; exact hx)
    unfold pG at this
    rw [h1, h2] at this
    exact this
  unfold St
  iintro ⟨#HC, H1, H2, H3, H4, HG, HR⟩
  ihave HG := (gs_take I c gs .free hs hl' hg) $$ HG
  icases HG with ⟨HS, HG, Hb⟩
  ihave HG := (show Gsl I c s (.ready d) ⊢ iprop(PGv c s 0 (sz d) (pG I c d) ∗ PGv c s (sz d) (128 - sz d) (fun _ _ => True) ∗ sv c s ∗ (lE c ↦[Finset.univ]{esh s} I.E c)) from .rfl) $$ HG
  icases HG with ⟨HG, HG', Hv, HE⟩
  ihave HG := (joinP (ℓ := lG c) (P := pG I c d) (fun i => (i 1).val < sz d) (slab_cut (sz_le d)) (slab_disj (.inl (Nat.zero_add _).le)) slab_ge) $$ [HG HG']
  · isplitl [HG] <;> iassumption
  iapply (load_core c (m := Memref.whole cc0_scratch0) (r := rB o inb) (q := fullShare) (S := slab 2 128 s 0 128) (P := fun i v => (i 1).val < sz d → pG I c d i v) (subset_of_eq hset) (V3 (sz d) (gG I c d)) hV) $$ HG
  iintro %v %hv HG
  iapply (show iprop(Ctx I K c ∗ Chs I c ks ∗ Ow c ks ∗ Bst c r b ∗ Mst I c ∗ Gs I c (gs.set s .free) ∗ R) ⊢ wpK c (k v) Q from h v hv)
  isplitr; · iexact HC
  isplitl [H1]; · iexact H1
  isplitl [H2]; · iexact H2
  isplitl [H3]; · iexact H3
  isplitl [H4]; · iexact H4
  isplitr [HR]
  · iapply Hb $$ HS
    iapply (show iprop(PGv c s 0 128 (fun _ _ => True) ∗ sv c s ∗ (lE c ↦[Finset.univ]{esh s} I.E c)) ⊢ Gsl I c s .free from .rfl)
    isplitl [HG]
    · iapply (PG_mono (P' := fun _ _ => True) fun _ _ _ _ => trivial) $$ HG
    isplitl [Hv] <;> iassumption
  iexact HR

end Cert.K
-- ==== Proof.Operands.lean ====
/-
  The program cut into its parts, with the operands of the launch.
-/
module

public import proofs.«01_k».proof.Proof.Loops
public import proofs.«01_k».proof.Proof.Gen.KernelIdeal.Skeleton

@[expose] public section

set_option maxRecDepth 16384

noncomputable section

namespace Cert.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open PCS URA

variable {F : FTy → Type} [FloatOps F]

local notation "𝕄" => MT nD τ sig Unit (Elt F) ℕ UU ℕ

variable (I : Ins F) (K : GSem nD τ sig → ℕ) (c : Dev nD)

/-- A function of the kernel's operands, at the operands of the launch. -/
abbrev ap {β : Sort*} (f : ∀ (arg0 : Memref sig .tc .smem S4096 .i32) (harg0 : arg0.IsWhole) (arg1 : Memref sig .tc .smem S4096 .i32) (harg1 : arg1.IsWhole) (arg2 : Memref sig .tc .hbm S4096x1 .f32) (harg2 : arg2.IsWhole) (arg3 : Memref sig .tc .hbm S8192x2048 .f32) (harg3 : arg3.IsWhole) (arg4 : Memref sig .tc .hbm S4096x2048 .bf16) (harg4 : arg4.IsWhole) (arg5 : Memref sig .tc .hbm S1024x2048 .bf16) (harg5 : arg5.IsWhole) (arg6 : Memref sig .tc .vmem S2x128x2048 .f32) (harg6 : arg6.IsWhole) (arg7 : Memref sig .tc .vmem S9x128x2048 .bf16) (harg7 : arg7.IsWhole) (arg8 : Memref sig .tc .vmem S1024x1 .f32) (harg8 : arg8.IsWhole) (arg9 : Memref sig .tc .vmem S2x128x2048 .bf16) (harg9 : arg9.IsWhole) (arg10 : Memref sig .tc .vmem S9x128x2048 .bf16) (harg10 : arg10.IsWhole) (arg11 : DmaSems sig S9) (arg12 : DmaSems sig S9) (arg13 : DmaSems sig S9) (arg14 : DmaSems sig S9) (arg15 : DmaSems sig S9) (arg16 : DmaSems sig S9) (arg17 : DmaSems sig S9) (arg18 : DmaSems sig S9) (arg19 : DmaSems sig S9) (arg20 : DmaSems sig S9) (arg21 : DmaSems sig S2) (arg22 : DmaSems sig S_) (arg23 : DmaSems sig S_) (arg24 : DmaSems sig S9), β) : β :=
  f (win0_0.stage 0) (hstage0_0 0) (win0_1.stage 0) (hstage0_1 0) (Memref.whole main_v16) (Memref.isWhole_whole _) (Memref.whole main_arg1) (Memref.isWhole_whole _) (Memref.whole main_v17_0) (Memref.isWhole_whole _) (Memref.whole main_v17_1) (Memref.isWhole_whole _)
    (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _)
    cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18

/-- One program after another. -/
theorem seq {α β : Type} {A : sProp 𝕄} {p : Prog (TpuEff nD τ sig (Elt F) Λ₀ .tc) β} {k : β → Prog (TpuEff nD τ sig (Elt F) Λ₀ .tc) α} {Q : α → sProp 𝕄} (h : A ⊢ wpK c p fun r => wpK c (k r) Q) : A ⊢ wpK c (p >>= k) Q := by
  unfold wpK at *
  rw [wp_bind]; exact h

/-- A program that has returned has what its result needs. -/
theorem fin {α : Type} {A : sProp 𝕄} {x : α} {Q : α → sProp 𝕄} (h : A ⊢ Q x) : A ⊢ wpK c (.ret x) Q := by
  unfold wpK
  rw [wp_ret]
  exact h.trans (fupd_intro)

end Cert.K
-- ==== Proof.Prelude.lean ====
/-
  The start of a device's program: the first rows asked for, the factors fetched, the exchange with the neighbours at the barrier.
-/
module

public import proofs.«01_k».proof.Proof.Operands

@[expose] public section

set_option maxRecDepth 16384

noncomputable section

namespace Cert.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open PCS URA

variable {F : FTy → Type} [FloatOps F]

local notation "𝕄" => MT nD τ sig Unit (Elt F) ℕ UU ℕ

variable (I : Ins F) (K : GSem nD τ sig → ℕ) (c : Dev nD)

/-! ## What a device starts with -/

/-- Rows of a buffer copies land in: a chunk's of the landing buffer, of a quarter of the result, its first half, its second half. -/
def FX (d : ℕ) : sProp 𝕄 := PC c (ofs d) (sz d) fun _ _ => True
def FO (p d : ℕ) : sProp 𝕄 := PO c (1024 * p + ofs d) (sz d) fun _ _ => True
def FA (p d : ℕ) : sProp 𝕄 := PO c (1024 * p + ofs d) (sz d / 2) fun _ _ => True
def FB (p d : ℕ) : sProp 𝕄 := PO c (1024 * p + ofs d + sz d / 2) (sz d / 2) fun _ _ => True

/-- Two things for each chunk are the one for each and the other for each. -/
theorem two9 (A B : ℕ → sProp 𝕄) : bigSep (Finset.range 9) (fun d => iprop(A d ∗ B d)) = iprop(bigSep (Finset.range 9) A ∗ bigSep (Finset.range 9) B) := bigSep_sep _ A B

/-- The rows the neighbours' copies are to land in, held by them at first: handed over at the barrier. -/
def Gt (d : ℕ) : sProp 𝕄 := iprop(FX (xp c) d ∗ FO (yp c) (qu c) d ∗ FA (yp c) (qu (zp c)) d ∗ FO (zp c) (qu c) d ∗ FB (zp c) (qu (yp c)) d)

/-- A chunk at stage 0 but for those. -/
def Chp (d : ℕ) : sProp 𝕄 := iprop(cX I c d 0 ∗ (tk c 0 d ∗ tk (xp c) 1 d) ∗ cF I c d 0 ∗ cR I c d 0
  ∗ (cS c d 0 ∗ cY I c d 0 ∗ (tk c 2 d ∗ tk (yp c) 3 d) ∗ cZ I c d 0 ∗ (tk c 4 d ∗ tk (zp c) 5 d) ∗ cL I c d 0)
  ∗ (cU I c d 0 ∗ (tk c 6 d ∗ tk (zp c) 7 d)) ∗ (cV I c d 0 ∗ (tk c 8 d ∗ tk (yp c) 9 d)) ∗ cG I c d 0)

/-- A chunk's state has six components. -/
theorem univ6 : (Finset.univ : Finset (Fin 6)) = {0, 1, 2, 3, 4, 5} := rfl

/-- A chunk's state, its components written out. -/
theorem Ch_eq (d k : ℕ) : Ch I c d k = iprop(comp I c d k 0 ∗ comp I c d k 1 ∗ comp I c d k 2 ∗ comp I c d k 3 ∗ comp I c d k 4 ∗ comp I c d k 5) := by
  unfold Ch
  rw [univ6, bigSep_insert (by decide), bigSep_insert (by decide), bigSep_insert (by decide), bigSep_insert (by decide), bigSep_insert (by decide), bigSep_singleton]
  rfl

/-- A chunk without the neighbours' rows, given these, is at stage 0. -/
theorem Ch_start (d : ℕ) : iprop(Chp I c d ∗ Gt c d) ⊢ Ch I c d 0 := by
  rw [Ch_eq]
  unfold Chp Gt FX FO FA FB
  show _ ⊢ iprop((cX I c d 0 ∗ (tk c 0 d ∗ tk (xp c) 1 d ∗ PC (xp c) (ofs d) (sz d) (fun _ _ => True))) ∗ cF I c d 0
    ∗ (cR I c d 0 ∗ (cS c d 0 ∗ cY I c d 0 ∗ (tk c 2 d ∗ tk (yp c) 3 d ∗ PO (yp c) (1024 * qu c + ofs d) (sz d) (fun _ _ => True))
      ∗ cZ I c d 0 ∗ (tk c 4 d ∗ tk (zp c) 5 d ∗ PO (zp c) (1024 * qu c + ofs d) (sz d) (fun _ _ => True)) ∗ cL I c d 0))
    ∗ (cU I c d 0 ∗ (tk c 6 d ∗ tk (zp c) 7 d ∗ PO (zp c) (1024 * qu (yp c) + ofs d + sz d / 2) (sz d / 2) (fun _ _ => True)))
    ∗ (cV I c d 0 ∗ (tk c 8 d ∗ tk (yp c) 9 d ∗ PO (yp c) (1024 * qu (zp c) + ofs d) (sz d / 2) (fun _ _ => True))) ∗ cG I c d 0)
  iintro ⟨⟨X, ⟨X1, X2⟩, Fd, Rd, ⟨S, Y, ⟨Y1, Y2⟩, Z, ⟨Z1, Z2⟩, Ld⟩, ⟨U, ⟨U1, U2⟩⟩, ⟨V, ⟨V1, V2⟩⟩, Gd⟩, ⟨P1, P2, P3, P4, P5⟩⟩
  iframe

/-- The rows of the own buffers the neighbours' copies land in. -/
def Giv (d : ℕ) : sProp 𝕄 := iprop(FX c d ∗ FO c (qu (yp c)) d ∗ FA c (qu (yp (zp c))) d ∗ FO c (qu (zp c)) d ∗ FB c (qu (yp (zp c))) d)

/-- Five things for each chunk are each of them for every chunk. -/
theorem five9 (A B C D E : ℕ → sProp 𝕄) : bigSep (Finset.range 9) (fun d => iprop(A d ∗ B d ∗ C d ∗ D d ∗ E d))
    = iprop(bigSep (Finset.range 9) A ∗ bigSep (Finset.range 9) B ∗ bigSep (Finset.range 9) C ∗ bigSep (Finset.range 9) D ∗ bigSep (Finset.range 9) E) :=
  (two9 A _).trans (congrArg _ ((two9 B _).trans (congrArg _ ((two9 C _).trans (congrArg _ (two9 D E))))))

/-- What the barrier signal from across `x` hands over. -/
theorem barPay_x : barPay c 0 = (iprop(rch (xp c) ∗ bigSep (Finset.range 9) (FX (xp c))) : sProp 𝕄) := rfl
/-- What the barrier signal from across `y` hands over. -/
theorem barPay_y : barPay c 1 = (iprop(rch (yp c) ∗ bigSep (Finset.range 9) (FO (yp c) (qu c)) ∗ bigSep (Finset.range 9) (FA (yp c) (qu (zp c)))) : sProp 𝕄) :=
  congrArg (fun X : sProp 𝕄 => iprop(rch (yp c) ∗ X)) (two9 (FO (yp c) (qu c)) (FA (yp c) (qu (zp c))))
/-- What the barrier signal from across `z` hands over. -/
theorem barPay_z : barPay c 2 = (iprop(rch (zp c) ∗ bigSep (Finset.range 9) (FO (zp c) (qu c)) ∗ bigSep (Finset.range 9) (FB (zp c) (qu (yp c)))) : sProp 𝕄) :=
  congrArg (fun X : sProp 𝕄 => iprop(rch (zp c) ∗ X)) (two9 (FO (zp c) (qu c)) (FB (zp c) (qu (yp c))))

/-- A device's rows for incoming copies make up what it hands over in its three signals. -/
theorem giv : iprop(rch c ∗ bigSep (Finset.range 9) (Giv c)) ⊢ (iprop(barPay (xp c) 0 ∗ barPay (yp c) 1 ∗ barPay (zp c) 2) : sProp 𝕄) := by
  rw [barPay_x, barPay_y, barPay_z, xp_xp, yp_yp, zp_zp, ← yp_zp]
  rw [show bigSep (Finset.range 9) (Giv c) = _ from five9 (FX c) (FO c (qu (yp c))) (FA c (qu (yp (zp c)))) (FO c (qu (zp c))) (FB c (qu (yp (zp c))))]
  show iprop(rch c ∗ _ ∗ _ ∗ _ ∗ _ ∗ _) ⊢ iprop((rch c ∗ _) ∗ (rch c ∗ _ ∗ _) ∗ (rch c ∗ _ ∗ _))
  iintro ⟨#Hr, H1, H2, H3, H4, H5⟩
  isplitl [H1]
  · isplitr; · iexact Hr
    iexact H1
  isplitl [H2 H3]
  · isplitr; · iexact Hr
    isplitl [H2] <;> iassumption
  isplitr; · iexact Hr
  isplitl [H4] <;> iassumption

/-- What the three signals bring makes up the neighbours' rows, chunk by chunk. -/
theorem got : iprop(barPay c 0 ∗ barPay c 1 ∗ barPay c 2) ⊢ (iprop((rch (xp c) ∗ rch (yp c) ∗ rch (zp c)) ∗ bigSep (Finset.range 9) (Gt c)) : sProp 𝕄) := by
  rw [barPay_x, barPay_y, barPay_z,
    show bigSep (Finset.range 9) (Gt c) = _ from five9 (FX (xp c)) (FO (yp c) (qu c)) (FA (yp c) (qu (zp c))) (FO (zp c) (qu c)) (FB (zp c) (qu (yp c)))]
  show iprop((rch (xp c) ∗ _) ∗ (rch (yp c) ∗ _ ∗ _) ∗ (rch (zp c) ∗ _ ∗ _)) ⊢ iprop((_ ∗ _ ∗ _) ∗ _ ∗ _ ∗ _ ∗ _ ∗ _)
  iintro ⟨⟨H1, H2⟩, ⟨H3, H4, H5⟩, ⟨H6, H7, H8⟩⟩
  isplitl [H1 H3 H6]
  · isplitl [H1]; · iexact H1
    isplitl [H3] <;> iassumption
  isplitl [H2]; · iexact H2
  isplitl [H4]; · iexact H4
  isplitl [H5]; · iexact H5
  isplitl [H7] <;> iassumption

/-- The factors' rows, in HBM. -/
def mrows : Finset S4096x1.Idx := Finset.univ.filter fun i : S4096x1.Idx => 1024 * qu c ≤ (i 0).val ∧ (i 0).val < 1024 * qu c + 1024
def Mr : sProp 𝕄 := PG (lMf c) (mrows c) fullShare fun i v => v = I.mf c i

/-- The factors before and during their copy. -/
def M0 : sProp 𝕄 := iprop(atPos ER (cell c 94) 0 ∅ 0 ∗ dutyTok ER (cell c 94) 0 0 ∗ reached ER (cell c 94) 0 ∗ Mr I c ∗ PG (lM c) Finset.univ fullShare (fun _ _ => True))
def M1 : sProp 𝕄 := iprop(atPos ER (cell c 94) 0 ∅ 0 ∗ cred (tallyAt (cell c 94) () NM))

/-- Every chunk at stage 0. -/
abbrev ks0 : List ℕ := [0,0,0,0,0,0,0,0,0]

/-- The levels and the cells. -/
def C0 : sProp 𝕄 := iprop(levAts L lv ∗ Inv I K)
instance C0_persistent : BI.Persistent (C0 I K) := by unfold C0; infer_instance

/-- Owing `O`. -/
def Ws (O : CellTallies nD τ sig Unit) : sProp 𝕄 := iprop(∃ W, owes (c : Thread nD τ) O W)

/-- A signal to be sent, with what it hands over. -/
def Sg (c' : Dev nD) (u : Fin 3) : sProp 𝕄 := iprop(dutyTok ER (barC c') 0 u ∗ barPay c' u ∗ reached ER (barC c') 0)

/-- The own barrier, before and after its wait. -/
def B0 : sProp 𝕄 := iprop(atPos ER (barC c) 0 ∅ 0 ∗ cred (tallyAt (barC c) () 3))
def B1 : sProp 𝕄 := iprop(atPos ER (barC c) 1 ∅ 0 ∗ (rch (xp c) ∗ rch (yp c) ∗ rch (zp c)) ∗ bigSep (Finset.range 9) (Gt c))

/-! ## The steps -/

section Steps

variable {α : Type} {k : PUnit → Prog (TpuEff nD τ sig (Elt F) Λ₀ .tc) α}

/-- A barrier signal's payload in the protocol. -/
theorem pay_bar (c' : Dev nD) (u : Fin 3) : (Rd I).payload ((c'.tc : Thread nD τ), .reg barrier0) 0 u = barPay c' u := rfl
/-- A barrier signal counts for one. -/
theorem amt_bar (c' : Dev nD) (u : Fin 3) : (Rd I).amount ((c'.tc : Thread nD τ), .reg barrier0) 0 u = 1 := rfl
/-- Each of the three signals is due. -/
theorem mem_bar (c' : Dev nD) (u : Fin 3) : u ∈ (Rd I).duties ((c'.tc : Thread nD τ), .reg barrier0) 0 := Finset.mem_univ u

/-- Sending a barrier signal: what it takes, and what it leaves behind. -/
theorem sig_core {Q : α → sProp 𝕄} (c' : Dev nD) (u : Fin 3) (O : CellTallies nD τ sig Unit) (W : Waits sig Unit) :
    iprop(Inv I K ∗ owes (c : Thread nD τ) (O + tallyAt (barC c') () 1) W ∗ dutyTok ER (barC c') 0 u ∗ barPay c' u ∗ reached ER (barC c') 0)
      ⊢ iprop((owes (c : Thread nD τ) O W -∗ wpK c (k ⟨⟩) Q) -∗ wpK c (.op (.semSignal (c'.tc : Thread nD τ) barrier0 ((1 : ℕ) : ℤ)) k) Q) := by
  have hs := Rounds.wp_signal (defs := defs₀ (F := F)) (Γ := ∅) (Q := Q) (k := k) (Es := Set.univ) 𝒱₀ ER (Rd I) (c : Thread nD τ) none (dst := (c'.tc : Thread nD τ)) (sem := barrier0) (r := 0) (d := u) (k' := 1) (κ := K (barC c'))
      (mem_bar I c' u) (amt_bar I c' u) () O rfl (W := W) (hr := routes_tc c c')
  rw [pay_bar] at hs
  refine BIBase.Entails.trans ?_ hs
  iintro ⟨#HI, HO, Ht, Hp, Hr⟩
  isplitr; · iapply (Inv_bar I K c'); iexact HI
  isplitl [HO]; · iexact HO
  isplitl [Ht]; · iexact Ht
  isplitl [Hp]; · iexact Hp
  iexact Hr

/-- One signal. -/
theorem pn_sig {Q : α → sProp 𝕄} {R : sProp 𝕄} {c' d' : Dev nD} {u : Fin 3} {O : CellTallies nD τ sig Unit} (h : iprop(C0 I K ∗ Ws c O ∗ R) ⊢ wpK c (k ⟨⟩) Q) (he : d' = c') :
    iprop(C0 I K ∗ Ws c (O + tallyAt (barC c') () 1) ∗ Sg c' u ∗ R) ⊢ wpK c (.op (.semSignal (d'.tc : Thread nD τ) barrier0 ((1 : ℕ) : ℤ)) k) Q := by
  subst he
  unfold C0 Ws Sg at *
  iintro ⟨⟨#Hl, #HI⟩, ⟨%W, HO⟩, ⟨Ht, Hp, Hr⟩, HR⟩
  iapply (sig_core I K c d' u O W) $$ [HO Ht Hp Hr]
  · isplitr; · iexact HI
    isplitl [HO]; · iexact HO
    isplitl [Ht]; · iexact Ht
    isplitl [Hp]; · iexact Hp
    iexact Hr
  iintro HO
  iapply h
  isplitr
  · isplitr; · iexact Hl
    iexact HI
  isplitl [HO]; · iexists W; iexact HO
  iexact HR

/-- The barrier's three payloads written out. -/
theorem bar_all : bigSep ((Rd I).duties (barC c) 0 \ ∅) (fun u => (Rd I).payload (barC c) 0 u) = iprop(barPay c 0 ∗ barPay c 1 ∗ barPay c 2) := by
  rw [Finset.sdiff_empty, duties_bar, show (Finset.univ : Finset (Fin 3)) = {0, 1, 2} from rfl, bigSep_insert (by decide), bigSep_insert (by decide), bigSep_singleton]
  rfl

/-- The wait at the barrier: the neighbours' rows. -/
theorem pn_bar {Q : α → sProp 𝕄} {R : sProp 𝕄} (h : iprop(C0 I K ∗ Ws c (owed c ks0) ∗ B1 c ∗ R) ⊢ wpK c (k ⟨⟩) Q) :
    iprop(C0 I K ∗ Ws c (owed c ks0) ∗ B0 c ∗ R) ⊢ wpK c (.op (.semWait barrier0 ((3 : ℕ) : ℤ)) k) Q := by
  unfold C0 Ws B0 B1 at *
  iintro ⟨⟨#Hl, #HI⟩, ⟨%W, HO⟩, ⟨Hat, Hc⟩, HR⟩
  ihave HW := (mayWait c (.reg barrier0) ks0 1 (by decide) (Nat.le_refl 1)) $$ Hl
  iapply (Rounds.wp_wait_rest_token 𝒱₀ ER (Rd I) (c : Thread nD τ) none (κ := K (barC c))
      (wpE_semWait_eq 𝒱₀ (c : Thread nD τ) none Set.univ) (Set.mem_univ _) () (O := owed c ks0) (W := W) (R := 0) (m := 0) (T := ∅)
      (k' := 3) ((Nat.zero_add _).trans (expect_bar I c).symm)) $$ [Hc HO HW Hat]
  · isplitr; · iapply (Inv_bar I K c); iexact HI
    isplitl [Hc]; · iexact Hc
    isplitl [HO]; · iexact HO
    isplitl [HW]; · iexact HW
    iexact Hat
  iintro ⟨HO, Hat, -, Hpay⟩
  ihave Hp := (Entails.of_eq (bar_all I c)) $$ Hpay
  ihave Hp := (got c) $$ Hp
  iapply h
  isplitr
  · isplitr; · iexact Hl
    iexact HI
  isplitl [HO]; · iexists _; iexact HO
  isplitl [Hat Hp]
  · isplitl [Hat] <;> iassumption
  iexact HR

/-- The places the own quarter of the mask covers. -/
theorem set_vMf {o : Fin 2 → ℕ} {inb : ∀ a, o a + S1024x1.size a ≤ S4096x1.size a} (ho : o = ![1024 * qu c, 0]) :
    ((Memref.whole main_v16).slice (Rect.unit (s := S4096x1) o S1024x1.size inb) (fun _ => rfl)).view.set = mrows c := by
  refine (View.set_slice_whole _ _).trans (show (Rect.unit (s := S4096x1) o S1024x1.size inb).toLoadRect.set = mrows c from ?_)
  ext i
  have h0 : (i 0).val < 4096 := (i 0).isLt
  have h1 : (i 1).val < 1 := (i 1).isLt
  rw [mrows, Finset.mem_filter, Rect.mem_set_unit]
  subst ho
  constructor
  · intro hi
    have h : 1024 * qu c ≤ (i 0).val ∧ (i 0).val < 1024 * qu c + 1024 := hi 0
    exact ⟨Finset.mem_univ _, h⟩
  · rintro ⟨-, h⟩ a
    match a with
    | 0 => exact h
    | 1 => exact ⟨Nat.zero_le _, (show (i 1).val < 0 + 1 by omega)⟩

/-- What the mask's copy hands over. -/
theorem pay_m : payD I c 94 0 = payM I c := by unfold payD; rw [if_neg (by decide), if_pos rfl]
/-- What the mask's copy counts for. -/
theorem amt_m : amtD 94 0 = NM := by unfold amtD; rw [if_neg (by decide), if_pos rfl]

/-- The mask's copy leaves the own quarter of the mask in the local buffer. -/
theorem hp_m {o : Fin 2 → ℕ} {inb : ∀ a, o a + S1024x1.size a ≤ S4096x1.size a} (ho : o = ![1024 * qu c, 0]) (fs : Buf (Elt F) (lMf c)) (fd : Buf (Elt F) (lM c))
    (hfs : ∀ i ∈ mrows c, fs i = I.mf c i) :
    iprop((lM c ↦[(Memref.whole cc0_scratch2).view.set]{fullShare} (Memref.whole cc0_scratch2).view.write (Elt F) fd (((Memref.whole main_v16).slice (Rect.unit (s := S4096x1) o S1024x1.size inb) (fun _ => rfl)).view.read (Elt F) fs) Finset.univ)
      ∗ (lMf c ↦[mrows c]{fullShare} fs)) ⊢ payD I c 94 0 := by
  have h1 : (lM c ↦[(Memref.whole cc0_scratch2).view.set]{fullShare} (Memref.whole cc0_scratch2).view.write (Elt F) fd (((Memref.whole main_v16).slice (Rect.unit (s := S4096x1) o S1024x1.size inb) (fun _ => rfl)).view.read (Elt F) fs) Finset.univ : sProp 𝕄)
      ⊢ PG (lM c) (Memref.whole cc0_scratch2).view.set fullShare (pM I c) := PG_intro _
    (copied ((Memref.whole main_v16).slice (Rect.unit (s := S4096x1) o S1024x1.size inb) (fun _ => rfl)).view (Memref.whole cc0_scratch2).view fs fd
      (P := fun i v => i ∈ mrows c ∧ v = I.mf c i) (P' := pM I c) (fun x v hv => by
        subst ho
        exact ⟨_, (show 1024 * qu c + 1 * (x 0).val = 1024 * qu c + (x 0).val by omega), hv.2⟩)
      (by rw [set_vMf c ho]; exact fun i hi => ⟨hi, hfs i hi⟩))
  have h2 : (lMf c ↦[mrows c]{fullShare} fs : sProp 𝕄) ⊢ PG (lMf c) (mrows c) fullShare (fun i v => v = I.mf c i) := PG_intro fs hfs
  rw [pay_m]
  rw [show (Memref.whole cc0_scratch2).view.set = Finset.univ from View.set_whole _] at h1
  rw [show (Memref.whole cc0_scratch2).view.set = Finset.univ from View.set_whole _]
  exact BI.sep_mono h1 h2

/-- Starting the mask's copy. -/
theorem pn_copy {Q : α → sProp 𝕄} {R : sProp 𝕄} {o : Fin 2 → ℕ} {inb : ∀ a, o a + S1024x1.size a ≤ S4096x1.size a} {s1 : DmaSem sig} {hsrc hdst}
    {hsem : DmaTarget.Typed (nD := nD) .hbm (.dma s1) (DmaTarget.here (τ := τ) (nD := nD) (p := (Proc.tc : Proc τ)) (Memref.whole cc0_scratch2))}
    (h : iprop(C0 I K ∗ R ∗ M1 c) ⊢ wpK c (k ⟨⟩) Q) (ho : o = ![1024 * qu c, 0]) (hs1 : s1 = dsem 94 := by rfl) :
    iprop(C0 I K ∗ R ∗ M0 I c) ⊢ wpK c (.op (.enqueueDma ((Memref.whole main_v16).slice (Rect.unit (s := S4096x1) o S1024x1.size inb) (fun _ => rfl)) (.here (Memref.whole cc0_scratch2)) (.dma s1) hsrc hdst hsem) k) Q := by
  have hv : (Memref.whole cc0_scratch2).view.set = Finset.univ := View.set_whole _
  have hr : Mr I c ⊢ PG (lMf c) ((Memref.whole main_v16).slice (Rect.unit (s := S4096x1) o S1024x1.size inb) (fun _ => rfl)).view.set fullShare (fun i v => v = I.mf c i) := by
    rw [set_vMf c ho]; exact .rfl
  have hw : (PG (lM c) Finset.univ fullShare (fun _ _ => True) : sProp 𝕄) ⊢ PG (lM c) (Memref.whole cc0_scratch2).view.set fullShare (fun _ _ => True) := by
    rw [hv]
  unfold C0 M0 M1 at *
  iintro ⟨⟨#Hl, #HI⟩, HR, ⟨Hat, Ht, Hr, Hm, Hd⟩⟩
  ihave Hm := hr $$ Hm
  ihave Hd := hw $$ Hd
  iapply (copy_core I K c (src := (Memref.whole main_v16).slice (Rect.unit (s := S4096x1) o S1024x1.size inb) (fun _ => rfl)) (dst := Memref.whole cc0_scratch2) 94 0 NM (mem_DC (by decide))
      (by decide) hs1 cr_m amt_m (q := fullShare) (P := fun i v => v = I.mf c i)
      (fun fs fd hfs => by
        have := hp_m I c (inb := inb) ho fs fd (by rw [set_vMf c ho] at hfs; exact hfs)
        rw [set_vMf c ho]; exact this)) $$ [Hm Hd Ht Hr]
  · isplitr; · iexact HI
    isplitl [Hm]; · iexact Hm
    isplitl [Hd]; · iexact Hd
    isplitl [Ht]; · iexact Ht
    iexact Hr
  iintro Hc
  iapply h
  isplitr
  · isplitr; · iexact Hl
    iexact HI
  isplitl [HR]; · iexact HR
  isplitl [Hat] <;> iassumption

/-- What is left over of the start. -/
def Lft : sProp 𝕄 := iprop(atPos ER (cell c 94) 1 ∅ 0 ∗ atPos ER (barC c) 1 ∅ 0 ∗ Mr I c)

/-- What the first steps leave alone. -/
def Rs : sProp 𝕄 := iprop(rch c ∗ bigSep (Finset.range 9) (Chp I c) ∗ Bst c 0 2)

/-- All chunks without the neighbours' rows, given these, are at stage 0. -/
theorem Chs_start : iprop(bigSep (Finset.range 9) (Chp I c) ∗ bigSep (Finset.range 9) (Gt c)) ⊢ Chs I c ks0 := by
  rw [← two9]
  refine bigSep_mono fun d hd => ?_
  have : ks0.getD d 0 = 0 := by have := Finset.mem_range.mp hd; interval_cases d <;> rfl
  rw [this]
  exact Ch_start I c d

/-- Waiting for the mask's copy. -/
theorem pn_wait {Q : α → sProp 𝕄} {R : sProp 𝕄} {s' : Shape} {e' : EltTy} {sp' : Space} {src : Memref sig .tc sp' s' e'} {s1 : DmaSem sig} {hsrc hdst}
    (h : iprop(C0 I K ∗ Ws c (owed c ks0) ∗ (payM I c ∗ atPos ER (cell c 94) 1 ∅ 0) ∗ R) ⊢ wpK c (k ⟨⟩) Q) (hs1 : s1 = dsem 94) :
    iprop(C0 I K ∗ Ws c (owed c ks0) ∗ M1 c ∗ R) ⊢ wpK c (.op (.waitDma2 s1 src (Memref.whole cc0_scratch2) hsrc hdst) k) Q := by
  unfold C0 Ws at *
  unfold M1
  iintro ⟨⟨#Hl, #HI⟩, ⟨%W, HO⟩, ⟨Hat, Hc⟩, HR⟩
  ihave HW := (mayWait c (.dma (dsem 94)) ks0 0 (by decide) (Nat.le_refl 0)) $$ Hl
  iapply (wait_core I K c (src := src) (dst := Memref.whole cc0_scratch2) 94 0 NM (mem_DC (by decide)) (by decide) hs1 cr_m amt_m (owed c ks0) W) $$ [HO Hat Hc HW]
  · isplitr; · iexact HI
    isplitl [Hc]; · iexact Hc
    isplitl [HO]; · iexact HO
    isplitl [HW]; · iexact HW
    iexact Hat
  iintro ⟨HO, Hat, -, Hp⟩
  ihave Hp := (Entails.of_eq (pay_m I c)) $$ Hp
  iapply h
  isplitr
  · isplitr; · iexact Hl
    iexact HI
  isplitl [HO]; · iexact HO
  isplitl [Hp Hat]
  · isplitl [Hp] <;> iassumption
  iexact HR

end Steps

/-- After the first steps every chunk is at stage 0. -/
theorem pn_St {R G : sProp 𝕄} : iprop(C0 I K ∗ Ws c (owed c ks0) ∗ (payM I c ∗ atPos ER (cell c 94) 1 ∅ 0) ∗ B1 c ∗ G ∗ Rs I c ∗ R) ⊢ St I K c ks0 0 2 iprop(G ∗ Lft I c ∗ R) := by
  have hm : payM I c ⊢ iprop(Mst I c ∗ Mr I c) := .rfl
  have hB : (B1 c : sProp 𝕄) ⊢ iprop(atPos ER (barC c) 1 ∅ 0 ∗ (rch (xp c) ∗ rch (yp c) ∗ rch (zp c)) ∗ bigSep (Finset.range 9) (Gt c)) := .rfl
  have hS : Rs I c ⊢ iprop(rch c ∗ bigSep (Finset.range 9) (Chp I c) ∗ Bst c 0 2) := .rfl
  have hO : (Ws c (owed c ks0) : sProp 𝕄) ⊢ Ow c ks0 := .rfl
  have hL : iprop(atPos ER (cell c 94) 1 ∅ 0 ∗ atPos ER (barC c) 1 ∅ 0 ∗ Mr I c) ⊢ Lft I c := .rfl
  have hC : iprop((levAts L lv ∗ Inv I K) ∗ rch c ∗ rch (xp c) ∗ rch (yp c) ∗ rch (zp c)) ⊢ Ctx I K c := by
    unfold Ctx
    iintro ⟨⟨H1, H2⟩, H3, H4, H5, H6⟩
    iframe
  have h0 : C0 I K ⊢ iprop(levAts L lv ∗ Inv I K) := .rfl
  unfold St
  iintro ⟨HC, HO, ⟨Hp, Hat⟩, HB, HG, HS, HR⟩
  ihave HC := h0 $$ HC
  ihave Hp := hm $$ Hp
  icases Hp with ⟨Hm, Hmr⟩
  ihave HB := hB $$ HB
  icases HB with ⟨Hb, ⟨Hrx, Hry, Hrz⟩, Hg⟩
  ihave HS := hS $$ HS
  icases HS with ⟨Hr, Hch, HBs⟩
  ihave HO := hO $$ HO
  isplitl [HC Hr Hrx Hry Hrz]
  · iapply hC
    isplitl [HC]; · iexact HC
    isplitl [Hr]; · iexact Hr
    isplitl [Hrx]; · iexact Hrx
    isplitl [Hry] <;> iassumption
  isplitl [Hch Hg]
  · iapply (Chs_start I c)
    isplitl [Hch] <;> iassumption
  isplitl [HO]; · iexact HO
  isplitl [HBs]; · iexact HBs
  isplitl [Hm]; · iexact Hm
  isplitl [HG]; · iexact HG
  isplitr [HR]
  · iapply hL
    isplitl [Hat]; · iexact Hat
    isplitl [Hb]; · iexact Hb
    iexact Hmr
  iexact HR

end Cert.K
-- ==== Proof.Body1.lean ====
/-
  The first chunks: gathered, sent, summed, passed on.
-/
module

public import proofs.«01_k».proof.Proof.Operands

@[expose] public section

set_option maxRecDepth 16384

noncomputable section

namespace Cert.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open PCS URA

variable {F : FTy → Type} [FloatOps F]

local notation "𝕄" => MT nD τ sig Unit (Elt F) ℕ UU ℕ

variable (I : Ins F) (K : GSem nD τ sig → ℕ) (c : Dev nD)

/-- Part 3 of the body takes the chunks from stages `[0,0,0,0,0,0,0,0,0]` to `[2,0,0,0,0,0,0,0,0]`. -/
theorem p3 {Q : PUnit → sProp 𝕄} {R : sProp 𝕄} (v5 v8 v22 v32 : BitVec 32) (h : St I K c [2,0,0,0,0,0,0,0,0] 0 2 iprop(Gs I c [.busy 2, .ready 1] ∗ R) ⊢ Q ⟨⟩) :
    St I K c [0,0,0,0,0,0,0,0,0] 0 2 iprop(Gs I c [.ready 0, .busy 1] ∗ R) ⊢ wpK c (ap (k0_part3 (F := F)) c v5 v8 v22 v32) Q := by
  rw [k0_part3_eq_skeleton]
  unfold ap k0_part3_skel
  refine st_loadG I K c 0 0 fun v57 hv57 => ?_
  refine st_loadM I K c 0 fun v59 hv59 => ?_
  refine st_loadX0 I K c 0 fun _ => ?_
  refine st_storeX I K c 0 ?_ (comb_X (hv57.cast _) hv59 _ _ _)
  refine st_sendX I K c 0 ?_
  refine st_issue I K c (o1 := k0_off11) (o2 := k0_off12) (oE := k0_off13) (chk := k0_chk4) (cond := k0_cond4) 0 2 (fun _ => trip_eq fun _ _ _ => by rfl) ?_
  refine st_gwait I K c (o1 := k0_off14) (o2 := k0_off15) (oE := k0_off16) (chk := k0_chk5) (cond := k0_cond5) 1 1 (fun _ => trip_eq fun _ _ _ => by rfl) ?_
  exact fin c h

/-- Part 4 of the body takes the chunks from stages `[2,0,0,0,0,0,0,0,0]` to `[2,2,0,0,0,0,0,0,0]`. -/
theorem p4 {Q : PUnit → sProp 𝕄} {R : sProp 𝕄} (v5 v8 v22 : BitVec 32) (h : St I K c [2,2,0,0,0,0,0,0,0] 0 2 iprop(Gs I c [.busy 2, .free] ∗ R) ⊢ Q ⟨⟩) :
    St I K c [2,0,0,0,0,0,0,0,0] 0 2 iprop(Gs I c [.busy 2, .ready 1] ∗ R) ⊢ wpK c (ap (k0_part4 (F := F)) c v5 v8 v22) Q := by
  rw [k0_part4_eq_skeleton]
  unfold ap k0_part4_skel
  refine st_loadG I K c 1 1 fun v82 hv82 => ?_
  refine st_loadM I K c 1 fun v84 hv84 => ?_
  refine st_loadX0 I K c 1 fun _ => ?_
  refine st_storeX I K c 1 ?_ (comb_X (hv82.cast _) hv84 _ _ _)
  refine st_sendX I K c 1 ?_
  exact fin c h

/-- Part 5 of the body takes the chunks from stages `[2,2,0,0,0,0,0,0,0]` to `[4,2,1,0,0,0,0,0,0]`. -/
theorem p5 {Q : (Σ' (v133 : BitVec 32), BitVec 32) → sProp 𝕄} {R : sProp 𝕄} (v22 v32 : BitVec 32) (h : ∀ w, St I K c [4,2,1,0,0,0,0,0,0] 0 0 iprop(Gs I c [.free, .busy 3] ∗ R) ⊢ Q w) :
    St I K c [2,2,0,0,0,0,0,0,0] 0 2 iprop(Gs I c [.busy 2, .free] ∗ R) ⊢ wpK c (ap (k0_part5 (F := F)) c v22 v32) Q := by
  rw [k0_part5_eq_skeleton]
  unfold ap k0_part5_skel
  refine st_wXr I K c 0 ?_
  refine st_bcopy I K c 0 ?_
  refine st_issue I K c (o1 := k0_off17) (o2 := k0_off18) (oE := k0_off19) (chk := k0_chk6) (cond := k0_cond6) 1 3 (fun _ => trip_eq fun _ _ _ => by rfl) ?_
  refine st_gwait I K c (o1 := k0_off20) (o2 := k0_off21) (oE := k0_off22) (chk := k0_chk7) (cond := k0_cond7) 0 2 (fun _ => trip_eq fun _ _ _ => by rfl) ?_
  refine st_loadG I K c 0 2 fun v123 hv123 => ?_
  refine st_loadM I K c 2 fun v125 hv125 => ?_
  refine st_loadX0 I K c 2 fun _ => ?_
  refine st_storeX I K c 2 ?_ (comb_X (hv123.cast _) hv125 _ _ _)
  exact fin c (h _)

/-- Part 6 of the body takes the chunks from stages `[4,2,1,0,0,0,0,0,0]` to `[6,2,2,0,0,0,0,0,0]`. -/
theorem p6 {Q : BitVec 32 → sProp 𝕄} {R : sProp 𝕄} (v2 v5 v8 v32 v133 c4_i32_129 : BitVec 32) (h : ∀ w, St I K c [6,2,2,0,0,0,0,0,0] 1 2 iprop(Gs I c [.free, .busy 3] ∗ R) ⊢ Q w) :
    St I K c [4,2,1,0,0,0,0,0,0] 0 0 iprop(Gs I c [.free, .busy 3] ∗ R) ⊢ wpK c (ap (k0_part6 (F := F)) c v2 v5 v8 v32 v133 c4_i32_129) Q := by
  rw [k0_part6_eq_skeleton]
  unfold ap k0_part6_skel
  refine st_sendX I K c 2 ?_
  refine st_bwait I K c 0 ?_
  refine st_loadX I K c 0 fun v151 hv151 => ?_
  refine st_loadB I K c 0 fun v154 hv154 => ?_
  refine st_loadS0 I K c 0 fun _ => ?_
  refine st_storeS I K c 0 ?_ (comb_S (ext_X (hv151.cast _) _) hv154 _ _ _ _)
  exact fin c (h _)

/-- Part 7 of the body takes the chunks from stages `[6,2,2,0,0,0,0,0,0]` to `[8,2,2,0,0,0,0,0,0]`. -/
theorem p7 {Q : PUnit → sProp 𝕄} {R : sProp 𝕄} (v2 v5 v8 v21 v23 v162 : BitVec 32) (h : St I K c [8,2,2,0,0,0,0,0,0] 1 2 iprop(Gs I c [.free, .busy 3] ∗ R) ⊢ Q ⟨⟩) :
    St I K c [6,2,2,0,0,0,0,0,0] 1 2 iprop(Gs I c [.free, .busy 3] ∗ R) ⊢ wpK c (ap (k0_part7 (F := F)) c v2 v5 v8 v21 v23 v162) Q := by
  rw [k0_part7_eq_skeleton]
  unfold ap k0_part7_skel
  refine st_sendY I K c 0 ?_ (off23_eq c).1
  refine st_sendZ I K c 0 ?_ (off23_eq c).1
  exact fin c h

/-- Part 8 of the body takes the chunks from stages `[8,2,2,0,0,0,0,0,0]` to `[9,4,2,0,0,0,0,0,0]`. -/
theorem p8 {Q : FVec F S128x2048 .f32 → sProp 𝕄} {R : sProp 𝕄} (v5 v8 v22 v32 : BitVec 32) (h : ∀ v, V2 (sz 3) (gG I c 3) v → St I K c [9,4,2,0,0,0,0,0,0] 1 1 iprop(Gs I c [.busy 4, .free] ∗ R) ⊢ Q v) :
    St I K c [8,2,2,0,0,0,0,0,0] 1 2 iprop(Gs I c [.free, .busy 3] ∗ R) ⊢ wpK c (ap (k0_part8 (F := F)) c v5 v8 v22 v32) Q := by
  rw [k0_part8_eq_skeleton]
  unfold ap k0_part8_skel
  refine st_own I K c 0 ?_ (off23_eq c).1
  refine st_wXr I K c 1 ?_
  refine st_bcopy I K c 1 ?_
  refine st_issue I K c (o1 := k0_off24) (o2 := k0_off25) (oE := k0_off26) (chk := k0_chk8) (cond := k0_cond8) 0 4 (fun _ => trip_eq fun _ _ _ => by rfl) ?_
  refine st_gwait I K c (o1 := k0_off27) (o2 := k0_off28) (oE := k0_off29) (chk := k0_chk9) (cond := k0_cond9) 1 3 (fun _ => trip_eq fun _ _ _ => by rfl) ?_
  refine st_loadG I K c 1 3 fun v214 hv214 => ?_
  exact fin c (h _ (hv214.cast _))

/-- Part 9 of the body takes the chunks from stages `[9,4,2,0,0,0,0,0,0]` to `[9,5,2,2,0,0,0,0,0]`. -/
theorem p9 {Q : FVec F S128x2048 .f32 → sProp 𝕄} {R : sProp 𝕄} (v5 v8 v22 v32 : BitVec 32) (v215 : FVec F S128x2048 .f32) (hv215 : V2 (sz 3) (gG I c 3) v215) (h : ∀ v, V2 (sz 1) (gXe I c 1) v → St I K c [9,5,2,2,0,0,0,0,0] 2 1 iprop(Gs I c [.busy 4, .free] ∗ R) ⊢ Q v) :
    St I K c [9,4,2,0,0,0,0,0,0] 1 1 iprop(Gs I c [.busy 4, .free] ∗ R) ⊢ wpK c (ap (k0_part9 (F := F)) c v5 v8 v22 v32 v215) Q := by
  rw [k0_part9_eq_skeleton]
  unfold ap k0_part9_skel
  refine st_loadM I K c 3 fun v216 hv216 => ?_
  refine st_loadX0 I K c 3 fun _ => ?_
  refine st_storeX I K c 3 ?_ (comb_X hv215 hv216 _ _ _)
  refine st_sendX I K c 3 ?_
  refine st_bwait I K c 1 ?_
  refine st_loadX I K c 1 fun v242 hv242 => ?_
  exact fin c (h _ (ext_X (hv242.cast _) _))

/-- Part 10 of the body takes the chunks from stages `[9,5,2,2,0,0,0,0,0]` to `[9,7,2,2,0,0,0,0,0]`. -/
theorem p10 {Q : PUnit → sProp 𝕄} {R : sProp 𝕄} (v2 v5 v8 v21 v23 : BitVec 32) (v244 : FVec F S128x2048 .f32) (hv244 : V2 (sz 1) (gXe I c 1) v244) (h : St I K c [9,7,2,2,0,0,0,0,0] 2 2 iprop(Gs I c [.busy 4, .free] ∗ R) ⊢ Q ⟨⟩) :
    St I K c [9,5,2,2,0,0,0,0,0] 2 1 iprop(Gs I c [.busy 4, .free] ∗ R) ⊢ wpK c (ap (k0_part10 (F := F)) c v2 v5 v8 v21 v23 v244) Q := by
  rw [k0_part10_eq_skeleton]
  unfold ap k0_part10_skel
  refine st_loadB I K c 1 fun v245 hv245 => ?_
  refine st_loadS0 I K c 1 fun _ => ?_
  refine st_storeS I K c 1 ?_ (comb_S hv244 hv245 _ _ _ _)
  refine st_sendY I K c 1 ?_ (off23_eq c).2
  exact fin c h

/-- Part 11 of the body takes the chunks from stages `[9,7,2,2,0,0,0,0,0]` to `[10,9,2,2,0,0,0,0,0]`. -/
theorem p11 {Q : (Σ' (v303 : BitVec 32), BitVec 32) → sProp 𝕄} {R : sProp 𝕄} (v2 v8 v23 v28 : BitVec 32) (h : ∀ w, St I K c [10,9,2,2,0,0,0,0,0] 2 2 iprop(Gs I c [.busy 4, .free] ∗ R) ⊢ Q w) :
    St I K c [9,7,2,2,0,0,0,0,0] 2 2 iprop(Gs I c [.busy 4, .free] ∗ R) ⊢ wpK c (ap (k0_part11 (F := F)) c v2 v8 v23 v28) Q := by
  rw [k0_part11_eq_skeleton]
  unfold ap k0_part11_skel
  refine st_sendZ I K c 1 ?_ (off23_eq c).2
  refine st_own I K c 1 ?_ (off23_eq c).2
  refine st_wYr I K c 0 ?_
  exact fin c (h _)

/-- Part 12 of the body takes the chunks from stages `[10,9,2,2,0,0,0,0,0]` to `[12,9,2,2,0,0,0,0,0]`. -/
theorem p12 {Q : PUnit → sProp 𝕄} {R : sProp 𝕄} (v2 v5 v8 v21 v23 v31 v303 c4_i32_297 : BitVec 32) (h : St I K c [12,9,2,2,0,0,0,0,0] 2 2 iprop(Gs I c [.busy 4, .free] ∗ R) ⊢ Q ⟨⟩) :
    St I K c [10,9,2,2,0,0,0,0,0] 2 2 iprop(Gs I c [.busy 4, .free] ∗ R) ⊢ wpK c (ap (k0_part12 (F := F)) c v2 v5 v8 v21 v23 v31 v303 c4_i32_297) Q := by
  rw [k0_part12_eq_skeleton]
  unfold ap k0_part12_skel
  refine st_fwdZ I K c 0 ?_ (off30_eq c).1
  refine st_wZr I K c 0 ?_
  exact fin c h

end Cert.K
-- ==== Proof.Body2.lean ====
/-
  The next chunks.
-/
module

public import proofs.«01_k».proof.Proof.Operands

@[expose] public section

set_option maxRecDepth 16384

noncomputable section

namespace Cert.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open PCS URA

variable {F : FTy → Type} [FloatOps F]

local notation "𝕄" => MT nD τ sig Unit (Elt F) ℕ UU ℕ

variable (I : Ins F) (K : GSem nD τ sig → ℕ) (c : Dev nD)

/-- Part 13 of the body takes the chunks from stages `[12,9,2,2,0,0,0,0,0]` to `[13,9,4,2,0,0,0,0,0]`. -/
theorem p13 {Q : FVec F S128x2048 .f32 → sProp 𝕄} {R : sProp 𝕄} (v5 v8 v22 v32 : BitVec 32) (h : ∀ v, V2 (sz 4) (gG I c 4) v → St I K c [13,9,4,2,0,0,0,0,0] 2 0 iprop(Gs I c [.free, .busy 5] ∗ R) ⊢ Q v) :
    St I K c [12,9,2,2,0,0,0,0,0] 2 2 iprop(Gs I c [.busy 4, .free] ∗ R) ⊢ wpK c (ap (k0_part13 (F := F)) c v5 v8 v22 v32) Q := by
  rw [k0_part13_eq_skeleton]
  unfold ap k0_part13_skel
  refine st_fwdY I K c 0 ?_ (off31_eq c).1
  refine st_wXr I K c 2 ?_
  refine st_bcopy I K c 2 ?_
  refine st_issue I K c (o1 := k0_off32) (o2 := k0_off33) (oE := k0_off34) (chk := k0_chk10) (cond := k0_cond10) 1 5 (fun _ => trip_eq fun _ _ _ => by rfl) ?_
  refine st_gwait I K c (o1 := k0_off35) (o2 := k0_off36) (oE := k0_off37) (chk := k0_chk11) (cond := k0_cond11) 0 4 (fun _ => trip_eq fun _ _ _ => by rfl) ?_
  refine st_loadG I K c 0 4 fun v358 hv358 => ?_
  exact fin c (h _ (hv358.cast _))

/-- Part 14 of the body takes the chunks from stages `[13,9,4,2,0,0,0,0,0]` to `[13,9,5,2,2,0,0,0,0]`. -/
theorem p14 {Q : FVec F S128x2048 .f32 → sProp 𝕄} {R : sProp 𝕄} (v5 v8 v22 v32 : BitVec 32) (v359 : FVec F S128x2048 .f32) (hv359 : V2 (sz 4) (gG I c 4) v359) (h : ∀ v, V2 (sz 2) (gXe I c 2) v → St I K c [13,9,5,2,2,0,0,0,0] 3 0 iprop(Gs I c [.free, .busy 5] ∗ R) ⊢ Q v) :
    St I K c [13,9,4,2,0,0,0,0,0] 2 0 iprop(Gs I c [.free, .busy 5] ∗ R) ⊢ wpK c (ap (k0_part14 (F := F)) c v5 v8 v22 v32 v359) Q := by
  rw [k0_part14_eq_skeleton]
  unfold ap k0_part14_skel
  refine st_loadM I K c 4 fun v360 hv360 => ?_
  refine st_loadX0 I K c 4 fun _ => ?_
  refine st_storeX I K c 4 ?_ (comb_X hv359 hv360 _ _ _)
  refine st_sendX I K c 4 ?_
  refine st_bwait I K c 2 ?_
  refine st_loadX I K c 2 fun v386 hv386 => ?_
  exact fin c (h _ (ext_X (hv386.cast _) _))

/-- Part 15 of the body takes the chunks from stages `[13,9,5,2,2,0,0,0,0]` to `[13,9,7,2,2,0,0,0,0]`. -/
theorem p15 {Q : PUnit → sProp 𝕄} {R : sProp 𝕄} (v2 v5 v8 v21 v23 : BitVec 32) (v388 : FVec F S128x2048 .f32) (hv388 : V2 (sz 2) (gXe I c 2) v388) (h : St I K c [13,9,7,2,2,0,0,0,0] 3 2 iprop(Gs I c [.free, .busy 5] ∗ R) ⊢ Q ⟨⟩) :
    St I K c [13,9,5,2,2,0,0,0,0] 3 0 iprop(Gs I c [.free, .busy 5] ∗ R) ⊢ wpK c (ap (k0_part15 (F := F)) c v2 v5 v8 v21 v23 v388) Q := by
  rw [k0_part15_eq_skeleton]
  unfold ap k0_part15_skel
  refine st_loadB I K c 2 fun v389 hv389 => ?_
  refine st_loadS0 I K c 2 fun _ => ?_
  refine st_storeS I K c 2 ?_ (comb_S hv388 hv389 _ _ _ _)
  refine st_sendY I K c 2 ?_ (off38_eq 2 (by decide) c)
  exact fin c h

/-- Part 16 of the body takes the chunks from stages `[13,9,7,2,2,0,0,0,0]` to `[13,10,9,2,2,0,0,0,0]`. -/
theorem p16 {Q : BitVec 32 → sProp 𝕄} {R : sProp 𝕄} (v2 v8 v23 v28 : BitVec 32) (h : ∀ w, St I K c [13,10,9,2,2,0,0,0,0] 3 2 iprop(Gs I c [.free, .busy 5] ∗ R) ⊢ Q w) :
    St I K c [13,9,7,2,2,0,0,0,0] 3 2 iprop(Gs I c [.free, .busy 5] ∗ R) ⊢ wpK c (ap (k0_part16 (F := F)) c v2 v8 v23 v28) Q := by
  rw [k0_part16_eq_skeleton]
  unfold ap k0_part16_skel
  refine st_sendZ I K c 2 ?_ (off38_eq 2 (by decide) c)
  refine st_own I K c 2 ?_ (off38_eq 2 (by decide) c)
  refine st_wYr I K c 1 ?_
  exact fin c (h _)

/-- Part 17 of the body takes the chunks from stages `[13,10,9,2,2,0,0,0,0]` to `[13,12,9,2,2,0,0,0,0]`. -/
theorem p17 {Q : PUnit → sProp 𝕄} {R : sProp 𝕄} (v2 v5 v8 v21 v23 v31 v447 : BitVec 32) (h : St I K c [13,12,9,2,2,0,0,0,0] 3 2 iprop(Gs I c [.free, .busy 5] ∗ R) ⊢ Q ⟨⟩) :
    St I K c [13,10,9,2,2,0,0,0,0] 3 2 iprop(Gs I c [.free, .busy 5] ∗ R) ⊢ wpK c (ap (k0_part17 (F := F)) c v2 v5 v8 v21 v23 v31 v447) Q := by
  rw [k0_part17_eq_skeleton]
  unfold ap k0_part17_skel
  refine st_fwdZ I K c 1 ?_ (off30_eq c).2
  refine st_wZr I K c 1 ?_
  exact fin c h

/-- Part 18 of the body takes the chunks from stages `[13,12,9,2,2,0,0,0,0]` to `[13,13,9,4,2,0,0,0,0]`. -/
theorem p18 {Q : FVec F S128x2048 .f32 → sProp 𝕄} {R : sProp 𝕄} (v5 v8 v22 v32 : BitVec 32) (h : ∀ v, V2 (sz 5) (gG I c 5) v → St I K c [13,13,9,4,2,0,0,0,0] 3 1 iprop(Gs I c [.busy 6, .free] ∗ R) ⊢ Q v) :
    St I K c [13,12,9,2,2,0,0,0,0] 3 2 iprop(Gs I c [.free, .busy 5] ∗ R) ⊢ wpK c (ap (k0_part18 (F := F)) c v5 v8 v22 v32) Q := by
  rw [k0_part18_eq_skeleton]
  unfold ap k0_part18_skel
  refine st_fwdY I K c 1 ?_ (off31_eq c).2
  refine st_wXr I K c 3 ?_
  refine st_bcopy I K c 3 ?_
  refine st_issue I K c (o1 := k0_off39) (o2 := k0_off40) (oE := k0_off41) (chk := k0_chk12) (cond := k0_cond12) 0 6 (fun _ => trip_eq fun _ _ _ => by rfl) ?_
  refine st_gwait I K c (o1 := k0_off42) (o2 := k0_off43) (oE := k0_off44) (chk := k0_chk13) (cond := k0_cond13) 1 5 (fun _ => trip_eq fun _ _ _ => by rfl) ?_
  refine st_loadG I K c 1 5 fun v502 hv502 => ?_
  exact fin c (h _ (hv502.cast _))

/-- Part 19 of the body takes the chunks from stages `[13,13,9,4,2,0,0,0,0]` to `[13,13,9,5,2,2,0,0,0]`. -/
theorem p19 {Q : FVec F S128x2048 .bf16 → sProp 𝕄} {R : sProp 𝕄} (v5 v8 v22 v32 : BitVec 32) (v503 : FVec F S128x2048 .f32) (hv503 : V2 (sz 5) (gG I c 5) v503) (h : ∀ v, V2 (sz 3) (gX I c 3) v → St I K c [13,13,9,5,2,2,0,0,0] 4 1 iprop(Gs I c [.busy 6, .free] ∗ R) ⊢ Q v) :
    St I K c [13,13,9,4,2,0,0,0,0] 3 1 iprop(Gs I c [.busy 6, .free] ∗ R) ⊢ wpK c (ap (k0_part19 (F := F)) c v5 v8 v22 v32 v503) Q := by
  rw [k0_part19_eq_skeleton]
  unfold ap k0_part19_skel
  refine st_loadM I K c 5 fun v504 hv504 => ?_
  refine st_loadX0 I K c 5 fun _ => ?_
  refine st_storeX I K c 5 ?_ (comb_X hv503 hv504 _ _ _)
  refine st_sendX I K c 5 ?_
  refine st_bwait I K c 3 ?_
  refine st_loadX I K c 3 fun v530 hv530 => ?_
  exact fin c (h _ (hv530.cast _))

/-- Part 20 of the body takes the chunks from stages `[13,13,9,5,2,2,0,0,0]` to `[13,13,9,7,2,2,0,0,0]`. -/
theorem p20 {Q : PUnit → sProp 𝕄} {R : sProp 𝕄} (v2 v5 v8 v21 v23 : BitVec 32) (v531 : FVec F S128x2048 .bf16) (hv531 : V2 (sz 3) (gX I c 3) v531) (h : St I K c [13,13,9,7,2,2,0,0,0] 4 2 iprop(Gs I c [.busy 6, .free] ∗ R) ⊢ Q ⟨⟩) :
    St I K c [13,13,9,5,2,2,0,0,0] 4 1 iprop(Gs I c [.busy 6, .free] ∗ R) ⊢ wpK c (ap (k0_part20 (F := F)) c v2 v5 v8 v21 v23 v531) Q := by
  rw [k0_part20_eq_skeleton]
  unfold ap k0_part20_skel
  refine st_loadB I K c 3 fun v533 hv533 => ?_
  refine st_loadS0 I K c 3 fun _ => ?_
  refine st_storeS I K c 3 ?_ (comb_S (ext_X hv531 _) hv533 _ _ _ _)
  refine st_sendY I K c 3 ?_ (off38_eq 3 (by decide) c)
  exact fin c h

/-- Part 21 of the body takes the chunks from stages `[13,13,9,7,2,2,0,0,0]` to `[13,13,10,9,2,2,0,0,0]`. -/
theorem p21 {Q : (Σ' (v590 : BitVec 32), BitVec 32) → sProp 𝕄} {R : sProp 𝕄} (v2 v8 v23 v28 : BitVec 32) (h : ∀ w, St I K c [13,13,10,9,2,2,0,0,0] 4 2 iprop(Gs I c [.busy 6, .free] ∗ R) ⊢ Q w) :
    St I K c [13,13,9,7,2,2,0,0,0] 4 2 iprop(Gs I c [.busy 6, .free] ∗ R) ⊢ wpK c (ap (k0_part21 (F := F)) c v2 v8 v23 v28) Q := by
  rw [k0_part21_eq_skeleton]
  unfold ap k0_part21_skel
  refine st_sendZ I K c 3 ?_ (off38_eq 3 (by decide) c)
  refine st_own I K c 3 ?_ (off38_eq 3 (by decide) c)
  refine st_wYr I K c 2 ?_
  exact fin c (h _)

/-- Part 22 of the body takes the chunks from stages `[13,13,10,9,2,2,0,0,0]` to `[13,13,12,9,2,2,0,0,0]`. -/
theorem p22 {Q : PUnit → sProp 𝕄} {R : sProp 𝕄} (v2 v5 v8 v21 v23 v31 v590 c0_i32_573 : BitVec 32) (h : St I K c [13,13,12,9,2,2,0,0,0] 4 2 iprop(Gs I c [.busy 6, .free] ∗ R) ⊢ Q ⟨⟩) :
    St I K c [13,13,10,9,2,2,0,0,0] 4 2 iprop(Gs I c [.busy 6, .free] ∗ R) ⊢ wpK c (ap (k0_part22 (F := F)) c v2 v5 v8 v21 v23 v31 v590 c0_i32_573) Q := by
  rw [k0_part22_eq_skeleton]
  unfold ap k0_part22_skel
  refine st_fwdZ I K c 2 ?_ (off45_eq 2 (by decide) c)
  refine st_wZr I K c 2 ?_
  exact fin c h

/-- Part 23 of the body takes the chunks from stages `[13,13,12,9,2,2,0,0,0]` to `[13,13,13,9,4,2,0,0,0]`. -/
theorem p23 {Q : Vec F S1x128x2048 .f32 → sProp 𝕄} {R : sProp 𝕄} (v5 v8 v22 v32 : BitVec 32) (h : ∀ v, V3 (sz 6) (gG I c 6) v → St I K c [13,13,13,9,4,2,0,0,0] 4 0 iprop(Gs I c [.free, .busy 7] ∗ R) ⊢ Q v) :
    St I K c [13,13,12,9,2,2,0,0,0] 4 2 iprop(Gs I c [.busy 6, .free] ∗ R) ⊢ wpK c (ap (k0_part23 (F := F)) c v5 v8 v22 v32) Q := by
  rw [k0_part23_eq_skeleton]
  unfold ap k0_part23_skel
  refine st_fwdY I K c 2 ?_ (off46_eq 2 (by decide) c)
  refine st_wXr I K c 4 ?_
  refine st_bcopy I K c 4 ?_
  refine st_issue I K c (o1 := k0_off47) (o2 := k0_off48) (oE := k0_off49) (chk := k0_chk14) (cond := k0_cond14) 1 7 (fun _ => trip_eq fun _ _ _ => by rfl) ?_
  refine st_gwait I K c (o1 := k0_off50) (o2 := k0_off51) (oE := k0_off52) (chk := k0_chk15) (cond := k0_cond15) 0 6 (fun _ => trip_eq fun _ _ _ => by rfl) ?_
  refine st_loadG I K c 0 6 fun v646 hv646 => ?_
  exact fin c (h _ hv646)

/-- Part 24 of the body takes the chunks from stages `[13,13,13,9,4,2,0,0,0]` to `[13,13,13,9,5,2,2,0,0]`. -/
theorem p24 {Q : Vec F S1x128x2048 .bf16 → sProp 𝕄} {R : sProp 𝕄} (v5 v8 v22 v32 : BitVec 32) (v646 : Vec F S1x128x2048 .f32) (hv646 : V3 (sz 6) (gG I c 6) v646) (h : ∀ v, V3 (sz 4) (gX I c 4) v → St I K c [13,13,13,9,5,2,2,0,0] 5 0 iprop(Gs I c [.free, .busy 7] ∗ R) ⊢ Q v) :
    St I K c [13,13,13,9,4,2,0,0,0] 4 0 iprop(Gs I c [.free, .busy 7] ∗ R) ⊢ wpK c (ap (k0_part24 (F := F)) c v5 v8 v22 v32 v646) Q := by
  rw [k0_part24_eq_skeleton]
  unfold ap k0_part24_skel
  refine st_loadM I K c 6 fun v648 hv648 => ?_
  refine st_loadX0 I K c 6 fun _ => ?_
  refine st_storeX I K c 6 ?_ (comb_X (hv646.cast _) hv648 _ _ _)
  refine st_sendX I K c 6 ?_
  refine st_bwait I K c 4 ?_
  refine st_loadX I K c 4 fun v674 hv674 => ?_
  exact fin c (h _ hv674)

end Cert.K
-- ==== Proof.Body3.lean ====
/-
  The chunks after those.
-/
module

public import proofs.«01_k».proof.Proof.Operands

@[expose] public section

set_option maxRecDepth 16384

noncomputable section

namespace Cert.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open PCS URA

variable {F : FTy → Type} [FloatOps F]

local notation "𝕄" => MT nD τ sig Unit (Elt F) ℕ UU ℕ

variable (I : Ins F) (K : GSem nD τ sig → ℕ) (c : Dev nD)

/-- Part 25 of the body takes the chunks from stages `[13,13,13,9,5,2,2,0,0]` to `[13,13,13,9,7,2,2,0,0]`. -/
theorem p25 {Q : PUnit → sProp 𝕄} {R : sProp 𝕄} (v2 v5 v8 v21 v23 : BitVec 32) (v674 : Vec F S1x128x2048 .bf16) (hv674 : V3 (sz 4) (gX I c 4) v674) (h : St I K c [13,13,13,9,7,2,2,0,0] 5 2 iprop(Gs I c [.free, .busy 7] ∗ R) ⊢ Q ⟨⟩) :
    St I K c [13,13,13,9,5,2,2,0,0] 5 0 iprop(Gs I c [.free, .busy 7] ∗ R) ⊢ wpK c (ap (k0_part25 (F := F)) c v2 v5 v8 v21 v23 v674) Q := by
  rw [k0_part25_eq_skeleton]
  unfold ap k0_part25_skel
  refine st_loadB I K c 4 fun v677 hv677 => ?_
  refine st_loadS0 I K c 4 fun _ => ?_
  refine st_storeS I K c 4 ?_ (comb_S (ext_X (hv674.cast _) _) hv677 _ _ _ _)
  refine st_sendY I K c 4 ?_ (off38_eq 4 (by decide) c)
  exact fin c h

/-- Part 26 of the body takes the chunks from stages `[13,13,13,9,7,2,2,0,0]` to `[13,13,13,10,9,2,2,0,0]`. -/
theorem p26 {Q : BitVec 32 → sProp 𝕄} {R : sProp 𝕄} (v2 v8 v23 v28 : BitVec 32) (h : ∀ w, St I K c [13,13,13,10,9,2,2,0,0] 5 2 iprop(Gs I c [.free, .busy 7] ∗ R) ⊢ Q w) :
    St I K c [13,13,13,9,7,2,2,0,0] 5 2 iprop(Gs I c [.free, .busy 7] ∗ R) ⊢ wpK c (ap (k0_part26 (F := F)) c v2 v8 v23 v28) Q := by
  rw [k0_part26_eq_skeleton]
  unfold ap k0_part26_skel
  refine st_sendZ I K c 4 ?_ (off38_eq 4 (by decide) c)
  refine st_own I K c 4 ?_ (off38_eq 4 (by decide) c)
  refine st_wYr I K c 3 ?_
  exact fin c (h _)

/-- Part 27 of the body takes the chunks from stages `[13,13,13,10,9,2,2,0,0]` to `[13,13,13,12,9,2,2,0,0]`. -/
theorem p27 {Q : PUnit → sProp 𝕄} {R : sProp 𝕄} (v2 v5 v8 v21 v23 v31 v734 : BitVec 32) (h : St I K c [13,13,13,12,9,2,2,0,0] 5 2 iprop(Gs I c [.free, .busy 7] ∗ R) ⊢ Q ⟨⟩) :
    St I K c [13,13,13,10,9,2,2,0,0] 5 2 iprop(Gs I c [.free, .busy 7] ∗ R) ⊢ wpK c (ap (k0_part27 (F := F)) c v2 v5 v8 v21 v23 v31 v734) Q := by
  rw [k0_part27_eq_skeleton]
  unfold ap k0_part27_skel
  refine st_fwdZ I K c 3 ?_ (off45_eq 3 (by decide) c)
  refine st_wZr I K c 3 ?_
  exact fin c h

/-- Part 28 of the body takes the chunks from stages `[13,13,13,12,9,2,2,0,0]` to `[13,13,13,13,9,4,2,0,0]`. -/
theorem p28 {Q : PUnit → sProp 𝕄} {R : sProp 𝕄} (v5 v8 v22 v32 : BitVec 32) (h : St I K c [13,13,13,13,9,4,2,0,0] 5 1 iprop(Gs I c [.busy 8, .ready 7] ∗ R) ⊢ Q ⟨⟩) :
    St I K c [13,13,13,12,9,2,2,0,0] 5 2 iprop(Gs I c [.free, .busy 7] ∗ R) ⊢ wpK c (ap (k0_part28 (F := F)) c v5 v8 v22 v32) Q := by
  rw [k0_part28_eq_skeleton]
  unfold ap k0_part28_skel
  refine st_fwdY I K c 3 ?_ (off46_eq 3 (by decide) c)
  refine st_wXr I K c 5 ?_
  refine st_bcopy I K c 5 ?_
  refine st_issue I K c (o1 := k0_off53) (o2 := k0_off54) (oE := k0_off55) (chk := k0_chk16) (cond := k0_cond16) 0 8 (fun _ => trip_eq fun _ _ _ => by rfl) ?_
  refine st_gwait I K c (o1 := k0_off56) (o2 := k0_off57) (oE := k0_off58) (chk := k0_chk17) (cond := k0_cond17) 1 7 (fun _ => trip_eq fun _ _ _ => by rfl) ?_
  exact fin c h

/-- Part 29 of the body takes the chunks from stages `[13,13,13,13,9,4,2,0,0]` to `[13,13,13,13,9,5,2,2,0]`. -/
theorem p29 {Q : PUnit → sProp 𝕄} {R : sProp 𝕄} (v5 v8 v22 v32 : BitVec 32) (h : St I K c [13,13,13,13,9,5,2,2,0] 6 1 iprop(Gs I c [.busy 8, .free] ∗ R) ⊢ Q ⟨⟩) :
    St I K c [13,13,13,13,9,4,2,0,0] 5 1 iprop(Gs I c [.busy 8, .ready 7] ∗ R) ⊢ wpK c (ap (k0_part29 (F := F)) c v5 v8 v22 v32) Q := by
  rw [k0_part29_eq_skeleton]
  unfold ap k0_part29_skel
  refine st_loadG I K c 1 7 fun v790 hv790 => ?_
  refine st_loadM I K c 7 fun v792 hv792 => ?_
  refine st_loadX0 I K c 7 fun _ => ?_
  refine st_storeX I K c 7 ?_ (comb_X (hv790.cast _) hv792 _ _ _)
  refine st_sendX I K c 7 ?_
  refine st_bwait I K c 5 ?_
  exact fin c h

/-- Part 30 of the body takes the chunks from stages `[13,13,13,13,9,5,2,2,0]` to `[13,13,13,13,9,7,2,2,0]`. -/
theorem p30 {Q : PUnit → sProp 𝕄} {R : sProp 𝕄} (v2 v5 v8 v21 v23 : BitVec 32) (h : St I K c [13,13,13,13,9,7,2,2,0] 6 2 iprop(Gs I c [.busy 8, .free] ∗ R) ⊢ Q ⟨⟩) :
    St I K c [13,13,13,13,9,5,2,2,0] 6 1 iprop(Gs I c [.busy 8, .free] ∗ R) ⊢ wpK c (ap (k0_part30 (F := F)) c v2 v5 v8 v21 v23) Q := by
  rw [k0_part30_eq_skeleton]
  unfold ap k0_part30_skel
  refine st_loadX I K c 5 fun v818 hv818 => ?_
  refine st_loadB I K c 5 fun v821 hv821 => ?_
  refine st_loadS0 I K c 5 fun _ => ?_
  refine st_storeS I K c 5 ?_ (comb_S (ext_X (hv818.cast _) _) hv821 _ _ _ _)
  refine st_sendY I K c 5 ?_ (off38_eq 5 (by decide) c)
  exact fin c h

/-- Part 31 of the body takes the chunks from stages `[13,13,13,13,9,7,2,2,0]` to `[13,13,13,13,10,9,2,2,0]`. -/
theorem p31 {Q : BitVec 32 → sProp 𝕄} {R : sProp 𝕄} (v2 v8 v23 v28 : BitVec 32) (h : ∀ w, St I K c [13,13,13,13,10,9,2,2,0] 6 2 iprop(Gs I c [.busy 8, .free] ∗ R) ⊢ Q w) :
    St I K c [13,13,13,13,9,7,2,2,0] 6 2 iprop(Gs I c [.busy 8, .free] ∗ R) ⊢ wpK c (ap (k0_part31 (F := F)) c v2 v8 v23 v28) Q := by
  rw [k0_part31_eq_skeleton]
  unfold ap k0_part31_skel
  refine st_sendZ I K c 5 ?_ (off38_eq 5 (by decide) c)
  refine st_own I K c 5 ?_ (off38_eq 5 (by decide) c)
  refine st_wYr I K c 4 ?_
  exact fin c (h _)

/-- Part 32 of the body takes the chunks from stages `[13,13,13,13,10,9,2,2,0]` to `[13,13,13,13,12,9,2,2,0]`. -/
theorem p32 {Q : PUnit → sProp 𝕄} {R : sProp 𝕄} (v2 v5 v8 v21 v23 v31 c8_i32_848 : BitVec 32) (h : St I K c [13,13,13,13,12,9,2,2,0] 6 2 iprop(Gs I c [.busy 8, .free] ∗ R) ⊢ Q ⟨⟩) :
    St I K c [13,13,13,13,10,9,2,2,0] 6 2 iprop(Gs I c [.busy 8, .free] ∗ R) ⊢ wpK c (ap (k0_part32 (F := F)) c v2 v5 v8 v21 v23 v31 c8_i32_848) Q := by
  rw [k0_part32_eq_skeleton]
  unfold ap k0_part32_skel
  refine st_fwdZ I K c 4 ?_ (off45_eq 4 (by decide) c)
  refine st_wZr I K c 4 ?_
  exact fin c h

/-- Part 33 of the body takes the chunks from stages `[13,13,13,13,12,9,2,2,0]` to `[13,13,13,13,13,9,4,2,0]`. -/
theorem p33 {Q : (Σ' (v934 : FVec F S128x2048 .f32), Vec F S128x1 .f32) → sProp 𝕄} {R : sProp 𝕄} (v5 v8 v22 v32 : BitVec 32) (h : ∀ v m, V2 (sz 8) (gG I c 8) v → VM I c 8 m → St I K c [13,13,13,13,13,9,4,2,0] 6 0 iprop(Gs I c [.free, .free] ∗ R) ⊢ Q ⟨v, m⟩) :
    St I K c [13,13,13,13,12,9,2,2,0] 6 2 iprop(Gs I c [.busy 8, .free] ∗ R) ⊢ wpK c (ap (k0_part33 (F := F)) c v5 v8 v22 v32) Q := by
  rw [k0_part33_eq_skeleton]
  unfold ap k0_part33_skel
  refine st_fwdY I K c 4 ?_ (off46_eq 4 (by decide) c)
  refine st_wXr I K c 6 ?_
  refine st_bcopy I K c 6 ?_
  refine st_gwait I K c (o1 := k0_off59) (o2 := k0_off60) (oE := k0_off61) (chk := k0_chk18) (cond := k0_cond18) 0 8 (fun _ => trip_eq fun _ _ _ => by rfl) ?_
  refine st_loadG I K c 0 8 fun v933 hv933 => ?_
  refine st_loadM I K c 8 fun v935 hv935 => ?_
  exact fin c (h _ _ (hv933.cast _) hv935)

/-- Part 34 of the body takes the chunks from stages `[13,13,13,13,13,9,4,2,0]` to `[13,13,13,13,13,9,5,2,2]`. -/
theorem p34 {Q : FVec F S128x2048 .f32 → sProp 𝕄} {R : sProp 𝕄} (v5 v8 v22 v32 : BitVec 32) (v934 : FVec F S128x2048 .f32) (hv934 : V2 (sz 8) (gG I c 8) v934) (v935 : Vec F S128x1 .f32) (hv935 : VM I c 8 v935) (h : ∀ v, V2 (sz 6) (gXe I c 6) v → St I K c [13,13,13,13,13,9,5,2,2] 7 0 iprop(Gs I c [.free, .free] ∗ R) ⊢ Q v) :
    St I K c [13,13,13,13,13,9,4,2,0] 6 0 iprop(Gs I c [.free, .free] ∗ R) ⊢ wpK c (ap (k0_part34 (F := F)) c v5 v8 v22 v32 v934 v935) Q := by
  rw [k0_part34_eq_skeleton]
  unfold ap k0_part34_skel
  refine st_loadX0 I K c 8 fun _ => ?_
  refine st_storeX I K c 8 ?_ (comb_X hv934 hv935 _ _ _)
  refine st_sendX I K c 8 ?_
  refine st_bwait I K c 6 ?_
  refine st_loadX I K c 6 fun v961 hv961 => ?_
  exact fin c (h _ (ext_X (hv961.cast _) _))

/-- Part 35 of the body takes the chunks from stages `[13,13,13,13,13,9,5,2,2]` to `[13,13,13,13,13,9,7,2,2]`. -/
theorem p35 {Q : PUnit → sProp 𝕄} {R : sProp 𝕄} (v2 v5 v8 v21 v23 : BitVec 32) (v963 : FVec F S128x2048 .f32) (hv963 : V2 (sz 6) (gXe I c 6) v963) (h : St I K c [13,13,13,13,13,9,7,2,2] 7 2 iprop(Gs I c [.free, .free] ∗ R) ⊢ Q ⟨⟩) :
    St I K c [13,13,13,13,13,9,5,2,2] 7 0 iprop(Gs I c [.free, .free] ∗ R) ⊢ wpK c (ap (k0_part35 (F := F)) c v2 v5 v8 v21 v23 v963) Q := by
  rw [k0_part35_eq_skeleton]
  unfold ap k0_part35_skel
  refine st_loadB I K c 6 fun v964 hv964 => ?_
  refine st_loadS0 I K c 6 fun _ => ?_
  refine st_storeS I K c 6 ?_ (comb_S hv963 hv964 _ _ _ _)
  refine st_sendY I K c 6 ?_ (off38_eq 6 (by decide) c)
  exact fin c h

/-- Part 36 of the body takes the chunks from stages `[13,13,13,13,13,9,7,2,2]` to `[13,13,13,13,13,10,9,2,2]`. -/
theorem p36 {Q : (Σ' (v1022 : BitVec 32), BitVec 32) → sProp 𝕄} {R : sProp 𝕄} (v2 v5 v8 v23 v28 : BitVec 32) (h : ∀ w, St I K c [13,13,13,13,13,10,9,2,2] 7 2 iprop(Gs I c [.free, .free] ∗ R) ⊢ Q w) :
    St I K c [13,13,13,13,13,9,7,2,2] 7 2 iprop(Gs I c [.free, .free] ∗ R) ⊢ wpK c (ap (k0_part36 (F := F)) c v2 v5 v8 v23 v28) Q := by
  rw [k0_part36_eq_skeleton]
  unfold ap k0_part36_skel
  refine st_sendZ I K c 6 ?_ (off38_eq 6 (by decide) c)
  refine st_own I K c 6 ?_ (off38_eq 6 (by decide) c)
  refine st_wYr I K c 5 ?_
  exact fin c (h _)

end Cert.K
-- ==== Proof.Body4.lean ====
/-
  The last chunks.
-/
module

public import proofs.«01_k».proof.Proof.Operands

@[expose] public section

set_option maxRecDepth 16384

noncomputable section

namespace Cert.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open PCS URA

variable {F : FTy → Type} [FloatOps F]

local notation "𝕄" => MT nD τ sig Unit (Elt F) ℕ UU ℕ

variable (I : Ins F) (K : GSem nD τ sig → ℕ) (c : Dev nD)

/-- Part 37 of the body takes the chunks from stages `[13,13,13,13,13,10,9,2,2]` to `[13,13,13,13,13,12,9,2,2]`. -/
theorem p37 {Q : PUnit → sProp 𝕄} {R : sProp 𝕄} (v2 v5 v8 v21 v23 v31 v1022 v1023 : BitVec 32) (h : St I K c [13,13,13,13,13,12,9,2,2] 7 2 iprop(Gs I c [.free, .free] ∗ R) ⊢ Q ⟨⟩) :
    St I K c [13,13,13,13,13,10,9,2,2] 7 2 iprop(Gs I c [.free, .free] ∗ R) ⊢ wpK c (ap (k0_part37 (F := F)) c v2 v5 v8 v21 v23 v31 v1022 v1023) Q := by
  rw [k0_part37_eq_skeleton]
  unfold ap k0_part37_skel
  refine st_fwdZ I K c 5 ?_ (off45_eq 5 (by decide) c)
  refine st_wZr I K c 5 ?_
  exact fin c h

/-- Part 38 of the body takes the chunks from stages `[13,13,13,13,13,12,9,2,2]` to `[13,13,13,13,13,13,9,5,2]`. -/
theorem p38 {Q : FVec F S128x2048 .bf16 → sProp 𝕄} {R : sProp 𝕄} (v5 v8 v22 v32 : BitVec 32) (h : ∀ v, V2 (sz 7) (gX I c 7) v → St I K c [13,13,13,13,13,13,9,5,2] 8 1 iprop(Gs I c [.free, .free] ∗ R) ⊢ Q v) :
    St I K c [13,13,13,13,13,12,9,2,2] 7 2 iprop(Gs I c [.free, .free] ∗ R) ⊢ wpK c (ap (k0_part38 (F := F)) c v5 v8 v22 v32) Q := by
  rw [k0_part38_eq_skeleton]
  unfold ap k0_part38_skel
  refine st_fwdY I K c 5 ?_ (off46_eq 5 (by decide) c)
  refine st_wXr I K c 7 ?_
  refine st_bcopy I K c 7 ?_
  refine st_bwait I K c 7 ?_
  refine st_loadX I K c 7 fun v1080 hv1080 => ?_
  exact fin c (h _ (hv1080.cast _))

/-- Part 39 of the body takes the chunks from stages `[13,13,13,13,13,13,9,5,2]` to `[13,13,13,13,13,13,9,7,2]`. -/
theorem p39 {Q : PUnit → sProp 𝕄} {R : sProp 𝕄} (v2 v5 v8 v21 v23 : BitVec 32) (v1081 : FVec F S128x2048 .bf16) (hv1081 : V2 (sz 7) (gX I c 7) v1081) (h : St I K c [13,13,13,13,13,13,9,7,2] 8 2 iprop(Gs I c [.free, .free] ∗ R) ⊢ Q ⟨⟩) :
    St I K c [13,13,13,13,13,13,9,5,2] 8 1 iprop(Gs I c [.free, .free] ∗ R) ⊢ wpK c (ap (k0_part39 (F := F)) c v2 v5 v8 v21 v23 v1081) Q := by
  rw [k0_part39_eq_skeleton]
  unfold ap k0_part39_skel
  refine st_loadB I K c 7 fun v1083 hv1083 => ?_
  refine st_loadS0 I K c 7 fun _ => ?_
  refine st_storeS I K c 7 ?_ (comb_S (ext_X hv1081 _) hv1083 _ _ _ _)
  refine st_sendY I K c 7 ?_ (off38_eq 7 (by decide) c)
  exact fin c h

/-- Part 40 of the body takes the chunks from stages `[13,13,13,13,13,13,9,7,2]` to `[13,13,13,13,13,13,10,9,2]`. -/
theorem p40 {Q : (Σ' (v1140 : BitVec 32), BitVec 32) → sProp 𝕄} {R : sProp 𝕄} (v2 v8 v23 v28 : BitVec 32) (h : ∀ w, St I K c [13,13,13,13,13,13,10,9,2] 8 2 iprop(Gs I c [.free, .free] ∗ R) ⊢ Q w) :
    St I K c [13,13,13,13,13,13,9,7,2] 8 2 iprop(Gs I c [.free, .free] ∗ R) ⊢ wpK c (ap (k0_part40 (F := F)) c v2 v8 v23 v28) Q := by
  rw [k0_part40_eq_skeleton]
  unfold ap k0_part40_skel
  refine st_sendZ I K c 7 ?_ (off38_eq 7 (by decide) c)
  refine st_own I K c 7 ?_ (off38_eq 7 (by decide) c)
  refine st_wYr I K c 6 ?_
  exact fin c (h _)

/-- Part 41 of the body takes the chunks from stages `[13,13,13,13,13,13,10,9,2]` to `[13,13,13,13,13,13,12,9,2]`. -/
theorem p41 {Q : PUnit → sProp 𝕄} {R : sProp 𝕄} (v2 v5 v8 v21 v23 v31 v1140 c0_i32_1097 : BitVec 32) (h : St I K c [13,13,13,13,13,13,12,9,2] 8 2 iprop(Gs I c [.free, .free] ∗ R) ⊢ Q ⟨⟩) :
    St I K c [13,13,13,13,13,13,10,9,2] 8 2 iprop(Gs I c [.free, .free] ∗ R) ⊢ wpK c (ap (k0_part41 (F := F)) c v2 v5 v8 v21 v23 v31 v1140 c0_i32_1097) Q := by
  rw [k0_part41_eq_skeleton]
  unfold ap k0_part41_skel
  refine st_fwdZ I K c 6 ?_ (off45_eq 6 (by decide) c)
  refine st_wZr I K c 6 ?_
  exact fin c h

/-- Part 42 of the body takes the chunks from stages `[13,13,13,13,13,13,12,9,2]` to `[13,13,13,13,13,13,13,9,5]`. -/
theorem p42 {Q : PUnit → sProp 𝕄} {R : sProp 𝕄} (v5 v8 v22 v32 : BitVec 32) (h : St I K c [13,13,13,13,13,13,13,9,5] 9 0 iprop(Gs I c [.free, .free] ∗ R) ⊢ Q ⟨⟩) :
    St I K c [13,13,13,13,13,13,12,9,2] 8 2 iprop(Gs I c [.free, .free] ∗ R) ⊢ wpK c (ap (k0_part42 (F := F)) c v5 v8 v22 v32) Q := by
  rw [k0_part42_eq_skeleton]
  unfold ap k0_part42_skel
  refine st_fwdY I K c 6 ?_ (off46_eq 6 (by decide) c)
  refine st_wXr I K c 8 ?_
  refine st_bcopy I K c 8 ?_
  refine st_bwait I K c 8 ?_
  exact fin c h

/-- Part 43 of the body takes the chunks from stages `[13,13,13,13,13,13,13,9,5]` to `[13,13,13,13,13,13,13,9,7]`. -/
theorem p43 {Q : PUnit → sProp 𝕄} {R : sProp 𝕄} (v2 v5 v8 v21 v23 : BitVec 32) (h : St I K c [13,13,13,13,13,13,13,9,7] 9 2 iprop(Gs I c [.free, .free] ∗ R) ⊢ Q ⟨⟩) :
    St I K c [13,13,13,13,13,13,13,9,5] 9 0 iprop(Gs I c [.free, .free] ∗ R) ⊢ wpK c (ap (k0_part43 (F := F)) c v2 v5 v8 v21 v23) Q := by
  rw [k0_part43_eq_skeleton]
  unfold ap k0_part43_skel
  refine st_loadX I K c 8 fun v1199 hv1199 => ?_
  refine st_loadB I K c 8 fun v1202 hv1202 => ?_
  refine st_loadS0 I K c 8 fun _ => ?_
  refine st_storeS I K c 8 ?_ (comb_S (ext_X (hv1199.cast _) _) hv1202 _ _ _ _)
  refine st_sendY I K c 8 ?_ (off38_eq 8 (by decide) c)
  exact fin c h

/-- Part 44 of the body takes the chunks from stages `[13,13,13,13,13,13,13,9,7]` to `[13,13,13,13,13,13,13,10,9]`. -/
theorem p44 {Q : PUnit → sProp 𝕄} {R : sProp 𝕄} (v2 v8 v23 v28 : BitVec 32) (h : St I K c [13,13,13,13,13,13,13,10,9] 9 2 iprop(Gs I c [.free, .free] ∗ R) ⊢ Q ⟨⟩) :
    St I K c [13,13,13,13,13,13,13,9,7] 9 2 iprop(Gs I c [.free, .free] ∗ R) ⊢ wpK c (ap (k0_part44 (F := F)) c v2 v8 v23 v28) Q := by
  rw [k0_part44_eq_skeleton]
  unfold ap k0_part44_skel
  refine st_sendZ I K c 8 ?_ (off38_eq 8 (by decide) c)
  refine st_own I K c 8 ?_ (off38_eq 8 (by decide) c)
  refine st_wYr I K c 7 ?_
  exact fin c h

/-- Part 45 of the body takes the chunks from stages `[13,13,13,13,13,13,13,10,9]` to `[13,13,13,13,13,13,13,12,9]`. -/
theorem p45 {Q : PUnit → sProp 𝕄} {R : sProp 𝕄} (v2 v5 v8 v21 v23 v31 : BitVec 32) (h : St I K c [13,13,13,13,13,13,13,12,9] 9 2 iprop(Gs I c [.free, .free] ∗ R) ⊢ Q ⟨⟩) :
    St I K c [13,13,13,13,13,13,13,10,9] 9 2 iprop(Gs I c [.free, .free] ∗ R) ⊢ wpK c (ap (k0_part45 (F := F)) c v2 v5 v8 v21 v23 v31) Q := by
  rw [k0_part45_eq_skeleton]
  unfold ap k0_part45_skel
  refine st_fwdZ I K c 7 ?_ (off45_eq 7 (by decide) c)
  refine st_wZr I K c 7 ?_
  exact fin c h

/-- Part 46 of the body takes the chunks from stages `[13,13,13,13,13,13,13,12,9]` to `[13,13,13,13,13,13,13,13,10]`. -/
theorem p46 {Q : PUnit → sProp 𝕄} {R : sProp 𝕄} (v2 v5 v8 v21 v23 v28 : BitVec 32) (h : St I K c [13,13,13,13,13,13,13,13,10] 9 2 iprop(Gs I c [.free, .free] ∗ R) ⊢ Q ⟨⟩) :
    St I K c [13,13,13,13,13,13,13,12,9] 9 2 iprop(Gs I c [.free, .free] ∗ R) ⊢ wpK c (ap (k0_part46 (F := F)) c v2 v5 v8 v21 v23 v28) Q := by
  rw [k0_part46_eq_skeleton]
  unfold ap k0_part46_skel
  refine st_fwdY I K c 7 ?_ (off46_eq 7 (by decide) c)
  refine st_wYr I K c 8 ?_
  exact fin c h

/-- Part 47 of the body takes the chunks from stages `[13,13,13,13,13,13,13,13,10]` to `[13,13,13,13,13,13,13,13,13]`. -/
theorem p47 {Q : PUnit → sProp 𝕄} {R : sProp 𝕄} (v2 v5 v8 v21 v23 v31 : BitVec 32) (h : St I K c [13,13,13,13,13,13,13,13,13] 9 2 iprop(Gs I c [.free, .free] ∗ R) ⊢ Q ⟨⟩) :
    St I K c [13,13,13,13,13,13,13,13,10] 9 2 iprop(Gs I c [.free, .free] ∗ R) ⊢ wpK c (ap (k0_part47 (F := F)) c v2 v5 v8 v21 v23 v31) Q := by
  rw [k0_part47_eq_skeleton]
  unfold ap k0_part47_skel
  refine st_fwdZ I K c 8 ?_ (off45_eq 8 (by decide) c)
  refine st_wZr I K c 8 ?_
  refine st_fwdY I K c 8 ?_ (off46_eq 8 (by decide) c)
  exact fin c h

end Cert.K
-- ==== Proof.Body5.lean ====
/-
  The waits for what is still in flight.
-/
module

public import proofs.«01_k».proof.Proof.Operands

@[expose] public section

set_option maxRecDepth 16384

noncomputable section

namespace Cert.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open PCS URA

variable {F : FTy → Type} [FloatOps F]

local notation "𝕄" => MT nD τ sig Unit (Elt F) ℕ UU ℕ

variable (I : Ins F) (K : GSem nD τ sig → ℕ) (c : Dev nD)

/-- Part 48 of the body takes the chunks from stages `[13,13,13,13,13,13,13,13,13]` to `[18,13,13,13,13,13,13,13,13]`. -/
theorem p48 {Q : PUnit → sProp 𝕄} {R : sProp 𝕄} (h : St I K c [18,13,13,13,13,13,13,13,13] 9 2 iprop(Gs I c [.free, .free] ∗ R) ⊢ Q ⟨⟩) :
    St I K c [13,13,13,13,13,13,13,13,13] 9 2 iprop(Gs I c [.free, .free] ∗ R) ⊢ wpK c (ap (k0_part48 (F := F)) c ) Q := by
  rw [k0_part48_eq_skeleton]
  unfold ap k0_part48_skel
  refine st_wXs I K c 0 ?_
  refine st_wYs I K c 0 ?_
  refine st_wZs I K c 0 ?_
  refine st_wFs I K c 0 ?_
  refine st_wGs I K c 0 ?_
  exact fin c h

/-- Part 49 of the body takes the chunks from stages `[18,13,13,13,13,13,13,13,13]` to `[19,15,13,13,13,13,13,13,13]`. -/
theorem p49 {Q : PUnit → sProp 𝕄} {R : sProp 𝕄} (h : St I K c [19,15,13,13,13,13,13,13,13] 9 2 iprop(Gs I c [.free, .free] ∗ R) ⊢ Q ⟨⟩) :
    St I K c [18,13,13,13,13,13,13,13,13] 9 2 iprop(Gs I c [.free, .free] ∗ R) ⊢ wpK c (ap (k0_part49 (F := F)) c ) Q := by
  rw [k0_part49_eq_skeleton]
  unfold ap k0_part49_skel
  refine st_wOwn I K c 0 ?_
  refine st_wXs I K c 1 ?_
  refine st_wYs I K c 1 ?_
  exact fin c h

/-- Part 50 of the body takes the chunks from stages `[19,15,13,13,13,13,13,13,13]` to `[19,19,14,13,13,13,13,13,13]`. -/
theorem p50 {Q : PUnit → sProp 𝕄} {R : sProp 𝕄} (h : St I K c [19,19,14,13,13,13,13,13,13] 9 2 iprop(Gs I c [.free, .free] ∗ R) ⊢ Q ⟨⟩) :
    St I K c [19,15,13,13,13,13,13,13,13] 9 2 iprop(Gs I c [.free, .free] ∗ R) ⊢ wpK c (ap (k0_part50 (F := F)) c ) Q := by
  rw [k0_part50_eq_skeleton]
  unfold ap k0_part50_skel
  refine st_wZs I K c 1 ?_
  refine st_wFs I K c 1 ?_
  refine st_wGs I K c 1 ?_
  refine st_wOwn I K c 1 ?_
  refine st_wXs I K c 2 ?_
  exact fin c h

/-- Part 51 of the body takes the chunks from stages `[19,19,14,13,13,13,13,13,13]` to `[19,19,19,13,13,13,13,13,13]`. -/
theorem p51 {Q : PUnit → sProp 𝕄} {R : sProp 𝕄} (h : St I K c [19,19,19,13,13,13,13,13,13] 9 2 iprop(Gs I c [.free, .free] ∗ R) ⊢ Q ⟨⟩) :
    St I K c [19,19,14,13,13,13,13,13,13] 9 2 iprop(Gs I c [.free, .free] ∗ R) ⊢ wpK c (ap (k0_part51 (F := F)) c ) Q := by
  rw [k0_part51_eq_skeleton]
  unfold ap k0_part51_skel
  refine st_wYs I K c 2 ?_
  refine st_wZs I K c 2 ?_
  refine st_wFs I K c 2 ?_
  refine st_wGs I K c 2 ?_
  refine st_wOwn I K c 2 ?_
  exact fin c h

/-- Part 52 of the body takes the chunks from stages `[19,19,19,13,13,13,13,13,13]` to `[19,19,19,17,13,13,13,13,13]`. -/
theorem p52 {Q : PUnit → sProp 𝕄} {R : sProp 𝕄} (h : St I K c [19,19,19,17,13,13,13,13,13] 9 2 iprop(Gs I c [.free, .free] ∗ R) ⊢ Q ⟨⟩) :
    St I K c [19,19,19,13,13,13,13,13,13] 9 2 iprop(Gs I c [.free, .free] ∗ R) ⊢ wpK c (ap (k0_part52 (F := F)) c ) Q := by
  rw [k0_part52_eq_skeleton]
  unfold ap k0_part52_skel
  refine st_wXs I K c 3 ?_
  refine st_wYs I K c 3 ?_
  refine st_wZs I K c 3 ?_
  refine st_wFs I K c 3 ?_
  exact fin c h

/-- Part 53 of the body takes the chunks from stages `[19,19,19,17,13,13,13,13,13]` to `[19,19,19,19,15,13,13,13,13]`. -/
theorem p53 {Q : PUnit → sProp 𝕄} {R : sProp 𝕄} (h : St I K c [19,19,19,19,15,13,13,13,13] 9 2 iprop(Gs I c [.free, .free] ∗ R) ⊢ Q ⟨⟩) :
    St I K c [19,19,19,17,13,13,13,13,13] 9 2 iprop(Gs I c [.free, .free] ∗ R) ⊢ wpK c (ap (k0_part53 (F := F)) c ) Q := by
  rw [k0_part53_eq_skeleton]
  unfold ap k0_part53_skel
  refine st_wGs I K c 3 ?_
  refine st_wOwn I K c 3 ?_
  refine st_wXs I K c 4 ?_
  refine st_wYs I K c 4 ?_
  exact fin c h

/-- Part 54 of the body takes the chunks from stages `[19,19,19,19,15,13,13,13,13]` to `[19,19,19,19,19,13,13,13,13]`. -/
theorem p54 {Q : PUnit → sProp 𝕄} {R : sProp 𝕄} (h : St I K c [19,19,19,19,19,13,13,13,13] 9 2 iprop(Gs I c [.free, .free] ∗ R) ⊢ Q ⟨⟩) :
    St I K c [19,19,19,19,15,13,13,13,13] 9 2 iprop(Gs I c [.free, .free] ∗ R) ⊢ wpK c (ap (k0_part54 (F := F)) c ) Q := by
  rw [k0_part54_eq_skeleton]
  unfold ap k0_part54_skel
  refine st_wZs I K c 4 ?_
  refine st_wFs I K c 4 ?_
  refine st_wGs I K c 4 ?_
  refine st_wOwn I K c 4 ?_
  exact fin c h

/-- Part 55 of the body takes the chunks from stages `[19,19,19,19,19,13,13,13,13]` to `[19,19,19,19,19,18,13,13,13]`. -/
theorem p55 {Q : PUnit → sProp 𝕄} {R : sProp 𝕄} (h : St I K c [19,19,19,19,19,18,13,13,13] 9 2 iprop(Gs I c [.free, .free] ∗ R) ⊢ Q ⟨⟩) :
    St I K c [19,19,19,19,19,13,13,13,13] 9 2 iprop(Gs I c [.free, .free] ∗ R) ⊢ wpK c (ap (k0_part55 (F := F)) c ) Q := by
  rw [k0_part55_eq_skeleton]
  unfold ap k0_part55_skel
  refine st_wXs I K c 5 ?_
  refine st_wYs I K c 5 ?_
  refine st_wZs I K c 5 ?_
  refine st_wFs I K c 5 ?_
  refine st_wGs I K c 5 ?_
  exact fin c h

/-- Part 56 of the body takes the chunks from stages `[19,19,19,19,19,18,13,13,13]` to `[19,19,19,19,19,19,16,13,13]`. -/
theorem p56 {Q : PUnit → sProp 𝕄} {R : sProp 𝕄} (h : St I K c [19,19,19,19,19,19,16,13,13] 9 2 iprop(Gs I c [.free, .free] ∗ R) ⊢ Q ⟨⟩) :
    St I K c [19,19,19,19,19,18,13,13,13] 9 2 iprop(Gs I c [.free, .free] ∗ R) ⊢ wpK c (ap (k0_part56 (F := F)) c ) Q := by
  rw [k0_part56_eq_skeleton]
  unfold ap k0_part56_skel
  refine st_wOwn I K c 5 ?_
  refine st_wXs I K c 6 ?_
  refine st_wYs I K c 6 ?_
  refine st_wZs I K c 6 ?_
  exact fin c h

/-- Part 57 of the body takes the chunks from stages `[19,19,19,19,19,19,16,13,13]` to `[19,19,19,19,19,19,19,14,13]`. -/
theorem p57 {Q : PUnit → sProp 𝕄} {R : sProp 𝕄} (h : St I K c [19,19,19,19,19,19,19,14,13] 9 2 iprop(Gs I c [.free, .free] ∗ R) ⊢ Q ⟨⟩) :
    St I K c [19,19,19,19,19,19,16,13,13] 9 2 iprop(Gs I c [.free, .free] ∗ R) ⊢ wpK c (ap (k0_part57 (F := F)) c ) Q := by
  rw [k0_part57_eq_skeleton]
  unfold ap k0_part57_skel
  refine st_wFs I K c 6 ?_
  refine st_wGs I K c 6 ?_
  refine st_wOwn I K c 6 ?_
  refine st_wXs I K c 7 ?_
  exact fin c h

/-- Part 58 of the body takes the chunks from stages `[19,19,19,19,19,19,19,14,13]` to `[19,19,19,19,19,19,19,19,13]`. -/
theorem p58 {Q : PUnit → sProp 𝕄} {R : sProp 𝕄} (h : St I K c [19,19,19,19,19,19,19,19,13] 9 2 iprop(Gs I c [.free, .free] ∗ R) ⊢ Q ⟨⟩) :
    St I K c [19,19,19,19,19,19,19,14,13] 9 2 iprop(Gs I c [.free, .free] ∗ R) ⊢ wpK c (ap (k0_part58 (F := F)) c ) Q := by
  rw [k0_part58_eq_skeleton]
  unfold ap k0_part58_skel
  refine st_wYs I K c 7 ?_
  refine st_wZs I K c 7 ?_
  refine st_wFs I K c 7 ?_
  refine st_wGs I K c 7 ?_
  refine st_wOwn I K c 7 ?_
  exact fin c h

/-- Part 59 of the body takes the chunks from stages `[19,19,19,19,19,19,19,19,13]` to `[19,19,19,19,19,19,19,19,17]`. -/
theorem p59 {Q : PUnit → sProp 𝕄} {R : sProp 𝕄} (h : St I K c [19,19,19,19,19,19,19,19,17] 9 2 iprop(Gs I c [.free, .free] ∗ R) ⊢ Q ⟨⟩) :
    St I K c [19,19,19,19,19,19,19,19,13] 9 2 iprop(Gs I c [.free, .free] ∗ R) ⊢ wpK c (ap (k0_part59 (F := F)) c ) Q := by
  rw [k0_part59_eq_skeleton]
  unfold ap k0_part59_skel
  refine st_wXs I K c 8 ?_
  refine st_wYs I K c 8 ?_
  refine st_wZs I K c 8 ?_
  refine st_wFs I K c 8 ?_
  exact fin c h

/-- Part 60 of the body takes the chunks from stages `[19,19,19,19,19,19,19,19,17]` to `[21,19,19,19,19,19,19,19,19]`. -/
theorem p60 {Q : BitVec 32 → sProp 𝕄} {R : sProp 𝕄} (v2 v5 v8 v21 v23 : BitVec 32) (h : ∀ w, St I K c [21,19,19,19,19,19,19,19,19] 9 2 iprop(Gs I c [.free, .free] ∗ R) ⊢ Q w) :
    St I K c [19,19,19,19,19,19,19,19,17] 9 2 iprop(Gs I c [.free, .free] ∗ R) ⊢ wpK c (ap (k0_part60 (F := F)) c v2 v5 v8 v21 v23) Q := by
  rw [k0_part60_eq_skeleton]
  unfold ap k0_part60_skel
  refine st_wGs I K c 8 ?_
  refine st_wOwn I K c 8 ?_
  refine st_wFr I K c 0 ?_
  refine st_wGr I K c 0 ?_
  exact fin c (h _)

/-- Part 61 of the body takes the chunks from stages `[21,19,19,19,19,19,19,19,19]` to `[21,21,20,19,19,19,19,19,19]`. -/
theorem p61 {Q : (Σ' (v1689 : BitVec 32), BitVec 32) → sProp 𝕄} {R : sProp 𝕄} (v2 v5 v8 v21 v23 v1658 : BitVec 32) (h : ∀ w, St I K c [21,21,20,19,19,19,19,19,19] 9 2 iprop(Gs I c [.free, .free] ∗ R) ⊢ Q w) :
    St I K c [21,19,19,19,19,19,19,19,19] 9 2 iprop(Gs I c [.free, .free] ∗ R) ⊢ wpK c (ap (k0_part61 (F := F)) c v2 v5 v8 v21 v23 v1658) Q := by
  rw [k0_part61_eq_skeleton]
  unfold ap k0_part61_skel
  refine st_wFr I K c 1 ?_
  refine st_wGr I K c 1 ?_
  refine st_wFr I K c 2 ?_
  exact fin c (h _)

/-- Part 62 of the body takes the chunks from stages `[21,21,20,19,19,19,19,19,19]` to `[21,21,21,21,19,19,19,19,19]`. -/
theorem p62 {Q : (Σ' (v1721 : BitVec 32), BitVec 32) → sProp 𝕄} {R : sProp 𝕄} (v2 v5 v8 v21 v23 v1689 c4_i32_1731 : BitVec 32) (h : ∀ w, St I K c [21,21,21,21,19,19,19,19,19] 9 2 iprop(Gs I c [.free, .free] ∗ R) ⊢ Q w) :
    St I K c [21,21,20,19,19,19,19,19,19] 9 2 iprop(Gs I c [.free, .free] ∗ R) ⊢ wpK c (ap (k0_part62 (F := F)) c v2 v5 v8 v21 v23 v1689 c4_i32_1731) Q := by
  rw [k0_part62_eq_skeleton]
  unfold ap k0_part62_skel
  refine st_wGr I K c 2 ?_
  refine st_wFr I K c 3 ?_
  refine st_wGr I K c 3 ?_
  exact fin c (h _)

/-- Part 63 of the body takes the chunks from stages `[21,21,21,21,19,19,19,19,19]` to `[21,21,21,21,21,20,19,19,19]`. -/
theorem p63 {Q : PUnit → sProp 𝕄} {R : sProp 𝕄} (v2 v5 v8 v21 v23 v1721 c1_i32_1756 : BitVec 32) (h : St I K c [21,21,21,21,21,20,19,19,19] 9 2 iprop(Gs I c [.free, .free] ∗ R) ⊢ Q ⟨⟩) :
    St I K c [21,21,21,21,19,19,19,19,19] 9 2 iprop(Gs I c [.free, .free] ∗ R) ⊢ wpK c (ap (k0_part63 (F := F)) c v2 v5 v8 v21 v23 v1721 c1_i32_1756) Q := by
  rw [k0_part63_eq_skeleton]
  unfold ap k0_part63_skel
  refine st_wFr I K c 4 ?_
  refine st_wGr I K c 4 ?_
  refine st_wFr I K c 5 ?_
  exact fin c h

/-- Part 64 of the body takes the chunks from stages `[21,21,21,21,21,20,19,19,19]` to `[21,21,21,21,21,21,21,19,19]`. -/
theorem p64 {Q : PUnit → sProp 𝕄} {R : sProp 𝕄} (v2 v5 v8 v21 v23 : BitVec 32) (h : St I K c [21,21,21,21,21,21,21,19,19] 9 2 iprop(Gs I c [.free, .free] ∗ R) ⊢ Q ⟨⟩) :
    St I K c [21,21,21,21,21,20,19,19,19] 9 2 iprop(Gs I c [.free, .free] ∗ R) ⊢ wpK c (ap (k0_part64 (F := F)) c v2 v5 v8 v21 v23) Q := by
  rw [k0_part64_eq_skeleton]
  unfold ap k0_part64_skel
  refine st_wGr I K c 5 ?_
  refine st_wFr I K c 6 ?_
  refine st_wGr I K c 6 ?_
  exact fin c h

/-- Part 65 of the body takes the chunks from stages `[21,21,21,21,21,21,21,19,19]` to `[21,21,21,21,21,21,21,21,21]`. -/
theorem p65 {Q : PUnit → sProp 𝕄} {R : sProp 𝕄} (v2 v5 v8 v21 v23 : BitVec 32) (h : St I K c [21,21,21,21,21,21,21,21,21] 9 2 iprop(Gs I c [.free, .free] ∗ R) ⊢ Q ⟨⟩) :
    St I K c [21,21,21,21,21,21,21,19,19] 9 2 iprop(Gs I c [.free, .free] ∗ R) ⊢ wpK c (ap (k0_part65 (F := F)) c v2 v5 v8 v21 v23) Q := by
  rw [k0_part65_eq_skeleton]
  unfold ap k0_part65_skel
  refine st_wFr I K c 7 ?_
  refine st_wGr I K c 7 ?_
  refine st_wFr I K c 8 ?_
  refine st_wGr I K c 8 ?_
  exact fin c h

end Cert.K
-- ==== Proof.Whole.lean ====
/-
  The whole of a device's program, from the launch to the return.
-/
module

public import proofs.«01_k».proof.Proof.Prelude
public import proofs.«01_k».proof.Proof.Body1
public import proofs.«01_k».proof.Proof.Body2
public import proofs.«01_k».proof.Proof.Body3
public import proofs.«01_k».proof.Proof.Body4
public import proofs.«01_k».proof.Proof.Body5

@[expose] public section

set_option maxRecDepth 16384

noncomputable section

namespace Cert.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open PCS URA

variable {F : FTy → Type} [FloatOps F]

local notation "𝕄" => MT nD τ sig Unit (Elt F) ℕ UU ℕ

variable (I : Ins F) (K : GSem nD τ sig → ℕ) (c : Dev nD)

/-- What the first steps use. -/
def Ent : sProp 𝕄 := iprop(C0 I K ∗ Ws c (owed c ks0 + tallyAt (barC (zp c)) () 1 + tallyAt (barC (yp c)) () 1 + tallyAt (barC (xp c)) () 1)
  ∗ Sg (xp c) 0 ∗ Sg (yp c) 1 ∗ Sg (zp c) 2 ∗ B0 c ∗ Rs I c ∗ M0 I c)

/-- The starting state rearranged for the mask's copy. -/
theorem ent_copy {G R : sProp 𝕄} : iprop(G ∗ Ent I K c ∗ R) ⊢ iprop(C0 I K
    ∗ (Ws c (owed c ks0 + tallyAt (barC (zp c)) () 1 + tallyAt (barC (yp c)) () 1 + tallyAt (barC (xp c)) () 1)
      ∗ Sg (xp c) 0 ∗ Sg (yp c) 1 ∗ Sg (zp c) 2 ∗ B0 c ∗ G ∗ Rs I c ∗ R) ∗ M0 I c) := by
  unfold Ent
  iintro ⟨HG, ⟨H0, H1, H2, H3, H4, H5, H6, H7⟩, HR⟩
  isplitl [H0]; · iexact H0
  isplitr [H7]
  · isplitl [H1]; · iexact H1
    isplitl [H2]; · iexact H2
    isplitl [H3]; · iexact H3
    isplitl [H4]; · iexact H4
    isplitl [H5]; · iexact H5
    isplitl [HG]; · iexact HG
    isplitl [H6] <;> iassumption
  iexact H7

/-- The state rearranged for the signals. -/
theorem ent_sig {A B D E G H R : sProp 𝕄} : iprop(A ∗ (B ∗ D ∗ E ∗ G ∗ H ∗ R) ∗ M1 c) ⊢ iprop(A ∗ B ∗ D ∗ E ∗ G ∗ H ∗ R ∗ M1 c) := by
  iintro ⟨H0, ⟨H1, H2, H3, H4, H7, H5⟩, H6⟩
  isplitl [H0]; · iexact H0
  isplitl [H1]; · iexact H1
  isplitl [H2]; · iexact H2
  isplitl [H3]; · iexact H3
  isplitl [H4]; · iexact H4
  isplitl [H7]; · iexact H7
  isplitl [H5] <;> iassumption

/-- The state rearranged for the barrier's wait. -/
theorem ent_wait {A B D E G R : sProp 𝕄} : iprop(A ∗ B ∗ D ∗ (E ∗ G ∗ R) ∗ M1 c) ⊢ iprop(A ∗ B ∗ M1 c ∗ D ∗ E ∗ G ∗ R) := by
  iintro ⟨H0, H1, H2, ⟨H3, H4, H5⟩, H6⟩
  isplitl [H0]; · iexact H0
  isplitl [H1]; · iexact H1
  isplitl [H6]; · iexact H6
  isplitl [H2]; · iexact H2
  isplitl [H3]; · iexact H3
  isplitl [H4] <;> iassumption

/-- Part 2 of the body: the first two chunks' copies are started, the mask is copied, the neighbours are met and the first chunk is there. -/
theorem p2 {Q : PUnit → sProp 𝕄} {R : sProp 𝕄} (v2 v5 v8 v21 v22 v23 v32 c0_i32_16 c1_i32_17 : BitVec 32) (h : St I K c [0,0,0,0,0,0,0,0,0] 0 2 iprop(Gs I c [.ready 0, .busy 1] ∗ Lft I c ∗ R) ⊢ Q ⟨⟩) :
    iprop(Gs I c [.free, .free] ∗ Ent I K c ∗ R) ⊢ wpK c (ap (k0_part2 (F := F)) c v2 v5 v8 v21 v22 v23 v32 c0_i32_16 c1_i32_17) Q := by
  rw [k0_part2_eq_skeleton]
  unfold ap k0_part2_skel
  refine gs_issue I c (o1 := k0_off1) (o2 := k0_off2) (oE := k0_off3) (chk := k0_chk1) (cond := k0_cond1) 0 0 (fun _ => trip_eq fun _ _ _ => by rfl) ?_
  refine (ent_copy I K c).trans ?_
  refine pn_copy I K c ?_ (off4_eq c)
  refine (ent_sig c).trans ?_
  refine pn_sig I K c (c' := xp c) ?_ (Fin.ext ((by decide : ∀ c, k0_dev1 c = (xp c).val) c))
  refine pn_sig I K c (c' := yp c) ?_ (Fin.ext ((by decide : ∀ c, k0_dev2 c = (yp c).val) c))
  refine pn_sig I K c (c' := zp c) ?_ (Fin.ext ((by decide : ∀ c, k0_dev3 c = (zp c).val) c))
  refine pn_bar I K c ?_
  refine (ent_wait c).trans ?_
  refine pn_wait I K c ?_ rfl
  refine (pn_St I K c).trans ?_
  refine st_issue I K c (o1 := k0_off5) (o2 := k0_off6) (oE := k0_off7) (chk := k0_chk2) (cond := k0_cond2) 1 1 (fun _ => trip_eq fun _ _ _ => by rfl) ?_
  refine st_gwait I K c (o1 := k0_off8) (o2 := k0_off9) (oE := k0_off10) (chk := k0_chk3) (cond := k0_cond3) 0 0 (fun _ => trip_eq fun _ _ _ => by rfl) ?_
  exact fin c h

/-- Part 1 of the body only finds the device's number and its neighbours'. -/
theorem p1 {Q : (Σ' (d0 : Dev nD) (v2 : BitVec 32) (v5 : BitVec 32) (v8 : BitVec 32) (v21 : BitVec 32) (v22 : BitVec 32) (v23 : BitVec 32) (v28 : BitVec 32) (v31 : BitVec 32) (v32 : BitVec 32) (c0_i32_16 : BitVec 32), BitVec 32) → sProp 𝕄} {A : sProp 𝕄}
    (h : ∀ v2 v5 v8 v21 v22 v23 v28 v31 v32 w1 w2, A ⊢ Q ⟨c, v2, v5, v8, v21, v22, v23, v28, v31, v32, w1, w2⟩) : A ⊢ wpK c (ap (k0_part1 (F := F))) Q := by
  rw [k0_part1_eq_skeleton]
  unfold ap k0_part1_skel wpK
  refine BIBase.Entails.trans ?_ (Entails.of_eq (wp_deviceId 𝒱₀ (c : Thread nD τ) none Set.univ).symm)
  exact fin c (h _ _ _ _ _ _ _ _ _ _ _)

/-- The first sixty parts in order take the starting state to the one in which the first chunk is at its last stage. -/
theorem p66 {Q : (Σ' (d0 : Dev nD) (v2 : BitVec 32) (v5 : BitVec 32) (v8 : BitVec 32) (v21 : BitVec 32) (v23 : BitVec 32), BitVec 32) → sProp 𝕄} {R : sProp 𝕄}
    (h : ∀ v2 v5 v8 v21 v23 w, St I K c [21,19,19,19,19,19,19,19,19] 9 2 iprop(Gs I c [.free, .free] ∗ Lft I c ∗ R) ⊢ Q ⟨c, v2, v5, v8, v21, v23, w⟩) :
    iprop(Gs I c [.free, .free] ∗ Ent I K c ∗ R) ⊢ wpK c (ap (k0_part66 (F := F))) Q := by
  unfold ap k0_part66
  refine seq c ?_
  refine p1 c fun v2 v5 v8 v21 v22 v23 v28 v31 v32 c0_i32_16 c1_i32_17 => ?_
  refine seq c ?_
  refine p2 I K c v2 v5 v8 v21 v22 v23 v32 c0_i32_16 c1_i32_17 ?_
  refine seq c ?_
  refine p3 I K c v5 v8 v22 v32 ?_
  refine seq c ?_
  refine p4 I K c v5 v8 v22 ?_
  refine seq c ?_
  refine p5 I K c v22 v32 fun ⟨v133, c4_i32_129⟩ => ?_
  refine seq c ?_
  refine p6 I K c v2 v5 v8 v32 v133 c4_i32_129 fun v162 => ?_
  refine seq c ?_
  refine p7 I K c v2 v5 v8 v21 v23 v162 ?_
  refine seq c ?_
  refine p8 I K c v5 v8 v22 v32 fun v215 hv215 => ?_
  refine seq c ?_
  refine p9 I K c v5 v8 v22 v32 v215 hv215 fun v244 hv244 => ?_
  refine seq c ?_
  refine p10 I K c v2 v5 v8 v21 v23 v244 hv244 ?_
  refine seq c ?_
  refine p11 I K c v2 v8 v23 v28 fun ⟨v303, c4_i32_297⟩ => ?_
  refine seq c ?_
  refine p12 I K c v2 v5 v8 v21 v23 v31 v303 c4_i32_297 ?_
  refine seq c ?_
  refine p13 I K c v5 v8 v22 v32 fun v359 hv359 => ?_
  refine seq c ?_
  refine p14 I K c v5 v8 v22 v32 v359 hv359 fun v388 hv388 => ?_
  refine seq c ?_
  refine p15 I K c v2 v5 v8 v21 v23 v388 hv388 ?_
  refine seq c ?_
  refine p16 I K c v2 v8 v23 v28 fun v447 => ?_
  refine seq c ?_
  refine p17 I K c v2 v5 v8 v21 v23 v31 v447 ?_
  refine seq c ?_
  refine p18 I K c v5 v8 v22 v32 fun v503 hv503 => ?_
  refine seq c ?_
  refine p19 I K c v5 v8 v22 v32 v503 hv503 fun v531 hv531 => ?_
  refine seq c ?_
  refine p20 I K c v2 v5 v8 v21 v23 v531 hv531 ?_
  refine seq c ?_
  refine p21 I K c v2 v8 v23 v28 fun ⟨v590, c0_i32_573⟩ => ?_
  refine seq c ?_
  refine p22 I K c v2 v5 v8 v21 v23 v31 v590 c0_i32_573 ?_
  refine seq c ?_
  refine p23 I K c v5 v8 v22 v32 fun v646 hv646 => ?_
  refine seq c ?_
  refine p24 I K c v5 v8 v22 v32 v646 hv646 fun v674 hv674 => ?_
  refine seq c ?_
  refine p25 I K c v2 v5 v8 v21 v23 v674 hv674 ?_
  refine seq c ?_
  refine p26 I K c v2 v8 v23 v28 fun v734 => ?_
  refine seq c ?_
  refine p27 I K c v2 v5 v8 v21 v23 v31 v734 ?_
  refine seq c ?_
  refine p28 I K c v5 v8 v22 v32 ?_
  refine seq c ?_
  refine p29 I K c v5 v8 v22 v32 ?_
  refine seq c ?_
  refine p30 I K c v2 v5 v8 v21 v23 ?_
  refine seq c ?_
  refine p31 I K c v2 v8 v23 v28 fun c8_i32_848 => ?_
  refine seq c ?_
  refine p32 I K c v2 v5 v8 v21 v23 v31 c8_i32_848 ?_
  refine seq c ?_
  refine p33 I K c v5 v8 v22 v32 fun v934 v935 hv934 hv935 => ?_
  refine seq c ?_
  refine p34 I K c v5 v8 v22 v32 v934 hv934 v935 hv935 fun v963 hv963 => ?_
  refine seq c ?_
  refine p35 I K c v2 v5 v8 v21 v23 v963 hv963 ?_
  refine seq c ?_
  refine p36 I K c v2 v5 v8 v23 v28 fun ⟨v1022, v1023⟩ => ?_
  refine seq c ?_
  refine p37 I K c v2 v5 v8 v21 v23 v31 v1022 v1023 ?_
  refine seq c ?_
  refine p38 I K c v5 v8 v22 v32 fun v1081 hv1081 => ?_
  refine seq c ?_
  refine p39 I K c v2 v5 v8 v21 v23 v1081 hv1081 ?_
  refine seq c ?_
  refine p40 I K c v2 v8 v23 v28 fun ⟨v1140, c0_i32_1097⟩ => ?_
  refine seq c ?_
  refine p41 I K c v2 v5 v8 v21 v23 v31 v1140 c0_i32_1097 ?_
  refine seq c ?_
  refine p42 I K c v5 v8 v22 v32 ?_
  refine seq c ?_
  refine p43 I K c v2 v5 v8 v21 v23 ?_
  refine seq c ?_
  refine p44 I K c v2 v8 v23 v28 ?_
  refine seq c ?_
  refine p45 I K c v2 v5 v8 v21 v23 v31 ?_
  refine seq c ?_
  refine p46 I K c v2 v5 v8 v21 v23 v28 ?_
  refine seq c ?_
  refine p47 I K c v2 v5 v8 v21 v23 v31 ?_
  refine seq c ?_
  refine p48 I K c ?_
  refine seq c ?_
  refine p49 I K c ?_
  refine seq c ?_
  refine p50 I K c ?_
  refine seq c ?_
  refine p51 I K c ?_
  refine seq c ?_
  refine p52 I K c ?_
  refine seq c ?_
  refine p53 I K c ?_
  refine seq c ?_
  refine p54 I K c ?_
  refine seq c ?_
  refine p55 I K c ?_
  refine seq c ?_
  refine p56 I K c ?_
  refine seq c ?_
  refine p57 I K c ?_
  refine seq c ?_
  refine p58 I K c ?_
  refine seq c ?_
  refine p59 I K c ?_
  refine seq c ?_
  refine p60 I K c v2 v5 v8 v21 v23 fun v1658 => ?_
  exact fin c (h _ _ _ _ _ _)

/-- From what a device holds at the launch to every chunk done. -/
theorem body {Q : PUnit → sProp 𝕄} {R : sProp 𝕄} (h : St I K c [21,21,21,21,21,21,21,21,21] 9 2 iprop(Gs I c [.free, .free] ∗ Lft I c ∗ R) ⊢ Q ⟨⟩) :
    iprop(Gs I c [.free, .free] ∗ Ent I K c ∗ R) ⊢ wpK c (ap (cc0_body (F := F))) Q := by
  unfold ap cc0_body
  refine seq c ?_
  refine p66 I K c fun v2 v5 v8 v21 v23 v1658 => ?_
  refine seq c ?_
  refine p61 I K c v2 v5 v8 v21 v23 v1658 fun ⟨v1689, c4_i32_1731⟩ => ?_
  refine seq c ?_
  refine p62 I K c v2 v5 v8 v21 v23 v1689 c4_i32_1731 fun ⟨v1721, c1_i32_1756⟩ => ?_
  refine seq c ?_
  refine p63 I K c v2 v5 v8 v21 v23 v1721 c1_i32_1756 ?_
  refine seq c ?_
  refine p64 I K c v2 v5 v8 v21 v23 ?_
  refine seq c ?_
  refine p65 I K c v2 v5 v8 v21 v23 ?_
  exact fin c h

end Cert.K
-- ==== Proof.Split.lean ====
/-
  Whole buffers cut into the pieces the copies move, and put together again.
-/
module

public import proofs.«01_k».proof.Proof.Whole

@[expose] public section

set_option maxRecDepth 16384

noncomputable section

namespace Cert.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open PCS URA

variable {F : FTy → Type} [FloatOps F]

local notation "𝕄" => MT nD τ sig Unit (Elt F) ℕ UU ℕ

variable (c : Dev nD)

/-! ## The sets -/

/-- Different chunks' rows are apart. -/
theorem ofs_sep : ∀ d d' : Fin 9, d ≠ d' → ofs d.val + sz d.val ≤ ofs d'.val ∨ ofs d'.val + sz d'.val ≤ ofs d.val := by decide
/-- The chunks are within a quarter. -/
theorem ofs_end : ∀ d : Fin 9, ofs d.val + sz d.val ≤ 1024 := by decide

/-- Which chunk a row of the quarter lies in. -/
theorem chunk_of {v : ℕ} (h : v < 1024) : ∃ d < 9, ofs d ≤ v ∧ v < ofs d + sz d := by
  by_cases h1 : v < 64
  · exact ⟨0, by decide, by simp [ofs], by simpa [ofs, sz] using h1⟩
  by_cases h2 : v < 128
  · exact ⟨1, by decide, by simp [ofs]; omega, by simp [ofs, sz]; omega⟩
  · refine ⟨v / 128 + 1, by omega, ?_⟩
    have e0 : ¬ v / 128 + 1 = 0 := by omega
    have e1 : ¬ v / 128 + 1 = 1 := by omega
    have e2 : ¬ v / 128 + 1 < 2 := by omega
    unfold ofs sz
    rw [if_neg e0, if_neg e1, if_neg e2]
    omega

/-- A quarter's rows are its chunks' rows. -/
theorem chunks_union (N a : ℕ) : rows N a 1024 = (Finset.range 9).biUnion fun d => rows N (a + ofs d) (sz d) := by
  ext i
  rw [mem_rows, Finset.mem_biUnion]
  constructor
  · rintro ⟨h1, h2⟩
    obtain ⟨d, hd, h3, h4⟩ := chunk_of (v := (i 0).val - a) (by omega)
    exact ⟨d, Finset.mem_range.mpr hd, mem_rows.mpr ⟨by omega, by omega⟩⟩
  · rintro ⟨d, hd, h⟩
    have := ofs_end ⟨d, Finset.mem_range.mp hd⟩
    obtain ⟨h1, h2⟩ := mem_rows.mp h
    exact ⟨by omega, by dsimp only at this; omega⟩

/-- Different chunks of a quarter share no place. -/
theorem chunks_disj (N a : ℕ) : ∀ t ∈ Finset.range 9, ∀ t' ∈ Finset.range 9, t ≠ t' → Disjoint (rows N (a + ofs t) (sz t)) (rows N (a + ofs t') (sz t')) := by
  intro t ht t' ht' hne
  have := ofs_sep ⟨t, Finset.mem_range.mp ht⟩ ⟨t', Finset.mem_range.mp ht'⟩ (fun e => hne (congrArg Fin.val e))
  dsimp only at this
  exact rows_disj (by omega)

/-- Every quarter is the own one, one neighbour's or the one diagonally across. -/
theorem quarters (c : Dev nD) : ∀ p : Fin 4, p.val = qu c ∨ p.val = qu (yp c) ∨ p.val = qu (zp c) ∨ p.val = qu (yp (zp c)) := by
  revert c; decide

/-- A buffer is its slabs. -/
theorem slabs_union (K R : ℕ) : (Finset.univ : Finset (⟨3, ![K, R, 2048]⟩ : Shape).Idx) = (Finset.range K).biUnion fun d => slab K R d 0 R := by
  ext i
  have h0 : (i 0).val < K := (i 0).isLt
  have h1 : (i 1).val < R := (i 1).isLt
  simp only [Finset.mem_univ, Finset.mem_biUnion, Finset.mem_range, true_iff]
  exact ⟨(i 0).val, h0, mem_slab.mpr ⟨rfl, Nat.zero_le _, by omega⟩⟩

/-- Different slabs share no place. -/
theorem slabs_disj (K R : ℕ) : ∀ t ∈ Finset.range K, ∀ t' ∈ Finset.range K, t ≠ t' → Disjoint (slab K R t 0 R) (slab K R t' 0 R) :=
  fun _ _ _ _ h => slab_disj' h

/-! ## The result -/

section Out

variable (P : S4096x2048.Idx → F .bf16 → Prop)

abbrev Q9 (p : ℕ) : sProp 𝕄 := bigSep (Finset.range 9) fun d => PO c (1024 * p + ofs d) (sz d) P

/-- A quarter of the result can be divided in chunks. -/
theorem quarter_cut (p : ℕ) : PO c (1024 * p) 1024 P ⊢ Q9 c P p :=
  PG_pieces (ℓ := lOut c) (Finset.range 9) (fun d => rows 4096 (1024 * p + ofs d) (sz d)) (chunks_disj 4096 (1024 * p)) (chunks_union 4096 (1024 * p))
/-- The chunks make up the quarter. -/
theorem quarter_mend (p : ℕ) : Q9 c P p ⊢ PO c (1024 * p) 1024 P :=
  PG_unpieces (ℓ := lOut c) (Finset.range 9) (fun d => rows 4096 (1024 * p + ofs d) (sz d)) (chunks_disj 4096 (1024 * p)) (chunks_union 4096 (1024 * p)) ⟨0, by decide⟩

/-- The result is its four quarters. -/
theorem out_sets : (Finset.univ : Finset (⟨2, ![4096, 2048]⟩ : Shape).Idx) = rows 4096 (1024 * qu c) 1024 ∪ (rows 4096 (1024 * qu (yp c)) 1024
    ∪ (rows 4096 (1024 * qu (zp c)) 1024 ∪ rows 4096 (1024 * qu (yp (zp c))) 1024)) := by
  ext i
  have h0 : (i 0).val < 4096 := (i 0).isLt
  simp only [Finset.mem_univ, Finset.mem_union, mem_rows, true_iff]
  have := quarters c ⟨(i 0).val / 1024, by omega⟩
  dsimp only at this
  omega

/-- The quarters from across `z` and diagonally across are apart. -/
theorem out_disj3 : Disjoint (rows 4096 (1024 * qu (zp c)) 1024) (rows 4096 (1024 * qu (yp (zp c))) 1024) := by
  have := qu_ne c; exact rows_disj (by omega)
/-- The quarter from across `y` is apart from these. -/
theorem out_disj2 : Disjoint (rows 4096 (1024 * qu (yp c)) 1024) (rows 4096 (1024 * qu (zp c)) 1024 ∪ rows 4096 (1024 * qu (yp (zp c))) 1024) := by
  have := qu_ne c; exact Finset.disjoint_union_right.mpr ⟨rows_disj (by omega), rows_disj (by omega)⟩
/-- The own quarter is apart from the others. -/
theorem out_disj1 : Disjoint (rows 4096 (1024 * qu c) 1024) (rows 4096 (1024 * qu (yp c)) 1024 ∪ (rows 4096 (1024 * qu (zp c)) 1024 ∪ rows 4096 (1024 * qu (yp (zp c))) 1024)) := by
  have := qu_ne c
  exact Finset.disjoint_union_right.mpr ⟨rows_disj (by omega), Finset.disjoint_union_right.mpr ⟨rows_disj (by omega), rows_disj (by omega)⟩⟩

/-- The result cut into quarters and chunks. -/
theorem out_cut : (PG (lOut c) Finset.univ fullShare P : sProp 𝕄) ⊢ iprop(Q9 c P (qu c) ∗ Q9 c P (qu (yp c)) ∗ Q9 c P (qu (zp c)) ∗ Q9 c P (qu (yp (zp c)))) := by
  iintro H
  ihave H := (PG_split_eq (ℓ := lOut c) (out_sets c) (out_disj1 c)) $$ H
  icases H with ⟨H1, H⟩
  ihave H := (PG_split (ℓ := lOut c) (out_disj2 c)) $$ H
  icases H with ⟨H2, H⟩
  ihave H := (PG_split (ℓ := lOut c) (out_disj3 c)) $$ H
  icases H with ⟨H3, H4⟩
  isplitl [H1]; · iapply (quarter_cut c P (qu c)) $$ H1
  isplitl [H2]; · iapply (quarter_cut c P (qu (yp c))) $$ H2
  isplitl [H3]; · iapply (quarter_cut c P (qu (zp c))) $$ H3
  iapply (quarter_cut c P (qu (yp (zp c)))) $$ H4

/-- The four quarters, each in chunks, make up the result. -/
theorem out_mend : iprop(Q9 c P (qu c) ∗ Q9 c P (qu (yp c)) ∗ Q9 c P (qu (zp c)) ∗ Q9 c P (qu (yp (zp c)))) ⊢ (PG (lOut c) Finset.univ fullShare P : sProp 𝕄) := by
  iintro ⟨H1, H2, H3, H4⟩
  ihave H1 := (quarter_mend c P (qu c)) $$ H1
  ihave H2 := (quarter_mend c P (qu (yp c))) $$ H2
  ihave H3 := (quarter_mend c P (qu (zp c))) $$ H3
  ihave H4 := (quarter_mend c P (qu (yp (zp c)))) $$ H4
  iapply (PG_join_eq (ℓ := lOut c) (out_sets c) (out_disj1 c))
  isplitl [H1]; · iexact H1
  iapply (PG_join (ℓ := lOut c) (out_disj2 c))
  isplitl [H2]; · iexact H2
  iapply (PG_join (ℓ := lOut c) (out_disj3 c))
  isplitl [H3] <;> iassumption

/-- A chunk can be divided in halves. -/
theorem half_cut (a d : ℕ) : PO c a (sz d) P ⊢ iprop(PO c a (sz d / 2) P ∗ PO c (a + sz d / 2) (sz d / 2) P) :=
  PG_split_eq (ℓ := lOut c) (rows_split (sz_half d)) (rows_disj (.inl (Nat.le_refl _)))
/-- The halves make up the chunk. -/
theorem half_mend (a d : ℕ) : iprop(PO c a (sz d / 2) P ∗ PO c (a + sz d / 2) (sz d / 2) P) ⊢ PO c a (sz d) P :=
  PG_join_eq (ℓ := lOut c) (rows_split (sz_half d)) (rows_disj (.inl (Nat.le_refl _)))

end Out

/-! ## The landing buffer and the scratch -/

/-- The landing buffer is its 1024 rows. -/
theorem cx_set : (Finset.univ : Finset (⟨2, ![1024, 2048]⟩ : Shape).Idx) = rows 1024 0 1024 := by
  ext i
  have h0 : (i 0).val < 1024 := (i 0).isLt
  simp only [Finset.mem_univ, mem_rows, true_iff]
  omega
/-- The landing buffer is its chunks. -/
theorem cx_union : (Finset.univ : Finset (⟨2, ![1024, 2048]⟩ : Shape).Idx) = (Finset.range 9).biUnion fun d => rows 1024 (ofs d) (sz d) := by
  rw [cx_set, chunks_union]; simp only [Nat.zero_add]
/-- Its chunks share no place. -/
theorem cx_disj : ∀ t ∈ Finset.range 9, ∀ t' ∈ Finset.range 9, t ≠ t' → Disjoint (rows 1024 (ofs t) (sz t)) (rows 1024 (ofs t') (sz t')) := by
  have := chunks_disj 1024 0; simp only [Nat.zero_add] at this; exact this

/-- The landing buffer can be divided in chunks. -/
theorem cx_cut (P : S1024x2048.Idx → F .bf16 → Prop) : (PG (lCx c) Finset.univ fullShare P : sProp 𝕄) ⊢ bigSep (Finset.range 9) fun d => PC c (ofs d) (sz d) P :=
  PG_pieces (ℓ := lCx c) (Finset.range 9) (fun d => rows 1024 (ofs d) (sz d)) cx_disj cx_union
/-- Its chunks make up the buffer. -/
theorem cx_mend (P : S1024x2048.Idx → F .bf16 → Prop) : (bigSep (Finset.range 9) fun d => PC c (ofs d) (sz d) P) ⊢ (PG (lCx c) Finset.univ fullShare P : sProp 𝕄) :=
  PG_unpieces (ℓ := lCx c) (Finset.range 9) (fun d => rows 1024 (ofs d) (sz d)) cx_disj cx_union ⟨0, by decide⟩

/-- A slab has the chunk's rows and the rest. -/
theorem slab_sz (d : ℕ) : 128 = sz d + (128 - sz d) := by have := sz_le d; omega

/-- A slab's rows in use and the rest. -/
abbrev XX (d : ℕ) : sProp 𝕄 := iprop(PX c d (sz d) (128 - sz d) fullShare (fun _ _ => True) ∗ PX c d 0 (sz d) fullShare (fun _ _ => True))
abbrev SS (d : ℕ) : sProp 𝕄 := iprop(PS c d (sz d) (128 - sz d) fullShare (fun _ _ => True) ∗ PS c d 0 (sz d) fullShare (fun _ _ => True))

/-- A slab is the chunk's rows and the rest. -/
theorem xs_cut (d : ℕ) : slab 9 128 d 0 128 = slab 9 128 d 0 (sz d) ∪ slab 9 128 d (sz d) (128 - sz d) := by
  have := slab_split (K := 9) (R := 128) (d := d) (a := 0) (slab_sz d); rwa [Nat.zero_add] at this
/-- These share no place. -/
theorem xs_disj (d : ℕ) : Disjoint (slab 9 128 d 0 (sz d)) (slab 9 128 d (sz d) (128 - sz d)) := slab_disj (.inl (by omega))

/-- The buffer for chunks to be sent can be divided in slabs. -/
theorem x_cut : (PG (lX c) Finset.univ fullShare (fun _ _ => True) : sProp 𝕄) ⊢ bigSep (Finset.range 9) (XX c) := by
  refine (PG_pieces (ℓ := lX c) (Finset.range 9) (fun d => slab 9 128 d 0 128) (slabs_disj 9 128) (slabs_union 9 128)).trans (bigSep_mono fun d _ => ?_)
  exact (PG_split_eq (ℓ := lX c) (xs_cut d) (xs_disj d)).trans (fun a => BI.sep_comm a)
/-- Its slabs make up the buffer. -/
theorem x_mend : bigSep (Finset.range 9) (XX c) ⊢ (PG (lX c) Finset.univ fullShare (fun _ _ => True) : sProp 𝕄) := by
  refine BIBase.Entails.trans (bigSep_mono fun d _ => ?_) (PG_unpieces (ℓ := lX c) (Finset.range 9) (fun d => slab 9 128 d 0 128) (slabs_disj 9 128) (slabs_union 9 128) ⟨0, by decide⟩)
  exact BIBase.Entails.trans (fun a => BI.sep_comm a) (PG_join_eq (ℓ := lX c) (xs_cut d) (xs_disj d))
/-- The buffer of sums can be divided in slabs. -/
theorem s_cut : (PG (lS c) Finset.univ fullShare (fun _ _ => True) : sProp 𝕄) ⊢ bigSep (Finset.range 9) (SS c) := by
  refine (PG_pieces (ℓ := lS c) (Finset.range 9) (fun d => slab 9 128 d 0 128) (slabs_disj 9 128) (slabs_union 9 128)).trans (bigSep_mono fun d _ => ?_)
  exact (PG_split_eq (ℓ := lS c) (xs_cut d) (xs_disj d)).trans (fun a => BI.sep_comm a)
/-- Its slabs make up the buffer. -/
theorem s_mend : bigSep (Finset.range 9) (SS c) ⊢ (PG (lS c) Finset.univ fullShare (fun _ _ => True) : sProp 𝕄) := by
  refine BIBase.Entails.trans (bigSep_mono fun d _ => ?_) (PG_unpieces (ℓ := lS c) (Finset.range 9) (fun d => slab 9 128 d 0 128) (slabs_disj 9 128) (slabs_union 9 128) ⟨0, by decide⟩)
  exact BIBase.Entails.trans (fun a => BI.sep_comm a) (PG_join_eq (ℓ := lS c) (xs_cut d) (xs_disj d))

/-- Something for each of two is the one and the other. -/
theorem range2 (Φ : ℕ → sProp 𝕄) : bigSep (Finset.range 2) Φ = iprop(Φ 0 ∗ Φ 1) := by
  rw [show Finset.range 2 = {0, 1} from rfl, bigSep_insert (by decide), bigSep_singleton]; rfl

/-- The gathering buffer is its two slots. -/
theorem g_cut : (PG (lG c) Finset.univ fullShare (fun _ _ => True) : sProp 𝕄) ⊢ iprop(PGv c 0 0 128 (fun _ _ => True) ∗ PGv c 1 0 128 (fun _ _ => True)) :=
  (PG_pieces (ℓ := lG c) (Finset.range 2) (fun d => slab 2 128 d 0 128) (slabs_disj 2 128) (slabs_union 2 128)).trans (Entails.of_eq (range2 _))
/-- The two slots make up the gathering buffer. -/
theorem g_mend : iprop(PGv c 0 0 128 (fun _ _ => True) ∗ PGv c 1 0 128 (fun _ _ => True)) ⊢ (PG (lG c) Finset.univ fullShare (fun _ _ => True) : sProp 𝕄) :=
  BIBase.Entails.trans (Entails.of_eq (range2 fun s => PGv c s 0 128 (fun _ _ => True)).symm)
    (PG_unpieces (ℓ := lG c) (Finset.range 2) (fun d => slab 2 128 d 0 128) (slabs_disj 2 128) (slabs_union 2 128) ⟨0, by decide⟩)
/-- The buffer for returned rows is its two slots. -/
theorem b_cut : (PG (lB c) Finset.univ fullShare (fun _ _ => True) : sProp 𝕄) ⊢ iprop(PB c 0 0 128 (fun _ _ => True) ∗ PB c 1 0 128 (fun _ _ => True)) :=
  (PG_pieces (ℓ := lB c) (Finset.range 2) (fun d => slab 2 128 d 0 128) (slabs_disj 2 128) (slabs_union 2 128)).trans (Entails.of_eq (range2 _))
/-- The two slots make up the buffer for received rows. -/
theorem b_mend : iprop(PB c 0 0 128 (fun _ _ => True) ∗ PB c 1 0 128 (fun _ _ => True)) ⊢ (PG (lB c) Finset.univ fullShare (fun _ _ => True) : sProp 𝕄) :=
  BIBase.Entails.trans (Entails.of_eq (range2 fun s => PB c s 0 128 (fun _ _ => True)).symm)
    (PG_unpieces (ℓ := lB c) (Finset.range 2) (fun d => slab 2 128 d 0 128) (slabs_disj 2 128) (slabs_union 2 128) ⟨0, by decide⟩)

/-- A buffer at unknown contents. -/
theorem any_in {ℓ : Loc nD τ sig} : iprop(∃ f : Buf (Elt F) ℓ, ℓ ↦{fullShare} f) ⊢ (PG ℓ Finset.univ fullShare (fun _ _ => True) : sProp 𝕄) := by
  iintro ⟨%f, H⟩
  iapply (PG_intro (ℓ := ℓ) (S := Finset.univ) (q := fullShare) (P := fun _ _ => True) f (fun _ _ => trivial)) $$ H
/-- A whole buffer with some contents. -/
theorem any_out {ℓ : Loc nD τ sig} : (PG ℓ Finset.univ fullShare (fun _ _ => True) : sProp 𝕄) ⊢ iprop(∃ f : Buf (Elt F) ℓ, ℓ ↦{fullShare} f) := by
  iintro H
  ihave H := (PG_open (ℓ := ℓ)) $$ H
  icases H with ⟨%f, H, -⟩
  iexists f; iexact H

end Cert.K
-- ==== Proof.Deal.lean ====
/-
  What the launch deals: every cell's invariant, the tokens to the devices that pay, the credits to the devices that wait.
-/
module

public import proofs.«01_k».proof.Proof.Whole

@[expose] public section

set_option maxRecDepth 16384

noncomputable section

namespace Cert.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open PCS URA

variable {F : FTy → Type} [FloatOps F]

local notation "𝕄" => MT nD τ sig Unit (Elt F) ℕ UU ℕ

variable (I : Ins F) (K : GSem nD τ sig → ℕ) (c : Dev nD)

/-! ## The cells in chunks -/

/-- Every DMA cell but the two apart, by chunk. -/
def CK (d : ℕ) : Finset ℕ := {ix 0 d, ix 1 d, ix 2 d, ix 3 d, ix 4 d, ix 5 d, ix 6 d, ix 7 d, ix 8 d, ix 9 d, 96 + d}

/-- A chunk's semaphores: one for each kind and one for its own result. -/
theorem mem_CK {d n : ℕ} : n ∈ CK d ↔ (∃ k < 10, n = ix k d) ∨ n = 96 + d := by
  simp only [CK, Finset.mem_insert, Finset.mem_singleton]
  constructor
  · rintro (h | h | h | h | h | h | h | h | h | h | h)
    all_goals first | exact .inr h | exact .inl ⟨_, by decide, h⟩
  · rintro (⟨k, hk, h⟩ | h)
    · interval_cases k <;> simp [h]
    · simp [h]

/-- The semaphores with cells are the mask's, the received rows' and those of the chunks. -/
theorem DC_eq : DC = insert 94 (insert 95 ((Finset.range 9).biUnion CK)) := by
  ext n
  simp only [DC, Finset.mem_filter, Finset.mem_range, Finset.mem_insert, Finset.mem_biUnion, mem_CK, ix]
  constructor
  · rintro ⟨h1, h2, h3, h4⟩
    by_cases h5 : n = 94
    · exact .inl h5
    by_cases h6 : n = 95
    · exact .inr (.inl h6)
    by_cases h7 : n < 92
    · exact .inr (.inr ⟨(n - 2) % 9, by omega, .inl ⟨(n - 2) / 9, by omega, by omega⟩⟩)
    · exact .inr (.inr ⟨n - 96, by omega, .inr (by omega)⟩)
  · rintro (h | h | ⟨d, hd, ⟨k, hk, h⟩ | h⟩) <;> omega

/-- Different chunks have different semaphores. -/
theorem CK_disj : ∀ j ∈ Finset.range 9, ∀ j' ∈ Finset.range 9, j ≠ j' → Disjoint (CK j) (CK j') := by
  intro j hj j' hj' hne
  rw [Finset.mem_range] at hj hj'
  refine Finset.disjoint_left.mpr fun n h h' => ?_
  rcases mem_CK.mp h with ⟨k, hk, e⟩ | e <;> rcases mem_CK.mp h' with ⟨k', hk', e'⟩ | e' <;> unfold ix at * <;> omega

/-- A family over the cells of one chunk. -/
def Eleven (Φ : ℕ → sProp 𝕄) (d : ℕ) : sProp 𝕄 := iprop(Φ (ix 0 d) ∗ Φ (ix 1 d) ∗ Φ (ix 2 d) ∗ Φ (ix 3 d) ∗ Φ (ix 4 d) ∗ Φ (ix 5 d) ∗ Φ (ix 6 d)
  ∗ Φ (ix 7 d) ∗ Φ (ix 8 d) ∗ Φ (ix 9 d) ∗ Φ (96 + d))

/-- Something for each of a chunk's semaphores, written out. -/
theorem CK_eleven (Φ : ℕ → sProp 𝕄) {d : ℕ} (hd : d < 9) : bigSep (CK d) Φ = Eleven Φ d := by
  unfold CK Eleven
  iterate 10 rw [bigSep_insert (by simp only [ix, Finset.mem_insert, Finset.mem_singleton]; omega)]
  rw [bigSep_singleton]
  rfl

/-- A family over all the DMA cells, by chunk. -/
theorem by_chunk (Φ : ℕ → sProp 𝕄) : bigSep DC Φ = iprop(Φ 94 ∗ Φ 95 ∗ bigSep (Finset.range 9) (Eleven Φ)) := by
  rw [DC_eq, bigSep_insert, bigSep_insert, SparseCore.Cfg.bigSep_biUnion_eq _ _ _ CK_disj, bigSep_congr fun d hd => CK_eleven Φ (Finset.mem_range.mp hd)]
  · rfl
  · simp only [Finset.mem_biUnion, Finset.mem_range, mem_CK, ix]; rintro ⟨d, hd, ⟨k, hk, h⟩ | h⟩ <;> omega
  · simp only [Finset.mem_insert, Finset.mem_biUnion, Finset.mem_range, mem_CK, ix]; rintro (h | ⟨d, hd, ⟨k, hk, h⟩ | h⟩) <;> omega

/-- Different devices or semaphores have different cells. -/
theorem cell_inj {a b : Dev nD} {n m : ℕ} (hn : n < 105) (hm : m < 105) (h : cell a n = cell b m) : a = b ∧ n = m := by
  have h1 : a = b := congrArg (fun g : GSem nD τ sig => g.1.1) h
  have h2 : dsem n = dsem m := SemLoc.dma.inj (congrArg Prod.snd h)
  exact ⟨h1, by rw [← dsem_val hn, ← dsem_val hm, h2]⟩
/-- Different devices have different barriers. -/
theorem bar_inj {a b : Dev nD} (h : barC a = barC b) : a = b := congrArg (fun g : GSem nD τ sig => g.1.1) h
/-- A barrier is no semaphore's cell. -/
theorem bar_ne_cell (a b : Dev nD) (n : ℕ) : barC a ≠ cell b n := fun h => by cases congrArg Prod.snd h

/-- Something for each barrier is something for each device's. -/
theorem SB_eq (Φ : GSem nD τ sig → sProp 𝕄) : bigSep SB Φ = bigSep Finset.univ fun c : Dev nD => Φ (barC c) :=
  bigSep_image_of_injOn (fun _ _ _ _ h => bar_inj h) Φ
/-- The semaphores' cells, device by device. -/
theorem SC_union : SC = Finset.univ.biUnion fun c : Dev nD => DC.image (cell c) := by
  ext g
  simp only [SC, Finset.mem_image, Finset.mem_product, Finset.mem_univ, true_and, Finset.mem_biUnion, Prod.exists]
/-- Something for each cell is something for each device's semaphores. -/
theorem SC_eq (Φ : GSem nD τ sig → sProp 𝕄) : bigSep SC Φ = bigSep Finset.univ fun c : Dev nD => bigSep DC fun n => Φ (cell c n) := by
  rw [SC_union, SparseCore.Cfg.bigSep_biUnion_eq]
  · exact bigSep_congr fun c _ => bigSep_image_of_injOn (fun _ hx _ hy h => (cell_inj (DC_lt hx) (DC_lt hy) h).2) Φ
  · intro j _ j' _ hne
    refine Finset.disjoint_left.mpr fun g h h' => ?_
    obtain ⟨n, hn, rfl⟩ := Finset.mem_image.mp h
    obtain ⟨m, hm, e⟩ := Finset.mem_image.mp h'
    exact hne (cell_inj (DC_lt hn) (DC_lt hm) e.symm).1
/-- The barriers and the other cells are apart. -/
theorem SB_SC : Disjoint SB SC := by
  rw [Finset.disjoint_left]
  intro g h h'
  obtain ⟨a, -, rfl⟩ := Finset.mem_image.mp h
  obtain ⟨p, -, e⟩ := Finset.mem_image.mp h'
  exact bar_ne_cell _ _ _ e.symm

/-! ## The tokens -/

abbrev Tok3 : Type := GSem nD τ sig × ℕ × Fin 3
def TB : Finset Tok3 := Finset.univ.biUnion fun c : Dev nD => Finset.univ.image fun u : Fin 3 => (barC c, 0, u)
def TD : Finset Tok3 := Finset.univ.biUnion fun c : Dev nD => DC.image fun n => (cell c n, 0, 0)
def T5 : Finset Tok3 := Finset.univ.biUnion fun c : Dev nD => (Finset.Ico 1 9).image fun r => (cell c 95, r, 0)
/-- One token for each round's duty of each cell. -/
def TT : Finset Tok3 := TB ∪ (TD ∪ T5)

/-- The barriers' tokens. -/
theorem mem_TB {x : Tok3} : x ∈ TB ↔ ∃ c : Dev nD, ∃ u : Fin 3, (barC c, 0, u) = x := by
  simp only [TB, Finset.mem_biUnion, Finset.mem_image, Finset.mem_univ, true_and]
/-- The tokens of the semaphores' first rounds. -/
theorem mem_TD {x : Tok3} : x ∈ TD ↔ ∃ c : Dev nD, ∃ n ∈ DC, (cell c n, 0, 0) = x := by
  simp only [TD, Finset.mem_biUnion, Finset.mem_image, Finset.mem_univ, true_and]
/-- The tokens of the later rounds of the received rows' semaphore. -/
theorem mem_T5 {x : Tok3} : x ∈ T5 ↔ ∃ c : Dev nD, ∃ r ∈ Finset.Ico 1 9, (cell c 95, r, 0) = x := by
  simp only [T5, Finset.mem_biUnion, Finset.mem_image, Finset.mem_univ, true_and]

/-- First rounds and later ones are apart. -/
theorem TD_T5 : Disjoint TD T5 := by
  refine Finset.disjoint_left.mpr fun x h h' => ?_
  obtain ⟨c, n, -, rfl⟩ := mem_TD.mp h
  obtain ⟨c', r, hr, e⟩ := mem_T5.mp h'
  have : r = 0 := congrArg (fun x : Tok3 => x.2.1) e
  rw [Finset.mem_Ico] at hr; omega
/-- The barriers' tokens are apart from the others. -/
theorem TB_rest : Disjoint TB (TD ∪ T5) := by
  refine Finset.disjoint_left.mpr fun x h h' => ?_
  obtain ⟨c, u, rfl⟩ := mem_TB.mp h
  rcases Finset.mem_union.mp h' with h' | h'
  · obtain ⟨c', n, -, e⟩ := mem_TD.mp h'
    exact bar_ne_cell _ _ _ (congrArg (fun x : Tok3 => x.1) e.symm)
  · obtain ⟨c', r, -, e⟩ := mem_T5.mp h'
    exact bar_ne_cell _ _ _ (congrArg (fun x : Tok3 => x.1) e.symm)

/-- Something for each barrier token, device by device. -/
theorem TB_eq (Φ : Tok3 → sProp 𝕄) : bigSep TB Φ = bigSep Finset.univ fun c : Dev nD => bigSep Finset.univ fun u : Fin 3 => Φ (barC c, 0, u) := by
  unfold TB
  rw [SparseCore.Cfg.bigSep_biUnion_eq]
  · exact bigSep_congr fun c _ => bigSep_image_of_injOn (fun _ _ _ _ h => congrArg (fun x : Tok3 => x.2.2) h) Φ
  · intro j _ j' _ hne
    refine Finset.disjoint_left.mpr fun g h h' => ?_
    obtain ⟨n, hn, rfl⟩ := Finset.mem_image.mp h
    obtain ⟨m, hm, e⟩ := Finset.mem_image.mp h'
    exact hne (bar_inj (congrArg (fun x : Tok3 => x.1) e.symm))
/-- Something for each first round's token, device by device. -/
theorem TD_eq (Φ : Tok3 → sProp 𝕄) : bigSep TD Φ = bigSep Finset.univ fun c : Dev nD => bigSep DC fun n => Φ (cell c n, 0, 0) := by
  unfold TD
  rw [SparseCore.Cfg.bigSep_biUnion_eq]
  · exact bigSep_congr fun c _ => bigSep_image_of_injOn (fun _ hx _ hy h => (cell_inj (DC_lt hx) (DC_lt hy) (congrArg (fun x : Tok3 => x.1) h)).2) Φ
  · intro j _ j' _ hne
    refine Finset.disjoint_left.mpr fun g h h' => ?_
    obtain ⟨n, hn, rfl⟩ := Finset.mem_image.mp h
    obtain ⟨m, hm, e⟩ := Finset.mem_image.mp h'
    exact hne (cell_inj (DC_lt hn) (DC_lt hm) (congrArg (fun x : Tok3 => x.1) e.symm)).1
/-- Something for each later round's token, device by device. -/
theorem T5_eq (Φ : Tok3 → sProp 𝕄) : bigSep T5 Φ = bigSep Finset.univ fun c : Dev nD => bigSep (Finset.Ico 1 9) fun r => Φ (cell c 95, r, 0) := by
  unfold T5
  rw [SparseCore.Cfg.bigSep_biUnion_eq]
  · exact bigSep_congr fun c _ => bigSep_image_of_injOn (fun _ _ _ _ h => congrArg (fun x : Tok3 => x.2.1) h) Φ
  · intro j _ j' _ hne
    refine Finset.disjoint_left.mpr fun g h h' => ?_
    obtain ⟨n, hn, rfl⟩ := Finset.mem_image.mp h
    obtain ⟨m, hm, e⟩ := Finset.mem_image.mp h'
    exact hne (cell_inj (by decide) (by decide) (congrArg (fun x : Tok3 => x.1) e.symm)).1

/-- The tokens of one chunk's cells on `c`, of the `k`-th array; of the landing copies; of the own rows' copies. -/
def K9 (k : ℕ) (c : Dev nD) : sProp 𝕄 := bigSep (Finset.range 9) fun d => tk c k d
def L9 (c : Dev nD) : sProp 𝕄 := bigSep (Finset.range 9) fun d => dutyTok ER (cell c (96 + d)) 0 0
def M9 (c : Dev nD) : sProp 𝕄 := bigSep (Finset.range 9) fun d => dutyTok ER (cell c 95) d 0
def bt (u : Fin 3) (c : Dev nD) : sProp 𝕄 := dutyTok ER (barC c) 0 u
def mt (c : Dev nD) : sProp 𝕄 := dutyTok ER (cell c 94) 0 0

/-- All tokens of the cells of `c`. -/
def toks (c : Dev nD) : sProp 𝕄 := iprop((bt 0 c ∗ bt 1 c ∗ bt 2 c) ∗ mt c ∗ M9 c
  ∗ K9 0 c ∗ K9 1 c ∗ K9 2 c ∗ K9 3 c ∗ K9 4 c ∗ K9 5 c ∗ K9 6 c ∗ K9 7 c ∗ K9 8 c ∗ K9 9 c ∗ L9 c)

/-- Eleven things for each chunk are each of them for every chunk. -/
theorem eleven9 (A B C D E G H J M N P : ℕ → sProp 𝕄) : bigSep (Finset.range 9) (fun d => iprop(A d ∗ B d ∗ C d ∗ D d ∗ E d ∗ G d ∗ H d ∗ J d ∗ M d ∗ N d ∗ P d))
    = iprop(bigSep (Finset.range 9) A ∗ bigSep (Finset.range 9) B ∗ bigSep (Finset.range 9) C ∗ bigSep (Finset.range 9) D ∗ bigSep (Finset.range 9) E ∗ bigSep (Finset.range 9) G
      ∗ bigSep (Finset.range 9) H ∗ bigSep (Finset.range 9) J ∗ bigSep (Finset.range 9) M ∗ bigSep (Finset.range 9) N ∗ bigSep (Finset.range 9) P) :=
  (two9 A _).trans (congrArg _ ((two9 B _).trans (congrArg _ ((two9 C _).trans (congrArg _ ((two9 D _).trans (congrArg _ ((two9 E _).trans (congrArg _
    ((two9 G _).trans (congrArg _ ((two9 H _).trans (congrArg _ ((two9 J _).trans (congrArg _ ((two9 M _).trans (congrArg _ (two9 N P))))))))))))))))))

/-- A device's tokens, sorted by chunk. -/
theorem toks_at : iprop((bigSep Finset.univ fun u : Fin 3 => dutyTok ER (barC c) 0 u) ∗ (bigSep DC fun n => dutyTok ER (cell c n) 0 (0 : Fin 3))
    ∗ bigSep (Finset.Ico 1 9) fun r => dutyTok ER (cell c 95) r (0 : Fin 3)) ⊢ (toks c : sProp 𝕄) := by
  have h3 : bigSep Finset.univ (fun u : Fin 3 => (dutyTok ER (barC c) 0 u : sProp 𝕄)) = iprop(bt 0 c ∗ bt 1 c ∗ bt 2 c) := by
    rw [show (Finset.univ : Finset (Fin 3)) = {0, 1, 2} from rfl, bigSep_insert (by decide), bigSep_insert (by decide), bigSep_singleton]; rfl
  have hD : (bigSep DC fun n => (dutyTok ER (cell c n) 0 (0 : Fin 3) : sProp 𝕄)) = iprop(mt c ∗ dutyTok ER (cell c 95) 0 0
      ∗ (K9 0 c ∗ K9 1 c ∗ K9 2 c ∗ K9 3 c ∗ K9 4 c ∗ K9 5 c ∗ K9 6 c ∗ K9 7 c ∗ K9 8 c ∗ K9 9 c ∗ L9 c)) := by
    refine (by_chunk _).trans (congrArg _ (congrArg _ ?_))
    exact eleven9 (tk c 0) (tk c 1) (tk c 2) (tk c 3) (tk c 4) (tk c 5) (tk c 6) (tk c 7) (tk c 8) (tk c 9) (fun d => dutyTok ER (cell c (96 + d)) 0 0)
  have h5 : iprop(dutyTok ER (cell c 95) 0 0 ∗ bigSep (Finset.Ico 1 9) fun r => dutyTok ER (cell c 95) r (0 : Fin 3)) ⊢ (M9 c : sProp 𝕄) := by
    unfold M9
    rw [show Finset.range 9 = insert 0 (Finset.Ico 1 9) from rfl, bigSep_insert (by decide)]
    exact .rfl
  rw [h3, hD]
  iintro ⟨Hb, ⟨Hm, H0, HK⟩, H5⟩
  ihave H9 := h5 $$ [H0 H5]
  · isplitl [H0] <;> iassumption
  unfold toks
  isplitl [Hb]; · iexact Hb
  isplitl [Hm]; · iexact Hm
  isplitl [H9]; · iexact H9
  iexact HK

/-- A chunk's tokens as the device that pays holds them. -/
def TkC (d : ℕ) : sProp 𝕄 := iprop(dutyTok ER (cell c 95) d 0 ∗ tk c 0 d ∗ tk (xp c) 1 d ∗ tk c 2 d ∗ tk (yp c) 3 d ∗ tk c 4 d ∗ tk (zp c) 5 d ∗ tk c 6 d
  ∗ tk (zp c) 7 d ∗ tk c 8 d ∗ tk (yp c) 9 d ∗ dutyTok ER (cell c (96 + d)) 0 0)

/-- The tokens device `c` pays with. -/
def Tok : sProp 𝕄 := iprop((bt 0 (xp c) ∗ bt 1 (yp c) ∗ bt 2 (zp c)) ∗ mt c ∗ bigSep (Finset.range 9) (TkC c))

def toks' (c : Dev nD) : sProp 𝕄 := iprop((bt 0 (xp c) ∗ bt 1 (yp c) ∗ bt 2 (zp c)) ∗ mt c ∗ M9 c
  ∗ K9 0 c ∗ K9 1 (xp c) ∗ K9 2 c ∗ K9 3 (yp c) ∗ K9 4 c ∗ K9 5 (zp c) ∗ K9 6 c ∗ K9 7 (zp c) ∗ K9 8 c ∗ K9 9 (yp c) ∗ L9 c)

/-- The tokens sorted by who uses them are those a device works with. -/
theorem Tok_of : toks' c ⊢ (Tok c : sProp 𝕄) := by
  have h : bigSep (Finset.range 9) (TkC c) = (iprop(M9 c ∗ K9 0 c ∗ K9 1 (xp c) ∗ K9 2 c ∗ K9 3 (yp c) ∗ K9 4 c ∗ K9 5 (zp c) ∗ K9 6 c ∗ K9 7 (zp c) ∗ K9 8 c ∗ K9 9 (yp c) ∗ L9 c) : sProp 𝕄) :=
    (two9 (fun d => dutyTok ER (cell c 95) d 0) _).trans (congrArg _
      (eleven9 (tk c 0) (tk (xp c) 1) (tk c 2) (tk (yp c) 3) (tk c 4) (tk (zp c) 5) (tk c 6) (tk (zp c) 7) (tk c 8) (tk (yp c) 9) (fun d => dutyTok ER (cell c (96 + d)) 0 0)))
  unfold Tok toks'
  rw [h]

def eqv (e : Dev nD → Dev nD) (h : ∀ c, e (e c) = c) : Dev nD ≃ Dev nD := ⟨e, e, h, h⟩
/-- Something for every device is something for every device's neighbour. -/
theorem around (e : Dev nD → Dev nD) (h : ∀ c, e (e c) = c) (Φ : Dev nD → sProp 𝕄) : bigSep Finset.univ Φ = bigSep Finset.univ fun c => Φ (e c) :=
  bigSep_univ_equiv (eqv e h) Φ

/-- Two things for each device are the one for each and the other for each. -/
theorem two16 (A B : Dev nD → sProp 𝕄) : bigSep Finset.univ (fun d => iprop(A d ∗ B d)) = iprop(bigSep Finset.univ A ∗ bigSep Finset.univ B) := bigSep_sep _ A B

/-- Each device's tokens, handed to the devices that pay. -/
theorem toks_around : bigSep Finset.univ (fun c : Dev nD => (toks c : sProp 𝕄)) ⊢ bigSep Finset.univ fun c : Dev nD => Tok c := by
  refine BIBase.Entails.trans (Entails.of_eq ?_) (bigSep_mono fun c _ => Tok_of c)
  have split (A B C D E G H J M N P S T U V W : Dev nD → sProp 𝕄) : bigSep Finset.univ (fun c => iprop((A c ∗ B c ∗ C c) ∗ D c ∗ E c ∗ G c ∗ H c ∗ J c ∗ M c ∗ N c ∗ P c ∗ S c ∗ T c ∗ U c ∗ V c ∗ W c))
      = iprop((bigSep Finset.univ A ∗ bigSep Finset.univ B ∗ bigSep Finset.univ C) ∗ bigSep Finset.univ D ∗ bigSep Finset.univ E ∗ bigSep Finset.univ G ∗ bigSep Finset.univ H
        ∗ bigSep Finset.univ J ∗ bigSep Finset.univ M ∗ bigSep Finset.univ N ∗ bigSep Finset.univ P ∗ bigSep Finset.univ S ∗ bigSep Finset.univ T ∗ bigSep Finset.univ U
        ∗ bigSep Finset.univ V ∗ bigSep Finset.univ W) := by
    rw [two16, two16, two16, two16, two16, two16, two16, two16, two16, two16, two16, two16, two16, two16, two16]
  refine (split (bt 0) (bt 1) (bt 2) mt M9 (K9 0) (K9 1) (K9 2) (K9 3) (K9 4) (K9 5) (K9 6) (K9 7) (K9 8) (K9 9) L9).trans ?_
  rw [around xp xp_xp (bt 0), around yp yp_yp (bt 1), around zp zp_zp (bt 2), around xp xp_xp (K9 1), around yp yp_yp (K9 3), around zp zp_zp (K9 5),
    around zp zp_zp (K9 7), around yp yp_yp (K9 9)]
  exact (split (fun c => bt 0 (xp c)) (fun c => bt 1 (yp c)) (fun c => bt 2 (zp c)) mt M9 (K9 0) (fun c => K9 1 (xp c)) (K9 2) (fun c => K9 3 (yp c)) (K9 4)
    (fun c => K9 5 (zp c)) (K9 6) (fun c => K9 7 (zp c)) (K9 8) (fun c => K9 9 (yp c)) L9).symm

/-- What one device holds of the exchange at launch. -/
def aB : sProp 𝕄 := atPos ER (barC c) 0 ∅ 0
def oB : sProp 𝕄 := bigSep DC fun n => openTok ER (cell c n)
def Lin : sProp 𝕄 := iprop(aB c ∗ oB c ∗ Tok c)
/-- What all devices may consult. -/
def Rec : sProp 𝕄 := iprop(Inv I K ∗ bigSep Finset.univ fun c : Dev nD => reached ER (barC c) 0)
instance Rec_persistent : BI.Persistent (Rec I K) := by unfold Rec; infer_instance

def t3 (c : Dev nD) : sProp 𝕄 := bigSep Finset.univ fun u : Fin 3 => dutyTok ER (barC c) 0 u
def tD (c : Dev nD) : sProp 𝕄 := bigSep DC fun n => dutyTok ER (cell c n) 0 (0 : Fin 3)
def t5 (c : Dev nD) : sProp 𝕄 := bigSep (Finset.Ico 1 9) fun r => dutyTok ER (cell c 95) r (0 : Fin 3)
def tokOf (x : Tok3) : sProp 𝕄 := dutyTok ER x.1 x.2.1 x.2.2

/-- All tokens, dealt to the devices that use them. -/
theorem TT_all : bigSep TT tokOf ⊢ (bigSep Finset.univ fun c : Dev nD => Tok c : sProp 𝕄) := by
  have h1 : bigSep TT tokOf = (iprop(bigSep Finset.univ t3 ∗ bigSep Finset.univ tD ∗ bigSep Finset.univ t5) : sProp 𝕄) := by
    unfold TT
    rw [bigSep_union TB_rest, bigSep_union TD_T5, TB_eq, TD_eq, T5_eq]
    rfl
  have h2 : (iprop(bigSep Finset.univ t3 ∗ bigSep Finset.univ tD ∗ bigSep Finset.univ t5) : sProp 𝕄) = bigSep Finset.univ fun c => iprop(t3 c ∗ tD c ∗ t5 c) := by
    rw [two16, two16]
  rw [h1, h2]
  exact (bigSep_mono fun c _ => toks_at c).trans toks_around

/-- Positions, open cells and tokens make up each device's own part. -/
theorem lin_of : iprop(bigSep Finset.univ aB ∗ bigSep Finset.univ oB ∗ bigSep Finset.univ Tok) ⊢ (bigSep Finset.univ Lin : sProp 𝕄) := by
  refine Entails.of_eq ?_
  unfold Lin
  rw [two16, two16]

/-- The barriers' values, as cells. -/
theorem sb_val : bigSep Finset.univ (fun c : Dev nD => (semVal (barC c) 0 : sProp 𝕄)) ⊢ bigSep SB (fun g => (semVal g 0 : sProp 𝕄)) :=
  Entails.of_eq (SB_eq fun g => (semVal g 0 : sProp 𝕄)).symm
/-- The barriers' positions, device by device. -/
theorem sb_at : bigSep SB (fun g => (atPos ER g 0 ∅ 0 : sProp 𝕄)) ⊢ bigSep Finset.univ aB := Entails.of_eq (SB_eq _)
/-- The barriers have reached their first round. -/
theorem sb_reach : bigSep SB (fun g => (reached ER g 0 : sProp 𝕄)) ⊢ bigSep Finset.univ (fun c : Dev nD => (reached ER (barC c) 0 : sProp 𝕄)) := Entails.of_eq (SB_eq _)
/-- The open cells, device by device. -/
theorem sc_open : bigSep SC (fun g => (openTok ER g : sProp 𝕄)) ⊢ bigSep Finset.univ oB := Entails.of_eq (SC_eq _)

/-- The cells and tokens of any launch, made into what the devices consult and hold. -/
theorem fund_of (S Sd : Finset (GSem nD τ sig)) (T : Finset Tok3) (hS : Disjoint S Sd) (A B C D E G : sProp 𝕄) (J : (GSem nD τ sig → ℕ) → sProp 𝕄) [BI.Persistent G]
    (hA : A ⊢ bigSep S (fun g => (semVal g 0 : sProp 𝕄))) (hB : bigSep S (fun g => (atPos ER g 0 ∅ 0 : sProp 𝕄)) ⊢ B)
    (hC : bigSep Sd (fun g => (openTok ER g : sProp 𝕄)) ⊢ C) (hD : bigSep T (fun x => (dutyTok ER x.1 x.2.1 x.2.2 : sProp 𝕄)) ⊢ D)
    (hG : bigSep S (fun g => (reached ER g 0 : sProp 𝕄)) ⊢ G)
    (hJ : ∀ κ : GSem nD τ sig → ℕ, bigSep (S ∪ Sd) (fun g => (cellInv ER (Rd I) (κ g) g : sProp 𝕄)) ⊢ J κ)
    (hE : iprop(B ∗ C ∗ D) ⊢ E) :
    iprop(A ∗ BI.own (ER (launchOf S Sd T))) ⊢ (|={Set.univ}=> ∃ κ : GSem nD τ sig → ℕ, (J κ ∗ G) ∗ E : sProp 𝕄) := by
  iintro ⟨Hv, Hu⟩
  ihave Hv := hA $$ Hv
  imod (Rounds.fund_launch ER (Rd I) hS (fun g _ h => h) T) $$ [Hv Hu] with ⟨%κ, -, #Hinv, #Hr, Hat, Hopen, Htok⟩
  · isplitl [Hv]; · iexact Hv
    iexact Hu
  ihave Hat := hB $$ Hat
  ihave Hopen := hC $$ Hopen
  ihave Htok := hD $$ Htok
  ihave Hr' := hG $$ Hr
  imodintro
  iexists κ
  isplitr [Hat Hopen Htok]
  · isplitr
    · iapply (hJ κ); iexact Hinv
    iexact Hr'
  iapply hE
  isplitl [Hat]; · iexact Hat
  isplitl [Hopen]; · iexact Hopen
  iexact Htok

/-- The launch's ghost state and the barriers at zero give the record and each device's own part. -/
theorem fund : iprop((bigSep Finset.univ fun c : Dev nD => semVal (barC c) 0) ∗ BI.own (ER (launchOf SB SC TT)))
    ⊢ (|={Set.univ}=> ∃ κ : GSem nD τ sig → ℕ, Rec I κ ∗ bigSep Finset.univ Lin : sProp 𝕄) :=
  fund_of I SB SC TT SB_SC _ (bigSep Finset.univ aB) (bigSep Finset.univ oB) (bigSep Finset.univ Tok) _ (bigSep Finset.univ fun c : Dev nD => reached ER (barC c) 0) (Inv I)
    sb_val sb_at sc_open TT_all sb_reach (fun _ => .rfl) lin_of

/-! ## The cells opened and closed -/

/-- A device's semaphores at zero are put under their invariants. -/
theorem open_all : iprop(Inv I K ∗ (bigSep DC fun n => openTok ER (cell c n)) ∗ bigSep DC fun n => semVal (cell c n) 0)
    ⊢ (|={Set.univ}=> iprop((bigSep DC fun n => atPos ER (cell c n) 0 ∅ 0) ∗ rch c) : sProp 𝕄) := by
  have h : iprop(Inv I K ∗ bigSep DC fun n => iprop(openTok ER (cell c n) ∗ semVal (cell c n) 0))
      ⊢ bigSep DC fun n => (iprop(|={Set.univ}=> (atPos ER (cell c n) 0 ∅ 0 ∗ reached ER (cell c n) 0)) : sProp 𝕄) :=
    bigSep_with_persistent fun n hn =>
      (sep_mono_left (Inv_cell I K c hn)).trans (Rounds.cell_open ER (Rd I) (Set.mem_univ _))
  have h2 : (bigSep DC fun n => (iprop(openTok ER (cell c n) ∗ semVal (cell c n) 0) : sProp 𝕄)) = _ := bigSep_sep DC (fun n => openTok ER (cell c n)) (fun n => semVal (cell c n) 0)
  have h3 : (bigSep DC fun n => (iprop(atPos ER (cell c n) 0 ∅ 0 ∗ reached ER (cell c n) 0) : sProp 𝕄)) = _ := bigSep_sep DC (fun n => atPos ER (cell c n) 0 ∅ 0) (fun n => reached ER (cell c n) 0)
  have h4 := h.trans (bigSep_fupd (Fr := frame) DC (fun n => (iprop(atPos ER (cell c n) 0 ∅ 0 ∗ reached ER (cell c n) 0) : sProp 𝕄)))
  rw [h2, h3] at h4
  exact h4

/-- Where the owner stands on each cell at the end. -/
def endR (n : ℕ) : ℕ := if n = 95 then 9 else 1

/-- At the end a device gets all its semaphores back at zero. -/
theorem close_all : iprop(Inv I K ∗ bigSep DC fun n => atPos ER (cell c n) (endR n) ∅ 0) ⊢ (|={Set.univ}=> bigSep DC fun n => semVal (cell c n) 0 : sProp 𝕄) := by
  have h : iprop(Inv I K ∗ bigSep DC fun n => atPos ER (cell c n) (endR n) ∅ 0) ⊢ bigSep DC fun n => (iprop(|={Set.univ}=> semVal (cell c n) 0) : sProp 𝕄) :=
    bigSep_with_persistent fun n hn =>
      (sep_mono_left (Inv_cell I K c hn)).trans (Rounds.cell_close ER (Rd I) (Set.mem_univ _) id fun r hr => duties_none I c (DC_lt hn) (by
        unfold rndD endR at *; split <;> simp_all <;> omega))
  exact h.trans (bigSep_fupd (Fr := frame) DC _)

/-- At the end a device gets its barrier back at zero. -/
theorem close_bar : iprop(Inv I K ∗ atPos ER (barC c) 1 ∅ 0) ⊢ (|={Set.univ}=> semVal (barC c) 0 : sProp 𝕄) :=
  (sep_mono_left (Inv_bar I K c)).trans (Rounds.cell_close ER (Rd I) (Set.mem_univ _) id fun r hr => by
    show (if r = 0 then (Finset.univ : Finset (Fin 3)) else ∅) = ∅
    exact if_neg (by omega))

end Cert.K
-- ==== Proof.Credit.lean ====
/-
  What a device owes from launch on, and the credits dealt to those who wait.
-/
module

public import proofs.«01_k».proof.Proof.Deal

@[expose] public section

set_option maxRecDepth 16384

noncomputable section

namespace Cert.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open PCS URA

variable {F : FTy → Type} [FloatOps F]

local notation "𝕄" => MT nD τ sig Unit (Elt F) ℕ UU ℕ

variable (I : Ins F) (K : GSem nD τ sig → ℕ) (c : Dev nD)

/-! ## The credits -/

/-- What device `c` owes from launch on. -/
def O₀ (c : Dev nD) : CellTallies nD τ sig Unit := owed c ks0 + tallyAt (barC (zp c)) () 1 + tallyAt (barC (yp c)) () 1 + tallyAt (barC (xp c)) () 1

/-- Who pays the `k`-th array's cells, and how many rows. -/
def pe (k : ℕ) (c : Dev nD) : Dev nD := if k = 1 then xp c else if k = 3 ∨ k = 9 then yp c else zp c
def am (k d : ℕ) : ℕ := if k < 6 then sz d else sz d / 2
/-- The peer for a kind of copy has the device as its own peer. -/
theorem pe_pe (k : ℕ) (c : Dev nD) : pe k (pe k c) = c := by
  unfold pe
  by_cases h : k = 1
  · simp only [if_pos h]; exact xp_xp c
  · simp only [if_neg h]
    by_cases h' : k = 3 ∨ k = 9
    · simp only [if_pos h']; exact yp_yp c
    · simp only [if_neg h']; exact zp_zp c
def KS : Finset ℕ := {1, 3, 5, 7, 9}

/-- What a copy owes, read at one semaphore's cell: its amount there and nothing elsewhere. -/
theorem ow_at {a c : Dev nD} {k k' d e n : ℕ} (hk : k < 10) (hk' : k' < 10) (hd : d < 9) (he : e < 9) :
    (ow a k d n) (cell c (ix k' e)) () = if a = c ∧ k = k' ∧ d = e then NB n else 0 := by
  rw [tallyAt_apply]
  by_cases h : a = c ∧ k = k' ∧ d = e
  · obtain ⟨rfl, rfl, rfl⟩ := h; rw [if_pos ⟨rfl, rfl⟩, if_pos ⟨rfl, rfl, rfl⟩]
  · rw [if_neg h, if_neg]
    rintro ⟨e1, -⟩
    have h1 := ix_lt hk hd
    have h2 := ix_lt hk' he
    obtain ⟨h3, h4⟩ := cell_inj (by omega) (by omega) e1
    unfold ix at h4
    exact h ⟨h3.symm, by omega, by omega⟩

/-- What a chunk owes at the start, kind by kind. -/
theorem owedC_sum (c : Dev nD) (d : ℕ) : owedC c d 0 = ∑ k ∈ KS, ow (pe k c) k d (am k d) := by
  unfold KS
  rw [Finset.sum_insert (by decide), Finset.sum_insert (by decide), Finset.sum_insert (by decide), Finset.sum_insert (by decide), Finset.sum_singleton]
  rfl

/-- What a device owes at the start, chunk by chunk and kind by kind. -/
theorem owed_sum (c : Dev nD) : owed c ks0 = ∑ d ∈ Finset.range 9, ∑ k ∈ KS, ow (pe k c) k d (am k d) :=
  Finset.sum_congr rfl fun d hd => by
    rw [← owedC_sum]
    have := Finset.mem_range.mp hd; interval_cases d <;> rfl

/-- The kinds that arrive from elsewhere are among the ten kinds. -/
theorem KS_lt {k : ℕ} (h : k ∈ KS) : k < 10 := by
  simp only [KS, Finset.mem_insert, Finset.mem_singleton] at h; omega

/-- Debts add at each cell. -/
theorem ev_add (a b : CellTallies nD τ sig Unit) (g : GSem nD τ sig) : (a + b) g () = a g () + b g () := rfl
/-- Sums of debts are taken at each cell. -/
theorem ev_sum (s : Finset ℕ) (f : ℕ → CellTallies nD τ sig Unit) (g : GSem nD τ sig) : (∑ d ∈ s, f d) g () = ∑ d ∈ s, f d g () := by
  rw [Finset.sum_apply, Finsupp.finset_sum_apply]

/-- What is owed at a cell that is no barrier's and at a barrier's. -/
theorem O₀_at (c' : Dev nD) (g : GSem nD τ sig) : O₀ c' g () = owed c' ks0 g () + tallyAt (barC (zp c')) () 1 g () + tallyAt (barC (yp c')) () 1 g () + tallyAt (barC (xp c')) () 1 g () := rfl
/-- What a device owes at one cell. -/
theorem owed_at (c' : Dev nD) (g : GSem nD τ sig) : owed c' ks0 g () = ∑ d ∈ Finset.range 9, ∑ k ∈ KS, (ow (pe k c') k d (am k d)) g () := by
  rw [owed_sum, ev_sum]; exact Finset.sum_congr rfl fun d _ => ev_sum _ _ _

/-- Adding three zeros changes nothing. -/
theorem plus0 {a b c d : ℕ} (hb : b = 0) (hc : c = 0) (hd : d = 0) : a + b + c + d = a := by omega

/-- A device owes a semaphore the chunk's amount when it is the peer that sends to it, and nothing otherwise. -/
theorem owed_cell (c' c : Dev nD) {k e : ℕ} (hk : k ∈ KS) (he : e < 9) : O₀ c' (cell c (ix k e)) () = if c' = pe k c then NB (am k e) else 0 := by
  have hb (a : Dev nD) : (tallyAt (barC a) () 1 : CellTallies nD τ sig Unit) (cell c (ix k e)) () = 0 := by
    rw [tallyAt_apply, if_neg]; rintro ⟨h, -⟩; exact bar_ne_cell _ _ _ h.symm
  refine (O₀_at c' _).trans ((plus0 (hb _) (hb _) (hb _)).trans ((owed_at c' _).trans ?_))
  refine (Finset.sum_eq_single e ?_ ?_).trans ((Finset.sum_eq_single k ?_ ?_).trans ((ow_at (KS_lt hk) (KS_lt hk) he he).trans ?_))
  · intro d hd hne
    refine Finset.sum_eq_zero fun k' hk' => ?_
    rw [ow_at (KS_lt hk') (KS_lt hk) (Finset.mem_range.mp hd) he, if_neg]; rintro ⟨-, -, h⟩; exact hne h
  · intro h; exact absurd (Finset.mem_range.mpr he) h
  · intro k' hk' hne; rw [ow_at (KS_lt hk') (KS_lt hk) he he, if_neg]; rintro ⟨-, h, -⟩; exact hne h
  · intro h; exact absurd hk h
  · by_cases h : c' = pe k c
    · rw [if_pos h, if_pos ⟨by rw [h, pe_pe], rfl, rfl⟩]
    · rw [if_neg h, if_neg]; rintro ⟨h', -, -⟩; exact h (by rw [← h', pe_pe])

/-- A device owes one to the barrier of each neighbour. -/
theorem owed_bar (c' c : Dev nD) : O₀ c' (barC c) () = (if c' = zp c then 1 else 0) + (if c' = yp c then 1 else 0) + (if c' = xp c then 1 else 0) := by
  have h0 : owed c' ks0 (barC c) () = 0 := by
    rw [owed_at]
    refine Finset.sum_eq_zero fun d _ => Finset.sum_eq_zero fun k _ => ?_
    rw [tallyAt_apply, if_neg]; rintro ⟨h, -⟩; exact bar_ne_cell _ _ _ h
  have hb (e : Dev nD → Dev nD) (he : ∀ c, e (e c) = c) : (tallyAt (barC (e c')) () 1 : CellTallies nD τ sig Unit) (barC c) () = if c' = e c then 1 else 0 := by
    rw [tallyAt_apply]
    by_cases h : c' = e c
    · rw [if_pos h, h, he, if_pos ⟨rfl, rfl⟩]
    · rw [if_neg h, if_neg]; rintro ⟨h', -⟩; exact h (by rw [bar_inj h', he])
  rw [O₀_at, h0, hb xp xp_xp, hb yp yp_yp, hb zp zp_zp, Nat.zero_add]

/-- All devices together owe a semaphore what its copy counts for. -/
theorem launch_cell (c : Dev nD) {k e : ℕ} (hk : k ∈ KS) (he : e < 9) :
    tallyOn (cell c (ix k e)) (launchCredit (Pipeline.owing O₀) 0 (cell c (ix k e))) = (tallyAt (cell c (ix k e)) () (NB (am k e)) : CellTallies nD τ sig Unit) := by
  unfold tallyAt; refine congrArg _ (Finsupp.ext fun u => ?_); cases u
  rw [Pipeline.launchCredit_owing, Finsupp.single_eq_same, Finset.sum_congr rfl fun d _ => owed_cell d c hk he, Finset.sum_ite_eq' Finset.univ (pe k c) fun _ => NB (am k e),
    if_pos (Finset.mem_univ _)]
/-- All devices together owe a barrier three. -/
theorem launch_bar (c : Dev nD) :
    tallyOn (barC c) (launchCredit (Pipeline.owing O₀) 0 (barC c)) = (tallyAt (barC c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib,
    Finset.sum_ite_eq' Finset.univ (zp c) fun _ => 1, Finset.sum_ite_eq' Finset.univ (yp c) fun _ => 1, Finset.sum_ite_eq' Finset.univ (xp c) fun _ => 1,
    if_pos (Finset.mem_univ _), if_pos (Finset.mem_univ _), if_pos (Finset.mem_univ _)]

/-- A chunk's credits. -/
def CrC (d : ℕ) : sProp 𝕄 := iprop(crd c 1 d (sz d) ∗ crd c 3 d (sz d) ∗ crd c 5 d (sz d) ∗ crd c 7 d (sz d / 2) ∗ crd c 9 d (sz d / 2))

/-- The launch's credit at one semaphore of `c`. -/
def LC (sm : SemLoc sig) : sProp 𝕄 := cred (tallyOn ((c.tc : Thread nD τ), sm) (launchCredit (Pipeline.owing O₀) 0 ((c.tc : Thread nD τ), sm)))
def LD (n : ℕ) : sProp 𝕄 := LC c (.dma (dsem n))
/-- The credit a device starts with at its barrier. -/
theorem LC_bar : (LC c (.reg barrier0) : sProp 𝕄) = cred (tallyAt (barC c) () 3) := by
  have h := launch_bar c
  unfold LC
  rw [← h]
/-- The credit a device starts with at a semaphore of the exchange. -/
theorem LD_cell {k d : ℕ} (hk : k ∈ KS) (hd : d < 9) : (LD c (ix k d) : sProp 𝕄) = crd c k d (am k d) := by
  have h := launch_cell c hk hd
  unfold LD LC crd
  rw [← h]

/-- The five kinds that arrive, taken from all of a chunk's semaphores. -/
theorem odd (Φ : ℕ → sProp 𝕄) (d : ℕ) : Eleven Φ d ⊢ iprop(Φ (ix 1 d) ∗ Φ (ix 3 d) ∗ Φ (ix 5 d) ∗ Φ (ix 7 d) ∗ Φ (ix 9 d)) := by
  have h : Eleven Φ d ⊢ iprop(Φ (ix 0 d) ∗ Φ (ix 1 d) ∗ Φ (ix 2 d) ∗ Φ (ix 3 d) ∗ Φ (ix 4 d) ∗ Φ (ix 5 d) ∗ Φ (ix 6 d) ∗ Φ (ix 7 d) ∗ Φ (ix 8 d) ∗ Φ (ix 9 d) ∗ Φ (96 + d)) := .rfl
  iintro H
  ihave H := h $$ H
  icases H with ⟨-, H1, -, H3, -, H5, -, H7, -, H9, -⟩
  isplitl [H1]; · iexact H1
  isplitl [H3]; · iexact H3
  isplitl [H5]; · iexact H5
  isplitl [H7]; · iexact H7
  iexact H9

/-- The credits at a device's semaphores, chunk by chunk. -/
theorem creds_cells : bigSep (Finset.univ.erase (SemLoc.reg barrier0)) (LC c) ⊢ (bigSep (Finset.range 9) (CrC c) : sProp 𝕄) := by
  have h1 : bigSep (Finset.univ.erase (SemLoc.reg barrier0)) (LC c) ⊢ (bigSep (DC.image fun n => SemLoc.dma (dsem n)) (LC c) : sProp 𝕄) :=
    bigSep_subset fun sm hsm => by
      obtain ⟨n, -, rfl⟩ := Finset.mem_image.mp hsm
      exact Finset.mem_erase.mpr ⟨(fun h => by cases h), Finset.mem_univ _⟩
  have h2 : bigSep (DC.image fun n => SemLoc.dma (dsem n)) (LC c) = (bigSep DC (LD c) : sProp 𝕄) :=
    bigSep_image_of_injOn (fun x hx y hy h => by
      have : dsem x = dsem y := SemLoc.dma.inj h
      rw [← dsem_val (DC_lt hx), ← dsem_val (DC_lt hy), this]) (LC c)
  have h3 : bigSep (Finset.range 9) (Eleven (LD c)) ⊢ (bigSep (Finset.range 9) (CrC c) : sProp 𝕄) := bigSep_mono fun d hd => by
    have hd := Finset.mem_range.mp hd
    have e1 := LD_cell (F := F) c (k := 1) (by decide) hd
    have e3 := LD_cell (F := F) c (k := 3) (by decide) hd
    have e5 := LD_cell (F := F) c (k := 5) (by decide) hd
    have e7 := LD_cell (F := F) c (k := 7) (by decide) hd
    have e9 := LD_cell (F := F) c (k := 9) (by decide) hd
    have e : (CrC c d : sProp 𝕄) = iprop(LD c (ix 1 d) ∗ LD c (ix 3 d) ∗ LD c (ix 5 d) ∗ LD c (ix 7 d) ∗ LD c (ix 9 d)) := by
      rw [e1, e3, e5, e7, e9]; rfl
    rw [e]
    exact odd (LD c) d
  refine h1.trans ((Entails.of_eq (h2.trans (by_chunk _))).trans ?_)
  iintro ⟨-, -, H⟩
  iapply h3 $$ H

/-- The credits a device starts with: three at its barrier and those of each chunk. -/
theorem creds : (Pipeline.launchCred O₀ c : sProp 𝕄) ⊢ iprop(cred (tallyAt (barC c) () 3) ∗ bigSep (Finset.range 9) (CrC c)) := by
  refine BIBase.Entails.trans (Entails.of_eq (bigSep_univ_at (LC c) (SemLoc.reg barrier0))) ?_
  rw [LC_bar]
  exact sep_mono_right (creds_cells c)

end Cert.K
-- ==== Proof.Entry.lean ====
/-
  From what a device holds as the kernel starts to what its first steps use.
-/
module

public import proofs.«01_k».proof.Proof.Split
public import proofs.«01_k».proof.Proof.Credit

@[expose] public section

set_option maxRecDepth 16384

noncomputable section

namespace Cert.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open PCS URA

variable {F : FTy → Type} [FloatOps F]

local notation "𝕄" => MT nD τ sig Unit (Elt F) ℕ UU ℕ

variable (I : Ins F) (K : GSem nD τ sig → ℕ) (c : Dev nD)

/-- The tables and the rows, read only. -/
def Mem0 : sProp 𝕄 := iprop(SM I c ∗ (lMf c ↦[Finset.univ]{fullShare} I.mf c) ∗ (lE c ↦[Finset.univ]{fullShare} I.E c))
/-- The scratch. -/
def Scr : sProp 𝕄 := iprop(PG (lG c) Finset.univ fullShare (fun _ _ => True) ∗ PG (lX c) Finset.univ fullShare (fun _ _ => True) ∗ PG (lM c) Finset.univ fullShare (fun _ _ => True)
  ∗ PG (lB c) Finset.univ fullShare (fun _ _ => True) ∗ PG (lS c) Finset.univ fullShare (fun _ _ => True))
/-- The landing buffer and the result. -/
def Outs0 : sProp 𝕄 := iprop(PG (lCx c) Finset.univ fullShare (fun _ _ => True) ∗ PG (lOut c) Finset.univ fullShare (fun _ _ => True))
def Svs : sProp 𝕄 := iprop(sv c 0 ∗ sv c 1)
/-- The DMA cells at round `r n`. -/
def At (r : ℕ → ℕ) (n : ℕ) : sProp 𝕄 := atPos ER (cell c n) (r n) ∅ 0
def rBar : sProp 𝕄 := bigSep Finset.univ fun c : Dev nD => reached ER (barC c) 0
/-- The exchange with the cells opened. -/
def Opd : sProp 𝕄 := iprop(C0 I K ∗ rBar ∗ aB c ∗ bigSep DC (At c fun _ => 0) ∗ rch c ∗ Tok c
  ∗ (cred (tallyAt (barC c) () 3) ∗ bigSep (Finset.range 9) (CrC c)) ∗ Svs c ∗ Outs0 c)
/-- The rows of the factors the device does not read. -/
def MfR : sProp 𝕄 := PG (lMf c) (Finset.univ \ mrows c) fullShare fun i v => v = I.mf c i

section Chunk

variable (d : ℕ)

/-- The copy across `y` at stage 0. -/
theorem cY0 : (at0 c 2 d : sProp 𝕄) ⊢ cY I c d 0 := by
  show _ ⊢ iprop(at0 c 2 d ∗ BI.emp)
  iintro H
  isplitl [H]; · iexact H
  iempintro
/-- The copy across `z` at stage 0. -/
theorem cZ0 : (at0 c 4 d : sProp 𝕄) ⊢ cZ I c d 0 := by
  show _ ⊢ iprop(at0 c 4 d ∗ BI.emp)
  iintro H
  isplitl [H]; · iexact H
  iempintro
/-- The copy to the own result at stage 0. -/
theorem cL0 : iprop(atPos ER (cell c (96 + d)) 0 ∅ 0 ∗ dutyTok ER (cell c (96 + d)) 0 0 ∗ PO c (1024 * qu c + ofs d) (sz d) (fun _ _ => True)) ⊢ cL I c d 0 := by
  show _ ⊢ iprop(atPos ER (cell c (96 + d)) 0 ∅ 0 ∗ BI.emp ∗ (dutyTok ER (cell c (96 + d)) 0 0 ∗ PO c (1024 * qu c + ofs d) (sz d) (fun _ _ => True)))
  iintro ⟨H, H'⟩
  isplitl [H]; · iexact H
  isplitr; · iempintro
  iexact H'
/-- The chunk to be sent across `x` at stage 0. -/
theorem cX0 : iprop(at0 c 0 d ∗ XX c d) ⊢ cX I c d 0 := by
  show _ ⊢ iprop(PX c d (sz d) (128 - sz d) fullShare (fun _ _ => True) ∗ at0 c 0 d ∗ PX c d 0 (sz d) fullShare (fun _ _ => True))
  iintro ⟨H, H1, H2⟩
  isplitl [H1]; · iexact H1
  isplitl [H] <;> iassumption
/-- The chunk to come from across `x` at stage 0. -/
theorem cR0 : iprop(at0 c 1 d ∗ crd c 1 d (sz d) ∗ dutyTok ER (cell c 95) d 0) ⊢ cR I c d 0 := .rfl
/-- The chunk's sum at stage 0. -/
theorem cS0 : SS c d ⊢ (cS c d 0 : sProp 𝕄) := .rfl
/-- What comes from across `y` and is sent on, at stage 0. -/
theorem cU0 : iprop(at0 c 3 d ∗ at0 c 6 d ∗ crd c 3 d (sz d)) ⊢ cU I c d 0 := .rfl
/-- What comes from across `z` and is sent on, at stage 0. -/
theorem cV0 : iprop(at0 c 5 d ∗ at0 c 8 d ∗ crd c 5 d (sz d)) ⊢ cV I c d 0 := .rfl
/-- The second half of the chunk from diagonally across, at stage 0. -/
theorem cF0 : iprop(at0 c 7 d ∗ crd c 7 d (sz d / 2)) ⊢ cF I c d 0 := .rfl
/-- The first half of the chunk from diagonally across, at stage 0. -/
theorem cG0 : iprop(at0 c 9 d ∗ crd c 9 d (sz d / 2)) ⊢ cG I c d 0 := .rfl

/-- The own rows of the result, of one chunk. -/
def OO : sProp 𝕄 := PO c (1024 * qu c + ofs d) (sz d) fun _ _ => True

/-- One chunk at its first stage. -/
theorem Chp_of : iprop(Eleven (At c fun _ => 0) d ∗ TkC c d ∗ CrC c d ∗ XX c d ∗ SS c d ∗ OO c d) ⊢ Chp I c d := by
  have hE : Eleven (At c fun _ => 0) d ⊢ (iprop(at0 c 0 d ∗ at0 c 1 d ∗ at0 c 2 d ∗ at0 c 3 d ∗ at0 c 4 d ∗ at0 c 5 d ∗ at0 c 6 d ∗ at0 c 7 d ∗ at0 c 8 d ∗ at0 c 9 d
    ∗ atPos ER (cell c (96 + d)) 0 ∅ 0) : sProp 𝕄) := .rfl
  have hT : (TkC c d : sProp 𝕄) ⊢ iprop(dutyTok ER (cell c 95) d 0 ∗ tk c 0 d ∗ tk (xp c) 1 d ∗ tk c 2 d ∗ tk (yp c) 3 d ∗ tk c 4 d ∗ tk (zp c) 5 d ∗ tk c 6 d
    ∗ tk (zp c) 7 d ∗ tk c 8 d ∗ tk (yp c) 9 d ∗ dutyTok ER (cell c (96 + d)) 0 0) := .rfl
  have hC : (CrC c d : sProp 𝕄) ⊢ iprop(crd c 1 d (sz d) ∗ crd c 3 d (sz d) ∗ crd c 5 d (sz d) ∗ crd c 7 d (sz d / 2) ∗ crd c 9 d (sz d / 2)) := .rfl
  have hO : (OO c d : sProp 𝕄) ⊢ PO c (1024 * qu c + ofs d) (sz d) (fun _ _ => True) := .rfl
  iintro ⟨HE, HT, HC, HX, HS, HO⟩
  ihave HE := hE $$ HE
  icases HE with ⟨A0, A1, A2, A3, A4, A5, A6, A7, A8, A9, AL⟩
  ihave HT := hT $$ HT
  icases HT with ⟨T5, T0, T1, T2, T3, T4, Tz, T6, T7, T8, T9, TL⟩
  ihave HC := hC $$ HC
  icases HC with ⟨C1, C3, C5, C7, C9⟩
  ihave HO := hO $$ HO
  unfold Chp
  isplitl [A0 HX]
  · iapply cX0; isplitl [A0] <;> iassumption
  isplitl [T0 T1]; · isplitl [T0] <;> iassumption
  isplitl [A7 C7]
  · iapply cF0; isplitl [A7] <;> iassumption
  isplitl [A1 C1 T5]
  · iapply cR0
    isplitl [A1]; · iexact A1
    isplitl [C1] <;> iassumption
  isplitl [HS A2 T2 T3 A4 T4 Tz AL TL HO]
  · isplitl [HS]; · iapply cS0; iexact HS
    isplitl [A2]; · iapply cY0; iexact A2
    isplitl [T2 T3]; · isplitl [T2] <;> iassumption
    isplitl [A4]; · iapply cZ0; iexact A4
    isplitl [T4 Tz]; · isplitl [T4] <;> iassumption
    iapply cL0
    isplitl [AL]; · iexact AL
    isplitl [TL] <;> iassumption
  isplitl [A3 A6 C3 T6 T7]
  · isplitl [A3 A6 C3]
    · iapply cU0
      isplitl [A3]; · iexact A3
      isplitl [A6] <;> iassumption
    isplitl [T6] <;> iassumption
  isplitl [A5 A8 C5 T8 T9]
  · isplitl [A5 A8 C5]
    · iapply cV0
      isplitl [A5]; · iexact A5
      isplitl [A8] <;> iassumption
    isplitl [T8] <;> iassumption
  iapply cG0
  isplitl [A9] <;> iassumption

end Chunk

/-- What a device starts with makes up every chunk, but for the neighbours' rows. -/
theorem Chp9_of : iprop(bigSep (Finset.range 9) (Eleven (At c fun _ => 0)) ∗ bigSep (Finset.range 9) (TkC c) ∗ bigSep (Finset.range 9) (CrC c) ∗ bigSep (Finset.range 9) (XX c)
    ∗ bigSep (Finset.range 9) (SS c) ∗ bigSep (Finset.range 9) (OO c)) ⊢ bigSep (Finset.range 9) (Chp I c) := by
  rw [← two9, ← two9, ← two9, ← two9, ← two9]
  exact bigSep_mono fun d _ => Chp_of I c d

/-- The rows the neighbours are handed. -/
theorem Giv_of : (Outs0 c : sProp 𝕄) ⊢ iprop(bigSep (Finset.range 9) (OO c) ∗ bigSep (Finset.range 9) (Giv c)) := by
  have hC : (PG (lCx c) Finset.univ fullShare (fun _ _ => True) : sProp 𝕄) ⊢ bigSep (Finset.range 9) (FX c) := cx_cut c _
  have hO : (PG (lOut c) Finset.univ fullShare (fun _ _ => True) : sProp 𝕄) ⊢ iprop(bigSep (Finset.range 9) (OO c) ∗ bigSep (Finset.range 9) (FO c (qu (yp c)))
    ∗ bigSep (Finset.range 9) (FO c (qu (zp c))) ∗ bigSep (Finset.range 9) (FO c (qu (yp (zp c))))) := out_cut c _
  have hH : bigSep (Finset.range 9) (FO c (qu (yp (zp c)))) ⊢ (iprop(bigSep (Finset.range 9) (FA c (qu (yp (zp c)))) ∗ bigSep (Finset.range 9) (FB c (qu (yp (zp c))))) : sProp 𝕄) := by
    rw [← two9]
    exact bigSep_mono fun d _ => half_cut c (fun _ _ => True) (1024 * qu (yp (zp c)) + ofs d) d
  have hG : (iprop(bigSep (Finset.range 9) (FX c) ∗ bigSep (Finset.range 9) (FO c (qu (yp c))) ∗ bigSep (Finset.range 9) (FA c (qu (yp (zp c))))
    ∗ bigSep (Finset.range 9) (FO c (qu (zp c))) ∗ bigSep (Finset.range 9) (FB c (qu (yp (zp c))))) : sProp 𝕄) ⊢ bigSep (Finset.range 9) (Giv c) := Entails.of_eq (five9 _ _ _ _ _).symm
  unfold Outs0
  iintro ⟨H1, H2⟩
  ihave H1 := hC $$ H1
  ihave H2 := hO $$ H2
  icases H2 with ⟨H2, H3, H4, H5⟩
  ihave H5 := hH $$ H5
  icases H5 with ⟨H5, H6⟩
  isplitl [H2]; · iexact H2
  iapply hG
  isplitl [H1]; · iexact H1
  isplitl [H3]; · iexact H3
  isplitl [H5]; · iexact H5
  isplitl [H4] <;> iassumption

/-- The mask is its own quarter's rows and the rest. -/
theorem mf_cut : (lMf c ↦[Finset.univ]{fullShare} I.mf c : sProp 𝕄) ⊢ iprop(Mr I c ∗ MfR I c) := by
  have h1 : (lMf c ↦[Finset.univ]{fullShare} I.mf c : sProp 𝕄) ⊢ PG (lMf c) Finset.univ fullShare fun i v => v = I.mf c i := PG_intro _ fun _ _ => rfl
  exact h1.trans (PG_split_eq (Finset.union_sdiff_of_subset (Finset.subset_univ _)).symm Finset.disjoint_sdiff)
/-- The own quarter's rows and the rest are the mask. -/
theorem mf_mend : iprop(Mr I c ∗ MfR I c) ⊢ (lMf c ↦[Finset.univ]{fullShare} I.mf c : sProp 𝕄) := by
  have h1 : iprop(Mr I c ∗ MfR I c) ⊢ (PG (lMf c) Finset.univ fullShare fun i v => v = I.mf c i : sProp 𝕄) :=
    PG_join_eq (Finset.union_sdiff_of_subset (Finset.subset_univ _)).symm Finset.disjoint_sdiff
  refine h1.trans (PG_open.trans ?_)
  iintro ⟨%f, H, %hf⟩
  obtain rfl : f = I.mf c := funext fun i => hf i (Finset.mem_univ i)
  iexact H

/-- The table is shared between the two gathering slots. -/
theorem e_cut : (lE c ↦[Finset.univ]{fullShare} I.E c : sProp 𝕄) ⊢ iprop((lE c ↦[Finset.univ]{esh 0} I.E c) ∗ (lE c ↦[Finset.univ]{esh 1} I.E c)) :=
  (pointsTo_share (PosShare.mem_left_op_right _)).1
/-- The two slots' shares are the table. -/
theorem e_mend : iprop((lE c ↦[Finset.univ]{esh 0} I.E c) ∗ (lE c ↦[Finset.univ]{esh 1} I.E c)) ⊢ (lE c ↦[Finset.univ]{fullShare} I.E c : sProp 𝕄) :=
  (pointsTo_share (PosShare.mem_left_op_right _)).2

/-- The gathering slots when both are free, written out. -/
theorem Gs_eq : Gs I c [.free, .free] = iprop(SM I c ∗ (PGv c 0 0 128 (fun _ _ => True) ∗ sv c 0 ∗ (lE c ↦[Finset.univ]{esh 0} I.E c))
    ∗ (PGv c 1 0 128 (fun _ _ => True) ∗ sv c 1 ∗ (lE c ↦[Finset.univ]{esh 1} I.E c))) := by
  unfold Gs
  rw [range2]
  rfl

/-- What the gathering needs makes up two free slots. -/
theorem Gs_of : iprop(SM I c ∗ PG (lG c) Finset.univ fullShare (fun _ _ => True) ∗ Svs c ∗ (lE c ↦[Finset.univ]{fullShare} I.E c)) ⊢ Gs I c [.free, .free] := by
  rw [Gs_eq]
  unfold Svs
  iintro ⟨H0, HG, ⟨S0, S1⟩, HE⟩
  ihave HG := (g_cut c) $$ HG
  icases HG with ⟨G0, G1⟩
  ihave HE := (e_cut I c) $$ HE
  icases HE with ⟨E0, E1⟩
  isplitl [H0]; · iexact H0
  isplitl [G0 S0 E0]
  · isplitl [G0]; · iexact G0
    isplitl [S0] <;> iassumption
  isplitl [G1]; · iexact G1
  isplitl [S1] <;> iassumption
/-- Two free slots give back what the gathering needed. -/
theorem Gs_end : Gs I c [.free, .free] ⊢ iprop(SM I c ∗ PG (lG c) Finset.univ fullShare (fun _ _ => True) ∗ Svs c ∗ (lE c ↦[Finset.univ]{fullShare} I.E c)) := by
  rw [Gs_eq]
  unfold Svs
  iintro ⟨H0, ⟨G0, S0, E0⟩, ⟨G1, S1, E1⟩⟩
  isplitl [H0]; · iexact H0
  isplitl [G0 G1]
  · iapply (g_mend c)
    isplitl [G0] <;> iassumption
  isplitl [S0 S1]; · isplitl [S0] <;> iassumption
  iapply (e_mend I c)
  isplitl [E0] <;> iassumption

/-- What the received rows need makes up their state at the start. -/
theorem Bst0_of : iprop(atPos ER (cell c 95) 0 ∅ 0 ∗ reached ER (cell c 95) 0 ∗ PG (lB c) Finset.univ fullShare (fun _ _ => True)) ⊢ (Bst c 0 2 : sProp 𝕄) := by
  have h : iprop(atPos ER (cell c 95) 0 ∅ 0 ∗ reached ER (cell c 95) 0 ∗ PB c 0 0 128 (fun _ _ => True) ∗ PB c 1 0 128 (fun _ _ => True)) ⊢ (Bst c 0 2 : sProp 𝕄) := .rfl
  iintro ⟨H1, H2, H3⟩
  ihave H3 := (b_cut c) $$ H3
  iapply h
  isplitl [H1]; · iexact H1
  isplitl [H2]; · iexact H2
  iexact H3

/-- A token, its payload and the barrier make up a signal to be sent. -/
theorem Sg_of (c' : Dev nD) (u : Fin 3) : iprop(bt u c' ∗ barPay c' u ∗ (rBar : sProp 𝕄)) ⊢ Sg c' u := by
  have h : (rBar : sProp 𝕄) ⊢ reached ER (barC c') 0 := bigSep_elim (Finset.mem_univ c')
  have hb : (bt u c' : sProp 𝕄) ⊢ dutyTok ER (barC c') 0 u := .rfl
  unfold Sg
  iintro ⟨H1, H2, H3⟩
  ihave H1 := hb $$ H1
  isplitl [H1]; · iexact H1
  isplitl [H2]; · iexact H2
  iapply h; iexact H3

instance rBar_persistent : BI.Persistent (rBar : sProp 𝕄) := by unfold rBar; infer_instance
instance rch_pers : BI.Persistent (rch c : sProp 𝕄) := by unfold rch; infer_instance

/-- A device's positions, chunk by chunk. -/
theorem at_chunks (r : ℕ → ℕ) : bigSep DC (At c r) = (iprop(At c r 94 ∗ At c r 95 ∗ bigSep (Finset.range 9) (Eleven (At c r))) : sProp 𝕄) := by_chunk _

/-- What a device starts with makes up its three signals. -/
theorem Sgs_of : iprop((bt 0 (xp c) ∗ bt 1 (yp c) ∗ bt 2 (zp c)) ∗ (rBar : sProp 𝕄) ∗ rch c ∗ bigSep (Finset.range 9) (Giv c)) ⊢ iprop(Sg (xp c) 0 ∗ Sg (yp c) 1 ∗ Sg (zp c) 2) := by
  iintro ⟨⟨T0, T1, T2⟩, #Hr, Hc, HG⟩
  ihave HP := (giv c) $$ [Hc HG]
  · isplitl [Hc] <;> iassumption
  icases HP with ⟨P0, P1, P2⟩
  isplitl [T0 P0]
  · iapply Sg_of
    isplitl [T0]; · iexact T0
    isplitl [P0]; · iexact P0
    iexact Hr
  isplitl [T1 P1]
  · iapply Sg_of
    isplitl [T1]; · iexact T1
    isplitl [P1]; · iexact P1
    iexact Hr
  iapply Sg_of
  isplitl [T2]; · iexact T2
  isplitl [P2]; · iexact P2
  iexact Hr

/-- What the kernel starts with is what its first steps use. -/
theorem enter : iprop(Opd I K c ∗ Ws c (O₀ c) ∗ Mem0 I c ∗ Scr c) ⊢ iprop(Gs I c [.free, .free] ∗ Ent I K c ∗ MfR I c) := by
  have hO : Opd I K c ⊢ iprop(C0 I K ∗ rBar ∗ aB c ∗ bigSep DC (At c fun _ => 0) ∗ rch c ∗ Tok c
    ∗ (cred (tallyAt (barC c) () 3) ∗ bigSep (Finset.range 9) (CrC c)) ∗ Svs c ∗ Outs0 c) := .rfl
  have hM : Mem0 I c ⊢ iprop(SM I c ∗ (lMf c ↦[Finset.univ]{fullShare} I.mf c) ∗ (lE c ↦[Finset.univ]{fullShare} I.E c)) := .rfl
  have hS : (Scr c : sProp 𝕄) ⊢ iprop(PG (lG c) Finset.univ fullShare (fun _ _ => True) ∗ PG (lX c) Finset.univ fullShare (fun _ _ => True) ∗ PG (lM c) Finset.univ fullShare (fun _ _ => True)
    ∗ PG (lB c) Finset.univ fullShare (fun _ _ => True) ∗ PG (lS c) Finset.univ fullShare (fun _ _ => True)) := .rfl
  have hT : (Tok c : sProp 𝕄) ⊢ iprop((bt 0 (xp c) ∗ bt 1 (yp c) ∗ bt 2 (zp c)) ∗ mt c ∗ bigSep (Finset.range 9) (TkC c)) := .rfl
  have hA : bigSep DC (At c fun _ => 0) ⊢ (iprop(atPos ER (cell c 94) 0 ∅ 0 ∗ atPos ER (cell c 95) 0 ∅ 0 ∗ bigSep (Finset.range 9) (Eleven (At c fun _ => 0))) : sProp 𝕄) :=
    Entails.of_eq (at_chunks c fun _ => 0)
  have hW : (Ws c (O₀ c) : sProp 𝕄) ⊢ Ws c (owed c ks0 + tallyAt (barC (zp c)) () 1 + tallyAt (barC (yp c)) () 1 + tallyAt (barC (xp c)) () 1) := .rfl
  have hm : (iprop(atPos ER (cell c 94) 0 ∅ 0 ∗ mt c ∗ reached ER (cell c 94) 0 ∗ Mr I c ∗ PG (lM c) Finset.univ fullShare (fun _ _ => True)) : sProp 𝕄) ⊢ M0 I c := .rfl
  have hB : (iprop(aB c ∗ cred (tallyAt (barC c) () 3)) : sProp 𝕄) ⊢ B0 c := .rfl
  have hR : iprop(rch c ∗ bigSep (Finset.range 9) (Chp I c) ∗ Bst c 0 2) ⊢ Rs I c := .rfl
  iintro ⟨HO, HW, HM, HS⟩
  ihave HO := hO $$ HO
  icases HO with ⟨HC, Hr, HaB, HA, #Hch, HT, ⟨HcB, Hcr⟩, Hsv, Hout⟩
  ihave HM := hM $$ HM
  icases HM with ⟨HSM, Hmf, HE⟩
  ihave HS := hS $$ HS
  icases HS with ⟨HG, HX, HM, HB, HS⟩
  ihave HT := hT $$ HT
  icases HT with ⟨Hbt, Hmt, HTk⟩
  ihave HA := hA $$ HA
  icases HA with ⟨H94, H95, HA⟩
  ihave Hout := (Giv_of c) $$ Hout
  icases Hout with ⟨HOO, HGiv⟩
  ihave Hmf := (mf_cut I c) $$ Hmf
  icases Hmf with ⟨Hmr, HmR⟩
  ihave HX := (x_cut c) $$ HX
  ihave HS := (s_cut c) $$ HS
  ihave #h94 := (rch_cell c (mem_DC (n := 94) (by decide))) $$ Hch
  ihave #h95 := (rch_cell c (mem_DC (n := 95) (by decide))) $$ Hch
  isplitl [HSM HG Hsv HE]
  · iapply Gs_of
    isplitl [HSM]; · iexact HSM
    isplitl [HG]; · iexact HG
    isplitl [Hsv] <;> iassumption
  isplitr [HmR]
  · ihave HSg := (Sgs_of c) $$ [Hbt Hr HGiv]
    · isplitl [Hbt]; · iexact Hbt
      isplitl [Hr]; · iexact Hr
      isplitr; · iexact Hch
      iexact HGiv
    icases HSg with ⟨S0, S1, S2⟩
    unfold Ent
    isplitl [HC]; · iexact HC
    isplitl [HW]; · iapply hW; iexact HW
    isplitl [S0]; · iexact S0
    isplitl [S1]; · iexact S1
    isplitl [S2]; · iexact S2
    isplitl [HaB HcB]
    · iapply hB
      isplitl [HaB] <;> iassumption
    isplitl [HA HTk Hcr HX HS HOO H95 HB]
    · iapply hR
      isplitr; · iexact Hch
      isplitr [H95 HB]
      · iapply Chp9_of
        isplitl [HA]; · iexact HA
        isplitl [HTk]; · iexact HTk
        isplitl [Hcr]; · iexact Hcr
        isplitl [HX]; · iexact HX
        isplitl [HS] <;> iassumption
      iapply Bst0_of
      isplitl [H95]; · iexact H95
      isplitr; · iexact h95
      iexact HB
    iapply hm
    isplitl [H94]; · iexact H94
    isplitl [Hmt]; · iexact Hmt
    isplitr; · iexact h94
    isplitl [Hmr] <;> iassumption
  iexact HmR

end Cert.K
-- ==== Proof.Exit.lean ====
/-
  From where the kernel ends to what the device hands back: buffers whole, cells closed, the result as stated.
-/
module

public import proofs.«01_k».proof.Proof.Entry

@[expose] public section

set_option maxRecDepth 16384

noncomputable section

namespace Cert.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open PCS URA

variable {F : FTy → Type} [FloatOps F]

local notation "𝕄" => MT nD τ sig Unit (Elt F) ℕ UU ℕ

variable (I : Ins F) (K : GSem nD τ sig → ℕ) (c : Dev nD)

section Chunk

variable (d : ℕ)

/-- The two shares of the chunk sent are the whole of it. -/
theorem x_whole : iprop(PX c d 0 (sz d) shL (pX I c d) ∗ PX c d 0 (sz d) shR (pX I c d)) ⊢ PX c d 0 (sz d) fullShare (fun _ _ => True) :=
  (PG_unshare (PosShare.mem_left_op_right _)).trans PG_any
/-- The shares of the sum lent to the copies across `y` and `z` are its right half. -/
theorem s_right : iprop(PS c d 0 (sz d) shY (pS I c d) ∗ PS c d 0 (sz d) shZ (pS I c d)) ⊢ PS c d 0 (sz d) fullShare.right (pS I c d) :=
  PG_unshare (PosShare.mem_left_op_right _)
/-- The halves of the sum's share are the whole of it. -/
theorem s_whole : iprop(PS c d 0 (sz d) shL (pS I c d) ∗ PS c d 0 (sz d) fullShare.right (pS I c d)) ⊢ PS c d 0 (sz d) fullShare (fun _ _ => True) :=
  (PG_unshare (PosShare.mem_left_op_right _)).trans PG_any

/-- The chunk sent across `x` at the last stage. -/
theorem cX21 : cX I c d 21 ⊢ iprop(PX c d (sz d) (128 - sz d) fullShare (fun _ _ => True) ∗ at1 c 0 d ∗ PX c d 0 (sz d) shR (pX I c d) ∗ PX c d 0 (sz d) shL (pX I c d)) := .rfl
/-- The chunk that came from across `x` at the last stage. -/
theorem cR21 : cR I c d 21 ⊢ iprop(at1 c 1 d ∗ PC c (ofs d) (sz d) (pC I c) ∗ BI.emp) := .rfl
/-- The chunk's sum at the last stage. -/
theorem cS21 : (cS c d 21 : sProp 𝕄) ⊢ iprop(PS c d (sz d) (128 - sz d) fullShare (fun _ _ => True) ∗ BI.emp) := .rfl
/-- The copy across `y` at the last stage. -/
theorem cY21 : cY I c d 21 ⊢ iprop(at1 c 2 d ∗ PS c d 0 (sz d) shY (pS I c d)) := .rfl
/-- The copy across `z` at the last stage. -/
theorem cZ21 : cZ I c d 21 ⊢ iprop(at1 c 4 d ∗ PS c d 0 (sz d) shZ (pS I c d)) := .rfl
/-- The copy to the own result at the last stage: the chunk's rows are there. -/
theorem cL21 : cL I c d 21 ⊢ iprop(atPos ER (cell c (96 + d)) 1 ∅ 0 ∗ (PO c (1024 * qu c + ofs d) (sz d) (pO I c) ∗ PS c d 0 (sz d) shL (pS I c d)) ∗ BI.emp) := .rfl
/-- What came from across `y` at the last stage: the rows are there. -/
theorem cU21 : cU I c d 21 ⊢ iprop(at1 c 3 d ∗ at1 c 6 d ∗ PO c (1024 * qu (yp c) + ofs d) (sz d / 2) (pO I c) ∗ PO c (1024 * qu (yp c) + ofs d + sz d / 2) (sz d / 2) (pO I c)) := .rfl
/-- What came from across `z` at the last stage: the rows are there. -/
theorem cV21 : cV I c d 21 ⊢ iprop(at1 c 5 d ∗ at1 c 8 d ∗ PO c (1024 * qu (zp c) + ofs d + sz d / 2) (sz d / 2) (pO I c) ∗ PO c (1024 * qu (zp c) + ofs d) (sz d / 2) (pO I c)) := .rfl
/-- The second half of the chunk from diagonally across, at the last stage: the rows are there. -/
theorem cF21 : cF I c d 21 ⊢ iprop(at1 c 7 d ∗ PO c (1024 * qu (yp (zp c)) + ofs d + sz d / 2) (sz d / 2) (pO I c)) := .rfl
/-- The first half of the chunk from diagonally across, at the last stage: the rows are there. -/
theorem cG21 : cG I c d 21 ⊢ iprop(at1 c 9 d ∗ PO c (1024 * qu (yp (zp c)) + ofs d) (sz d / 2) (pO I c)) := .rfl

/-- A chunk's rows of a quarter of the result, as they are to be. -/
def QQ (p : ℕ) : sProp 𝕄 := PO c (1024 * p + ofs d) (sz d) (pO I c)

/-- A chunk's two halves are the chunk. -/
theorem qq (p : ℕ) : iprop(PO c (1024 * p + ofs d) (sz d / 2) (pO I c) ∗ PO c (1024 * p + ofs d + sz d / 2) (sz d / 2) (pO I c)) ⊢ QQ I c d p := half_mend c _ _ d

/-- Each semaphore of the exchange ends after one round. -/
theorem endR_ix {k : ℕ} (hk : k < 10) (hd : d < 9) : endR (ix k d) = 1 := by unfold endR ix; rw [if_neg (by omega)]
/-- Each semaphore for the own result ends after one round. -/
theorem endR_l : endR (96 + d) = 1 := by unfold endR; rw [if_neg (by omega)]

/-- The positions of a chunk's semaphores at the end. -/
theorem at_end (hd : d < 9) : iprop(at1 c 0 d ∗ at1 c 1 d ∗ at1 c 2 d ∗ at1 c 3 d ∗ at1 c 4 d ∗ at1 c 5 d ∗ at1 c 6 d ∗ at1 c 7 d ∗ at1 c 8 d ∗ at1 c 9 d
    ∗ atPos ER (cell c (96 + d)) 1 ∅ 0) ⊢ (Eleven (At c endR) d : sProp 𝕄) := by
  unfold Eleven At
  rw [endR_ix d (k := 0) (by decide) hd, endR_ix d (k := 1) (by decide) hd, endR_ix d (k := 2) (by decide) hd, endR_ix d (k := 3) (by decide) hd, endR_ix d (k := 4) (by decide) hd,
    endR_ix d (k := 5) (by decide) hd, endR_ix d (k := 6) (by decide) hd, endR_ix d (k := 7) (by decide) hd, endR_ix d (k := 8) (by decide) hd, endR_ix d (k := 9) (by decide) hd, endR_l]

/-- The rows received need not be known any more. -/
theorem c_any : PC c (ofs d) (sz d) (pC I c) ⊢ (FX c d : sProp 𝕄) := PG_any

/-- A chunk at its last stage: its four pieces of the result, the buffers and the semaphores' positions. -/
theorem Ch_end (hd : d < 9) : Ch I c d 21 ⊢ iprop(Eleven (At c endR) d ∗ XX c d ∗ SS c d ∗ FX c d ∗ QQ I c d (qu c) ∗ QQ I c d (qu (yp c)) ∗ QQ I c d (qu (zp c)) ∗ QQ I c d (qu (yp (zp c)))) := by
  have h : Ch I c d 21 ⊢ iprop((cX I c d 21 ∗ cX' c d 21) ∗ cF I c d 21 ∗ (cR I c d 21 ∗ (cS c d 21 ∗ cY I c d 21 ∗ cY' c d 21 ∗ cZ I c d 21 ∗ cZ' c d 21 ∗ cL I c d 21))
    ∗ (cU I c d 21 ∗ cU' c d 21) ∗ (cV I c d 21 ∗ cV' c d 21) ∗ cG I c d 21) := Entails.of_eq (Ch_eq I c d 21)
  iintro H
  ihave H := h $$ H
  icases H with ⟨⟨HX, -⟩, HF, ⟨HR, ⟨HS, HY, -, HZ, -, HL⟩⟩, ⟨HU, -⟩, ⟨HV, -⟩, HG⟩
  ihave HX := (cX21 I c d) $$ HX
  icases HX with ⟨X1, A0, X2, X3⟩
  ihave HF := (cF21 I c d) $$ HF
  icases HF with ⟨A7, F1⟩
  ihave HR := (cR21 I c d) $$ HR
  icases HR with ⟨A1, R1, -⟩
  ihave HS := (cS21 c d) $$ HS
  icases HS with ⟨S1, -⟩
  ihave HY := (cY21 I c d) $$ HY
  icases HY with ⟨A2, S2⟩
  ihave HZ := (cZ21 I c d) $$ HZ
  icases HZ with ⟨A4, S3⟩
  ihave HL := (cL21 I c d) $$ HL
  icases HL with ⟨AL, ⟨O1, S4⟩, -⟩
  ihave HU := (cU21 I c d) $$ HU
  icases HU with ⟨A3, A6, U1, U2⟩
  ihave HV := (cV21 I c d) $$ HV
  icases HV with ⟨A5, A8, V2, V1⟩
  ihave HG := (cG21 I c d) $$ HG
  icases HG with ⟨A9, G1⟩
  isplitl [A0 A1 A2 A3 A4 A5 A6 A7 A8 A9 AL]
  · iapply (at_end c d hd)
    isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    iexact AL
  isplitl [X1 X2 X3]
  · isplitl [X1]; · iexact X1
    iapply (x_whole I c d)
    isplitl [X3] <;> iassumption
  isplitl [S1 S2 S3 S4]
  · isplitl [S1]; · iexact S1
    iapply (s_whole I c d)
    isplitl [S4]; · iexact S4
    iapply (s_right I c d)
    isplitl [S2] <;> iassumption
  isplitl [R1]; · iapply (c_any I c d); iexact R1
  isplitl [O1]; · iapply (show PO c (1024 * qu c + ofs d) (sz d) (pO I c) ⊢ QQ I c d (qu c) from .rfl); iexact O1
  isplitl [U1 U2]
  · iapply (qq I c d)
    isplitl [U1] <;> iassumption
  isplitl [V1 V2]
  · iapply (qq I c d)
    isplitl [V1] <;> iassumption
  iapply (qq I c d)
  isplitl [G1] <;> iassumption

end Chunk

abbrev ks21 : List ℕ := [21,21,21,21,21,21,21,21,21]

/-- All chunks at their last stage. -/
theorem Chs_end : Chs I c ks21 ⊢ iprop(bigSep (Finset.range 9) (Eleven (At c endR)) ∗ bigSep (Finset.range 9) (XX c) ∗ bigSep (Finset.range 9) (SS c) ∗ bigSep (Finset.range 9) (FX c)
    ∗ bigSep (Finset.range 9) (fun d => QQ I c d (qu c)) ∗ bigSep (Finset.range 9) (fun d => QQ I c d (qu (yp c))) ∗ bigSep (Finset.range 9) (fun d => QQ I c d (qu (zp c)))
    ∗ bigSep (Finset.range 9) (fun d => QQ I c d (qu (yp (zp c))))) := by
  rw [← two9, ← two9, ← two9, ← two9, ← two9, ← two9, ← two9]
  refine bigSep_mono fun d hd => ?_
  have hd := Finset.mem_range.mp hd
  have : ks21.getD d 0 = 21 := by interval_cases d <;> rfl
  rw [this]
  exact Ch_end I c d hd

/-- The four quarters, chunk by chunk, are the whole result. -/
theorem out_whole : iprop(bigSep (Finset.range 9) (fun d => QQ I c d (qu c)) ∗ bigSep (Finset.range 9) (fun d => QQ I c d (qu (yp c))) ∗ bigSep (Finset.range 9) (fun d => QQ I c d (qu (zp c)))
    ∗ bigSep (Finset.range 9) (fun d => QQ I c d (qu (yp (zp c))))) ⊢ PG (lOut c) Finset.univ fullShare (pO I c) := out_mend c (pO I c)
/-- The chunks received are the whole landing buffer. -/
theorem cx_whole : bigSep (Finset.range 9) (FX c) ⊢ (PG (lCx c) Finset.univ fullShare (fun _ _ => True) : sProp 𝕄) := cx_mend c (fun _ _ => True)

/-- At the end nothing is owed. -/
theorem owed_end : (owed c ks21) = 0 := by
  unfold owed
  refine Finset.sum_eq_zero fun d hd => ?_
  have hd := Finset.mem_range.mp hd
  have : ks21.getD d 0 = 21 := by interval_cases d <;> rfl
  rw [this]
  unfold owedC
  rw [if_neg (by decide), if_neg (by decide), if_neg (by decide), if_neg (by decide), if_neg (by decide)]
  simp only [add_zero]

/-- The landing buffer and the result at the end. -/
def Outs1 : sProp 𝕄 := iprop(PG (lCx c) Finset.univ fullShare (fun _ _ => True) ∗ PG (lOut c) Finset.univ fullShare (pO I c))

/-- What the kernel hands back. -/
def Fin1 : sProp 𝕄 := iprop(Ws c 0 ∗ Mem0 I c ∗ Scr c ∗ Outs1 I c ∗ Svs c ∗ (bigSep DC fun n => semVal (cell c n) 0) ∗ semVal (barC c) 0)

/-- The body's last state gives back all that the launch expects, with the result as it should be. -/
theorem leave : St I K c ks21 9 2 iprop(Gs I c [.free, .free] ∗ Lft I c ∗ MfR I c) ⊢ (|={Set.univ}=> Fin1 I c : sProp 𝕄) := by
  have hS : St I K c ks21 9 2 iprop(Gs I c [.free, .free] ∗ Lft I c ∗ MfR I c) ⊢ iprop(Ctx I K c ∗ Chs I c ks21 ∗ Ow c ks21 ∗ Bst c 9 2 ∗ Mst I c ∗ Gs I c [.free, .free] ∗ Lft I c ∗ MfR I c) := .rfl
  have hC : Ctx I K c ⊢ iprop(levAts L lv ∗ Inv I K ∗ rch c ∗ rch (xp c) ∗ rch (yp c) ∗ rch (zp c)) := .rfl
  have hB : (Bst c 9 2 : sProp 𝕄) ⊢ iprop(atPos ER (cell c 95) 9 ∅ 0 ∗ reached ER (cell c 95) 9 ∗ PB c 0 0 128 (fun _ _ => True) ∗ PB c 1 0 128 (fun _ _ => True)) := .rfl
  have hL : Lft I c ⊢ iprop(atPos ER (cell c 94) 1 ∅ 0 ∗ atPos ER (barC c) 1 ∅ 0 ∗ Mr I c) := .rfl
  have hO : (Ow c ks21 : sProp 𝕄) ⊢ Ws c 0 := by unfold Ow; rw [owed_end]; exact .rfl
  have hm : Mst I c ⊢ PG (lM c) Finset.univ fullShare (fun _ _ => True) := PG_any
  have hA : (iprop(atPos ER (cell c 94) 1 ∅ 0 ∗ atPos ER (cell c 95) 9 ∅ 0 ∗ bigSep (Finset.range 9) (Eleven (At c endR))) : sProp 𝕄) ⊢ bigSep DC fun n => atPos ER (cell c n) (endR n) ∅ 0 :=
    Entails.of_eq (at_chunks c endR).symm
  have hQ : iprop(Ws c 0 ∗ (SM I c ∗ (lMf c ↦[Finset.univ]{fullShare} I.mf c) ∗ (lE c ↦[Finset.univ]{fullShare} I.E c))
    ∗ (PG (lG c) Finset.univ fullShare (fun _ _ => True) ∗ PG (lX c) Finset.univ fullShare (fun _ _ => True) ∗ PG (lM c) Finset.univ fullShare (fun _ _ => True)
      ∗ PG (lB c) Finset.univ fullShare (fun _ _ => True) ∗ PG (lS c) Finset.univ fullShare (fun _ _ => True))
    ∗ (PG (lCx c) Finset.univ fullShare (fun _ _ => True) ∗ PG (lOut c) Finset.univ fullShare (pO I c)) ∗ Svs c ∗ (bigSep DC fun n => semVal (cell c n) 0) ∗ semVal (barC c) 0) ⊢ Fin1 I c := .rfl
  iintro H
  ihave H := hS $$ H
  icases H with ⟨HC, HCh, HO, HB, HM, HG, HL, HmR⟩
  ihave HC := hC $$ HC
  icases HC with ⟨-, #HI, -⟩
  ihave HCh := (Chs_end I c) $$ HCh
  icases HCh with ⟨HA, HX, HS, HF, HQ⟩
  ihave HB := hB $$ HB
  icases HB with ⟨H95, -, HB⟩
  ihave HB := (b_mend c) $$ HB
  ihave HL := hL $$ HL
  icases HL with ⟨H94, Hbar, Hmr⟩
  ihave HO := hO $$ HO
  ihave HM := hm $$ HM
  ihave HA := hA $$ [H94 H95 HA]
  · isplitl [H94]; · iexact H94
    isplitl [H95] <;> iassumption
  ihave HX := (x_mend c) $$ HX
  ihave HS := (s_mend c) $$ HS
  ihave HF := (cx_whole c) $$ HF
  ihave HQ := (out_whole I c) $$ HQ
  ihave HG := (Gs_end I c) $$ HG
  icases HG with ⟨HSM, HG, Hsv, HE⟩
  ihave Hmf := (mf_mend I c) $$ [Hmr HmR]
  · isplitl [Hmr] <;> iassumption
  imod (close_all I K c) $$ [HA] with HA
  · isplitr; · iexact HI
    iexact HA
  imod (close_bar I K c) $$ [Hbar] with Hbar
  · isplitr; · iexact HI
    iexact Hbar
  imodintro
  iapply hQ
  isplitl [HO]; · iexact HO
  isplitl [HSM Hmf HE]
  · isplitl [HSM]; · iexact HSM
    isplitl [Hmf] <;> iassumption
  isplitl [HG HX HM HB HS]
  · isplitl [HG]; · iexact HG
    isplitl [HX]; · iexact HX
    isplitl [HM]; · iexact HM
    isplitl [HB] <;> iassumption
  isplitl [HF HQ]; · isplitl [HF] <;> iassumption
  isplitl [Hsv]; · iexact Hsv
  isplitl [HA] <;> iassumption

/-- A device's program, from what it holds as the kernel starts to what it hands back. -/
theorem run_body {Q : PUnit → sProp 𝕄} (hQ : Fin1 I c ⊢ Q ⟨⟩) : iprop(Opd I K c ∗ Ws c (O₀ c) ∗ Mem0 I c ∗ Scr c) ⊢ wpK c (ap (cc0_body (F := F))) Q := by
  have h := body (I := I) (K := K) (c := c) (Q := fun a => iprop(|={Set.univ}=> Q a)) (R := MfR I c) ((leave I K c).trans (fupd_mono hQ))
  refine (enter I K c).trans (h.trans ?_)
  unfold wpK
  exact wp_fupd _ _ _ _ Q

end Cert.K
-- ==== Proof.Inputs.lean ====
/-
  What the operations before the kernel leave in the kernel's operands: the indices relative to the device's half of the table,
  the mask of those that fall in it, and the kernel's inputs.
-/
module

public import proofs.«01_k».proof.Proof.State
public import proofs.«01_k».proof.Proof.Gen.KernelIdeal.Regions
public import Idealize.ShloMosaic.Lib.StableHlo.RunRead

@[expose] public section

set_option maxRecDepth 16384

noncomputable section

namespace Cert.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open PCS URA

variable {F : FTy → Type} [FloatOps F]

local notation "𝕄" => MT nD τ sig Unit (Elt F) ℕ UU ℕ

variable (m : (ℓ : Loc nD τ sig) → Buf (Elt F) ℓ) (c : Dev nD)

/-- The replicated indices as device `c` has them. -/
def ids0 : S4096.Idx → BitVec 32 := m ((c.tc : Thread nD τ).loc main_arg0)
/-- Where the device's half of the table begins. -/
def half0 : S_.Idx → BitVec 32 :=
  muli (Host.remui (Host.divui (constantI S_ 32 (Dev.word c)) (constantI S_ 32 8#32)) (constantI S_ 32 2#32)) (constantI S_ 32 8192#32)
/-- The indices relative to that. -/
def rel0 : S4096.Idx → BitVec 32 := subi (ids0 m c) (broadcastInDim S4096 ![] bcast_S_S4096 (half0 c))
/-- Which of them fall in the device's half. -/
def in0 : S4096.Idx → BitVec 1 :=
  andi (cmpi .sge (rel0 m c) (broadcastInDim S4096 ![] bcast_S_S4096 (constantI S_ 32 0#32))) (cmpi .slt (rel0 m c) (broadcastInDim S4096 ![] bcast_S_S4096 (constantI S_ 32 8192#32)))
/-- The row to read, row 0 where the index falls elsewhere. -/
def sid0 : S4096.Idx → BitVec 32 := select (in0 m c) (rel0 m c) (broadcastInDim S4096 ![] bcast_S_S4096 (constantI S_ 32 0#32))

/-- The ids relative to the device's part of the table, as first computed. -/
theorem V1_rel : V1 m c main_v7 = rel0 m c := by after_reads_simp; rfl
/-- Which ids the device's part of the table has, as first computed. -/
theorem V1_in : V1 m c main_v12 = in0 m c := by after_reads_simp; rfl
/-- The constant zero the ids are replaced by. -/
theorem V1_zero : V1 m c main_c_4 = constantI S_ 32 0#32 := by after_reads_simp
/-- Which ids the device's part has, as the selection finds it. -/
theorem V2_in : V2 m c main_v12 = in0 m c := (V2_of m c main_v12 (by decide)).trans (V1_in m c)
/-- The ids after the selection: the relative ones, or zero. -/
theorem V2_sid : V2 m c main_v13 = sid0 m c := by
  have h : V2 m c main_v13 = select (V1 m c main_v12) (V1 m c main_v7) (broadcastInDim S4096 ![] bcast_S_S4096 (V1 m c main_c_4)) := rfl
  rw [h, V1_in, V1_rel, V1_zero]; rfl
/-- The ids as the kernel gets them. -/
theorem V3_sid : V3 m c main_v13 = sid0 m c := (V3_of m c main_v13 (by decide)).trans (V2_sid m c)
/-- The mask as the kernel gets it in whole numbers. -/
theorem V3_msk : V3 m c main_v14 = extui 32 (in0 m c) natLt_1_32 := by
  have h : V3 m c main_v14 = extui 32 (V2 m c main_v12) natLt_1_32 := rfl
  rw [h, V2_in]
/-- The mask as the kernel gets it in floating point. -/
theorem V3_mf : V3 m c main_v16 = broadcastInDim S4096x1 ![0] bcast_S4096_S4096x1_0 (uitofp .f32 (in0 m c)) := by
  have h : V3 m c main_v16 = broadcastInDim S4096x1 ![0] bcast_S4096_S4096x1_0 (uitofp .f32 (V2 m c main_v12)) := rfl
  rw [h, V2_in]

/-- An id found to be in range is below 8192. -/
theorem in_lt {v : BitVec 32} (h : BitVec.ofBool (BitVec.sle 0#32 v) &&& BitVec.ofBool (BitVec.slt v 8192#32) ≠ 0#1) : v.toNat < 8192 := by
  have : BitVec.sle 0#32 v = true ∧ BitVec.slt v 8192#32 = true := by
    cases h1 : BitVec.sle 0#32 v <;> cases h2 : BitVec.slt v 8192#32 <;> rw [h1, h2] at h <;> first | exact ⟨rfl, rfl⟩ | exact absurd rfl h
  obtain ⟨h1, h2⟩ := this
  rw [BitVec.sle_iff_toInt_le] at h1
  rw [BitVec.slt_iff_toInt_lt] at h2
  have e0 : (0#32 : BitVec 32).toInt = 0 := rfl
  have e1 : (8192#32 : BitVec 32).toInt = 8192 := rfl
  rw [e0] at h1; rw [e1] at h2
  rw [BitVec.toInt_eq_toNat_cond] at h1 h2
  have := v.isLt
  split at h1 <;> split at h2 <;> omega

/-- The rows read lie in the device's half of the table. -/
theorem sid0_lt (i : S4096.Idx) : (sid0 m c i).toNat < 8192 := by
  show (if in0 m c i = 1#1 then rel0 m c i else (0#32 : BitVec 32)).toNat < 8192
  by_cases h : in0 m c i = 1#1
  · rw [if_pos h]
    exact in_lt (v := rel0 m c i) (fun h0 => absurd (h.symm.trans h0) (by decide))
  · rw [if_neg h]; decide

/-- The kernel's four operands. -/
def xSid : S4096.Idx → BitVec 32 := V3 m c main_v13
def xMsk : S4096.Idx → BitVec 32 := V3 m c main_v14
def xMf : S4096x1.Idx → F .f32 := V3 m c main_v16
def xE : S8192x2048.Idx → F .f32 := V3 m c main_arg1
/-- Every id the kernel gets is a row of the device's part of the table. -/
theorem xSid_lt (i : S4096.Idx) : (xSid m c i).toNat < 8192 := by unfold xSid; rw [V3_sid]; exact sid0_lt m c i

/-- The kernel's inputs. -/
def insOf : Ins F where
  sid c := xSid m c
  msk c := xMsk m c
  mf c := xMf m c
  E c := xE m c
  sid_lt c i := xSid_lt m c i

end Cert.K
-- ==== Proof.Region.lean ====
/-
  The kernel as one region of the whole program: what enters it, what it gives back, and the record of the region.
-/
module

public import proofs.«01_k».proof.Proof.Exit
public import proofs.«01_k».proof.Proof.Inputs
public import proofs.«01_k».proof.Proof.Gen.KernelIdeal.Points
public import Idealize.ShloMosaic.Lib.Pipeline.RegionTalk

@[expose] public section

set_option maxRecDepth 16384

noncomputable section

namespace Cert.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open PCS URA

variable {F : FTy → Type} [FloatOps F]

local notation "𝕄" => MT nD τ sig Unit (Elt F) ℕ UU ℕ

variable (m : (ℓ : Loc nD τ sig) → Buf (Elt F) ℓ) (c : Dev nD)

/-! ## The kernel's own semaphores -/

/-- Every DMA semaphore but the two of the staging buffers. -/
def osem (k : Fin 103) : SemLoc sig := .dma (dsem (k.val + 2))
/-- The semaphores the body has to itself are different and are no window's. -/
theorem osem_facts : Pipeline.OwnSemFacts spec0 osem where
  isScoped := by decide
  inj := fun a b h => by
    have h : dsem (a.val + 2) = dsem (b.val + 2) := SemLoc.dma.inj h
    have h := congrArg Fin.val h
    rw [dsem_val (by omega), dsem_val (by omega)] at h
    exact Fin.ext (by omega)
  disj := by decide

def up2 : Fin 103 ↪ ℕ := ⟨fun k => k.val + 2, fun a b h => Fin.ext (by have : a.val + 2 = b.val + 2 := h; omega)⟩
/-- These are the two gathering slots' and those with cells. -/
theorem up2_univ : (Finset.univ : Finset (Fin 103)).map up2 = insert 92 (insert 93 DC) := by
  ext n
  simp only [Finset.mem_map, Finset.mem_univ, true_and, Finset.mem_insert, DC, Finset.mem_filter, Finset.mem_range]
  constructor
  · rintro ⟨k, rfl⟩
    show k.val + 2 = 92 ∨ k.val + 2 = 93 ∨ k.val + 2 < 105 ∧ 2 ≤ k.val + 2 ∧ k.val + 2 ≠ 92 ∧ k.val + 2 ≠ 93
    omega
  · intro h
    exact ⟨⟨n - 2, by omega⟩, by show n - 2 + 2 = n; omega⟩

/-- The counter of the `n`-th DMA semaphore at zero. -/
def sv0 (n : ℕ) : sProp 𝕄 := semVal (cell c n) 0
/-- The body's semaphores at zero, written out. -/
theorem own_eq : (Pipeline.ownSems0 osem c : sProp 𝕄) = iprop(sv0 c 92 ∗ sv0 c 93 ∗ bigSep DC (sv0 c)) := by
  have h : (Pipeline.ownSems0 osem c : sProp 𝕄) = bigSep Finset.univ (fun k => sv0 c (up2 k)) := rfl
  rw [h, ← bigSep_map up2 (Φ := sv0 c), up2_univ, bigSep_insert (by decide), bigSep_insert (by decide)]
  rfl
/-- The body's semaphores are those with cells and the two slots'. -/
theorem own_in : (Pipeline.ownSems0 osem c : sProp 𝕄) ⊢ iprop((bigSep DC fun n => semVal (cell c n) 0) ∗ Svs c) := by
  rw [own_eq]
  have h : iprop(bigSep DC (sv0 c) ∗ (sv0 c 92 ∗ sv0 c 93)) ⊢ (iprop((bigSep DC fun n => semVal (cell c n) 0) ∗ Svs c) : sProp 𝕄) := .rfl
  iintro ⟨H1, H2, H3⟩
  iapply h
  isplitl [H3]; · iexact H3
  isplitl [H1] <;> iassumption
/-- Those with cells and the two slots' are the body's semaphores. -/
theorem own_out : iprop((bigSep DC fun n => semVal (cell c n) 0) ∗ Svs c) ⊢ (Pipeline.ownSems0 osem c : sProp 𝕄) := by
  rw [own_eq]
  have h : (iprop((bigSep DC fun n => semVal (cell c n) 0) ∗ Svs c) : sProp 𝕄) ⊢ iprop(bigSep DC (sv0 c) ∗ (sv0 c 92 ∗ sv0 c 93)) := .rfl
  iintro H
  ihave H := h $$ H
  icases H with ⟨H3, H1, H2⟩
  isplitl [H1]; · iexact H1
  isplitl [H2] <;> iassumption

/-! ## What a device owes as the kernel starts lies above the staging semaphores -/

/-- A positive sum of four has a positive term. -/
theorem pos4 {a b c d : ℕ} (h : 0 < a + b + c + d) : 0 < a ∨ 0 < b ∨ 0 < c ∨ 0 < d := by omega
/-- What is owed at first is owed at a device's cells, at a positive level. -/
theorem O₀_pos {g : GSem nD τ sig} (h : 0 < O₀ c g ()) : L g = {()} ∧ 0 < lv g () := by
  rw [O₀_at] at h
  have hb {a : Dev nD} (h : 0 < (tallyAt (barC a) () 1 : CellTallies nD τ sig Unit) g ()) : L g = {()} ∧ 0 < lv g () := by
    rw [tallyAt_apply] at h
    split at h
    · rename_i he; obtain ⟨rfl, -⟩ := he; exact ⟨L_tc _ _, Nat.one_pos⟩
    · exact absurd h (by decide)
  rcases pos4 h with h | h | h | h
  · obtain ⟨d, hd, h⟩ := owed_pos h
    have ha : ∀ d < 9, above 0 d (ks0.getD d 0) := by decide
    exact owedC_facts (b := 0) hd (ha d hd) h
  · exact hb h
  · exact hb h
  · exact hb h

/-! ## What enters and what is given back -/

/-- The two arrays in HBM that the kernel reads and never writes. -/
def Pp : sProp 𝕄 := iprop((lMf c ↦{fullShare} xMf m c) ∗ (lE c ↦{fullShare} xE m c))
/-- The generator's register. -/
def Pr : sProp 𝕄 := iprop(∃ r, prngReg c r)
def Cr : sProp 𝕄 := iprop(cred (tallyAt (barC c) () 3) ∗ bigSep (Finset.range 9) (CrC c))
/-- From the launch to the kernel. -/
def Tk : sProp 𝕄 := iprop(∃ κ : GSem nD τ sig → ℕ, Rec (insOf m) κ ∗ Lin c ∗ Cr c ∗ Outs0 c)
def Xk : sProp 𝕄 := iprop(∃ κ : GSem nD τ sig → ℕ, Opd (insOf m) κ c)
/-- From the kernel to the end. -/
def Yk : sProp 𝕄 := iprop(semVal (barC c) 0 ∗ Outs1 (insOf m) c)
def Φ0 : sProp 𝕄 := iprop(Xk m c ∗ Pp m c ∗ Scr c ∗ Pr c)
def Φ1 : sProp 𝕄 := iprop(Yk m c ∗ ((bigSep DC fun n => semVal (cell c n) 0) ∗ Svs c) ∗ Pp m c ∗ Scr c ∗ Pr c)

section Opening

/-- The second of two parts may be dropped. -/
theorem sep_fst (P Q : sProp 𝕄) : iprop(P ∗ Q) ⊢ P := by
  iintro ⟨H, -⟩
  iexact H
/-- The first of two parts may be dropped. -/
theorem sep_snd (P Q : sProp 𝕄) : iprop(P ∗ Q) ⊢ Q := by
  iintro ⟨-, H⟩
  iexact H
/-- The record has the invariants. -/
theorem Rec_inv (I : Ins F) (κ : GSem nD τ sig → ℕ) : Rec I κ ⊢ Inv I κ := by
  unfold Rec
  exact sep_fst _ _
/-- The record has that the barriers reached their first round. -/
theorem Rec_bar (I : Ins F) (κ : GSem nD τ sig → ℕ) : Rec I κ ⊢ rBar := by
  unfold Rec rBar
  exact sep_snd _ _

def oA : sProp 𝕄 := bigSep DC fun n => atPos ER (cell c n) 0 ∅ 0
def oS : sProp 𝕄 := bigSep DC fun n => semVal (cell c n) 0

/-- The body's semaphores, sorted. -/
theorem oS_own : (Pipeline.ownSems0 osem c : sProp 𝕄) ⊢ iprop(oS c ∗ Svs c) := by
  unfold oS
  exact own_in c
/-- What the body starts with, put together. -/
theorem Opd_intro (I : Ins F) (κ : GSem nD τ sig → ℕ) : iprop((levAts L lv ∗ Inv I κ) ∗ rBar ∗ aB c ∗ oA c ∗ rch c ∗ Tok c ∗ Cr c ∗ Svs c ∗ Outs0 c) ⊢ Opd I κ c := by
  unfold Opd C0 oA Cr
  exact .rfl
/-- A device's own part: positions, open cells and tokens. -/
theorem Lin_elim : (Lin c : sProp 𝕄) ⊢ iprop(aB c ∗ oB c ∗ Tok c) := by
  unfold Lin
  exact .rfl

attribute [local irreducible] Rec Inv DC Lin Tok rBar rch Opd Outs0 Svs aB oB CrC oA oS

/-- With the record, a device's semaphores are put under their invariants. -/
theorem open_rec (I : Ins F) (κ : GSem nD τ sig → ℕ) : iprop(Rec I κ ∗ oB c ∗ oS c) ⊢ (|={Set.univ}=> iprop(oA c ∗ rch c) : sProp 𝕄) := by
  unfold oA oS oB
  exact (sep_mono_left (Rec_inv (F := F) I κ)).trans (open_all (F := F) I κ c)

/-- What the body starts with, from the record and the device's own part. -/
theorem Opd_of (I : Ins F) (κ : GSem nD τ sig → ℕ) : iprop(levAts L lv ∗ Rec I κ ∗ aB c ∗ oA c ∗ rch c ∗ Tok c ∗ Cr c ∗ Svs c ∗ Outs0 c) ⊢ Opd I κ c := by
  refine BIBase.Entails.trans ?_ (Opd_intro c I κ)
  iintro ⟨Hl, #HR, H⟩
  isplitl [Hl]
  · isplitl [Hl]; · iexact Hl
    iapply (Rec_inv (F := F) I κ); iexact HR
  isplitr; · iapply (Rec_bar (F := F) I κ); iexact HR
  iexact H

/-- On entry the semaphores are put under their invariants and the body has all it starts with. -/
theorem open_I (I : Ins F) (κ : GSem nD τ sig → ℕ) : iprop((Rec I κ ∗ Lin c ∗ Cr c ∗ Outs0 c) ∗ Pipeline.ownSems0 osem c ∗ levAts L lv)
    ⊢ (|={Set.univ}=> Opd I κ c : sProp 𝕄) := by
  iintro ⟨⟨#HR, HL, HC, HO⟩, Ho, Hl⟩
  ihave HL := (Lin_elim (F := F) c) $$ HL
  icases HL with ⟨Ha, Hop, Htk⟩
  ihave Ho := (oS_own (F := F) c) $$ Ho
  icases Ho with ⟨Hs, Hsv⟩
  imod (open_rec (F := F) c I κ) $$ [Hop Hs] with HA
  · isplitr; · iexact HR
    isplitl [Hop]; · iexact Hop
    iexact Hs
  icases HA with ⟨HA, Hr⟩
  imodintro
  iapply (Opd_of (F := F) c I κ)
  isplitl [Hl]; · iexact Hl
  isplitr; · iexact HR
  isplitl [Ha]; · iexact Ha
  isplitl [HA]; · iexact HA
  isplitl [Hr]; · iexact Hr
  isplitl [Htk]; · iexact Htk
  isplitl [HC]; · iexact HC
  isplitl [Hsv]; · iexact Hsv
  iexact HO

/-- A step under an existential. -/
theorem ex_fupd {A : Type} (X Y : A → sProp 𝕄) (R : sProp 𝕄) (h : ∀ k, iprop(X k ∗ R) ⊢ (|={Set.univ}=> Y k : sProp 𝕄)) :
    iprop((∃ k, X k) ∗ R) ⊢ (|={Set.univ}=> ∃ k, Y k : sProp 𝕄) := by
  iintro ⟨⟨%k, HX⟩, HR⟩
  imod (h k) $$ [HX HR] with HY
  · isplitl [HX]; · iexact HX
    iexact HR
  imodintro
  iexists k
  iexact HY

/-- On entry to the launch the body has all it starts with. -/
theorem hopen : iprop(Tk m c ∗ Pipeline.ownSems0 osem c ∗ levAts L lv) ⊢ (|={Set.univ}=> Xk m c : sProp 𝕄) := by
  unfold Tk Xk
  exact ex_fupd _ _ _ fun κ => open_I (F := F) c (insOf m) κ

end Opening

/-! ## The region's data and its body -/

def dat0 (c : Dev nD) : Pipeline.Dat τ (Elt F) Unit ℕ UU ℕ cfg0 c where
  A w := match w with
    | ⟨0, _⟩ => xSid m c
    | ⟨1, _⟩ => xMsk m c
  after w _ := match w with
    | ⟨0, _⟩ => xSid m c
    | ⟨1, _⟩ => xMsk m c
  Φ t := if t.val = 0 then Φ0 m c else Φ1 m c
  q _ := fullShare
  owed t := if t.val = 0 then O₀ c else 0

/-- The first window has the ids before the body. -/
theorem fet_0 (d : (cfg0.win 0).block.Idx → Elt F (cfg0.win 0).elt) : (dat0 m c).before 0 t0_0 d = ((cfg0.win 0).blk t0_0).view.read (Elt F) (xSid m c) := by
  unfold Pipeline.Dat.before; rw [if_pos (by decide)]; rfl
/-- The second window has the mask before the body. -/
theorem fet_1 (d : (cfg0.win 1).block.Idx → Elt F (cfg0.win 1).elt) : (dat0 m c).before 1 t0_0 d = ((cfg0.win 1).blk t0_0).view.read (Elt F) (xMsk m c) := by
  unfold Pipeline.Dat.before; rw [if_pos (by decide)]; rfl
omit [FloatOps F] in
/-- Reading the first window's block is reading the whole array. -/
theorem rd_0 (X : S4096.Idx → BitVec 32) : ((cfg0.win 0).blk t0_0).view.read (Elt F) X = X := by
  funext i
  exact congrArg X (funext fun a => Fin.ext (by
    have h : (cfg0.win 0).kind.off ((cfg0.win 0).index t0_0 a) ((cfg0.win 0).size a) = 0 := by fin_cases a; decide
    show (cfg0.win 0).kind.off ((cfg0.win 0).index t0_0 a) ((cfg0.win 0).size a) + 1 * (i a).val = (i a).val
    rw [h]; omega))
omit [FloatOps F] in
/-- Reading the second window's block is reading the whole array. -/
theorem rd_1 (X : S4096.Idx → BitVec 32) : ((cfg0.win 1).blk t0_0).view.read (Elt F) X = X := by
  funext i
  exact congrArg X (funext fun a => Fin.ext (by
    have h : (cfg0.win 1).kind.off ((cfg0.win 1).index t0_0 a) ((cfg0.win 1).size a) = 0 := by fin_cases a; decide
    show (cfg0.win 1).kind.off ((cfg0.win 1).index t0_0 a) ((cfg0.win 1).size a) + 1 * (i a).val = (i a).val
    rw [h]; omega))
/-- The first window's buffer has the ids. -/
theorem stg_0 (d : (cfg0.win 0).block.Idx → Elt F (cfg0.win 0).elt) : (dat0 m c).before 0 t0_0 d = xSid m c := (fet_0 m c d).trans (rd_0 _)
/-- The second window's buffer has the mask. -/
theorem stg_1 (d : (cfg0.win 1).block.Idx → Elt F (cfg0.win 1).elt) : (dat0 m c).before 1 t0_0 d = xMsk m c := (fet_1 m c d).trans (rd_1 _)

omit [FloatOps F] in
/-- Owning a staging buffer is holding it with its contents. -/
theorem owns_buf (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- Before the body the first debts are owed. -/
theorem owed_0 : (dat0 m c).owed t0_0.castSucc = O₀ c := by
  show (if (t0_0.castSucc).val = 0 then O₀ c else 0) = O₀ c
  exact if_pos rfl
/-- After the body nothing is owed. -/
theorem owed_1 : (dat0 m c).owed t0_0.succ = 0 := by
  show (if (t0_0.succ).val = 0 then O₀ c else 0) = 0
  exact if_neg (by decide)
/-- The state before the body. -/
theorem Φ_0 : (dat0 m c).Φ t0_0.castSucc = Φ0 m c := by
  show (if (t0_0.castSucc).val = 0 then Φ0 m c else Φ1 m c) = Φ0 m c
  exact if_pos rfl
/-- The state after the body. -/
theorem Φ_1 : (dat0 m c).Φ t0_0.succ = Φ1 m c := by
  show (if (t0_0.succ).val = 0 then Φ0 m c else Φ1 m c) = Φ1 m c
  exact if_neg (by decide)
/-- The debts before the body. -/
theorem owes_in : (dat0 m c).owesAt () t0_0.castSucc ⊢ (Ws c (O₀ c) : sProp 𝕄) := by
  unfold Pipeline.Dat.owesAt Pipeline.owesWithin
  rw [owed_0]
  iintro ⟨%W, -, H⟩
  unfold Ws
  iexists W; iexact H
/-- No debt after the body. -/
theorem owes_out : (Ws c 0 : sProp 𝕄) ⊢ (dat0 m c).owesAt () t0_0.succ := by
  unfold Pipeline.Dat.owesAt Pipeline.owesWithin Pipeline.Dat.bound
  rw [owed_1]
  unfold Ws
  iintro ⟨%W, H⟩
  iexists W
  isplitr
  · ipureintro; exact fun _ _ => Or.inl trivial
  iexact H

/-- The body from the region's holdings, the generator's register set aside. -/
theorem body_run (Q : PUnit → sProp 𝕄)
    (hQ : iprop(Φ1 m c ∗ Ws c 0 ∗ (lId c ↦{fullShare} xSid m c) ∗ (lMk c ↦{fullShare} xMsk m c)) ⊢ Q ⟨⟩) :
    iprop(Φ0 m c ∗ Ws c (O₀ c) ∗ (lId c ↦{fullShare} xSid m c) ∗ (lMk c ↦{fullShare} xMsk m c)) ⊢ wpK c (ap (cc0_body (F := F))) Q := by
  have h0 : Φ0 m c ⊢ iprop((∃ κ : GSem nD τ sig → ℕ, Opd (insOf m) κ c) ∗ ((lMf c ↦{fullShare} xMf m c) ∗ (lE c ↦{fullShare} xE m c)) ∗ Scr c ∗ Pr c) := .rfl
  have hM : iprop(((lId c ↦{fullShare} xSid m c) ∗ (lMk c ↦{fullShare} xMsk m c)) ∗ (lMf c ↦{fullShare} xMf m c) ∗ (lE c ↦{fullShare} xE m c)) ⊢ Mem0 (insOf m) c := .rfl
  have hM' : Mem0 (insOf m) c ⊢ iprop(((lId c ↦{fullShare} xSid m c) ∗ (lMk c ↦{fullShare} xMsk m c)) ∗ (lMf c ↦{fullShare} xMf m c) ∗ (lE c ↦{fullShare} xE m c)) := .rfl
  have h1 : iprop((semVal (barC c) 0 ∗ Outs1 (insOf m) c) ∗ ((bigSep DC fun n => semVal (cell c n) 0) ∗ Svs c) ∗ ((lMf c ↦{fullShare} xMf m c) ∗ (lE c ↦{fullShare} xE m c)) ∗ Scr c ∗ Pr c) ⊢ Φ1 m c := .rfl
  have hF : Fin1 (insOf m) c ⊢ iprop(Ws c 0 ∗ Mem0 (insOf m) c ∗ Scr c ∗ Outs1 (insOf m) c ∗ Svs c ∗ (bigSep DC fun n => semVal (cell c n) 0) ∗ semVal (barC c) 0) := .rfl
  have hf : Fin1 (insOf m) c ⊢ iprop(Pr c -∗ Q ⟨⟩) := by
    iintro H Hp
    ihave H := hF $$ H
    icases H with ⟨HO, HM, HS, Hout, Hsv, Hs, Hb⟩
    ihave HM := hM' $$ HM
    icases HM with ⟨⟨Ha, Hm⟩, Hf, He⟩
    iapply hQ
    isplitl [Hf He HS Hout Hsv Hs Hb Hp]
    · iapply h1
      isplitl [Hb Hout]; · isplitl [Hb] <;> iassumption
      isplitl [Hsv Hs]; · isplitl [Hs] <;> iassumption
      isplitl [Hf He]; · isplitl [Hf] <;> iassumption
      isplitl [HS] <;> iassumption
    isplitl [HO]; · iexact HO
    isplitl [Ha] <;> iassumption
  have hw : iprop(wpK c (ap (cc0_body (F := F))) (fun a => iprop(Pr c -∗ Q a)) ∗ Pr c) ⊢ wpK c (ap (cc0_body (F := F))) Q := by
    unfold wpK
    refine (wp_frame_r _ _ _).trans (wp_mono _ _ _ fun a => ?_)
    iintro ⟨H, Hp⟩
    iapply H
    iexact Hp
  iintro ⟨H, HO, Ha, Hm⟩
  ihave H := h0 $$ H
  icases H with ⟨⟨%κ, HX⟩, ⟨Hf, He⟩, HS, Hp⟩
  iapply hw
  isplitr [Hp]
  · iapply (run_body (insOf m) κ c (Q := fun a => iprop(Pr c -∗ Q a)) hf)
    isplitl [HX]; · iexact HX
    isplitl [HO]; · iexact HO
    isplitr [HS]
    · iapply hM
      isplitl [Ha Hm]; · isplitl [Ha] <;> iassumption
      isplitl [Hf] <;> iassumption
    · iexact HS
  · iexact Hp

set_option maxRecDepth 16384 in
/-- The region's body. -/
theorem body0 : Pipeline.BodyObligation (dat0 (F := F) m c) (defs₀ (F := F)) 𝒱₀ () Set.univ := fun t => by
  obtain rfl := fin_N0 t
  rw [bigSep_W0, bigSep_W0]
  simp only [owns_buf]
  rw [Φ_0, Φ_1]
  iintro ⟨HΦ, HO, ⟨%d0, %f0, %hf0, H0⟩, ⟨%d1, %f1, %hf1, H1⟩⟩
  rw [stg_0] at hf0
  rw [stg_1] at hf1
  subst hf0 hf1
  ihave HO := (owes_in m c) $$ HO
  iapply (body_run m c _ ?_)
  · iintro ⟨HΦ, HO, H0, H1⟩
    ihave HO := (owes_out m c) $$ HO
    isplitl [HΦ]; · iexact HΦ
    isplitl [HO]; · iexact HO
    isplitl [H0]
    · iexists _; isplitr; swap; (· iexact H0); ipureintro; rfl
    iexists _; isplitr; swap; (· iexact H1); ipureintro; rfl
  · isplitl [HΦ]; · iexact HΦ
    isplitl [HO]; · iexact HO
    isplitl [H0]; · iexact H0
    iexact H1

end Cert.K
-- ==== Proof.Record.lean ====
/-
  The record of the region: the buffers the kernel touches, entry, exit and levels.
-/
module

public import proofs.«01_k».proof.Proof.Region

@[expose] public section

set_option maxRecDepth 16384

noncomputable section

namespace Cert.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open PCS URA

variable {F : FTy → Type} [FloatOps F]

local notation "𝕄" => MT nD τ sig Unit (Elt F) ℕ UU ℕ

variable (m : (ℓ : Loc nD τ sig) → Buf (Elt F) ℓ) (c : Dev nD)

/-- The buffers in HBM that the body addresses itself and only reads. -/
def Hs : Finset (DevRef τ sig) := {Proc.devRef .tc main_v16, Proc.devRef .tc main_arg1}
/-- The result and the landing buffer. -/
def Wrs : Finset (DevRef τ sig) := {Proc.devRef .tc main_v17_1, Proc.devRef .tc main_v17_0}
def Ar : Finset (DevRef τ sig) := Pipeline.arrRefs (τ := τ) spec0
/-- All that is held beside the kernel's staged arrays, the result and the landing buffer. -/
def Sr : Finset (DevRef τ sig) := (Pipeline.ucRefs τ sig \ Ar) \ Wrs

/-- The windows' arrays are among the buffers. -/
theorem Ar_sub : Ar ⊆ Pipeline.ucRefs τ sig := by decide
/-- The result and the landing buffer are among the buffers and are no window's array. -/
theorem Wrs_sub : Wrs ⊆ Pipeline.ucRefs τ sig \ Ar := by decide
/-- The buffers the body only reads are among those kept. -/
theorem Hs_sub : Hs ⊆ Sr := by decide

/-- The buffers the body only reads, written out. -/
theorem held_Hs (W : Valuation τ sig (Elt F)) : (StableHlo.held (c : Thread nD τ) Hs W : sProp 𝕄)
    = iprop((lMf c ↦{fullShare} W main_v16) ∗ (lE c ↦{fullShare} W main_arg1)) := by
  unfold StableHlo.held
  rw [bigSep_eq_bigSepL_of_eq [Proc.devRef .tc main_v16, Proc.devRef .tc main_arg1] (by decide) (by decide)]
  rfl
/-- The result and the landing buffer, held, written out. -/
theorem held_Wrs (W : Valuation τ sig (Elt F)) : (StableHlo.held (c : Thread nD τ) Wrs W : sProp 𝕄)
    = iprop((lCx c ↦{fullShare} W main_v17_1) ∗ (lOut c ↦{fullShare} W main_v17_0)) := by
  unfold StableHlo.held
  rw [bigSep_eq_bigSepL_of_eq [Proc.devRef .tc main_v17_1, Proc.devRef .tc main_v17_0] (by decide) (by decide)]
  rfl
/-- All buffers, sorted: the windows' arrays, the two written ones and the others. -/
theorem held_all (W : Valuation τ sig (Elt F)) : (StableHlo.held (c : Thread nD τ) (Pipeline.ucRefs τ sig) W : sProp 𝕄)
    = iprop(StableHlo.held (c : Thread nD τ) Ar W ∗ StableHlo.held (c : Thread nD τ) Wrs W ∗ StableHlo.held (c : Thread nD τ) Sr W) := by
  rw [StableHlo.held_sub_split (c : Thread nD τ) Ar_sub W, StableHlo.held_sub_split (c : Thread nD τ) Wrs_sub W]
  rfl
/-- The buffers the body only reads have what the kernel is given. -/
theorem held_Pp : (StableHlo.held (c : Thread nD τ) Hs (Gen.V3 m c) : sProp 𝕄) = Pp m c := by
  rw [held_Hs]
  unfold Pp xMf xE
  rfl

/-- A buffer with known contents is a buffer with some contents. -/
theorem any_of (ℓ : Loc nD τ sig) (f : Buf (Elt F) ℓ) : (ℓ ↦{fullShare} f) ⊢ (PG ℓ Finset.univ fullShare (fun _ _ => True) : sProp 𝕄) := by
  refine BIBase.Entails.trans ?_ (any_in (F := F) (ℓ := ℓ))
  iintro H; iexists f; iexact H
/-- The result and the landing buffer, their contents forgotten. -/
theorem outs_in (W : Valuation τ sig (Elt F)) : (StableHlo.held (c : Thread nD τ) Wrs W : sProp 𝕄) ⊢ Outs0 c := by
  rw [held_Wrs]
  unfold Outs0
  exact BI.sep_mono (any_of (F := F) (lCx c) _) (any_of (F := F) (lOut c) _)

/-- The launch's scratch buffers are those the body works with. -/
theorem scr_in : (Pipeline.scopedRest spec0 c : sProp 𝕄) ⊢ Scr c := by
  rw [scopedRest0_eq]
  unfold Scr
  exact BI.sep_mono (any_in (F := F) (ℓ := lG c)) (BI.sep_mono (any_in (F := F) (ℓ := lX c)) (BI.sep_mono (any_in (F := F) (ℓ := lM c))
    (BI.sep_mono (any_in (F := F) (ℓ := lB c)) (any_in (F := F) (ℓ := lS c)))))
/-- The body's scratch buffers are given back to the launch. -/
theorem scr_out : (Scr c : sProp 𝕄) ⊢ Pipeline.scopedRest spec0 c := by
  rw [scopedRest0_eq]
  unfold Scr
  exact BI.sep_mono (any_out (F := F) (ℓ := lG c)) (BI.sep_mono (any_out (F := F) (ℓ := lX c)) (BI.sep_mono (any_out (F := F) (ℓ := lM c))
    (BI.sep_mono (any_out (F := F) (ℓ := lB c)) (any_out (F := F) (ℓ := lS c)))))

/-- Four parts rearranged, two of them weakened. -/
theorem four {A B C X X' Y : sProp 𝕄} (h : A ⊢ X) (hc : C ⊢ X') : iprop(A ∗ B ∗ C ∗ Y) ⊢ iprop(Y ∗ X' ∗ X ∗ B) := by
  iintro ⟨HA, HB, HC, HY⟩
  isplitl [HY]; · iexact HY
  isplitl [HC]; · iapply hc; iexact HC
  isplitl [HA]; · iapply h; iexact HA
  iexact HB
/-- Five parts rearranged, two of them weakened. -/
theorem five {A B C X Y O O' : sProp 𝕄} (h : A ⊢ X) (ho : O ⊢ O') : iprop(Y ∗ O ∗ C ∗ A ∗ B) ⊢ iprop(X ∗ B ∗ C ∗ O' ∗ Y) := by
  iintro ⟨HY, HO, HC, HA, HB⟩
  isplitl [HA]; · iapply h; iexact HA
  isplitl [HB]; · iexact HB
  isplitl [HC]; · iexact HC
  isplitl [HO]; · iapply ho; iexact HO
  iexact HY

/-- What the launch brings makes up the body's starting state. -/
theorem hin0 : iprop(Pipeline.scopedRest spec0 c ∗ (∃ r, prngReg c r) ∗ StableHlo.held (c.tc : Thread nD τ) Hs (Gen.V3 m c) ∗ Xk m c) ⊢ (dat0 m c).Φ 0 := by
  rw [show (dat0 m c).Φ 0 = Φ0 m c from Φ_0 m c, held_Pp]
  unfold Φ0 Pr
  exact four (scr_in (F := F) c) .rfl
/-- The body's last state gives what the launch takes away. -/
theorem hout0 : (dat0 m c).Φ (Fin.last _) ⊢ iprop(Pipeline.scopedRest spec0 c ∗ (∃ r, prngReg c r) ∗ StableHlo.held (c.tc : Thread nD τ) Hs (Gen.V3 m c)
    ∗ Pipeline.ownSems0 osem c ∗ Yk m c) := by
  rw [show (dat0 m c).Φ (Fin.last _) = Φ1 m c from Φ_1 m c, held_Pp]
  unfold Φ1 Pr
  exact five (scr_out (F := F) c) (own_out (F := F) c)

/-- The windows' arrays are held whole. -/
theorem share_0 (w : Fin cfg0.W) : (dat0 m c).share w = fullShare := by
  fin_cases w <;> rfl
/-- The windows' semaphores are at the lowest level. -/
theorem stage_low (w : Fin cfg0.W) (s : Fin (cfg0.win w).nbuf) : lv ((c : Thread nD τ), .dma ((cfg0.win w).sem s)) () ≤ 0 := by
  fin_cases w <;> fin_cases s <;> exact Nat.le_of_eq rfl
/-- A window's array before the body has its value at the launch. -/
theorem arr_0 (w : Fin cfg0.W) : (dat0 m c).arrAt w 0 = Gen.V3 m c (Proc.devRef .tc (Pipeline.arrRef spec0 w)) := by
  fin_cases w
  · exact ((dat0 m c).arrAt_in _ rfl _).trans (by unfold dat0 xSid; rfl)
  · exact ((dat0 m c).arrAt_in _ rfl _).trans (by unfold dat0 xMsk; rfl)
/-- A window's array after the body still has that value. -/
theorem arr_N (w : Fin cfg0.W) : (dat0 m c).arrAt w cfg0.N = Gen.V3 m c (Proc.devRef .tc (Pipeline.arrRef spec0 w)) := by
  fin_cases w
  · exact ((dat0 m c).arrAt_in _ rfl _).trans (by unfold dat0 xSid; rfl)
  · exact ((dat0 m c).arrAt_in _ rfl _).trans (by unfold dat0 xMsk; rfl)

attribute [local irreducible] Rec Inv DC Lin Tok rBar rch Opd Outs0 Outs1 Svs aB oB CrC oA oS

def pdats (p : Fin 1) (c : Dev nD) : Pipeline.Dat τ (Elt F) Unit ℕ UU ℕ (cfgs p) c := match p with
  | ⟨0, _⟩ => dat0 m c

/-- What the body owes is owed at levels above the windows'. -/
theorem cut_D (t : Fin (cfg0.N + 1)) (g : GSem nD τ sig) (i : Unit) (h : 0 < (dat0 m c).owed t g i) : i ∈ L g ∧ (0 : ℕ) < lv g i := by
  have e : (dat0 m c).owed t = if t.val = 0 then O₀ c else 0 := rfl
  rw [e] at h
  split at h
  · obtain ⟨h1, h2⟩ := O₀_pos c h
    exact ⟨by rw [h1]; exact Finset.mem_singleton_self _, h2⟩
  · exact absurd h (Nat.lt_irrefl 0)

set_option backward.isDefEq.respectTransparency.types false in
def reg0 : Pipeline.RegionSeg (pcfgs (F := F)) adm (pdats m) () defs₀ 𝒱₀ L lv 0 :=
  Pipeline.RegionSeg.ofTalk (pcfgs (F := F)) adm (pdats m) () defs₀ 𝒱₀ L lv 0 osem osem_facts
    Hs Sr Hs_sub launch0.toP rfl (fun c => (body0 m c).loose)
    (fun _ => 0) O₀ (fun c => (owed_0 m c).trans (zero_add _).symm) (fun c => owed_1 m c) (fun _ => rfl) (fun c w => share_0 m c w)
    (Gen.V3 m) (Gen.V3 m) (fun _ _ _ => rfl)
    (Tk m) (Yk m) (Xk m) (Yk m) (hopen m) (hin0 m) (hout0 m)
    (fun c => by iintro H; imodintro; iexact H)
    (fun _ => 0)
    ⟨fun c w s => by rw [L_tc]; exact Finset.mem_singleton_self _, fun c w s => stage_low c w s, fun c t g i h => cut_D m c t g i h⟩
    (fun _ => BI.emp)
    (fun c w => arr_0 m c w) (fun c w => arr_N m c w)

/-- What a device brings to the kernel from the launch, the result and the landing buffer apart. -/
def Gh : sProp 𝕄 := iprop(∃ κ : GSem nD τ sig → ℕ, Rec (insOf m) κ ∗ Lin c ∗ Cr c)
/-- Something beside an existential may be moved into it. -/
theorem ex_app {A : Type} {X : A → sProp 𝕄} {B C R : sProp 𝕄} : iprop((∃ k, X k ∗ B ∗ C) ∗ R) ⊢ iprop(∃ k, X k ∗ B ∗ C ∗ R) := by
  iintro ⟨⟨%k, HX, HB, HC⟩, HR⟩
  iexists k
  isplitl [HX]; · iexact HX
  isplitl [HB]; · iexact HB
  isplitl [HC]; · iexact HC
  iexact HR
/-- A device's own part and the two written buffers are what it takes into the launch. -/
theorem Tk_in : iprop(Gh m c ∗ Outs0 c) ⊢ Tk m c := by
  unfold Gh Tk
  exact ex_app
/-- The parts rearranged on the way in. -/
theorem shuffle_in {A O Z G P T V : sProp 𝕄} (h1 : iprop(G ∗ O) ⊢ T) : iprop((A ∗ O ∗ Z) ∗ (G ∗ P ∗ V)) ⊢ iprop(A ∗ P ∗ (Z ∗ BI.emp) ∗ T ∗ V) := by
  iintro ⟨⟨HA, HO, HZ⟩, HG, HP, HV⟩
  isplitl [HA]; · iexact HA
  isplitl [HP]; · iexact HP
  isplitl [HZ]
  · isplitl [HZ]; · iexact HZ
    iempintro
  isplitl [HG HO]
  · iapply h1
    isplitl [HG]; · iexact HG
    iexact HO
  iexact HV
/-- The parts rearranged on the way out. -/
theorem shuffle_out {A Z P T V R : sProp 𝕄} : iprop(A ∗ P ∗ (Z ∗ R) ∗ T ∗ V) ⊢ iprop((Z ∗ T) ∗ V) := by
  iintro ⟨-, -, ⟨HZ, -⟩, HT, HV⟩
  isplitr [HV]
  · isplitl [HZ]; · iexact HZ
    iexact HT
  iexact HV

/-- All buffers, the ghost state and the debts make up what the launch requires. -/
theorem reg_pre : iprop(StableHlo.held (c : Thread nD τ) (Pipeline.ucRefs τ sig) (Gen.V3 m c) ∗ (Gh m c ∗ Pr c ∗ Ws c (O₀ c))) ⊢ (reg0 m).pre c := by
  show _ ⊢ iprop(StableHlo.held (c.tc : Thread nD τ) Ar (Gen.V3 m c) ∗ (∃ r, prngReg c r)
    ∗ (StableHlo.held (c.tc : Thread nD τ) Sr (Gen.V3 m c) ∗ BI.emp) ∗ Tk m c ∗ ∃ Wd, owes (c : Thread nD τ) (0 + O₀ c) Wd)
  rw [held_all, zero_add]
  unfold Ws Pr
  exact shuffle_in ((sep_mono_right (outs_in (F := F) c _)).trans (Tk_in m c))

/-- What the launch leaves: the kept buffers, the result and no debt. -/
theorem reg_post : (reg0 m).post c ⊢ iprop((StableHlo.held (c : Thread nD τ) Sr (Gen.V3 m c) ∗ Yk m c) ∗ Ws c 0) := by
  show iprop(StableHlo.held (c.tc : Thread nD τ) Ar (Gen.V3 m c) ∗ (∃ r, prngReg c r)
    ∗ (StableHlo.held (c.tc : Thread nD τ) Sr (Gen.V3 m c) ∗ BI.emp) ∗ Yk m c ∗ ∃ Wd, owes (c : Thread nD τ) (0 : CellTallies nD τ sig Unit) Wd) ⊢ _
  unfold Ws
  exact shuffle_out

end Cert.K
-- ==== Proof.Run.lean ====
/-
  The whole program: the launch, the run of all devices, and what every device's memory holds at the end.
-/
module

public import proofs.«01_k».proof.Proof.Record

@[expose] public section

set_option maxRecDepth 16384

noncomputable section

namespace Cert.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open PCS URA

variable {F : FTy → Type} [FloatOps F]

local notation "𝕄" => MT nD τ sig Unit (Elt F) ℕ UU ℕ

variable (m : (ℓ : Loc nD τ sig) → Buf (Elt F) ℓ) (c : Dev nD)

attribute [local irreducible] Rec Inv DC Lin Tok rBar rch Opd Outs0 Outs1 Svs aB oB CrC oA oS O₀

/-! ## The launch -/

/-- Different windows' semaphores have different cells. -/
theorem cells_inj : Function.Injective (Pipeline.cellOf (nD := nD) (τ := τ) (Pipeline.pin (pcfgs (F := F)) adm)) := cellOf_inj

/-- What the launch makes: the pipeline's rounds and the exchange's. -/
def u₀ : UU :=
  (initOf (Pipeline.cells (Pipeline.pin (pcfgs (F := F)) adm) cells_inj) (Pipeline.launchToks (Pipeline.pin (pcfgs (F := F)) adm) cells_inj),
    (launchOf SB SC TT, 1))

/-- A resource that is all on one device. -/
def solo (c₀ : Dev nD) (X : sProp 𝕄) (c : Dev nD) : sProp 𝕄 := if c = c₀ then X else BI.emp
omit [FloatOps F] in
/-- Something for one device alone is that. -/
theorem bigSep_solo (c₀ : Dev nD) (X : sProp 𝕄) : bigSep Finset.univ (solo c₀ X) = X := by
  rw [bigSep_univ_at _ c₀, bigSep_congr (s := Finset.univ.erase c₀) (Ψ := fun _ => (BI.emp : sProp 𝕄))
      fun c hc => by unfold solo; rw [if_neg (Finset.ne_of_mem_erase hc)], BI.bigSep_emp_const]
  unfold solo; rw [if_pos rfl]
  exact BI.equiv_iff.mp sep_emp

def Ow1 : sProp 𝕄 := BI.own (ER (launchOf SB SC TT))
def G0 : Dev nD → sProp 𝕄 := solo 0 Ow1

omit [FloatOps F] in
/-- The ghost state is its two parts. -/
theorem own_two (a : UR sig nD τ) (b : UB) : (ownU ((a, (b, (1 : Counters))) : UU) : sProp 𝕄) ⊢ iprop(BI.own (EP a) ∗ BI.own (ER b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

/-- The ghost state at first gives the launch's part and the protocol's. -/
theorem hu₀ : (ownU (u₀ (F := F)) : sProp 𝕄)
    ⊢ |={Set.univ}=> iprop(BI.own (EP (initOf (Pipeline.cells (Pipeline.pin (pcfgs (F := F)) adm) cells_inj) (Pipeline.launchToks (Pipeline.pin (pcfgs (F := F)) adm) cells_inj)))
      ∗ bigSep Finset.univ G0) := by
  unfold u₀ G0
  rw [bigSep_solo]
  iintro Hu
  ihave H := (own_two _ _) $$ Hu
  imodintro
  iexact H

/-- The only semaphore outside the launch is the barrier. -/
theorem unscoped_sems : (unscopedSems0 c : sProp 𝕄) = semVal (barC c) 0 := by
  unfold unscopedSems0
  rw [show (Finset.univ.filter fun sm : SemLoc sig => ¬ sm.isScoped .tc) = {SemLoc.reg barrier0} from by decide, BI.bigSep_singleton]

/-- The launch dealt to all devices at once, over anything. -/
theorem deal_of {A B C D' G E Li : Dev nD → sProp 𝕄} {O X : sProp 𝕄} {R : (GSem nD τ sig → ℕ) → sProp 𝕄} [∀ κ, BI.Persistent (R κ)]
    (hG : bigSep Finset.univ G = O) (hf : iprop(bigSep Finset.univ A ∗ O) ⊢ (|={Set.univ}=> ∃ κ, R κ ∗ bigSep Finset.univ Li : sProp 𝕄))
    (he : ∀ κ c, iprop(R κ ∗ (Li c ∗ B c ∗ C c ∗ D' c)) ⊢ E c) :
    iprop((bigSep Finset.univ fun c : Dev nD => iprop(A c ∗ B c ∗ C c ∗ D' c ∗ G c)) ∗ X) ⊢ (|={Set.univ}=> bigSep Finset.univ E : sProp 𝕄) := by
  have h5 : (bigSep Finset.univ fun c : Dev nD => iprop(A c ∗ B c ∗ C c ∗ D' c ∗ G c))
      = iprop(bigSep Finset.univ A ∗ bigSep Finset.univ B ∗ bigSep Finset.univ C ∗ bigSep Finset.univ D' ∗ O) := by
    rw [two16, two16, two16, two16, hG]
  have h4 : (bigSep Finset.univ fun c : Dev nD => iprop(Li c ∗ B c ∗ C c ∗ D' c))
      = iprop(bigSep Finset.univ Li ∗ bigSep Finset.univ B ∗ bigSep Finset.univ C ∗ bigSep Finset.univ D') := by
    rw [two16, two16, two16]
  rw [h5]
  iintro ⟨⟨HA, HB, HC, HD, HO⟩, -⟩
  imod hf $$ [HA HO] with HK
  · isplitl [HA]; · iexact HA
    iexact HO
  icases HK with ⟨%κ, #HR, HL⟩
  imodintro
  iapply (bigSep_with_persistent (R := R κ) (Φ := fun c => iprop(Li c ∗ B c ∗ C c ∗ D' c)) fun c _ => he κ c)
  isplitr; · iexact HR
  rw [h4]
  isplitl [HL]; · iexact HL
  isplitl [HB]; · iexact HB
  isplitl [HC]; · iexact HC
  iexact HD

/-- What rides along until the kernel. -/
def E0 : sProp 𝕄 := iprop(Gh m c ∗ Pr c ∗ Ws c (O₀ c))
/-- What each device has at first, once the protocol is set up. -/
theorem E0_of (ρ : Dev nD → PrngReg) (κ : GSem nD τ sig → ℕ) :
    iprop(Rec (insOf m) κ ∗ (Lin c ∗ owes (c : Thread nD τ) (O₀ c) ∅ ∗ Pipeline.launchCred O₀ c ∗ prngReg c (ρ c))) ⊢ E0 m c := by
  have hC : (Pipeline.launchCred O₀ c : sProp 𝕄) ⊢ Cr c := creds (F := F) c
  unfold E0 Gh Pr Ws
  iintro ⟨HR, HL, HO, HC, Hp⟩
  isplitl [HR HL HC]
  · iexists κ
    isplitl [HR]; · iexact HR
    isplitl [HL]; · iexact HL
    iapply hC; iexact HC
  isplitl [Hp]
  · iexists (ρ c); iexact Hp
  iexists ∅; iexact HO

/-- What the whole machine has at first gives each device what it needs. -/
theorem hE0 (ρ : Dev nD → PrngReg) : iprop((bigSep Finset.univ fun c : Dev nD => iprop(unscopedSems0 c ∗ owes (c : Thread nD τ) (O₀ c) ∅ ∗ Pipeline.launchCred O₀ c ∗ prngReg c (ρ c) ∗ G0 c)) ∗ levAts L lv)
    ⊢ (|={Set.univ}=> bigSep Finset.univ (E0 m) : sProp 𝕄) := by
  have hf := fund (insOf m)
  have hA : (bigSep Finset.univ fun c : Dev nD => (semVal (barC c) 0 : sProp 𝕄)) = bigSep Finset.univ fun c : Dev nD => unscopedSems0 c :=
    bigSep_congr fun c _ => (unscoped_sems c).symm
  rw [hA] at hf
  exact deal_of (A := fun c => unscopedSems0 c) (B := fun c => owes (c : Thread nD τ) (O₀ c) ∅) (C := fun c => Pipeline.launchCred O₀ c) (D' := fun c => prngReg c (ρ c))
    (G := G0) (Li := Lin) (R := Rec (insOf m)) (bigSep_solo 0 Ow1) hf fun κ c => E0_of m c ρ κ

/-! ## The end -/

/-- What a device holds at the end. -/
def Tn : sProp 𝕄 := iprop(StableHlo.held (c : Thread nD τ) Sr (Gen.V3 m c) ∗ Yk m c)
/-- What a device's part of the final state is known to be. -/
def QY (s : MemSt nD τ sig (Elt F)) : Prop :=
  (s.mem ((c.tc : Thread nD τ).loc main_arg0) = m ((c.tc : Thread nD τ).loc main_arg0) ∧ s.mem ((c.tc : Thread nD τ).loc main_arg1) = m ((c.tc : Thread nD τ).loc main_arg1))
    ∧ (∀ i : S4096x2048.Idx, pO (insOf m) c i (s.mem (lOut c) i)) ∧ s.sem (barC c) = 0

/-- The ids are unchanged up to the launch. -/
theorem V3_arg0 : Gen.V3 m c main_arg0 = m ((c : Thread nD τ).loc main_arg0) :=
  (V3_of m c main_arg0 (by decide)).trans <| (V2_of m c main_arg0 (by decide)).trans <| (V1_of m c main_arg0 (by decide)).trans rfl
/-- The table is unchanged up to the launch. -/
theorem V3_arg1 : Gen.V3 m c main_arg1 = m ((c : Thread nD τ).loc main_arg1) :=
  (V3_of m c main_arg1 (by decide)).trans <| (V2_of m c main_arg1 (by decide)).trans <| (V1_of m c main_arg1 (by decide)).trans rfl
/-- The ids are among the buffers kept. -/
theorem Sr_arg0 : Proc.devRef .tc main_arg0 ∈ Sr := by decide
/-- The table is among the buffers kept. -/
theorem Sr_arg1 : Proc.devRef .tc main_arg1 ∈ Sr := by decide

/-- At the end the barrier is at zero and the result is as it should be. -/
theorem Yk_open : Yk m c ⊢ iprop(semVal (barC c) 0 ∗ ∃ f : Buf (Elt F) (lOut c), (lOut c ↦{fullShare} f) ∗ ⌜∀ i ∈ (Finset.univ : Finset S4096x2048.Idx), pO (insOf m) c i (f i)⌝) := by
  unfold Yk Outs1
  iintro ⟨Hb, -, HO⟩
  isplitl [Hb]; · iexact Hb
  iapply (PG_open (F := F) (ℓ := lOut c)); iexact HO

/-- At the end memory has the result and the inputs. -/
theorem hfin (s' : Phys nD τ sig (Elt F)) : iprop(Tn m c ∗ SI s') ⊢ (|={Set.univ}=> iprop(⌜QY m c s'.mem⌝ ∗ SI s') : sProp 𝕄) := by
  unfold Tn StableHlo.held
  iintro ⟨⟨Hh, HY⟩, HSI⟩
  ihave Hr := (pointsTo_read_all Sr (fun b => ((c : Thread nD τ).1, b)) (Gen.V3 m c) s') $$ [Hh HSI]
  · isplitl [Hh] <;> iassumption
  icases Hr with ⟨%h, HSI⟩
  ihave HY := (Yk_open (F := F) m c) $$ HY
  icases HY with ⟨Hb, ⟨%f, Ho, %hf⟩⟩
  icombine HSI Ho gives %ho
  icombine HSI Hb gives %hb
  imodintro
  isplitr
  · ipureintro
    refine ⟨⟨(h (Proc.devRef .tc main_arg0) Sr_arg0).trans (V3_arg0 m c), (h (Proc.devRef .tc main_arg1) Sr_arg1).trans (V3_arg1 m c)⟩, fun i => ?_, by simpa using hb⟩
    have e : s'.mem.mem (lOut c) = f := Buf.eq_of_forall_mem_univ ho
    rw [e]
    exact hf i (Finset.mem_univ _)
  · iexact HSI

/-- The barrier is the only semaphore outside the launch. -/
theorem unscoped_eq : ∀ sm : SemLoc sig, sm.isScoped .tc = false → sm = .reg barrier0 := by decide

/-! ## The run -/

set_option backward.isDefEq.respectTransparency.types false in
/-- From any memory with zero counters the program ends on every device, with the arguments as they were, the result as the kernel left it and every
    semaphore at zero. -/
theorem run_main (ρ : Dev nD → PrngReg) : θ_run defs (onTc (τ := τ) (main (F := F))) ⟨m, fun _ => 0, ρ⟩
    (fun r => (∀ c : Dev nD, (r.2.mem ((c.tc : Thread nD τ).loc main_arg0) = m ((c.tc : Thread nD τ).loc main_arg0)
        ∧ r.2.mem ((c.tc : Thread nD τ).loc main_arg1) = m ((c.tc : Thread nD τ).loc main_arg1))
        ∧ ∀ i : S4096x2048.Idx, pO (insOf m) c i (r.2.mem (lOut c) i)) ∧ r.2.sem = fun _ => 0) := by
  refine Pipeline.θ_run_regions_kit_dev_sems (pcfgs (F := F)) adm (pdats m) () cells_inj EP defs₀ 𝒱₀ L lv m ρ main
    (segs m 𝒱₀ L lv (fun _ => E0 m) () (pdats m) (reg0 m))
    (fun c Q => by
      rewrite [main_chain c, Pipeline.Seg.run_eq_chain,
        show (segs m 𝒱₀ L lv (fun _ => E0 m) () (pdats m) (reg0 m) c).map Pipeline.Seg.prog = [
          StableHlo.seq (hostOps0 c),
          StableHlo.seq hostOps0_1,
          StableHlo.seq hostOps0_2,
          Prog.lift (.customCall (Pipeline.entry 0) ()) ] from rfl]
      dsimp (config := { failIfUnchanged := false }) only
      exact .rfl)
    (fun c => by simp only [segs, Pipeline.Seg.pipes_host, Pipeline.Seg.pipes_region, Pipeline.Seg.pipes_nil]; decide) O₀ L_of_ne G0 (u₀ (F := F)) hu₀
    (T₀ := fun c => iprop(StableHlo.held (c : Thread nD τ) (Pipeline.ucRefs τ sig) (V0 m c) ∗ E0 m c))
    (Tₙ := Tn m)
    (hch := fun c => ⟨.rfl, .rfl, .rfl, reg_pre m c, reg_post m c⟩)
    (hinit := ?_) (QY := QY m) (hfin := hfin m)
    (hQ := fun s h hs => ⟨fun c => ⟨(h c).1, (h c).2.1⟩, sem_eq_zero hs fun c sm hsm => by
      obtain rfl := unscoped_eq sm hsm
      exact (h c).2.2⟩)
  have hsplit : (bigSep Finset.univ fun c : Dev nD => iprop(unscopedBufs c (fun b => m ((c.tc : Thread nD τ).loc b)) ∗ unscopedSems0 c
        ∗ owes (c.tc : Thread nD τ) (O₀ c) ∅ ∗ Pipeline.launchCred O₀ c ∗ prngReg c (ρ c) ∗ G0 c))
      ⊢ (iprop((bigSep Finset.univ fun c : Dev nD => StableHlo.held (c : Thread nD τ) (Pipeline.ucRefs τ sig) (V0 m c))
          ∗ bigSep Finset.univ fun c : Dev nD => iprop(unscopedSems0 c ∗ owes (c : Thread nD τ) (O₀ c) ∅ ∗ Pipeline.launchCred O₀ c ∗ prngReg c (ρ c) ∗ G0 c))
          : sProp 𝕄) := by
    rw [← bigSep_sep']
    exact bigSep_mono fun c _ => by rw [← Pipeline.unscopedBufs_held (Ix := Unit) (Name := ℕ) (U := UU) (Lvl := ℕ) c (V0 m c)]; exact BI.Entails.refl _
  iintro ⟨H, Hla⟩
  ihave H' := hsplit $$ H
  icases H' with ⟨Hh, Hr⟩
  imod (hE0 m ρ) $$ [Hr Hla] with HE
  · isplitl [Hr]; · iexact Hr
    iexact Hla
  imodintro
  rw [bigSep_sep']
  isplitl [Hh]; · iexact Hh
  iexact HE

end Cert.K
-- ==== Proof.Value.lean ====
/-
  What the kernel returns over the reals: where every index names a row of the table, each row of the result is the row
  that its index names. Of the two devices that differ in x one holds that row and contributes it, the other contributes zero.
-/
module

public import proofs.«01_k».proof.Proof.Run
public import Idealize.ShloMosaic.Lib.Layout
public import Idealize.ShloMosaic.Lib.Routing.Ops
public import Idealize.ShloMosaic.Lib.StableHlo.Predicate
public import Idealize.ShloMosaic.PureOps.Ideal

@[expose] public section

set_option maxRecDepth 16384

noncomputable section

namespace Cert.K

open Cert.KernelIdeal Cert.KernelIdeal.Gen
open Idealize.ShloMosaic Idealize.ShloMosaic.TcCoe

/-! ## Where an index falls -/

/-- A row number below 16384, taken relative to the half of the table that begins at `8192 * h`, is within the half exactly
    when it lies there, and is then the row number less that beginning. -/
theorem place (v : BitVec 32) (hv : v.toNat < 16384) (h : ℕ) (hh : h < 2) :
    (v.toNat / 8192 = h → IntOp.andi (IntOp.cmpi .sge (v - BitVec.ofNat 32 (8192 * h)) 0#32) (IntOp.cmpi .slt (v - BitVec.ofNat 32 (8192 * h)) 8192#32) = 1#1
        ∧ (v - BitVec.ofNat 32 (8192 * h)).toNat = v.toNat - 8192 * h)
    ∧ (v.toNat / 8192 ≠ h → IntOp.andi (IntOp.cmpi .sge (v - BitVec.ofNat 32 (8192 * h)) 0#32) (IntOp.cmpi .slt (v - BitVec.ofNat 32 (8192 * h)) 8192#32) = 0#1) := by
  have hr : (v - BitVec.ofNat 32 (8192 * h)).toNat = (2 ^ 32 - 8192 * h + v.toNat) % 2 ^ 32 := by
    rw [BitVec.toNat_sub, BitVec.toNat_ofNat]; omega
  constructor
  · intro hq
    have e : (v - BitVec.ofNat 32 (8192 * h)).toNat = v.toNat - 8192 * h := by rw [hr]; omega
    refine ⟨?_, e⟩
    rw [(StableHlo.Predicate.sge_iff_toNat (by rw [e]; omega) (by decide)).2 (Nat.zero_le _),
      (StableHlo.Predicate.slt_iff_toNat (by rw [e]; omega) (by decide)).2 (by
        rw [e]; show _ < 8192; omega)]
    rfl
  · intro hq
    rcases BitVec.eq_zero_or_eq_one (IntOp.andi (IntOp.cmpi .sge (v - BitVec.ofNat 32 (8192 * h)) 0#32)
      (IntOp.cmpi .slt (v - BitVec.ofNat 32 (8192 * h)) 8192#32)) with h0 | h1
    · exact h0
    · exfalso
      have hlt := in_lt (v := v - BitVec.ofNat 32 (8192 * h)) (fun h0 => absurd (h1.symm.trans h0) (by decide))
      rw [hr] at hlt
      omega

/-- The first id of a device's part of the table. -/
theorem half0_at (c : Dev nD) (j : S_.Idx) : half0 c j = BitVec.ofNat 32 (8192 * (c.val / 8)) := by
  show IntOp.muli (IntOp.remui .host (IntOp.divui .host (Dev.word c) 8#32) 2#32) 8192#32 = _
  revert c; decide

/-- A device's place along `x` is its number divided by eight. -/
theorem mesh_x : ∀ c : Dev nD, Layout.meshLin [2, 2, 4] c.val [0] = c.val / 8 := by decide
/-- The neighbour across `x` has the other part of the table. -/
theorem xp_half : ∀ c : Dev nD, (xp c).val / 8 = 1 - c.val / 8 := by decide

variable (m : (ℓ : Loc nD τ sig) → Buf (Elt Ideal) ℓ) (c : Dev nD)

/-- An id relative to the device's part of the table. -/
theorem rel0_at (i : S4096.Idx) : rel0 m c i = ids0 m c i - BitVec.ofNat 32 (8192 * (c.val / 8)) := by
  have h : rel0 m c i = ids0 m c i - broadcastInDim S4096 ![] bcast_S_S4096 (half0 c) i := rfl
  rw [h]; exact congrArg _ (half0_at c _)

/-- The mask's bit and the row read, on the device whose half holds the row and on the other. -/
theorem in0_own (i : S4096.Idx) (hv : (ids0 m c i).toNat < 16384) (hq : (ids0 m c i).toNat / 8192 = c.val / 8) :
    in0 m c i = 1#1 ∧ (sid0 m c i).toNat = (ids0 m c i).toNat - 8192 * (c.val / 8) := by
  have hp := (place (ids0 m c i) hv (c.val / 8) (by have := c.isLt; unfold nD at this; omega)).1 hq
  rw [← rel0_at] at hp
  have h1 : in0 m c i = 1#1 := hp.1
  refine ⟨h1, ?_⟩
  have h2 : sid0 m c i = if in0 m c i = 1#1 then rel0 m c i else (0#32 : BitVec 32) := rfl
  rw [h2, if_pos h1]; exact hp.2
/-- An id in the other part of the table is not in this one. -/
theorem in0_other (i : S4096.Idx) (hv : (ids0 m c i).toNat < 16384) (hq : (ids0 m c i).toNat / 8192 ≠ c.val / 8) : in0 m c i = 0#1 := by
  have hp := (place (ids0 m c i) hv (c.val / 8) (by have := c.isLt; unfold nD at this; omega)).2 hq
  rw [← rel0_at] at hp
  exact hp

/-! ## The kernel's operands -/

/-- The ids the kernel gets. -/
theorem sid_at : (insOf m).sid c = sid0 m c := V3_sid m c
/-- The mask the kernel gets in whole numbers. -/
theorem msk_at (i : S4096.Idx) : (insOf m).msk c i = (in0 m c i).setWidth 32 := congrFun (V3_msk m c) i
/-- The mask the kernel gets in floating point: one or zero. -/
theorem mf_at (i : S4096.Idx) (j : S4096x1.Idx) (hj : (j 0).val = (i 0).val) : (insOf m).mf c j = (((in0 m c i).toNat : ℝ) : EReal) := by
  have h : (insOf m).mf c j = broadcastInDim S4096x1 ![0] bcast_S4096_S4096x1_0 (uitofp (F := Ideal) .f32 (in0 m c)) j := congrFun (V3_mf m c) j
  rw [h]
  refine congrArg (fun k => (((in0 m c k).toNat : ℝ) : EReal)) (funext fun a => ?_)
  match a with
  | ⟨0, _⟩ => exact Fin.ext hj
/-- The table the kernel gets is the argument. -/
theorem E_at : (insOf m).E c = m ((c.tc : Thread nD τ).loc main_arg1) := V3_arg1 m c

/-! ## The whole table -/

/-- A device's block of the whole table, entry by entry. -/
theorem block_at (W : (⟨2, ![16384, 2048]⟩ : Shape).Idx → EReal) (c : Dev nD)
    (hc : ∀ b, ∀ i ∈ (![[0], []] : Fin 2 → List Nat) b, 0 < [2, 2, 4].getD i 0)
    (ht : Layout.TilesN ⟨2, ![8192, 2048]⟩ ⟨2, ![16384, 2048]⟩ fun b => Layout.cutSize [2, 2, 4] ((![[0], []] : Fin 2 → List Nat) b))
    (j : S8192x2048.Idx) (k : (⟨2, ![16384, 2048]⟩ : Shape).Idx) (h0 : (k 0).val = 8192 * (c.val / 8) + (j 0).val)
    (h1 : (k 1).val = (j 1).val) :
    Layout.blockN ⟨2, ![8192, 2048]⟩ ⟨2, ![16384, 2048]⟩ (Layout.meshBlock [2, 2, 4] ![[0], []] c hc) W ht j = W k := by
  rw [Layout.blockN_apply]
  refine congrArg W (funext fun a => Fin.ext ?_)
  match a with
  | ⟨0, _⟩ =>
    show Layout.meshLin [2, 2, 4] c.val [0] * 8192 + (j 0).val = (k 0).val
    rw [mesh_x, h0, Nat.mul_comm]
  | ⟨1, _⟩ =>
    show 0 * 2048 + (j 1).val = (k 1).val
    rw [h1, Nat.zero_mul, Nat.zero_add]

variable (W : (⟨2, ![16384, 2048]⟩ : Shape).Idx → EReal)
    (hW : ∀ (c : Dev nD) (j : S8192x2048.Idx) (k : (⟨2, ![16384, 2048]⟩ : Shape).Idx), (k 0).val = 8192 * (c.val / 8) + (j 0).val →
      (k 1).val = (j 1).val → m ((c.tc : Thread nD τ).loc main_arg1) j = W k)

include hW in
/-- A device's row of its half, in the whole table. -/
theorem E_whole (j : S8192x2048.Idx) (k : (⟨2, ![16384, 2048]⟩ : Shape).Idx) (h0 : (k 0).val = 8192 * (c.val / 8) + (j 0).val)
    (h1 : (k 1).val = (j 1).val) : (insOf m).E c j = W k := by
  rw [E_at]; exact hW c j k h0 h1

include hW in
/-- The device that holds the row contributes it. -/
theorem x_own (i : S4096.Idx) (hv : (ids0 m c i).toNat < 16384) (hq : (ids0 m c i).toNat / 8192 = c.val / 8)
    (k : (⟨2, ![16384, 2048]⟩ : Shape).Idx) (h0 : (k 0).val = (ids0 m c i).toNat) (v : EReal)
    (h : GoodX (insOf m) c (i 0).val (k 1).val v) : v = W k := by
  obtain ⟨g, hg, j, hj, rfl⟩ := h
  obtain ⟨h1, h2⟩ := in0_own m c i hv hq
  have hk : (k 1).val < 2048 := (k 1).isLt
  have hg' := hg i rfl (by rw [msk_at, h1]; decide)
    (ValueIdx.ix2 ⟨(sid0 m c i).toNat, sid0_lt m c i⟩ ⟨(k 1).val, hk⟩) (by rw [sid_at]) rfl
  have hE := E_whole m c W hW (ValueIdx.ix2 ⟨(sid0 m c i).toNat, sid0_lt m c i⟩ ⟨(k 1).val, hk⟩) k
    (by show (k 0).val = 8192 * (c.val / 8) + (sid0 m c i).toNat; rw [h2, h0]; omega) rfl
  show g * (insOf m).mf c j = W k
  rw [mf_at m c i j hj, h1, hg', hE]
  show W k * (((1 : ℕ) : ℝ) : EReal) = W k
  rw [Nat.cast_one, EReal.coe_one, mul_one]

/-- The other contributes zero. -/
theorem x_other (i : S4096.Idx) (hv : (ids0 m c i).toNat < 16384) (hq : (ids0 m c i).toNat / 8192 ≠ c.val / 8) (col : ℕ) (v : EReal)
    (h : GoodX (insOf m) c (i 0).val col v) : v = 0 := by
  obtain ⟨g, _, j, hj, rfl⟩ := h
  show g * (insOf m).mf c j = 0
  rw [mf_at m c i j hj, in0_other m c i hv hq]
  show g * (((0 : ℕ) : ℝ) : EReal) = 0
  rw [Nat.cast_zero, EReal.coe_zero, mul_zero]

variable (ids : S4096.Idx → BitVec 32) (hids : ∀ c : Dev nD, ids0 m c = ids) (hlt : ∀ i, (ids i).toNat < 16384)

include hW hids hlt in
/-- The two contributions add up to the row. -/
theorem s_row (i : S4096.Idx) (k : (⟨2, ![16384, 2048]⟩ : Shape).Idx) (h0 : (k 0).val = (ids i).toNat) (v : EReal)
    (h : GoodS (insOf m) c (i 0).val (k 1).val v) : v = W k := by
  obtain ⟨a, b, ha, hb, rfl⟩ := h
  show a + b = W k
  have hx := xp_half c
  have hc : c.val / 8 < 2 := by have := c.isLt; unfold nD at this; omega
  have hi := hlt i
  by_cases hq : (ids i).toNat / 8192 = c.val / 8
  · rw [x_own m c W hW i (by rw [hids]; exact hi) (by rw [hids]; exact hq) k (by rw [hids]; exact h0) a ha,
      x_other m (xp c) i (by rw [hids]; exact hi) (by rw [hids, hx]; omega) _ b hb]
    exact add_zero _
  · rw [x_own m (xp c) W hW i (by rw [hids]; exact hi) (by rw [hids, hx]; omega) k (by rw [hids]; exact h0) b hb,
      x_other m c i (by rw [hids]; exact hi) (by rw [hids]; exact hq) _ a ha]
    exact zero_add _

include hW hids hlt in
/-- The result, on every device: each row is the row of the table that its index names. -/
theorem out_row (i : S4096x2048.Idx) (j : S4096.Idx) (hj : (j 0).val = (i 0).val) (k : (⟨2, ![16384, 2048]⟩ : Shape).Idx)
    (h0 : (k 0).val = (ids j).toNat) (h1 : (k 1).val = (i 1).val) (v : EReal) (h : pO (insOf m) c i v) : v = W k := by
  unfold pO at h
  rw [← hj, ← h1] at h
  exact s_row m _ W hW ids hids hlt j k h0 v h

end Cert.K
-- ==== Proof.Table.lean ====
/-
  The reference and the precondition: an index that the precondition admits is below 16384, and at such indices the reference's
  gather reads the row that is named, neither wrapped nor clamped.
-/
module

public import proofs.«01_k».proof.Defs
public import proofs.«01_k».proof.Proof.Gen.ReferenceIdeal
public import Idealize.ShloMosaic.Lib.Routing.Ops
public import Idealize.ShloMosaic.Lib.ReduceAll

@[expose] public section

set_option maxRecDepth 16384

noncomputable section

namespace Cert.K

open Idealize.ShloMosaic Idealize.ShloMosaic.TcCoe

/-- The side conditions of the precondition over a device's blocks, and over the whole arrays. -/
theorem pre_facts : Cert.Pre_ids_in_range_KernelIdeal.Facts where
  bcast_S_S4096 := by decide
  reducesTo_S4096_S_d0 := by decide
  h_S_ := by decide
/-- The precondition's text for the reference has the properties its form needs. -/
theorem pre_facts_ref : Cert.Pre_ids_in_range_ReferenceIdeal.Facts where
  bcast_S_S4096 := by decide
  reducesTo_S4096_S_d0 := by decide
  h_S_ := by decide

/-- A word that is at least 0 and below 16384 as a signed number is below 16384 as a natural number. -/
theorem below {v : BitVec 32} (h : IntOp.andi (IntOp.cmpi .sge v 0#32) (IntOp.cmpi .slt v 16384#32) = 1#1) : v.toNat < 16384 := by
  obtain ⟨h1, h2⟩ := IntOp.andi_eq_one.1 h
  have h1' := (StableHlo.Predicate.ofBool_eq_one_iff _).1 h1
  have h2' := (StableHlo.Predicate.ofBool_eq_one_iff _).1 h2
  rw [BitVec.sle_iff_toInt_le] at h1'
  rw [BitVec.slt_iff_toInt_lt] at h2'
  have e0 : (0#32 : BitVec 32).toInt = 0 := rfl
  have e1 : (16384#32 : BitVec 32).toInt = 16384 := rfl
  rw [e0] at h1'; rw [e1] at h2'
  rw [BitVec.toInt_eq_toNat_cond] at h1' h2'
  have := v.isLt
  split at h1' <;> split at h2' <;> omega

open Cert.Pre_ids_in_range_KernelIdeal in
/-- What the precondition says of each index. -/
theorem pre_lt [Cert.Pre_ids_in_range_KernelIdeal.Facts] (ids : IVec S4096 32) (x : FVec Ideal S8192x2048 .f32)
    (h : fn (F := Ideal) ids x = fun _ => 1#1) (i : S4096.Idx) : (ids i).toNat < 16384 := by
  have h0 := congrFun h (fun a => a.elim0)
  have hs : Subsingleton S_.Idx := ⟨fun a b => funext fun k => k.elim0⟩
  exact below (Host.reduce_andi_all _ _ _ _ _ h0 i)

open Cert.ReferenceIdeal Cert.ReferenceIdeal.Gen in
/-- The reference's gather at indices below 16384. -/
theorem gather_at (W : S16384x2048.Idx → EReal) (ids : S4096.Idx → BitVec 32) (hlt : ∀ i, (ids i).toNat < 16384) (i : S4096x2048.Idx)
    (j : S4096.Idx) (hj : (j 0).val = (i 0).val) (k : S16384x2048.Idx) (h0 : (k 0).val = (ids j).toNat) (h1 : (k 1).val = (i 1).val) :
    Host.gather gather_S16384x2048_S4096x1_S4096x2048_1_0_n_n_0_1_12048 W
      (broadcastInDim S4096x1 ![0] bcast_S4096_S4096x1_0 (select (cmpi .slt ids (broadcastInDim S4096 ![] bcast_S_S4096 (constantI S_ 32 0#32)))
        (addi ids (broadcastInDim S4096 ![] bcast_S_S4096 (constantI S_ 32 16384#32))) ids)) i = W k := by
  have hi : i = ValueIdx.ix2 (i 0) (i 1) := funext fun a => by
    match a with
    | ⟨0, _⟩ => rfl
    | ⟨1, _⟩ => rfl
  have hk : k = ValueIdx.ix2 ⟨(ids j).toNat, hlt j⟩ (i 1) := funext fun a => by
    match a with
    | ⟨0, _⟩ => exact Fin.ext h0
    | ⟨1, _⟩ => exact Fin.ext h1
  rw [hi, hk]
  refine Routing.gather_row _ rfl rfl rfl rfl rfl W _ (i 0) (i 1) ⟨(ids j).toNat, hlt j⟩ ?_ (by decide)
  have hq : ∀ q : S4096.Idx, select (cmpi .slt ids (broadcastInDim S4096 ![] bcast_S_S4096 (constantI S_ 32 0#32)))
      (addi ids (broadcastInDim S4096 ![] bcast_S_S4096 (constantI S_ 32 16384#32))) ids q = ids q := fun q => by
    have hs : select (cmpi .slt ids (broadcastInDim S4096 ![] bcast_S_S4096 (constantI S_ 32 0#32)))
      (addi ids (broadcastInDim S4096 ![] bcast_S_S4096 (constantI S_ 32 16384#32))) ids q
      = if IntOp.cmpi .slt (ids q) 0#32 = 1#1 then addi ids (broadcastInDim S4096 ![] bcast_S_S4096 (constantI S_ 32 16384#32)) q else ids q := rfl
    rw [hs, if_neg]
    rw [StableHlo.Predicate.slt_iff_toNat (by have := hlt q; omega) (by decide)]
    exact Nat.not_lt_zero _
  show select _ _ ids _ = BitVec.ofNat 32 (ids j).toNat
  rw [hq, BitVec.ofNat_toNat, BitVec.setWidth_eq]
  refine congrArg ids (funext fun a => ?_)
  match a with
  | ⟨0, _⟩ => exact Fin.ext hj.symm

end Cert.K
-- ==== Proof.Same.lean ====
/-
  The two printings of the kernel are one program: the one read in the arithmetic of the machine and the one read
  over the reals differ in the names of their definitions alone.
-/
module

public import proofs.«01_k».proof.Defs
public import proofs.«01_k».proof.Proof.Gen.Kernel
public import proofs.«01_k».proof.Proof.Gen.KernelIdeal

@[expose] public section

set_option maxRecDepth 16384
set_option maxHeartbeats 1000000

noncomputable section

namespace Cert.K

open Idealize.ShloMosaic Idealize.ShloMosaic.TcCoe Idealize.SL.Sem

variable {F : FTy → Type} [FloatOps F] [Cert.Kernel.Facts] [Cert.KernelIdeal.Facts]

/-- The bodies of the kernel are the same, label by label. -/
theorem bodies_same : Cert.Kernel.defs₀ (F := F) = Cert.KernelIdeal.defs₀ (F := F) := by
  unfold Cert.Kernel.defs₀ Cert.KernelIdeal.defs₀
  refine congrArg _ (funext fun l => funext fun a => ?_)
  match l, a with
  | 0, (t, s) => rfl

/-- The host code is the same. -/
theorem main_same : Cert.Kernel.main (F := F) = Cert.KernelIdeal.main (F := F) := rfl

/-- The table of what each label runs is the same. -/
theorem defs_same : Cert.Kernel.defs (F := F) = Cert.KernelIdeal.defs (F := F) :=
  congrArg (Pipeline.defs Cert.Kernel.pcfgs) bodies_same

/-- What the one program is shown to reach, the other reaches. -/
theorem run_same (s : MemSt Cert.Kernel.nD Cert.Kernel.τ Cert.Kernel.sig (Elt F))
    (Q : PUnit × MemSt Cert.Kernel.nD Cert.Kernel.τ Cert.Kernel.sig (Elt F) → Prop)
    (h : θ_run (Cert.KernelIdeal.defs (F := F)) (onTc (τ := Cert.KernelIdeal.τ) (Cert.KernelIdeal.main (F := F))) s Q) :
    θ_run (Cert.Kernel.defs (F := F)) (onTc (τ := Cert.Kernel.τ) (Cert.Kernel.main (F := F))) s Q := by
  rw [defs_same, main_same]
  exact h

end Cert.K
-- ==== Proof.lean ====
/-
  The claims: the program ends on every device with its arguments as they were and every semaphore at zero, and over the reals,
  where every index names a row of the table, every device's result is the reference's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run
public import proofs.«01_k».proof.Proof.Value
public import proofs.«01_k».proof.Proof.Table
public import proofs.«01_k».proof.Proof.Same

@[expose] public section

set_option maxRecDepth 16384

noncomputable section

namespace Cert.Proof

open Idealize.ShloMosaic Idealize.ShloMosaic.TcCoe Idealize.SL.Sem

/-- The program in the arithmetic of the machine. -/
theorem frame_kernel : Cert.quiescent_Kernel (hKernel := Cert.Kernel.Gen.facts) := fun m ρ _ =>
  Cert.K.run_same _ _
    ((θ_run Cert.KernelIdeal.defs _ _).mono (fun _ h => ⟨fun c => (h.1 c).1, h.2⟩) (Cert.K.run_main (F := Bits) m ρ))

/-- The program over the reals. -/
theorem frame_ideal : Cert.quiescent_KernelIdeal (hKernelIdeal := Cert.KernelIdeal.Gen.facts) := fun m ρ _ =>
  (θ_run Cert.KernelIdeal.defs _ _).mono (fun _ h => ⟨fun c => (h.1 c).1, h.2⟩) (Cert.K.run_main (F := Ideal) m ρ)

/-- The reference has no semaphore at all. -/
theorem no_sem {p : Prop} (g : GSem Cert.ReferenceIdeal.nD Cert.ReferenceIdeal.τ Cert.ReferenceIdeal.sig) : p := by
  rcases g with ⟨_, s⟩
  cases s <;> rename_i s <;> exact s.elim0

/-- The reference. -/
theorem frame_ref : Cert.quiescent_ReferenceIdeal (hReferenceIdeal := Cert.ReferenceIdeal.Gen.facts) := fun m ρ _ =>
  (θ_run Cert.ReferenceIdeal.defs _ _).mono (fun _ h => ⟨fun c => ⟨(h c).2.1, (h c).2.2⟩, funext fun g => no_sem g⟩)
    (Cert.ReferenceIdeal.Value.run (F := Ideal) m ρ)

/-- The value: each device's result is the reference's, row by row the row of the table that the index names. -/
theorem value_ideal : Cert.algebraic_KernelIdeal_ReferenceIdeal_pre_ids_in_range_KernelIdeal (hKernelIdeal := Cert.KernelIdeal.Gen.facts)
    (hReferenceIdeal := Cert.ReferenceIdeal.Gen.facts) (hPre_ids_in_range_KernelIdeal := Cert.K.pre_facts) := by
  intro m ρ m' ρ' hpre hin
  have hids : ∀ c, Cert.K.ids0 m c = m' (((0 : Dev Cert.ReferenceIdeal.nD).tc : Thread Cert.ReferenceIdeal.nD Cert.ReferenceIdeal.τ).loc Cert.ReferenceIdeal.main_arg0) :=
    fun c => (hin c).1
  have hlt : ∀ i, (Cert.K.ids0 m (0 : Dev Cert.KernelIdeal.nD) i).toNat < 16384 := fun i =>
    letI := Cert.K.pre_facts; Cert.K.pre_lt _ _ (hpre 0) i
  rw [hids] at hlt
  refine ⟨_, (θ_run Cert.KernelIdeal.defs _ _).mono (fun r h c => ⟨funext fun i => ?_, (h.1 c).1.1, (h.1 c).1.2⟩)
      (Cert.K.run_main (F := Ideal) m ρ),
    (θ_run Cert.ReferenceIdeal.defs _ _).mono (fun _ h => h 0) (Cert.ReferenceIdeal.Value.run (F := Ideal) m' ρ')⟩
  have hi0 : (i 0).val < 4096 := (i 0).isLt
  have hi1 : (i 1).val < 2048 := (i 1).isLt
  let j : (⟨1, ![4096]⟩ : Shape).Idx := fun a => ⟨(i 0).val, by match a with | ⟨0, _⟩ => exact hi0⟩
  let k : (⟨2, ![16384, 2048]⟩ : Shape).Idx := ValueIdx.ix2 ⟨_, hlt j⟩ ⟨(i 1).val, hi1⟩
  exact (Cert.K.out_row m c _ (fun c j k h0 h1 => (congrFun (hin c).2 j).trans (Cert.K.block_at _ c _ _ j k h0 h1)) _ hids hlt i j rfl k rfl rfl _ ((h.1 c).2 i)).trans
    (Cert.K.gather_at _ _ hlt i j rfl k rfl rfl).symm

/-- All that is claimed. -/
theorem claim : Cert.Claim :=
  ⟨Cert.Kernel.Gen.facts, Cert.KernelIdeal.Gen.facts, Cert.ReferenceIdeal.Gen.facts, Cert.K.pre_facts, Cert.K.pre_facts_ref,
    frame_kernel, frame_ideal, fun m ρ _ => frame_ideal m ρ trivial, frame_ref, fun m ρ _ => frame_ref m ρ trivial, trivial, value_ideal⟩

end Cert.Proof
